-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_TailLast (m : (ℓ : Loc Cert.TailLast.nD Cert.TailLast.τ Cert.TailLast.sig) → Buf (Elt Bits) ℓ) : Prop :=
  True

def Pre_TailLastIdeal (m : (ℓ : Loc Cert.TailLastIdeal.nD Cert.TailLastIdeal.τ Cert.TailLastIdeal.sig) → Buf (Elt Ideal) ℓ) : Prop :=
  True

def Pre_TailLastRefIdeal (m : (ℓ : Loc Cert.TailLastRefIdeal.nD Cert.TailLastRefIdeal.τ Cert.TailLastRefIdeal.sig) → Buf (Elt Ideal) ℓ) : Prop :=
  True

def Pre_TailFirst (m : (ℓ : Loc Cert.TailFirst.nD Cert.TailFirst.τ Cert.TailFirst.sig) → Buf (Elt Bits) ℓ) : Prop :=
  True

def Pre_TailFirstIdeal (m : (ℓ : Loc Cert.TailFirstIdeal.nD Cert.TailFirstIdeal.τ Cert.TailFirstIdeal.sig) → Buf (Elt Ideal) ℓ) : Prop :=
  True

def Pre_TailFirstRefIdeal (m : (ℓ : Loc Cert.TailFirstRefIdeal.nD Cert.TailFirstRefIdeal.τ Cert.TailFirstRefIdeal.sig) → Buf (Elt Ideal) ℓ) : Prop :=
  True

def Pre_ProjRet (m : (ℓ : Loc Cert.ProjRet.nD Cert.ProjRet.τ Cert.ProjRet.sig) → Buf (Elt Bits) ℓ) : Prop :=
  True

def Pre_ProjRetIdeal (m : (ℓ : Loc Cert.ProjRetIdeal.nD Cert.ProjRetIdeal.τ Cert.ProjRetIdeal.sig) → Buf (Elt Ideal) ℓ) : Prop :=
  True

def Pre_ProjRetIdeal_finite_h [hPre_finite_h : Cert.Pre_finite_h.Facts] (m : (ℓ : Loc Cert.ProjRetIdeal.nD Cert.ProjRetIdeal.τ Cert.ProjRetIdeal.sig) → Buf (Elt Ideal) ℓ) : Prop :=
  ∀ c : Dev Cert.ProjRetIdeal.nD,
    (Cert.Pre_finite_h.fn (F := Ideal) (m ((c.tc : Thread Cert.ProjRetIdeal.nD Cert.ProjRetIdeal.τ).loc Cert.ProjRetIdeal.main_arg0)) (m ((c.tc : Thread Cert.ProjRetIdeal.nD Cert.ProjRetIdeal.τ).loc Cert.ProjRetIdeal.main_arg1)) (m ((c.tc : Thread Cert.ProjRetIdeal.nD Cert.ProjRetIdeal.τ).loc Cert.ProjRetIdeal.main_arg2))).1 = (fun _ => 1#1)
    ∧ (Cert.Pre_finite_h.fn (F := Ideal) (m ((c.tc : Thread Cert.ProjRetIdeal.nD Cert.ProjRetIdeal.τ).loc Cert.ProjRetIdeal.main_arg0)) (m ((c.tc : Thread Cert.ProjRetIdeal.nD Cert.ProjRetIdeal.τ).loc Cert.ProjRetIdeal.main_arg1)) (m ((c.tc : Thread Cert.ProjRetIdeal.nD Cert.ProjRetIdeal.τ).loc Cert.ProjRetIdeal.main_arg2))).2.1 = (fun _ => 1#1)
    ∧ (Cert.Pre_finite_h.fn (F := Ideal) (m ((c.tc : Thread Cert.ProjRetIdeal.nD Cert.ProjRetIdeal.τ).loc Cert.ProjRetIdeal.main_arg0)) (m ((c.tc : Thread Cert.ProjRetIdeal.nD Cert.ProjRetIdeal.τ).loc Cert.ProjRetIdeal.main_arg1)) (m ((c.tc : Thread Cert.ProjRetIdeal.nD Cert.ProjRetIdeal.τ).loc Cert.ProjRetIdeal.main_arg2))).2.2 = (fun _ => 1#1)

def Pre_ProjRetRefIdeal (m : (ℓ : Loc Cert.ProjRetRefIdeal.nD Cert.ProjRetRefIdeal.τ Cert.ProjRetRefIdeal.sig) → Buf (Elt Ideal) ℓ) : Prop :=
  True

def Pre_ProjRetRefIdeal_finite_h [hPre_finite_h : Cert.Pre_finite_h.Facts] (m : (ℓ : Loc Cert.ProjRetRefIdeal.nD Cert.ProjRetRefIdeal.τ Cert.ProjRetRefIdeal.sig) → Buf (Elt Ideal) ℓ) : Prop :=
  ∀ c : Dev Cert.ProjRetRefIdeal.nD,
    (Cert.Pre_finite_h.fn (F := Ideal) (m ((c.tc : Thread Cert.ProjRetRefIdeal.nD Cert.ProjRetRefIdeal.τ).loc Cert.ProjRetRefIdeal.main_arg0)) (m ((c.tc : Thread Cert.ProjRetRefIdeal.nD Cert.ProjRetRefIdeal.τ).loc Cert.ProjRetRefIdeal.main_arg1)) (m ((c.tc : Thread Cert.ProjRetRefIdeal.nD Cert.ProjRetRefIdeal.τ).loc Cert.ProjRetRefIdeal.main_arg2))).1 = (fun _ => 1#1)
    ∧ (Cert.Pre_finite_h.fn (F := Ideal) (m ((c.tc : Thread Cert.ProjRetRefIdeal.nD Cert.ProjRetRefIdeal.τ).loc Cert.ProjRetRefIdeal.main_arg0)) (m ((c.tc : Thread Cert.ProjRetRefIdeal.nD Cert.ProjRetRefIdeal.τ).loc Cert.ProjRetRefIdeal.main_arg1)) (m ((c.tc : Thread Cert.ProjRetRefIdeal.nD Cert.ProjRetRefIdeal.τ).loc Cert.ProjRetRefIdeal.main_arg2))).2.1 = (fun _ => 1#1)
    ∧ (Cert.Pre_finite_h.fn (F := Ideal) (m ((c.tc : Thread Cert.ProjRetRefIdeal.nD Cert.ProjRetRefIdeal.τ).loc Cert.ProjRetRefIdeal.main_arg0)) (m ((c.tc : Thread Cert.ProjRetRefIdeal.nD Cert.ProjRetRefIdeal.τ).loc Cert.ProjRetRefIdeal.main_arg1)) (m ((c.tc : Thread Cert.ProjRetRefIdeal.nD Cert.ProjRetRefIdeal.τ).loc Cert.ProjRetRefIdeal.main_arg2))).2.2 = (fun _ => 1#1)

def Pre_ProjSb (m : (ℓ : Loc Cert.ProjSb.nD Cert.ProjSb.τ Cert.ProjSb.sig) → Buf (Elt Bits) ℓ) : Prop :=
  True

def Pre_ProjSbIdeal (m : (ℓ : Loc Cert.ProjSbIdeal.nD Cert.ProjSbIdeal.τ Cert.ProjSbIdeal.sig) → Buf (Elt Ideal) ℓ) : Prop :=
  True

def Pre_ProjSbRefIdeal (m : (ℓ : Loc Cert.ProjSbRefIdeal.nD Cert.ProjSbRefIdeal.τ Cert.ProjSbRefIdeal.sig) → Buf (Elt Ideal) ℓ) : Prop :=
  True

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerIdeal_finite_l [hPre_finite_l : Cert.Pre_finite_l.Facts] (m : (ℓ : Loc Cert.LayerIdeal.nD Cert.LayerIdeal.τ Cert.LayerIdeal.sig) → Buf (Elt Ideal) ℓ) : Prop :=
  ∀ c : Dev Cert.LayerIdeal.nD,
    (Cert.Pre_finite_l.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11))).1 = (fun _ => 1#1)
    ∧ (Cert.Pre_finite_l.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11))).2.1 = (fun _ => 1#1)
    ∧ (Cert.Pre_finite_l.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11))).2.2 = (fun _ => 1#1)

def Pre_LayerRefIdeal (m : (ℓ : Loc Cert.LayerRefIdeal.nD Cert.LayerRefIdeal.τ Cert.LayerRefIdeal.sig) → Buf (Elt Ideal) ℓ) : Prop :=
  True

def Pre_LayerRefIdeal_finite_l [hPre_finite_l : Cert.Pre_finite_l.Facts] (m : (ℓ : Loc Cert.LayerRefIdeal.nD Cert.LayerRefIdeal.τ Cert.LayerRefIdeal.sig) → Buf (Elt Ideal) ℓ) : Prop :=
  ∀ c : Dev Cert.LayerRefIdeal.nD,
    (Cert.Pre_finite_l.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10)) (m ((c.tc : Thread Cert.LayerRefIdeal.nD Cert.LayerRefIdeal.τ).loc Cert.LayerRefIdeal.main_arg11))).1 = (fun _ => 1#1)
    ∧ (Cert.Pre_finite_l.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10)) (m ((c.tc : Thread Cert.LayerRefIdeal.nD Cert.LayerRefIdeal.τ).loc Cert.LayerRefIdeal.main_arg11))).2.1 = (fun _ => 1#1)
    ∧ (Cert.Pre_finite_l.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10)) (m ((c.tc : Thread Cert.LayerRefIdeal.nD Cert.LayerRefIdeal.τ).loc Cert.LayerRefIdeal.main_arg11))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_TailLast [hTailLast : Cert.TailLast.Facts] : Prop :=
  ∀ (m : (ℓ : Loc Cert.TailLast.nD Cert.TailLast.τ Cert.TailLast.sig) → Buf (Elt Bits) ℓ) (g : Dev Cert.TailLast.nD → PrngReg), Pre_TailLast m →
    θ_run (Cert.TailLast.defs (F := Bits)) (onTc (τ := Cert.TailLast.τ) (Cert.TailLast.main (F := Bits))) ⟨m, fun _ => 0, g⟩ (fun r => (∀ c : Dev Cert.TailLast.nD,
      r.2.mem ((c.tc : Thread Cert.TailLast.nD Cert.TailLast.τ).loc Cert.TailLast.main_arg0) = m ((c.tc : Thread Cert.TailLast.nD Cert.TailLast.τ).loc Cert.TailLast.main_arg0)
      ∧ r.2.mem ((c.tc : Thread Cert.TailLast.nD Cert.TailLast.τ).loc Cert.TailLast.main_arg1) = m ((c.tc : Thread Cert.TailLast.nD Cert.TailLast.τ).loc Cert.TailLast.main_arg1)
      ∧ r.2.mem ((c.tc : Thread Cert.TailLast.nD Cert.TailLast.τ).loc Cert.TailLast.main_arg2) = m ((c.tc : Thread Cert.TailLast.nD Cert.TailLast.τ).loc Cert.TailLast.main_arg2)
      ∧ r.2.mem ((c.tc : Thread Cert.TailLast.nD Cert.TailLast.τ).loc Cert.TailLast.main_arg3) = m ((c.tc : Thread Cert.TailLast.nD Cert.TailLast.τ).loc Cert.TailLast.main_arg3)
      ∧ r.2.mem ((c.tc : Thread Cert.TailLast.nD Cert.TailLast.τ).loc Cert.TailLast.main_arg4) = m ((c.tc : Thread Cert.TailLast.nD Cert.TailLast.τ).loc Cert.TailLast.main_arg4)
      ∧ r.2.mem ((c.tc : Thread Cert.TailLast.nD Cert.TailLast.τ).loc Cert.TailLast.main_arg5) = m ((c.tc : Thread Cert.TailLast.nD Cert.TailLast.τ).loc Cert.TailLast.main_arg5)
      ∧ r.2.mem ((c.tc : Thread Cert.TailLast.nD Cert.TailLast.τ).loc Cert.TailLast.main_arg6) = m ((c.tc : Thread Cert.TailLast.nD Cert.TailLast.τ).loc Cert.TailLast.main_arg6)
      ∧ r.2.mem ((c.tc : Thread Cert.TailLast.nD Cert.TailLast.τ).loc Cert.TailLast.main_arg7) = m ((c.tc : Thread Cert.TailLast.nD Cert.TailLast.τ).loc Cert.TailLast.main_arg7)
      ∧ r.2.mem ((c.tc : Thread Cert.TailLast.nD Cert.TailLast.τ).loc Cert.TailLast.main_arg8) = m ((c.tc : Thread Cert.TailLast.nD Cert.TailLast.τ).loc Cert.TailLast.main_arg8)
      ∧ r.2.mem ((c.tc : Thread Cert.TailLast.nD Cert.TailLast.τ).loc Cert.TailLast.main_arg9) = m ((c.tc : Thread Cert.TailLast.nD Cert.TailLast.τ).loc Cert.TailLast.main_arg9)
      ∧ r.2.mem ((c.tc : Thread Cert.TailLast.nD Cert.TailLast.τ).loc Cert.TailLast.main_arg10) = m ((c.tc : Thread Cert.TailLast.nD Cert.TailLast.τ).loc Cert.TailLast.main_arg10))
      ∧ r.2.sem = fun _ => 0)

def quiescent_TailLastIdeal [hTailLastIdeal : Cert.TailLastIdeal.Facts] : Prop :=
  ∀ (m : (ℓ : Loc Cert.TailLastIdeal.nD Cert.TailLastIdeal.τ Cert.TailLastIdeal.sig) → Buf (Elt Ideal) ℓ) (g : Dev Cert.TailLastIdeal.nD → PrngReg), Pre_TailLastIdeal m →
    θ_run (Cert.TailLastIdeal.defs (F := Ideal)) (onTc (τ := Cert.TailLastIdeal.τ) (Cert.TailLastIdeal.main (F := Ideal))) ⟨m, fun _ => 0, g⟩ (fun r => (∀ c : Dev Cert.TailLastIdeal.nD,
      r.2.mem ((c.tc : Thread Cert.TailLastIdeal.nD Cert.TailLastIdeal.τ).loc Cert.TailLastIdeal.main_arg0) = m ((c.tc : Thread Cert.TailLastIdeal.nD Cert.TailLastIdeal.τ).loc Cert.TailLastIdeal.main_arg0)
      ∧ r.2.mem ((c.tc : Thread Cert.TailLastIdeal.nD Cert.TailLastIdeal.τ).loc Cert.TailLastIdeal.main_arg1) = m ((c.tc : Thread Cert.TailLastIdeal.nD Cert.TailLastIdeal.τ).loc Cert.TailLastIdeal.main_arg1)
      ∧ r.2.mem ((c.tc : Thread Cert.TailLastIdeal.nD Cert.TailLastIdeal.τ).loc Cert.TailLastIdeal.main_arg2) = m ((c.tc : Thread Cert.TailLastIdeal.nD Cert.TailLastIdeal.τ).loc Cert.TailLastIdeal.main_arg2)
      ∧ r.2.mem ((c.tc : Thread Cert.TailLastIdeal.nD Cert.TailLastIdeal.τ).loc Cert.TailLastIdeal.main_arg3) = m ((c.tc : Thread Cert.TailLastIdeal.nD Cert.TailLastIdeal.τ).loc Cert.TailLastIdeal.main_arg3)
      ∧ r.2.mem ((c.tc : Thread Cert.TailLastIdeal.nD Cert.TailLastIdeal.τ).loc Cert.TailLastIdeal.main_arg4) = m ((c.tc : Thread Cert.TailLastIdeal.nD Cert.TailLastIdeal.τ).loc Cert.TailLastIdeal.main_arg4)
      ∧ r.2.mem ((c.tc : Thread Cert.TailLastIdeal.nD Cert.TailLastIdeal.τ).loc Cert.TailLastIdeal.main_arg5) = m ((c.tc : Thread Cert.TailLastIdeal.nD Cert.TailLastIdeal.τ).loc Cert.TailLastIdeal.main_arg5)
      ∧ r.2.mem ((c.tc : Thread Cert.TailLastIdeal.nD Cert.TailLastIdeal.τ).loc Cert.TailLastIdeal.main_arg6) = m ((c.tc : Thread Cert.TailLastIdeal.nD Cert.TailLastIdeal.τ).loc Cert.TailLastIdeal.main_arg6)
      ∧ r.2.mem ((c.tc : Thread Cert.TailLastIdeal.nD Cert.TailLastIdeal.τ).loc Cert.TailLastIdeal.main_arg7) = m ((c.tc : Thread Cert.TailLastIdeal.nD Cert.TailLastIdeal.τ).loc Cert.TailLastIdeal.main_arg7)
      ∧ r.2.mem ((c.tc : Thread Cert.TailLastIdeal.nD Cert.TailLastIdeal.τ).loc Cert.TailLastIdeal.main_arg8) = m ((c.tc : Thread Cert.TailLastIdeal.nD Cert.TailLastIdeal.τ).loc Cert.TailLastIdeal.main_arg8)
      ∧ r.2.mem ((c.tc : Thread Cert.TailLastIdeal.nD Cert.TailLastIdeal.τ).loc Cert.TailLastIdeal.main_arg9) = m ((c.tc : Thread Cert.TailLastIdeal.nD Cert.TailLastIdeal.τ).loc Cert.TailLastIdeal.main_arg9)
      ∧ r.2.mem ((c.tc : Thread Cert.TailLastIdeal.nD Cert.TailLastIdeal.τ).loc Cert.TailLastIdeal.main_arg10) = m ((c.tc : Thread Cert.TailLastIdeal.nD Cert.TailLastIdeal.τ).loc Cert.TailLastIdeal.main_arg10))
      ∧ r.2.sem = fun _ => 0)

def quiescent_TailLastRefIdeal [hTailLastRefIdeal : Cert.TailLastRefIdeal.Facts] : Prop :=
  ∀ (m : (ℓ : Loc Cert.TailLastRefIdeal.nD Cert.TailLastRefIdeal.τ Cert.TailLastRefIdeal.sig) → Buf (Elt Ideal) ℓ) (g : Dev Cert.TailLastRefIdeal.nD → PrngReg), Pre_TailLastRefIdeal m →
    θ_run (Cert.TailLastRefIdeal.defs (F := Ideal)) (onTc (τ := Cert.TailLastRefIdeal.τ) (Cert.TailLastRefIdeal.main (F := Ideal))) ⟨m, fun _ => 0, g⟩ (fun r => (∀ c : Dev Cert.TailLastRefIdeal.nD,
      r.2.mem ((c.tc : Thread Cert.TailLastRefIdeal.nD Cert.TailLastRefIdeal.τ).loc Cert.TailLastRefIdeal.main_arg0) = m ((c.tc : Thread Cert.TailLastRefIdeal.nD Cert.TailLastRefIdeal.τ).loc Cert.TailLastRefIdeal.main_arg0)
      ∧ r.2.mem ((c.tc : Thread Cert.TailLastRefIdeal.nD Cert.TailLastRefIdeal.τ).loc Cert.TailLastRefIdeal.main_arg1) = m ((c.tc : Thread Cert.TailLastRefIdeal.nD Cert.TailLastRefIdeal.τ).loc Cert.TailLastRefIdeal.main_arg1)
      ∧ r.2.mem ((c.tc : Thread Cert.TailLastRefIdeal.nD Cert.TailLastRefIdeal.τ).loc Cert.TailLastRefIdeal.main_arg2) = m ((c.tc : Thread Cert.TailLastRefIdeal.nD Cert.TailLastRefIdeal.τ).loc Cert.TailLastRefIdeal.main_arg2)
      ∧ r.2.mem ((c.tc : Thread Cert.TailLastRefIdeal.nD Cert.TailLastRefIdeal.τ).loc Cert.TailLastRefIdeal.main_arg3) = m ((c.tc : Thread Cert.TailLastRefIdeal.nD Cert.TailLastRefIdeal.τ).loc Cert.TailLastRefIdeal.main_arg3)
      ∧ r.2.mem ((c.tc : Thread Cert.TailLastRefIdeal.nD Cert.TailLastRefIdeal.τ).loc Cert.TailLastRefIdeal.main_arg4) = m ((c.tc : Thread Cert.TailLastRefIdeal.nD Cert.TailLastRefIdeal.τ).loc Cert.TailLastRefIdeal.main_arg4)
      ∧ r.2.mem ((c.tc : Thread Cert.TailLastRefIdeal.nD Cert.TailLastRefIdeal.τ).loc Cert.TailLastRefIdeal.main_arg5) = m ((c.tc : Thread Cert.TailLastRefIdeal.nD Cert.TailLastRefIdeal.τ).loc Cert.TailLastRefIdeal.main_arg5)
      ∧ r.2.mem ((c.tc : Thread Cert.TailLastRefIdeal.nD Cert.TailLastRefIdeal.τ).loc Cert.TailLastRefIdeal.main_arg6) = m ((c.tc : Thread Cert.TailLastRefIdeal.nD Cert.TailLastRefIdeal.τ).loc Cert.TailLastRefIdeal.main_arg6)
      ∧ r.2.mem ((c.tc : Thread Cert.TailLastRefIdeal.nD Cert.TailLastRefIdeal.τ).loc Cert.TailLastRefIdeal.main_arg7) = m ((c.tc : Thread Cert.TailLastRefIdeal.nD Cert.TailLastRefIdeal.τ).loc Cert.TailLastRefIdeal.main_arg7)
      ∧ r.2.mem ((c.tc : Thread Cert.TailLastRefIdeal.nD Cert.TailLastRefIdeal.τ).loc Cert.TailLastRefIdeal.main_arg8) = m ((c.tc : Thread Cert.TailLastRefIdeal.nD Cert.TailLastRefIdeal.τ).loc Cert.TailLastRefIdeal.main_arg8)
      ∧ r.2.mem ((c.tc : Thread Cert.TailLastRefIdeal.nD Cert.TailLastRefIdeal.τ).loc Cert.TailLastRefIdeal.main_arg9) = m ((c.tc : Thread Cert.TailLastRefIdeal.nD Cert.TailLastRefIdeal.τ).loc Cert.TailLastRefIdeal.main_arg9)
      ∧ r.2.mem ((c.tc : Thread Cert.TailLastRefIdeal.nD Cert.TailLastRefIdeal.τ).loc Cert.TailLastRefIdeal.main_arg10) = m ((c.tc : Thread Cert.TailLastRefIdeal.nD Cert.TailLastRefIdeal.τ).loc Cert.TailLastRefIdeal.main_arg10))
      ∧ r.2.sem = fun _ => 0)

def quiescent_TailFirst [hTailFirst : Cert.TailFirst.Facts] : Prop :=
  ∀ (m : (ℓ : Loc Cert.TailFirst.nD Cert.TailFirst.τ Cert.TailFirst.sig) → Buf (Elt Bits) ℓ) (g : Dev Cert.TailFirst.nD → PrngReg), Pre_TailFirst m →
    θ_run (Cert.TailFirst.defs (F := Bits)) (onTc (τ := Cert.TailFirst.τ) (Cert.TailFirst.main (F := Bits))) ⟨m, fun _ => 0, g⟩ (fun r => (∀ c : Dev Cert.TailFirst.nD,
      r.2.mem ((c.tc : Thread Cert.TailFirst.nD Cert.TailFirst.τ).loc Cert.TailFirst.main_arg0) = m ((c.tc : Thread Cert.TailFirst.nD Cert.TailFirst.τ).loc Cert.TailFirst.main_arg0)
      ∧ r.2.mem ((c.tc : Thread Cert.TailFirst.nD Cert.TailFirst.τ).loc Cert.TailFirst.main_arg1) = m ((c.tc : Thread Cert.TailFirst.nD Cert.TailFirst.τ).loc Cert.TailFirst.main_arg1)
      ∧ r.2.mem ((c.tc : Thread Cert.TailFirst.nD Cert.TailFirst.τ).loc Cert.TailFirst.main_arg2) = m ((c.tc : Thread Cert.TailFirst.nD Cert.TailFirst.τ).loc Cert.TailFirst.main_arg2)
      ∧ r.2.mem ((c.tc : Thread Cert.TailFirst.nD Cert.TailFirst.τ).loc Cert.TailFirst.main_arg3) = m ((c.tc : Thread Cert.TailFirst.nD Cert.TailFirst.τ).loc Cert.TailFirst.main_arg3)
      ∧ r.2.mem ((c.tc : Thread Cert.TailFirst.nD Cert.TailFirst.τ).loc Cert.TailFirst.main_arg4) = m ((c.tc : Thread Cert.TailFirst.nD Cert.TailFirst.τ).loc Cert.TailFirst.main_arg4)
      ∧ r.2.mem ((c.tc : Thread Cert.TailFirst.nD Cert.TailFirst.τ).loc Cert.TailFirst.main_arg5) = m ((c.tc : Thread Cert.TailFirst.nD Cert.TailFirst.τ).loc Cert.TailFirst.main_arg5)
      ∧ r.2.mem ((c.tc : Thread Cert.TailFirst.nD Cert.TailFirst.τ).loc Cert.TailFirst.main_arg6) = m ((c.tc : Thread Cert.TailFirst.nD Cert.TailFirst.τ).loc Cert.TailFirst.main_arg6)
      ∧ r.2.mem ((c.tc : Thread Cert.TailFirst.nD Cert.TailFirst.τ).loc Cert.TailFirst.main_arg7) = m ((c.tc : Thread Cert.TailFirst.nD Cert.TailFirst.τ).loc Cert.TailFirst.main_arg7)
      ∧ r.2.mem ((c.tc : Thread Cert.TailFirst.nD Cert.TailFirst.τ).loc Cert.TailFirst.main_arg8) = m ((c.tc : Thread Cert.TailFirst.nD Cert.TailFirst.τ).loc Cert.TailFirst.main_arg8)
      ∧ r.2.mem ((c.tc : Thread Cert.TailFirst.nD Cert.TailFirst.τ).loc Cert.TailFirst.main_arg9) = m ((c.tc : Thread Cert.TailFirst.nD Cert.TailFirst.τ).loc Cert.TailFirst.main_arg9)
      ∧ r.2.mem ((c.tc : Thread Cert.TailFirst.nD Cert.TailFirst.τ).loc Cert.TailFirst.main_arg10) = m ((c.tc : Thread Cert.TailFirst.nD Cert.TailFirst.τ).loc Cert.TailFirst.main_arg10)
      ∧ r.2.mem ((c.tc : Thread Cert.TailFirst.nD Cert.TailFirst.τ).loc Cert.TailFirst.main_arg11) = m ((c.tc : Thread Cert.TailFirst.nD Cert.TailFirst.τ).loc Cert.TailFirst.main_arg11)
      ∧ r.2.mem ((c.tc : Thread Cert.TailFirst.nD Cert.TailFirst.τ).loc Cert.TailFirst.main_arg12) = m ((c.tc : Thread Cert.TailFirst.nD Cert.TailFirst.τ).loc Cert.TailFirst.main_arg12)
      ∧ r.2.mem ((c.tc : Thread Cert.TailFirst.nD Cert.TailFirst.τ).loc Cert.TailFirst.main_arg13) = m ((c.tc : Thread Cert.TailFirst.nD Cert.TailFirst.τ).loc Cert.TailFirst.main_arg13)
      ∧ r.2.mem ((c.tc : Thread Cert.TailFirst.nD Cert.TailFirst.τ).loc Cert.TailFirst.main_arg14) = m ((c.tc : Thread Cert.TailFirst.nD Cert.TailFirst.τ).loc Cert.TailFirst.main_arg14)
      ∧ r.2.mem ((c.tc : Thread Cert.TailFirst.nD Cert.TailFirst.τ).loc Cert.TailFirst.main_arg15) = m ((c.tc : Thread Cert.TailFirst.nD Cert.TailFirst.τ).loc Cert.TailFirst.main_arg15))
      ∧ r.2.sem = fun _ => 0)

def quiescent_TailFirstIdeal [hTailFirstIdeal : Cert.TailFirstIdeal.Facts] : Prop :=
  ∀ (m : (ℓ : Loc Cert.TailFirstIdeal.nD Cert.TailFirstIdeal.τ Cert.TailFirstIdeal.sig) → Buf (Elt Ideal) ℓ) (g : Dev Cert.TailFirstIdeal.nD → PrngReg), Pre_TailFirstIdeal m →
    θ_run (Cert.TailFirstIdeal.defs (F := Ideal)) (onTc (τ := Cert.TailFirstIdeal.τ) (Cert.TailFirstIdeal.main (F := Ideal))) ⟨m, fun _ => 0, g⟩ (fun r => (∀ c : Dev Cert.TailFirstIdeal.nD,
      r.2.mem ((c.tc : Thread Cert.TailFirstIdeal.nD Cert.TailFirstIdeal.τ).loc Cert.TailFirstIdeal.main_arg0) = m ((c.tc : Thread Cert.TailFirstIdeal.nD Cert.TailFirstIdeal.τ).loc Cert.TailFirstIdeal.main_arg0)
      ∧ r.2.mem ((c.tc : Thread Cert.TailFirstIdeal.nD Cert.TailFirstIdeal.τ).loc Cert.TailFirstIdeal.main_arg1) = m ((c.tc : Thread Cert.TailFirstIdeal.nD Cert.TailFirstIdeal.τ).loc Cert.TailFirstIdeal.main_arg1)
      ∧ r.2.mem ((c.tc : Thread Cert.TailFirstIdeal.nD Cert.TailFirstIdeal.τ).loc Cert.TailFirstIdeal.main_arg2) = m ((c.tc : Thread Cert.TailFirstIdeal.nD Cert.TailFirstIdeal.τ).loc Cert.TailFirstIdeal.main_arg2)
      ∧ r.2.mem ((c.tc : Thread Cert.TailFirstIdeal.nD Cert.TailFirstIdeal.τ).loc Cert.TailFirstIdeal.main_arg3) = m ((c.tc : Thread Cert.TailFirstIdeal.nD Cert.TailFirstIdeal.τ).loc Cert.TailFirstIdeal.main_arg3)
      ∧ r.2.mem ((c.tc : Thread Cert.TailFirstIdeal.nD Cert.TailFirstIdeal.τ).loc Cert.TailFirstIdeal.main_arg4) = m ((c.tc : Thread Cert.TailFirstIdeal.nD Cert.TailFirstIdeal.τ).loc Cert.TailFirstIdeal.main_arg4)
      ∧ r.2.mem ((c.tc : Thread Cert.TailFirstIdeal.nD Cert.TailFirstIdeal.τ).loc Cert.TailFirstIdeal.main_arg5) = m ((c.tc : Thread Cert.TailFirstIdeal.nD Cert.TailFirstIdeal.τ).loc Cert.TailFirstIdeal.main_arg5)
      ∧ r.2.mem ((c.tc : Thread Cert.TailFirstIdeal.nD Cert.TailFirstIdeal.τ).loc Cert.TailFirstIdeal.main_arg6) = m ((c.tc : Thread Cert.TailFirstIdeal.nD Cert.TailFirstIdeal.τ).loc Cert.TailFirstIdeal.main_arg6)
      ∧ r.2.mem ((c.tc : Thread Cert.TailFirstIdeal.nD Cert.TailFirstIdeal.τ).loc Cert.TailFirstIdeal.main_arg7) = m ((c.tc : Thread Cert.TailFirstIdeal.nD Cert.TailFirstIdeal.τ).loc Cert.TailFirstIdeal.main_arg7)
      ∧ r.2.mem ((c.tc : Thread Cert.TailFirstIdeal.nD Cert.TailFirstIdeal.τ).loc Cert.TailFirstIdeal.main_arg8) = m ((c.tc : Thread Cert.TailFirstIdeal.nD Cert.TailFirstIdeal.τ).loc Cert.TailFirstIdeal.main_arg8)
      ∧ r.2.mem ((c.tc : Thread Cert.TailFirstIdeal.nD Cert.TailFirstIdeal.τ).loc Cert.TailFirstIdeal.main_arg9) = m ((c.tc : Thread Cert.TailFirstIdeal.nD Cert.TailFirstIdeal.τ).loc Cert.TailFirstIdeal.main_arg9)
      ∧ r.2.mem ((c.tc : Thread Cert.TailFirstIdeal.nD Cert.TailFirstIdeal.τ).loc Cert.TailFirstIdeal.main_arg10) = m ((c.tc : Thread Cert.TailFirstIdeal.nD Cert.TailFirstIdeal.τ).loc Cert.TailFirstIdeal.main_arg10)
      ∧ r.2.mem ((c.tc : Thread Cert.TailFirstIdeal.nD Cert.TailFirstIdeal.τ).loc Cert.TailFirstIdeal.main_arg11) = m ((c.tc : Thread Cert.TailFirstIdeal.nD Cert.TailFirstIdeal.τ).loc Cert.TailFirstIdeal.main_arg11)
      ∧ r.2.mem ((c.tc : Thread Cert.TailFirstIdeal.nD Cert.TailFirstIdeal.τ).loc Cert.TailFirstIdeal.main_arg12) = m ((c.tc : Thread Cert.TailFirstIdeal.nD Cert.TailFirstIdeal.τ).loc Cert.TailFirstIdeal.main_arg12)
      ∧ r.2.mem ((c.tc : Thread Cert.TailFirstIdeal.nD Cert.TailFirstIdeal.τ).loc Cert.TailFirstIdeal.main_arg13) = m ((c.tc : Thread Cert.TailFirstIdeal.nD Cert.TailFirstIdeal.τ).loc Cert.TailFirstIdeal.main_arg13)
      ∧ r.2.mem ((c.tc : Thread Cert.TailFirstIdeal.nD Cert.TailFirstIdeal.τ).loc Cert.TailFirstIdeal.main_arg14) = m ((c.tc : Thread Cert.TailFirstIdeal.nD Cert.TailFirstIdeal.τ).loc Cert.TailFirstIdeal.main_arg14)
      ∧ r.2.mem ((c.tc : Thread Cert.TailFirstIdeal.nD Cert.TailFirstIdeal.τ).loc Cert.TailFirstIdeal.main_arg15) = m ((c.tc : Thread Cert.TailFirstIdeal.nD Cert.TailFirstIdeal.τ).loc Cert.TailFirstIdeal.main_arg15))
      ∧ r.2.sem = fun _ => 0)

def quiescent_TailFirstRefIdeal [hTailFirstRefIdeal : Cert.TailFirstRefIdeal.Facts] : Prop :=
  ∀ (m : (ℓ : Loc Cert.TailFirstRefIdeal.nD Cert.TailFirstRefIdeal.τ Cert.TailFirstRefIdeal.sig) → Buf (Elt Ideal) ℓ) (g : Dev Cert.TailFirstRefIdeal.nD → PrngReg), Pre_TailFirstRefIdeal m →
    θ_run (Cert.TailFirstRefIdeal.defs (F := Ideal)) (onTc (τ := Cert.TailFirstRefIdeal.τ) (Cert.TailFirstRefIdeal.main (F := Ideal))) ⟨m, fun _ => 0, g⟩ (fun r => (∀ c : Dev Cert.TailFirstRefIdeal.nD,
      r.2.mem ((c.tc : Thread Cert.TailFirstRefIdeal.nD Cert.TailFirstRefIdeal.τ).loc Cert.TailFirstRefIdeal.main_arg0) = m ((c.tc : Thread Cert.TailFirstRefIdeal.nD Cert.TailFirstRefIdeal.τ).loc Cert.TailFirstRefIdeal.main_arg0)
      ∧ r.2.mem ((c.tc : Thread Cert.TailFirstRefIdeal.nD Cert.TailFirstRefIdeal.τ).loc Cert.TailFirstRefIdeal.main_arg1) = m ((c.tc : Thread Cert.TailFirstRefIdeal.nD Cert.TailFirstRefIdeal.τ).loc Cert.TailFirstRefIdeal.main_arg1)
      ∧ r.2.mem ((c.tc : Thread Cert.TailFirstRefIdeal.nD Cert.TailFirstRefIdeal.τ).loc Cert.TailFirstRefIdeal.main_arg2) = m ((c.tc : Thread Cert.TailFirstRefIdeal.nD Cert.TailFirstRefIdeal.τ).loc Cert.TailFirstRefIdeal.main_arg2)
      ∧ r.2.mem ((c.tc : Thread Cert.TailFirstRefIdeal.nD Cert.TailFirstRefIdeal.τ).loc Cert.TailFirstRefIdeal.main_arg3) = m ((c.tc : Thread Cert.TailFirstRefIdeal.nD Cert.TailFirstRefIdeal.τ).loc Cert.TailFirstRefIdeal.main_arg3)
      ∧ r.2.mem ((c.tc : Thread Cert.TailFirstRefIdeal.nD Cert.TailFirstRefIdeal.τ).loc Cert.TailFirstRefIdeal.main_arg4) = m ((c.tc : Thread Cert.TailFirstRefIdeal.nD Cert.TailFirstRefIdeal.τ).loc Cert.TailFirstRefIdeal.main_arg4)
      ∧ r.2.mem ((c.tc : Thread Cert.TailFirstRefIdeal.nD Cert.TailFirstRefIdeal.τ).loc Cert.TailFirstRefIdeal.main_arg5) = m ((c.tc : Thread Cert.TailFirstRefIdeal.nD Cert.TailFirstRefIdeal.τ).loc Cert.TailFirstRefIdeal.main_arg5)
      ∧ r.2.mem ((c.tc : Thread Cert.TailFirstRefIdeal.nD Cert.TailFirstRefIdeal.τ).loc Cert.TailFirstRefIdeal.main_arg6) = m ((c.tc : Thread Cert.TailFirstRefIdeal.nD Cert.TailFirstRefIdeal.τ).loc Cert.TailFirstRefIdeal.main_arg6)
      ∧ r.2.mem ((c.tc : Thread Cert.TailFirstRefIdeal.nD Cert.TailFirstRefIdeal.τ).loc Cert.TailFirstRefIdeal.main_arg7) = m ((c.tc : Thread Cert.TailFirstRefIdeal.nD Cert.TailFirstRefIdeal.τ).loc Cert.TailFirstRefIdeal.main_arg7)
      ∧ r.2.mem ((c.tc : Thread Cert.TailFirstRefIdeal.nD Cert.TailFirstRefIdeal.τ).loc Cert.TailFirstRefIdeal.main_arg8) = m ((c.tc : Thread Cert.TailFirstRefIdeal.nD Cert.TailFirstRefIdeal.τ).loc Cert.TailFirstRefIdeal.main_arg8)
      ∧ r.2.mem ((c.tc : Thread Cert.TailFirstRefIdeal.nD Cert.TailFirstRefIdeal.τ).loc Cert.TailFirstRefIdeal.main_arg9) = m ((c.tc : Thread Cert.TailFirstRefIdeal.nD Cert.TailFirstRefIdeal.τ).loc Cert.TailFirstRefIdeal.main_arg9)
      ∧ r.2.mem ((c.tc : Thread Cert.TailFirstRefIdeal.nD Cert.TailFirstRefIdeal.τ).loc Cert.TailFirstRefIdeal.main_arg10) = m ((c.tc : Thread Cert.TailFirstRefIdeal.nD Cert.TailFirstRefIdeal.τ).loc Cert.TailFirstRefIdeal.main_arg10)
      ∧ r.2.mem ((c.tc : Thread Cert.TailFirstRefIdeal.nD Cert.TailFirstRefIdeal.τ).loc Cert.TailFirstRefIdeal.main_arg11) = m ((c.tc : Thread Cert.TailFirstRefIdeal.nD Cert.TailFirstRefIdeal.τ).loc Cert.TailFirstRefIdeal.main_arg11)
      ∧ r.2.mem ((c.tc : Thread Cert.TailFirstRefIdeal.nD Cert.TailFirstRefIdeal.τ).loc Cert.TailFirstRefIdeal.main_arg12) = m ((c.tc : Thread Cert.TailFirstRefIdeal.nD Cert.TailFirstRefIdeal.τ).loc Cert.TailFirstRefIdeal.main_arg12)
      ∧ r.2.mem ((c.tc : Thread Cert.TailFirstRefIdeal.nD Cert.TailFirstRefIdeal.τ).loc Cert.TailFirstRefIdeal.main_arg13) = m ((c.tc : Thread Cert.TailFirstRefIdeal.nD Cert.TailFirstRefIdeal.τ).loc Cert.TailFirstRefIdeal.main_arg13)
      ∧ r.2.mem ((c.tc : Thread Cert.TailFirstRefIdeal.nD Cert.TailFirstRefIdeal.τ).loc Cert.TailFirstRefIdeal.main_arg14) = m ((c.tc : Thread Cert.TailFirstRefIdeal.nD Cert.TailFirstRefIdeal.τ).loc Cert.TailFirstRefIdeal.main_arg14)
      ∧ r.2.mem ((c.tc : Thread Cert.TailFirstRefIdeal.nD Cert.TailFirstRefIdeal.τ).loc Cert.TailFirstRefIdeal.main_arg15) = m ((c.tc : Thread Cert.TailFirstRefIdeal.nD Cert.TailFirstRefIdeal.τ).loc Cert.TailFirstRefIdeal.main_arg15))
      ∧ r.2.sem = fun _ => 0)

def quiescent_ProjRet [hProjRet : Cert.ProjRet.Facts] : Prop :=
  ∀ (m : (ℓ : Loc Cert.ProjRet.nD Cert.ProjRet.τ Cert.ProjRet.sig) → Buf (Elt Bits) ℓ) (g : Dev Cert.ProjRet.nD → PrngReg), Pre_ProjRet m →
    θ_run (Cert.ProjRet.defs (F := Bits)) (onTc (τ := Cert.ProjRet.τ) (Cert.ProjRet.main (F := Bits))) ⟨m, fun _ => 0, g⟩ (fun r => (∀ c : Dev Cert.ProjRet.nD,
      r.2.mem ((c.tc : Thread Cert.ProjRet.nD Cert.ProjRet.τ).loc Cert.ProjRet.main_arg0) = m ((c.tc : Thread Cert.ProjRet.nD Cert.ProjRet.τ).loc Cert.ProjRet.main_arg0)
      ∧ r.2.mem ((c.tc : Thread Cert.ProjRet.nD Cert.ProjRet.τ).loc Cert.ProjRet.main_arg1) = m ((c.tc : Thread Cert.ProjRet.nD Cert.ProjRet.τ).loc Cert.ProjRet.main_arg1)
      ∧ r.2.mem ((c.tc : Thread Cert.ProjRet.nD Cert.ProjRet.τ).loc Cert.ProjRet.main_arg2) = m ((c.tc : Thread Cert.ProjRet.nD Cert.ProjRet.τ).loc Cert.ProjRet.main_arg2))
      ∧ r.2.sem = fun _ => 0)

def quiescent_ProjRetIdeal [hProjRetIdeal : Cert.ProjRetIdeal.Facts] : Prop :=
  ∀ (m : (ℓ : Loc Cert.ProjRetIdeal.nD Cert.ProjRetIdeal.τ Cert.ProjRetIdeal.sig) → Buf (Elt Ideal) ℓ) (g : Dev Cert.ProjRetIdeal.nD → PrngReg), Pre_ProjRetIdeal m →
    θ_run (Cert.ProjRetIdeal.defs (F := Ideal)) (onTc (τ := Cert.ProjRetIdeal.τ) (Cert.ProjRetIdeal.main (F := Ideal))) ⟨m, fun _ => 0, g⟩ (fun r => (∀ c : Dev Cert.ProjRetIdeal.nD,
      r.2.mem ((c.tc : Thread Cert.ProjRetIdeal.nD Cert.ProjRetIdeal.τ).loc Cert.ProjRetIdeal.main_arg0) = m ((c.tc : Thread Cert.ProjRetIdeal.nD Cert.ProjRetIdeal.τ).loc Cert.ProjRetIdeal.main_arg0)
      ∧ r.2.mem ((c.tc : Thread Cert.ProjRetIdeal.nD Cert.ProjRetIdeal.τ).loc Cert.ProjRetIdeal.main_arg1) = m ((c.tc : Thread Cert.ProjRetIdeal.nD Cert.ProjRetIdeal.τ).loc Cert.ProjRetIdeal.main_arg1)
      ∧ r.2.mem ((c.tc : Thread Cert.ProjRetIdeal.nD Cert.ProjRetIdeal.τ).loc Cert.ProjRetIdeal.main_arg2) = m ((c.tc : Thread Cert.ProjRetIdeal.nD Cert.ProjRetIdeal.τ).loc Cert.ProjRetIdeal.main_arg2))
      ∧ r.2.sem = fun _ => 0)

def quiescent_ProjRetIdeal_pre_finite_h [hProjRetIdeal : Cert.ProjRetIdeal.Facts] [hPre_finite_h : Cert.Pre_finite_h.Facts] : Prop :=
  ∀ (m : (ℓ : Loc Cert.ProjRetIdeal.nD Cert.ProjRetIdeal.τ Cert.ProjRetIdeal.sig) → Buf (Elt Ideal) ℓ) (g : Dev Cert.ProjRetIdeal.nD → PrngReg), Pre_ProjRetIdeal_finite_h m →
    θ_run (Cert.ProjRetIdeal.defs (F := Ideal)) (onTc (τ := Cert.ProjRetIdeal.τ) (Cert.ProjRetIdeal.main (F := Ideal))) ⟨m, fun _ => 0, g⟩ (fun r => (∀ c : Dev Cert.ProjRetIdeal.nD,
      r.2.mem ((c.tc : Thread Cert.ProjRetIdeal.nD Cert.ProjRetIdeal.τ).loc Cert.ProjRetIdeal.main_arg0) = m ((c.tc : Thread Cert.ProjRetIdeal.nD Cert.ProjRetIdeal.τ).loc Cert.ProjRetIdeal.main_arg0)
      ∧ r.2.mem ((c.tc : Thread Cert.ProjRetIdeal.nD Cert.ProjRetIdeal.τ).loc Cert.ProjRetIdeal.main_arg1) = m ((c.tc : Thread Cert.ProjRetIdeal.nD Cert.ProjRetIdeal.τ).loc Cert.ProjRetIdeal.main_arg1)
      ∧ r.2.mem ((c.tc : Thread Cert.ProjRetIdeal.nD Cert.ProjRetIdeal.τ).loc Cert.ProjRetIdeal.main_arg2) = m ((c.tc : Thread Cert.ProjRetIdeal.nD Cert.ProjRetIdeal.τ).loc Cert.ProjRetIdeal.main_arg2))
      ∧ r.2.sem = fun _ => 0)

def quiescent_ProjRetRefIdeal [hProjRetRefIdeal : Cert.ProjRetRefIdeal.Facts] : Prop :=
  ∀ (m : (ℓ : Loc Cert.ProjRetRefIdeal.nD Cert.ProjRetRefIdeal.τ Cert.ProjRetRefIdeal.sig) → Buf (Elt Ideal) ℓ) (g : Dev Cert.ProjRetRefIdeal.nD → PrngReg), Pre_ProjRetRefIdeal m →
    θ_run (Cert.ProjRetRefIdeal.defs (F := Ideal)) (onTc (τ := Cert.ProjRetRefIdeal.τ) (Cert.ProjRetRefIdeal.main (F := Ideal))) ⟨m, fun _ => 0, g⟩ (fun r => (∀ c : Dev Cert.ProjRetRefIdeal.nD,
      r.2.mem ((c.tc : Thread Cert.ProjRetRefIdeal.nD Cert.ProjRetRefIdeal.τ).loc Cert.ProjRetRefIdeal.main_arg0) = m ((c.tc : Thread Cert.ProjRetRefIdeal.nD Cert.ProjRetRefIdeal.τ).loc Cert.ProjRetRefIdeal.main_arg0)
      ∧ r.2.mem ((c.tc : Thread Cert.ProjRetRefIdeal.nD Cert.ProjRetRefIdeal.τ).loc Cert.ProjRetRefIdeal.main_arg1) = m ((c.tc : Thread Cert.ProjRetRefIdeal.nD Cert.ProjRetRefIdeal.τ).loc Cert.ProjRetRefIdeal.main_arg1)
      ∧ r.2.mem ((c.tc : Thread Cert.ProjRetRefIdeal.nD Cert.ProjRetRefIdeal.τ).loc Cert.ProjRetRefIdeal.main_arg2) = m ((c.tc : Thread Cert.ProjRetRefIdeal.nD Cert.ProjRetRefIdeal.τ).loc Cert.ProjRetRefIdeal.main_arg2))
      ∧ r.2.sem = fun _ => 0)

def quiescent_ProjRetRefIdeal_pre_finite_h [hProjRetRefIdeal : Cert.ProjRetRefIdeal.Facts] [hPre_finite_h : Cert.Pre_finite_h.Facts] : Prop :=
  ∀ (m : (ℓ : Loc Cert.ProjRetRefIdeal.nD Cert.ProjRetRefIdeal.τ Cert.ProjRetRefIdeal.sig) → Buf (Elt Ideal) ℓ) (g : Dev Cert.ProjRetRefIdeal.nD → PrngReg), Pre_ProjRetRefIdeal_finite_h m →
    θ_run (Cert.ProjRetRefIdeal.defs (F := Ideal)) (onTc (τ := Cert.ProjRetRefIdeal.τ) (Cert.ProjRetRefIdeal.main (F := Ideal))) ⟨m, fun _ => 0, g⟩ (fun r => (∀ c : Dev Cert.ProjRetRefIdeal.nD,
      r.2.mem ((c.tc : Thread Cert.ProjRetRefIdeal.nD Cert.ProjRetRefIdeal.τ).loc Cert.ProjRetRefIdeal.main_arg0) = m ((c.tc : Thread Cert.ProjRetRefIdeal.nD Cert.ProjRetRefIdeal.τ).loc Cert.ProjRetRefIdeal.main_arg0)
      ∧ r.2.mem ((c.tc : Thread Cert.ProjRetRefIdeal.nD Cert.ProjRetRefIdeal.τ).loc Cert.ProjRetRefIdeal.main_arg1) = m ((c.tc : Thread Cert.ProjRetRefIdeal.nD Cert.ProjRetRefIdeal.τ).loc Cert.ProjRetRefIdeal.main_arg1)
      ∧ r.2.mem ((c.tc : Thread Cert.ProjRetRefIdeal.nD Cert.ProjRetRefIdeal.τ).loc Cert.ProjRetRefIdeal.main_arg2) = m ((c.tc : Thread Cert.ProjRetRefIdeal.nD Cert.ProjRetRefIdeal.τ).loc Cert.ProjRetRefIdeal.main_arg2))
      ∧ r.2.sem = fun _ => 0)

def quiescent_ProjSb [hProjSb : Cert.ProjSb.Facts] : Prop :=
  ∀ (m : (ℓ : Loc Cert.ProjSb.nD Cert.ProjSb.τ Cert.ProjSb.sig) → Buf (Elt Bits) ℓ) (g : Dev Cert.ProjSb.nD → PrngReg), Pre_ProjSb m →
    θ_run (Cert.ProjSb.defs (F := Bits)) (onTc (τ := Cert.ProjSb.τ) (Cert.ProjSb.main (F := Bits))) ⟨m, fun _ => 0, g⟩ (fun r => (∀ c : Dev Cert.ProjSb.nD,
      r.2.mem ((c.tc : Thread Cert.ProjSb.nD Cert.ProjSb.τ).loc Cert.ProjSb.main_arg0) = m ((c.tc : Thread Cert.ProjSb.nD Cert.ProjSb.τ).loc Cert.ProjSb.main_arg0)
      ∧ r.2.mem ((c.tc : Thread Cert.ProjSb.nD Cert.ProjSb.τ).loc Cert.ProjSb.main_arg1) = m ((c.tc : Thread Cert.ProjSb.nD Cert.ProjSb.τ).loc Cert.ProjSb.main_arg1)
      ∧ r.2.mem ((c.tc : Thread Cert.ProjSb.nD Cert.ProjSb.τ).loc Cert.ProjSb.main_arg2) = m ((c.tc : Thread Cert.ProjSb.nD Cert.ProjSb.τ).loc Cert.ProjSb.main_arg2)
      ∧ r.2.mem ((c.tc : Thread Cert.ProjSb.nD Cert.ProjSb.τ).loc Cert.ProjSb.main_arg3) = m ((c.tc : Thread Cert.ProjSb.nD Cert.ProjSb.τ).loc Cert.ProjSb.main_arg3)
      ∧ r.2.mem ((c.tc : Thread Cert.ProjSb.nD Cert.ProjSb.τ).loc Cert.ProjSb.main_arg4) = m ((c.tc : Thread Cert.ProjSb.nD Cert.ProjSb.τ).loc Cert.ProjSb.main_arg4)
      ∧ r.2.mem ((c.tc : Thread Cert.ProjSb.nD Cert.ProjSb.τ).loc Cert.ProjSb.main_arg5) = m ((c.tc : Thread Cert.ProjSb.nD Cert.ProjSb.τ).loc Cert.ProjSb.main_arg5)
      ∧ r.2.mem ((c.tc : Thread Cert.ProjSb.nD Cert.ProjSb.τ).loc Cert.ProjSb.main_arg6) = m ((c.tc : Thread Cert.ProjSb.nD Cert.ProjSb.τ).loc Cert.ProjSb.main_arg6))
      ∧ r.2.sem = fun _ => 0)

def quiescent_ProjSbIdeal [hProjSbIdeal : Cert.ProjSbIdeal.Facts] : Prop :=
  ∀ (m : (ℓ : Loc Cert.ProjSbIdeal.nD Cert.ProjSbIdeal.τ Cert.ProjSbIdeal.sig) → Buf (Elt Ideal) ℓ) (g : Dev Cert.ProjSbIdeal.nD → PrngReg), Pre_ProjSbIdeal m →
    θ_run (Cert.ProjSbIdeal.defs (F := Ideal)) (onTc (τ := Cert.ProjSbIdeal.τ) (Cert.ProjSbIdeal.main (F := Ideal))) ⟨m, fun _ => 0, g⟩ (fun r => (∀ c : Dev Cert.ProjSbIdeal.nD,
      r.2.mem ((c.tc : Thread Cert.ProjSbIdeal.nD Cert.ProjSbIdeal.τ).loc Cert.ProjSbIdeal.main_arg0) = m ((c.tc : Thread Cert.ProjSbIdeal.nD Cert.ProjSbIdeal.τ).loc Cert.ProjSbIdeal.main_arg0)
      ∧ r.2.mem ((c.tc : Thread Cert.ProjSbIdeal.nD Cert.ProjSbIdeal.τ).loc Cert.ProjSbIdeal.main_arg1) = m ((c.tc : Thread Cert.ProjSbIdeal.nD Cert.ProjSbIdeal.τ).loc Cert.ProjSbIdeal.main_arg1)
      ∧ r.2.mem ((c.tc : Thread Cert.ProjSbIdeal.nD Cert.ProjSbIdeal.τ).loc Cert.ProjSbIdeal.main_arg2) = m ((c.tc : Thread Cert.ProjSbIdeal.nD Cert.ProjSbIdeal.τ).loc Cert.ProjSbIdeal.main_arg2)
      ∧ r.2.mem ((c.tc : Thread Cert.ProjSbIdeal.nD Cert.ProjSbIdeal.τ).loc Cert.ProjSbIdeal.main_arg3) = m ((c.tc : Thread Cert.ProjSbIdeal.nD Cert.ProjSbIdeal.τ).loc Cert.ProjSbIdeal.main_arg3)
      ∧ r.2.mem ((c.tc : Thread Cert.ProjSbIdeal.nD Cert.ProjSbIdeal.τ).loc Cert.ProjSbIdeal.main_arg4) = m ((c.tc : Thread Cert.ProjSbIdeal.nD Cert.ProjSbIdeal.τ).loc Cert.ProjSbIdeal.main_arg4)
      ∧ r.2.mem ((c.tc : Thread Cert.ProjSbIdeal.nD Cert.ProjSbIdeal.τ).loc Cert.ProjSbIdeal.main_arg5) = m ((c.tc : Thread Cert.ProjSbIdeal.nD Cert.ProjSbIdeal.τ).loc Cert.ProjSbIdeal.main_arg5)
      ∧ r.2.mem ((c.tc : Thread Cert.ProjSbIdeal.nD Cert.ProjSbIdeal.τ).loc Cert.ProjSbIdeal.main_arg6) = m ((c.tc : Thread Cert.ProjSbIdeal.nD Cert.ProjSbIdeal.τ).loc Cert.ProjSbIdeal.main_arg6))
      ∧ r.2.sem = fun _ => 0)

def quiescent_ProjSbRefIdeal [hProjSbRefIdeal : Cert.ProjSbRefIdeal.Facts] : Prop :=
  ∀ (m : (ℓ : Loc Cert.ProjSbRefIdeal.nD Cert.ProjSbRefIdeal.τ Cert.ProjSbRefIdeal.sig) → Buf (Elt Ideal) ℓ) (g : Dev Cert.ProjSbRefIdeal.nD → PrngReg), Pre_ProjSbRefIdeal m →
    θ_run (Cert.ProjSbRefIdeal.defs (F := Ideal)) (onTc (τ := Cert.ProjSbRefIdeal.τ) (Cert.ProjSbRefIdeal.main (F := Ideal))) ⟨m, fun _ => 0, g⟩ (fun r => (∀ c : Dev Cert.ProjSbRefIdeal.nD,
      r.2.mem ((c.tc : Thread Cert.ProjSbRefIdeal.nD Cert.ProjSbRefIdeal.τ).loc Cert.ProjSbRefIdeal.main_arg0) = m ((c.tc : Thread Cert.ProjSbRefIdeal.nD Cert.ProjSbRefIdeal.τ).loc Cert.ProjSbRefIdeal.main_arg0)
      ∧ r.2.mem ((c.tc : Thread Cert.ProjSbRefIdeal.nD Cert.ProjSbRefIdeal.τ).loc Cert.ProjSbRefIdeal.main_arg1) = m ((c.tc : Thread Cert.ProjSbRefIdeal.nD Cert.ProjSbRefIdeal.τ).loc Cert.ProjSbRefIdeal.main_arg1)
      ∧ r.2.mem ((c.tc : Thread Cert.ProjSbRefIdeal.nD Cert.ProjSbRefIdeal.τ).loc Cert.ProjSbRefIdeal.main_arg2) = m ((c.tc : Thread Cert.ProjSbRefIdeal.nD Cert.ProjSbRefIdeal.τ).loc Cert.ProjSbRefIdeal.main_arg2)
      ∧ r.2.mem ((c.tc : Thread Cert.ProjSbRefIdeal.nD Cert.ProjSbRefIdeal.τ).loc Cert.ProjSbRefIdeal.main_arg3) = m ((c.tc : Thread Cert.ProjSbRefIdeal.nD Cert.ProjSbRefIdeal.τ).loc Cert.ProjSbRefIdeal.main_arg3)
      ∧ r.2.mem ((c.tc : Thread Cert.ProjSbRefIdeal.nD Cert.ProjSbRefIdeal.τ).loc Cert.ProjSbRefIdeal.main_arg4) = m ((c.tc : Thread Cert.ProjSbRefIdeal.nD Cert.ProjSbRefIdeal.τ).loc Cert.ProjSbRefIdeal.main_arg4)
      ∧ r.2.mem ((c.tc : Thread Cert.ProjSbRefIdeal.nD Cert.ProjSbRefIdeal.τ).loc Cert.ProjSbRefIdeal.main_arg5) = m ((c.tc : Thread Cert.ProjSbRefIdeal.nD Cert.ProjSbRefIdeal.τ).loc Cert.ProjSbRefIdeal.main_arg5)
      ∧ r.2.mem ((c.tc : Thread Cert.ProjSbRefIdeal.nD Cert.ProjSbRefIdeal.τ).loc Cert.ProjSbRefIdeal.main_arg6) = m ((c.tc : Thread Cert.ProjSbRefIdeal.nD Cert.ProjSbRefIdeal.τ).loc Cert.ProjSbRefIdeal.main_arg6))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9)
      ∧ r.2.mem ((c.tc : Thread Cert.Layer.nD Cert.Layer.τ).loc Cert.Layer.main_arg10) = m ((c.tc : Thread Cert.Layer.nD Cert.Layer.τ).loc Cert.Layer.main_arg10)
      ∧ r.2.mem ((c.tc : Thread Cert.Layer.nD Cert.Layer.τ).loc Cert.Layer.main_arg11) = m ((c.tc : Thread Cert.Layer.nD Cert.Layer.τ).loc Cert.Layer.main_arg11))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11))
      ∧ r.2.sem = fun _ => 0)

def quiescent_LayerIdeal_pre_finite_l [hLayerIdeal : Cert.LayerIdeal.Facts] [hPre_finite_l : Cert.Pre_finite_l.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal_finite_l m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11))
      ∧ r.2.sem = fun _ => 0)

def quiescent_LayerRefIdeal [hLayerRefIdeal : Cert.LayerRefIdeal.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10)
      ∧ r.2.mem ((c.tc : Thread Cert.LayerRefIdeal.nD Cert.LayerRefIdeal.τ).loc Cert.LayerRefIdeal.main_arg11) = m ((c.tc : Thread Cert.LayerRefIdeal.nD Cert.LayerRefIdeal.τ).loc Cert.LayerRefIdeal.main_arg11))
      ∧ r.2.sem = fun _ => 0)

def quiescent_LayerRefIdeal_pre_finite_l [hLayerRefIdeal : Cert.LayerRefIdeal.Facts] [hPre_finite_l : Cert.Pre_finite_l.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal_finite_l m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10)
      ∧ r.2.mem ((c.tc : Thread Cert.LayerRefIdeal.nD Cert.LayerRefIdeal.τ).loc Cert.LayerRefIdeal.main_arg11) = m ((c.tc : Thread Cert.LayerRefIdeal.nD Cert.LayerRefIdeal.τ).loc Cert.LayerRefIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_TailLast_TailLastIdeal : Prop :=
  True

def algebraic_TailLastIdeal_TailLastRefIdeal [hTailLastIdeal : Cert.TailLastIdeal.Facts] [hTailLastRefIdeal : Cert.TailLastRefIdeal.Facts] : Prop :=
  ∀ (m : (ℓ : Loc Cert.TailLastIdeal.nD Cert.TailLastIdeal.τ Cert.TailLastIdeal.sig) → Buf (Elt Ideal) ℓ) (g : Dev Cert.TailLastIdeal.nD → PrngReg)
    (m' : (ℓ : Loc Cert.TailLastRefIdeal.nD Cert.TailLastRefIdeal.τ Cert.TailLastRefIdeal.sig) → Buf (Elt Ideal) ℓ) (g' : Dev Cert.TailLastRefIdeal.nD → PrngReg), Pre_TailLastIdeal m →
    (∀ c : Dev Cert.TailLastIdeal.nD,
      m' ((c.tc : Thread Cert.TailLastRefIdeal.nD Cert.TailLastRefIdeal.τ).loc Cert.TailLastRefIdeal.main_arg0) = m ((c.tc : Thread Cert.TailLastIdeal.nD Cert.TailLastIdeal.τ).loc Cert.TailLastIdeal.main_arg0)
      ∧ m' ((c.tc : Thread Cert.TailLastRefIdeal.nD Cert.TailLastRefIdeal.τ).loc Cert.TailLastRefIdeal.main_arg1) = m ((c.tc : Thread Cert.TailLastIdeal.nD Cert.TailLastIdeal.τ).loc Cert.TailLastIdeal.main_arg1)
      ∧ m' ((c.tc : Thread Cert.TailLastRefIdeal.nD Cert.TailLastRefIdeal.τ).loc Cert.TailLastRefIdeal.main_arg2) = m ((c.tc : Thread Cert.TailLastIdeal.nD Cert.TailLastIdeal.τ).loc Cert.TailLastIdeal.main_arg2)
      ∧ m' ((c.tc : Thread Cert.TailLastRefIdeal.nD Cert.TailLastRefIdeal.τ).loc Cert.TailLastRefIdeal.main_arg3) = m ((c.tc : Thread Cert.TailLastIdeal.nD Cert.TailLastIdeal.τ).loc Cert.TailLastIdeal.main_arg3)
      ∧ m' ((c.tc : Thread Cert.TailLastRefIdeal.nD Cert.TailLastRefIdeal.τ).loc Cert.TailLastRefIdeal.main_arg4) = m ((c.tc : Thread Cert.TailLastIdeal.nD Cert.TailLastIdeal.τ).loc Cert.TailLastIdeal.main_arg4)
      ∧ m' ((c.tc : Thread Cert.TailLastRefIdeal.nD Cert.TailLastRefIdeal.τ).loc Cert.TailLastRefIdeal.main_arg5) = m ((c.tc : Thread Cert.TailLastIdeal.nD Cert.TailLastIdeal.τ).loc Cert.TailLastIdeal.main_arg5)
      ∧ m' ((c.tc : Thread Cert.TailLastRefIdeal.nD Cert.TailLastRefIdeal.τ).loc Cert.TailLastRefIdeal.main_arg6) = m ((c.tc : Thread Cert.TailLastIdeal.nD Cert.TailLastIdeal.τ).loc Cert.TailLastIdeal.main_arg6)
      ∧ m' ((c.tc : Thread Cert.TailLastRefIdeal.nD Cert.TailLastRefIdeal.τ).loc Cert.TailLastRefIdeal.main_arg7) = m ((c.tc : Thread Cert.TailLastIdeal.nD Cert.TailLastIdeal.τ).loc Cert.TailLastIdeal.main_arg7)
      ∧ m' ((c.tc : Thread Cert.TailLastRefIdeal.nD Cert.TailLastRefIdeal.τ).loc Cert.TailLastRefIdeal.main_arg8) = m ((c.tc : Thread Cert.TailLastIdeal.nD Cert.TailLastIdeal.τ).loc Cert.TailLastIdeal.main_arg8)
      ∧ m' ((c.tc : Thread Cert.TailLastRefIdeal.nD Cert.TailLastRefIdeal.τ).loc Cert.TailLastRefIdeal.main_arg9) = m ((c.tc : Thread Cert.TailLastIdeal.nD Cert.TailLastIdeal.τ).loc Cert.TailLastIdeal.main_arg9)
      ∧ m' ((c.tc : Thread Cert.TailLastRefIdeal.nD Cert.TailLastRefIdeal.τ).loc Cert.TailLastRefIdeal.main_arg10) = m ((c.tc : Thread Cert.TailLastIdeal.nD Cert.TailLastIdeal.τ).loc Cert.TailLastIdeal.main_arg10)) →
    ∃ (v0 : (c : Dev Cert.TailLastIdeal.nD) → Buf (Elt Ideal) ((c.tc : Thread Cert.TailLastIdeal.nD Cert.TailLastIdeal.τ).loc Cert.TailLastIdeal.main_v10)),
      θ_run (Cert.TailLastIdeal.defs (F := Ideal)) (onTc (τ := Cert.TailLastIdeal.τ) (Cert.TailLastIdeal.main (F := Ideal))) ⟨m, fun _ => 0, g⟩ (fun r => ∀ c : Dev Cert.TailLastIdeal.nD,
          r.2.mem ((c.tc : Thread Cert.TailLastIdeal.nD Cert.TailLastIdeal.τ).loc Cert.TailLastIdeal.main_v10) = v0 c
          ∧ r.2.mem ((c.tc : Thread Cert.TailLastIdeal.nD Cert.TailLastIdeal.τ).loc Cert.TailLastIdeal.main_arg0) = m ((c.tc : Thread Cert.TailLastIdeal.nD Cert.TailLastIdeal.τ).loc Cert.TailLastIdeal.main_arg0)
          ∧ r.2.mem ((c.tc : Thread Cert.TailLastIdeal.nD Cert.TailLastIdeal.τ).loc Cert.TailLastIdeal.main_arg1) = m ((c.tc : Thread Cert.TailLastIdeal.nD Cert.TailLastIdeal.τ).loc Cert.TailLastIdeal.main_arg1)
          ∧ r.2.mem ((c.tc : Thread Cert.TailLastIdeal.nD Cert.TailLastIdeal.τ).loc Cert.TailLastIdeal.main_arg2) = m ((c.tc : Thread Cert.TailLastIdeal.nD Cert.TailLastIdeal.τ).loc Cert.TailLastIdeal.main_arg2)
          ∧ r.2.mem ((c.tc : Thread Cert.TailLastIdeal.nD Cert.TailLastIdeal.τ).loc Cert.TailLastIdeal.main_arg3) = m ((c.tc : Thread Cert.TailLastIdeal.nD Cert.TailLastIdeal.τ).loc Cert.TailLastIdeal.main_arg3)
          ∧ r.2.mem ((c.tc : Thread Cert.TailLastIdeal.nD Cert.TailLastIdeal.τ).loc Cert.TailLastIdeal.main_arg4) = m ((c.tc : Thread Cert.TailLastIdeal.nD Cert.TailLastIdeal.τ).loc Cert.TailLastIdeal.main_arg4)
          ∧ r.2.mem ((c.tc : Thread Cert.TailLastIdeal.nD Cert.TailLastIdeal.τ).loc Cert.TailLastIdeal.main_arg5) = m ((c.tc : Thread Cert.TailLastIdeal.nD Cert.TailLastIdeal.τ).loc Cert.TailLastIdeal.main_arg5)
          ∧ r.2.mem ((c.tc : Thread Cert.TailLastIdeal.nD Cert.TailLastIdeal.τ).loc Cert.TailLastIdeal.main_arg6) = m ((c.tc : Thread Cert.TailLastIdeal.nD Cert.TailLastIdeal.τ).loc Cert.TailLastIdeal.main_arg6)
          ∧ r.2.mem ((c.tc : Thread Cert.TailLastIdeal.nD Cert.TailLastIdeal.τ).loc Cert.TailLastIdeal.main_arg7) = m ((c.tc : Thread Cert.TailLastIdeal.nD Cert.TailLastIdeal.τ).loc Cert.TailLastIdeal.main_arg7)
          ∧ r.2.mem ((c.tc : Thread Cert.TailLastIdeal.nD Cert.TailLastIdeal.τ).loc Cert.TailLastIdeal.main_arg8) = m ((c.tc : Thread Cert.TailLastIdeal.nD Cert.TailLastIdeal.τ).loc Cert.TailLastIdeal.main_arg8)
          ∧ r.2.mem ((c.tc : Thread Cert.TailLastIdeal.nD Cert.TailLastIdeal.τ).loc Cert.TailLastIdeal.main_arg9) = m ((c.tc : Thread Cert.TailLastIdeal.nD Cert.TailLastIdeal.τ).loc Cert.TailLastIdeal.main_arg9)
          ∧ r.2.mem ((c.tc : Thread Cert.TailLastIdeal.nD Cert.TailLastIdeal.τ).loc Cert.TailLastIdeal.main_arg10) = m ((c.tc : Thread Cert.TailLastIdeal.nD Cert.TailLastIdeal.τ).loc Cert.TailLastIdeal.main_arg10))
      ∧ θ_run (Cert.TailLastRefIdeal.defs (F := Ideal)) (onTc (τ := Cert.TailLastRefIdeal.τ) (Cert.TailLastRefIdeal.main (F := Ideal))) ⟨m', fun _ => 0, g'⟩ (fun r => ∀ c : Dev Cert.TailLastRefIdeal.nD,
          r.2.mem ((c.tc : Thread Cert.TailLastRefIdeal.nD Cert.TailLastRefIdeal.τ).loc Cert.TailLastRefIdeal.main_v68) = v0 c
          ∧ r.2.mem ((c.tc : Thread Cert.TailLastRefIdeal.nD Cert.TailLastRefIdeal.τ).loc Cert.TailLastRefIdeal.main_arg0) = m' ((c.tc : Thread Cert.TailLastRefIdeal.nD Cert.TailLastRefIdeal.τ).loc Cert.TailLastRefIdeal.main_arg0)
          ∧ r.2.mem ((c.tc : Thread Cert.TailLastRefIdeal.nD Cert.TailLastRefIdeal.τ).loc Cert.TailLastRefIdeal.main_arg1) = m' ((c.tc : Thread Cert.TailLastRefIdeal.nD Cert.TailLastRefIdeal.τ).loc Cert.TailLastRefIdeal.main_arg1)
          ∧ r.2.mem ((c.tc : Thread Cert.TailLastRefIdeal.nD Cert.TailLastRefIdeal.τ).loc Cert.TailLastRefIdeal.main_arg2) = m' ((c.tc : Thread Cert.TailLastRefIdeal.nD Cert.TailLastRefIdeal.τ).loc Cert.TailLastRefIdeal.main_arg2)
          ∧ r.2.mem ((c.tc : Thread Cert.TailLastRefIdeal.nD Cert.TailLastRefIdeal.τ).loc Cert.TailLastRefIdeal.main_arg3) = m' ((c.tc : Thread Cert.TailLastRefIdeal.nD Cert.TailLastRefIdeal.τ).loc Cert.TailLastRefIdeal.main_arg3)
          ∧ r.2.mem ((c.tc : Thread Cert.TailLastRefIdeal.nD Cert.TailLastRefIdeal.τ).loc Cert.TailLastRefIdeal.main_arg4) = m' ((c.tc : Thread Cert.TailLastRefIdeal.nD Cert.TailLastRefIdeal.τ).loc Cert.TailLastRefIdeal.main_arg4)
          ∧ r.2.mem ((c.tc : Thread Cert.TailLastRefIdeal.nD Cert.TailLastRefIdeal.τ).loc Cert.TailLastRefIdeal.main_arg5) = m' ((c.tc : Thread Cert.TailLastRefIdeal.nD Cert.TailLastRefIdeal.τ).loc Cert.TailLastRefIdeal.main_arg5)
          ∧ r.2.mem ((c.tc : Thread Cert.TailLastRefIdeal.nD Cert.TailLastRefIdeal.τ).loc Cert.TailLastRefIdeal.main_arg6) = m' ((c.tc : Thread Cert.TailLastRefIdeal.nD Cert.TailLastRefIdeal.τ).loc Cert.TailLastRefIdeal.main_arg6)
          ∧ r.2.mem ((c.tc : Thread Cert.TailLastRefIdeal.nD Cert.TailLastRefIdeal.τ).loc Cert.TailLastRefIdeal.main_arg7) = m' ((c.tc : Thread Cert.TailLastRefIdeal.nD Cert.TailLastRefIdeal.τ).loc Cert.TailLastRefIdeal.main_arg7)
          ∧ r.2.mem ((c.tc : Thread Cert.TailLastRefIdeal.nD Cert.TailLastRefIdeal.τ).loc Cert.TailLastRefIdeal.main_arg8) = m' ((c.tc : Thread Cert.TailLastRefIdeal.nD Cert.TailLastRefIdeal.τ).loc Cert.TailLastRefIdeal.main_arg8)
          ∧ r.2.mem ((c.tc : Thread Cert.TailLastRefIdeal.nD Cert.TailLastRefIdeal.τ).loc Cert.TailLastRefIdeal.main_arg9) = m' ((c.tc : Thread Cert.TailLastRefIdeal.nD Cert.TailLastRefIdeal.τ).loc Cert.TailLastRefIdeal.main_arg9)
          ∧ r.2.mem ((c.tc : Thread Cert.TailLastRefIdeal.nD Cert.TailLastRefIdeal.τ).loc Cert.TailLastRefIdeal.main_arg10) = m' ((c.tc : Thread Cert.TailLastRefIdeal.nD Cert.TailLastRefIdeal.τ).loc Cert.TailLastRefIdeal.main_arg10))

def preserves_TailFirst_TailFirstIdeal : Prop :=
  True

def algebraic_TailFirstIdeal_TailFirstRefIdeal [hTailFirstIdeal : Cert.TailFirstIdeal.Facts] [hTailFirstRefIdeal : Cert.TailFirstRefIdeal.Facts] : Prop :=
  ∀ (m : (ℓ : Loc Cert.TailFirstIdeal.nD Cert.TailFirstIdeal.τ Cert.TailFirstIdeal.sig) → Buf (Elt Ideal) ℓ) (g : Dev Cert.TailFirstIdeal.nD → PrngReg)
    (m' : (ℓ : Loc Cert.TailFirstRefIdeal.nD Cert.TailFirstRefIdeal.τ Cert.TailFirstRefIdeal.sig) → Buf (Elt Ideal) ℓ) (g' : Dev Cert.TailFirstRefIdeal.nD → PrngReg), Pre_TailFirstIdeal m →
    (∀ c : Dev Cert.TailFirstIdeal.nD,
      m' ((c.tc : Thread Cert.TailFirstRefIdeal.nD Cert.TailFirstRefIdeal.τ).loc Cert.TailFirstRefIdeal.main_arg0) = m ((c.tc : Thread Cert.TailFirstIdeal.nD Cert.TailFirstIdeal.τ).loc Cert.TailFirstIdeal.main_arg0)
      ∧ m' ((c.tc : Thread Cert.TailFirstRefIdeal.nD Cert.TailFirstRefIdeal.τ).loc Cert.TailFirstRefIdeal.main_arg1) = m ((c.tc : Thread Cert.TailFirstIdeal.nD Cert.TailFirstIdeal.τ).loc Cert.TailFirstIdeal.main_arg1)
      ∧ m' ((c.tc : Thread Cert.TailFirstRefIdeal.nD Cert.TailFirstRefIdeal.τ).loc Cert.TailFirstRefIdeal.main_arg2) = m ((c.tc : Thread Cert.TailFirstIdeal.nD Cert.TailFirstIdeal.τ).loc Cert.TailFirstIdeal.main_arg2)
      ∧ m' ((c.tc : Thread Cert.TailFirstRefIdeal.nD Cert.TailFirstRefIdeal.τ).loc Cert.TailFirstRefIdeal.main_arg3) = m ((c.tc : Thread Cert.TailFirstIdeal.nD Cert.TailFirstIdeal.τ).loc Cert.TailFirstIdeal.main_arg3)
      ∧ m' ((c.tc : Thread Cert.TailFirstRefIdeal.nD Cert.TailFirstRefIdeal.τ).loc Cert.TailFirstRefIdeal.main_arg4) = m ((c.tc : Thread Cert.TailFirstIdeal.nD Cert.TailFirstIdeal.τ).loc Cert.TailFirstIdeal.main_arg4)
      ∧ m' ((c.tc : Thread Cert.TailFirstRefIdeal.nD Cert.TailFirstRefIdeal.τ).loc Cert.TailFirstRefIdeal.main_arg5) = m ((c.tc : Thread Cert.TailFirstIdeal.nD Cert.TailFirstIdeal.τ).loc Cert.TailFirstIdeal.main_arg5)
      ∧ m' ((c.tc : Thread Cert.TailFirstRefIdeal.nD Cert.TailFirstRefIdeal.τ).loc Cert.TailFirstRefIdeal.main_arg6) = m ((c.tc : Thread Cert.TailFirstIdeal.nD Cert.TailFirstIdeal.τ).loc Cert.TailFirstIdeal.main_arg6)
      ∧ m' ((c.tc : Thread Cert.TailFirstRefIdeal.nD Cert.TailFirstRefIdeal.τ).loc Cert.TailFirstRefIdeal.main_arg7) = m ((c.tc : Thread Cert.TailFirstIdeal.nD Cert.TailFirstIdeal.τ).loc Cert.TailFirstIdeal.main_arg7)
      ∧ m' ((c.tc : Thread Cert.TailFirstRefIdeal.nD Cert.TailFirstRefIdeal.τ).loc Cert.TailFirstRefIdeal.main_arg8) = m ((c.tc : Thread Cert.TailFirstIdeal.nD Cert.TailFirstIdeal.τ).loc Cert.TailFirstIdeal.main_arg8)
      ∧ m' ((c.tc : Thread Cert.TailFirstRefIdeal.nD Cert.TailFirstRefIdeal.τ).loc Cert.TailFirstRefIdeal.main_arg9) = m ((c.tc : Thread Cert.TailFirstIdeal.nD Cert.TailFirstIdeal.τ).loc Cert.TailFirstIdeal.main_arg9)
      ∧ m' ((c.tc : Thread Cert.TailFirstRefIdeal.nD Cert.TailFirstRefIdeal.τ).loc Cert.TailFirstRefIdeal.main_arg10) = m ((c.tc : Thread Cert.TailFirstIdeal.nD Cert.TailFirstIdeal.τ).loc Cert.TailFirstIdeal.main_arg10)
      ∧ m' ((c.tc : Thread Cert.TailFirstRefIdeal.nD Cert.TailFirstRefIdeal.τ).loc Cert.TailFirstRefIdeal.main_arg11) = m ((c.tc : Thread Cert.TailFirstIdeal.nD Cert.TailFirstIdeal.τ).loc Cert.TailFirstIdeal.main_arg11)
      ∧ m' ((c.tc : Thread Cert.TailFirstRefIdeal.nD Cert.TailFirstRefIdeal.τ).loc Cert.TailFirstRefIdeal.main_arg12) = m ((c.tc : Thread Cert.TailFirstIdeal.nD Cert.TailFirstIdeal.τ).loc Cert.TailFirstIdeal.main_arg12)
      ∧ m' ((c.tc : Thread Cert.TailFirstRefIdeal.nD Cert.TailFirstRefIdeal.τ).loc Cert.TailFirstRefIdeal.main_arg13) = m ((c.tc : Thread Cert.TailFirstIdeal.nD Cert.TailFirstIdeal.τ).loc Cert.TailFirstIdeal.main_arg13)
      ∧ m' ((c.tc : Thread Cert.TailFirstRefIdeal.nD Cert.TailFirstRefIdeal.τ).loc Cert.TailFirstRefIdeal.main_arg14) = m ((c.tc : Thread Cert.TailFirstIdeal.nD Cert.TailFirstIdeal.τ).loc Cert.TailFirstIdeal.main_arg14)
      ∧ m' ((c.tc : Thread Cert.TailFirstRefIdeal.nD Cert.TailFirstRefIdeal.τ).loc Cert.TailFirstRefIdeal.main_arg15) = m ((c.tc : Thread Cert.TailFirstIdeal.nD Cert.TailFirstIdeal.τ).loc Cert.TailFirstIdeal.main_arg15)) →
    ∃ (v0 : (c : Dev Cert.TailFirstIdeal.nD) → Buf (Elt Ideal) ((c.tc : Thread Cert.TailFirstIdeal.nD Cert.TailFirstIdeal.τ).loc Cert.TailFirstIdeal.main_v10_0)) (v1 : (c : Dev Cert.TailFirstIdeal.nD) → Buf (Elt Ideal) ((c.tc : Thread Cert.TailFirstIdeal.nD Cert.TailFirstIdeal.τ).loc Cert.TailFirstIdeal.main_v10_1)) (v2 : (c : Dev Cert.TailFirstIdeal.nD) → Buf (Elt Ideal) ((c.tc : Thread Cert.TailFirstIdeal.nD Cert.TailFirstIdeal.τ).loc Cert.TailFirstIdeal.main_v10_2)) (v3 : (c : Dev Cert.TailFirstIdeal.nD) → Buf (Elt Ideal) ((c.tc : Thread Cert.TailFirstIdeal.nD Cert.TailFirstIdeal.τ).loc Cert.TailFirstIdeal.main_v10_3)) (v4 : (c : Dev Cert.TailFirstIdeal.nD) → Buf (Elt Ideal) ((c.tc : Thread Cert.TailFirstIdeal.nD Cert.TailFirstIdeal.τ).loc Cert.TailFirstIdeal.main_v10_4)) (v5 : (c : Dev Cert.TailFirstIdeal.nD) → Buf (Elt Ideal) ((c.tc : Thread Cert.TailFirstIdeal.nD Cert.TailFirstIdeal.τ).loc Cert.TailFirstIdeal.main_v10_5)),
      θ_run (Cert.TailFirstIdeal.defs (F := Ideal)) (onTc (τ := Cert.TailFirstIdeal.τ) (Cert.TailFirstIdeal.main (F := Ideal))) ⟨m, fun _ => 0, g⟩ (fun r => ∀ c : Dev Cert.TailFirstIdeal.nD,
          r.2.mem ((c.tc : Thread Cert.TailFirstIdeal.nD Cert.TailFirstIdeal.τ).loc Cert.TailFirstIdeal.main_v10_0) = v0 c
          ∧ r.2.mem ((c.tc : Thread Cert.TailFirstIdeal.nD Cert.TailFirstIdeal.τ).loc Cert.TailFirstIdeal.main_v10_1) = v1 c
          ∧ r.2.mem ((c.tc : Thread Cert.TailFirstIdeal.nD Cert.TailFirstIdeal.τ).loc Cert.TailFirstIdeal.main_v10_2) = v2 c
          ∧ r.2.mem ((c.tc : Thread Cert.TailFirstIdeal.nD Cert.TailFirstIdeal.τ).loc Cert.TailFirstIdeal.main_v10_3) = v3 c
          ∧ r.2.mem ((c.tc : Thread Cert.TailFirstIdeal.nD Cert.TailFirstIdeal.τ).loc Cert.TailFirstIdeal.main_v10_4) = v4 c
          ∧ r.2.mem ((c.tc : Thread Cert.TailFirstIdeal.nD Cert.TailFirstIdeal.τ).loc Cert.TailFirstIdeal.main_v10_5) = v5 c
          ∧ r.2.mem ((c.tc : Thread Cert.TailFirstIdeal.nD Cert.TailFirstIdeal.τ).loc Cert.TailFirstIdeal.main_arg0) = m ((c.tc : Thread Cert.TailFirstIdeal.nD Cert.TailFirstIdeal.τ).loc Cert.TailFirstIdeal.main_arg0)
          ∧ r.2.mem ((c.tc : Thread Cert.TailFirstIdeal.nD Cert.TailFirstIdeal.τ).loc Cert.TailFirstIdeal.main_arg1) = m ((c.tc : Thread Cert.TailFirstIdeal.nD Cert.TailFirstIdeal.τ).loc Cert.TailFirstIdeal.main_arg1)
          ∧ r.2.mem ((c.tc : Thread Cert.TailFirstIdeal.nD Cert.TailFirstIdeal.τ).loc Cert.TailFirstIdeal.main_arg2) = m ((c.tc : Thread Cert.TailFirstIdeal.nD Cert.TailFirstIdeal.τ).loc Cert.TailFirstIdeal.main_arg2)
          ∧ r.2.mem ((c.tc : Thread Cert.TailFirstIdeal.nD Cert.TailFirstIdeal.τ).loc Cert.TailFirstIdeal.main_arg3) = m ((c.tc : Thread Cert.TailFirstIdeal.nD Cert.TailFirstIdeal.τ).loc Cert.TailFirstIdeal.main_arg3)
          ∧ r.2.mem ((c.tc : Thread Cert.TailFirstIdeal.nD Cert.TailFirstIdeal.τ).loc Cert.TailFirstIdeal.main_arg4) = m ((c.tc : Thread Cert.TailFirstIdeal.nD Cert.TailFirstIdeal.τ).loc Cert.TailFirstIdeal.main_arg4)
          ∧ r.2.mem ((c.tc : Thread Cert.TailFirstIdeal.nD Cert.TailFirstIdeal.τ).loc Cert.TailFirstIdeal.main_arg5) = m ((c.tc : Thread Cert.TailFirstIdeal.nD Cert.TailFirstIdeal.τ).loc Cert.TailFirstIdeal.main_arg5)
          ∧ r.2.mem ((c.tc : Thread Cert.TailFirstIdeal.nD Cert.TailFirstIdeal.τ).loc Cert.TailFirstIdeal.main_arg6) = m ((c.tc : Thread Cert.TailFirstIdeal.nD Cert.TailFirstIdeal.τ).loc Cert.TailFirstIdeal.main_arg6)
          ∧ r.2.mem ((c.tc : Thread Cert.TailFirstIdeal.nD Cert.TailFirstIdeal.τ).loc Cert.TailFirstIdeal.main_arg7) = m ((c.tc : Thread Cert.TailFirstIdeal.nD Cert.TailFirstIdeal.τ).loc Cert.TailFirstIdeal.main_arg7)
          ∧ r.2.mem ((c.tc : Thread Cert.TailFirstIdeal.nD Cert.TailFirstIdeal.τ).loc Cert.TailFirstIdeal.main_arg8) = m ((c.tc : Thread Cert.TailFirstIdeal.nD Cert.TailFirstIdeal.τ).loc Cert.TailFirstIdeal.main_arg8)
          ∧ r.2.mem ((c.tc : Thread Cert.TailFirstIdeal.nD Cert.TailFirstIdeal.τ).loc Cert.TailFirstIdeal.main_arg9) = m ((c.tc : Thread Cert.TailFirstIdeal.nD Cert.TailFirstIdeal.τ).loc Cert.TailFirstIdeal.main_arg9)
          ∧ r.2.mem ((c.tc : Thread Cert.TailFirstIdeal.nD Cert.TailFirstIdeal.τ).loc Cert.TailFirstIdeal.main_arg10) = m ((c.tc : Thread Cert.TailFirstIdeal.nD Cert.TailFirstIdeal.τ).loc Cert.TailFirstIdeal.main_arg10)
          ∧ r.2.mem ((c.tc : Thread Cert.TailFirstIdeal.nD Cert.TailFirstIdeal.τ).loc Cert.TailFirstIdeal.main_arg11) = m ((c.tc : Thread Cert.TailFirstIdeal.nD Cert.TailFirstIdeal.τ).loc Cert.TailFirstIdeal.main_arg11)
          ∧ r.2.mem ((c.tc : Thread Cert.TailFirstIdeal.nD Cert.TailFirstIdeal.τ).loc Cert.TailFirstIdeal.main_arg12) = m ((c.tc : Thread Cert.TailFirstIdeal.nD Cert.TailFirstIdeal.τ).loc Cert.TailFirstIdeal.main_arg12)
          ∧ r.2.mem ((c.tc : Thread Cert.TailFirstIdeal.nD Cert.TailFirstIdeal.τ).loc Cert.TailFirstIdeal.main_arg13) = m ((c.tc : Thread Cert.TailFirstIdeal.nD Cert.TailFirstIdeal.τ).loc Cert.TailFirstIdeal.main_arg13)
          ∧ r.2.mem ((c.tc : Thread Cert.TailFirstIdeal.nD Cert.TailFirstIdeal.τ).loc Cert.TailFirstIdeal.main_arg14) = m ((c.tc : Thread Cert.TailFirstIdeal.nD Cert.TailFirstIdeal.τ).loc Cert.TailFirstIdeal.main_arg14)
          ∧ r.2.mem ((c.tc : Thread Cert.TailFirstIdeal.nD Cert.TailFirstIdeal.τ).loc Cert.TailFirstIdeal.main_arg15) = m ((c.tc : Thread Cert.TailFirstIdeal.nD Cert.TailFirstIdeal.τ).loc Cert.TailFirstIdeal.main_arg15))
      ∧ θ_run (Cert.TailFirstRefIdeal.defs (F := Ideal)) (onTc (τ := Cert.TailFirstRefIdeal.τ) (Cert.TailFirstRefIdeal.main (F := Ideal))) ⟨m', fun _ => 0, g'⟩ (fun r => ∀ c : Dev Cert.TailFirstRefIdeal.nD,
          r.2.mem ((c.tc : Thread Cert.TailFirstRefIdeal.nD Cert.TailFirstRefIdeal.τ).loc Cert.TailFirstRefIdeal.main_v55) = v0 c
          ∧ r.2.mem ((c.tc : Thread Cert.TailFirstRefIdeal.nD Cert.TailFirstRefIdeal.τ).loc Cert.TailFirstRefIdeal.main_v57) = v1 c
          ∧ r.2.mem ((c.tc : Thread Cert.TailFirstRefIdeal.nD Cert.TailFirstRefIdeal.τ).loc Cert.TailFirstRefIdeal.main_v59) = v2 c
          ∧ r.2.mem ((c.tc : Thread Cert.TailFirstRefIdeal.nD Cert.TailFirstRefIdeal.τ).loc Cert.TailFirstRefIdeal.main_v62) = v3 c
          ∧ r.2.mem ((c.tc : Thread Cert.TailFirstRefIdeal.nD Cert.TailFirstRefIdeal.τ).loc Cert.TailFirstRefIdeal.main_v65) = v4 c
          ∧ r.2.mem ((c.tc : Thread Cert.TailFirstRefIdeal.nD Cert.TailFirstRefIdeal.τ).loc Cert.TailFirstRefIdeal.main_v68) = v5 c
          ∧ r.2.mem ((c.tc : Thread Cert.TailFirstRefIdeal.nD Cert.TailFirstRefIdeal.τ).loc Cert.TailFirstRefIdeal.main_arg0) = m' ((c.tc : Thread Cert.TailFirstRefIdeal.nD Cert.TailFirstRefIdeal.τ).loc Cert.TailFirstRefIdeal.main_arg0)
          ∧ r.2.mem ((c.tc : Thread Cert.TailFirstRefIdeal.nD Cert.TailFirstRefIdeal.τ).loc Cert.TailFirstRefIdeal.main_arg1) = m' ((c.tc : Thread Cert.TailFirstRefIdeal.nD Cert.TailFirstRefIdeal.τ).loc Cert.TailFirstRefIdeal.main_arg1)
          ∧ r.2.mem ((c.tc : Thread Cert.TailFirstRefIdeal.nD Cert.TailFirstRefIdeal.τ).loc Cert.TailFirstRefIdeal.main_arg2) = m' ((c.tc : Thread Cert.TailFirstRefIdeal.nD Cert.TailFirstRefIdeal.τ).loc Cert.TailFirstRefIdeal.main_arg2)
          ∧ r.2.mem ((c.tc : Thread Cert.TailFirstRefIdeal.nD Cert.TailFirstRefIdeal.τ).loc Cert.TailFirstRefIdeal.main_arg3) = m' ((c.tc : Thread Cert.TailFirstRefIdeal.nD Cert.TailFirstRefIdeal.τ).loc Cert.TailFirstRefIdeal.main_arg3)
          ∧ r.2.mem ((c.tc : Thread Cert.TailFirstRefIdeal.nD Cert.TailFirstRefIdeal.τ).loc Cert.TailFirstRefIdeal.main_arg4) = m' ((c.tc : Thread Cert.TailFirstRefIdeal.nD Cert.TailFirstRefIdeal.τ).loc Cert.TailFirstRefIdeal.main_arg4)
          ∧ r.2.mem ((c.tc : Thread Cert.TailFirstRefIdeal.nD Cert.TailFirstRefIdeal.τ).loc Cert.TailFirstRefIdeal.main_arg5) = m' ((c.tc : Thread Cert.TailFirstRefIdeal.nD Cert.TailFirstRefIdeal.τ).loc Cert.TailFirstRefIdeal.main_arg5)
          ∧ r.2.mem ((c.tc : Thread Cert.TailFirstRefIdeal.nD Cert.TailFirstRefIdeal.τ).loc Cert.TailFirstRefIdeal.main_arg6) = m' ((c.tc : Thread Cert.TailFirstRefIdeal.nD Cert.TailFirstRefIdeal.τ).loc Cert.TailFirstRefIdeal.main_arg6)
          ∧ r.2.mem ((c.tc : Thread Cert.TailFirstRefIdeal.nD Cert.TailFirstRefIdeal.τ).loc Cert.TailFirstRefIdeal.main_arg7) = m' ((c.tc : Thread Cert.TailFirstRefIdeal.nD Cert.TailFirstRefIdeal.τ).loc Cert.TailFirstRefIdeal.main_arg7)
          ∧ r.2.mem ((c.tc : Thread Cert.TailFirstRefIdeal.nD Cert.TailFirstRefIdeal.τ).loc Cert.TailFirstRefIdeal.main_arg8) = m' ((c.tc : Thread Cert.TailFirstRefIdeal.nD Cert.TailFirstRefIdeal.τ).loc Cert.TailFirstRefIdeal.main_arg8)
          ∧ r.2.mem ((c.tc : Thread Cert.TailFirstRefIdeal.nD Cert.TailFirstRefIdeal.τ).loc Cert.TailFirstRefIdeal.main_arg9) = m' ((c.tc : Thread Cert.TailFirstRefIdeal.nD Cert.TailFirstRefIdeal.τ).loc Cert.TailFirstRefIdeal.main_arg9)
          ∧ r.2.mem ((c.tc : Thread Cert.TailFirstRefIdeal.nD Cert.TailFirstRefIdeal.τ).loc Cert.TailFirstRefIdeal.main_arg10) = m' ((c.tc : Thread Cert.TailFirstRefIdeal.nD Cert.TailFirstRefIdeal.τ).loc Cert.TailFirstRefIdeal.main_arg10)
          ∧ r.2.mem ((c.tc : Thread Cert.TailFirstRefIdeal.nD Cert.TailFirstRefIdeal.τ).loc Cert.TailFirstRefIdeal.main_arg11) = m' ((c.tc : Thread Cert.TailFirstRefIdeal.nD Cert.TailFirstRefIdeal.τ).loc Cert.TailFirstRefIdeal.main_arg11)
          ∧ r.2.mem ((c.tc : Thread Cert.TailFirstRefIdeal.nD Cert.TailFirstRefIdeal.τ).loc Cert.TailFirstRefIdeal.main_arg12) = m' ((c.tc : Thread Cert.TailFirstRefIdeal.nD Cert.TailFirstRefIdeal.τ).loc Cert.TailFirstRefIdeal.main_arg12)
          ∧ r.2.mem ((c.tc : Thread Cert.TailFirstRefIdeal.nD Cert.TailFirstRefIdeal.τ).loc Cert.TailFirstRefIdeal.main_arg13) = m' ((c.tc : Thread Cert.TailFirstRefIdeal.nD Cert.TailFirstRefIdeal.τ).loc Cert.TailFirstRefIdeal.main_arg13)
          ∧ r.2.mem ((c.tc : Thread Cert.TailFirstRefIdeal.nD Cert.TailFirstRefIdeal.τ).loc Cert.TailFirstRefIdeal.main_arg14) = m' ((c.tc : Thread Cert.TailFirstRefIdeal.nD Cert.TailFirstRefIdeal.τ).loc Cert.TailFirstRefIdeal.main_arg14)
          ∧ r.2.mem ((c.tc : Thread Cert.TailFirstRefIdeal.nD Cert.TailFirstRefIdeal.τ).loc Cert.TailFirstRefIdeal.main_arg15) = m' ((c.tc : Thread Cert.TailFirstRefIdeal.nD Cert.TailFirstRefIdeal.τ).loc Cert.TailFirstRefIdeal.main_arg15))

def preserves_ProjRet_ProjRetIdeal : Prop :=
  True

def algebraic_ProjRetIdeal_ProjRetRefIdeal_pre_finite_h [hProjRetIdeal : Cert.ProjRetIdeal.Facts] [hProjRetRefIdeal : Cert.ProjRetRefIdeal.Facts] [hPre_finite_h : Cert.Pre_finite_h.Facts] : Prop :=
  ∀ (m : (ℓ : Loc Cert.ProjRetIdeal.nD Cert.ProjRetIdeal.τ Cert.ProjRetIdeal.sig) → Buf (Elt Ideal) ℓ) (g : Dev Cert.ProjRetIdeal.nD → PrngReg)
    (m' : (ℓ : Loc Cert.ProjRetRefIdeal.nD Cert.ProjRetRefIdeal.τ Cert.ProjRetRefIdeal.sig) → Buf (Elt Ideal) ℓ) (g' : Dev Cert.ProjRetRefIdeal.nD → PrngReg), Pre_ProjRetIdeal_finite_h m →
    (∀ c : Dev Cert.ProjRetIdeal.nD,
      m' ((c.tc : Thread Cert.ProjRetRefIdeal.nD Cert.ProjRetRefIdeal.τ).loc Cert.ProjRetRefIdeal.main_arg0) = m ((c.tc : Thread Cert.ProjRetIdeal.nD Cert.ProjRetIdeal.τ).loc Cert.ProjRetIdeal.main_arg0)
      ∧ m' ((c.tc : Thread Cert.ProjRetRefIdeal.nD Cert.ProjRetRefIdeal.τ).loc Cert.ProjRetRefIdeal.main_arg1) = m ((c.tc : Thread Cert.ProjRetIdeal.nD Cert.ProjRetIdeal.τ).loc Cert.ProjRetIdeal.main_arg1)
      ∧ m' ((c.tc : Thread Cert.ProjRetRefIdeal.nD Cert.ProjRetRefIdeal.τ).loc Cert.ProjRetRefIdeal.main_arg2) = m ((c.tc : Thread Cert.ProjRetIdeal.nD Cert.ProjRetIdeal.τ).loc Cert.ProjRetIdeal.main_arg2)) →
    ∃ (v0 : (c : Dev Cert.ProjRetIdeal.nD) → Buf (Elt Ideal) ((c.tc : Thread Cert.ProjRetIdeal.nD Cert.ProjRetIdeal.τ).loc Cert.ProjRetIdeal.main_v75)),
      θ_run (Cert.ProjRetIdeal.defs (F := Ideal)) (onTc (τ := Cert.ProjRetIdeal.τ) (Cert.ProjRetIdeal.main (F := Ideal))) ⟨m, fun _ => 0, g⟩ (fun r => ∀ c : Dev Cert.ProjRetIdeal.nD,
          r.2.mem ((c.tc : Thread Cert.ProjRetIdeal.nD Cert.ProjRetIdeal.τ).loc Cert.ProjRetIdeal.main_v75) = v0 c
          ∧ r.2.mem ((c.tc : Thread Cert.ProjRetIdeal.nD Cert.ProjRetIdeal.τ).loc Cert.ProjRetIdeal.main_arg0) = m ((c.tc : Thread Cert.ProjRetIdeal.nD Cert.ProjRetIdeal.τ).loc Cert.ProjRetIdeal.main_arg0)
          ∧ r.2.mem ((c.tc : Thread Cert.ProjRetIdeal.nD Cert.ProjRetIdeal.τ).loc Cert.ProjRetIdeal.main_arg1) = m ((c.tc : Thread Cert.ProjRetIdeal.nD Cert.ProjRetIdeal.τ).loc Cert.ProjRetIdeal.main_arg1)
          ∧ r.2.mem ((c.tc : Thread Cert.ProjRetIdeal.nD Cert.ProjRetIdeal.τ).loc Cert.ProjRetIdeal.main_arg2) = m ((c.tc : Thread Cert.ProjRetIdeal.nD Cert.ProjRetIdeal.τ).loc Cert.ProjRetIdeal.main_arg2))
      ∧ θ_run (Cert.ProjRetRefIdeal.defs (F := Ideal)) (onTc (τ := Cert.ProjRetRefIdeal.τ) (Cert.ProjRetRefIdeal.main (F := Ideal))) ⟨m', fun _ => 0, g'⟩ (fun r => ∀ c : Dev Cert.ProjRetRefIdeal.nD,
          r.2.mem ((c.tc : Thread Cert.ProjRetRefIdeal.nD Cert.ProjRetRefIdeal.τ).loc Cert.ProjRetRefIdeal.main_v96) = v0 c
          ∧ r.2.mem ((c.tc : Thread Cert.ProjRetRefIdeal.nD Cert.ProjRetRefIdeal.τ).loc Cert.ProjRetRefIdeal.main_arg0) = m' ((c.tc : Thread Cert.ProjRetRefIdeal.nD Cert.ProjRetRefIdeal.τ).loc Cert.ProjRetRefIdeal.main_arg0)
          ∧ r.2.mem ((c.tc : Thread Cert.ProjRetRefIdeal.nD Cert.ProjRetRefIdeal.τ).loc Cert.ProjRetRefIdeal.main_arg1) = m' ((c.tc : Thread Cert.ProjRetRefIdeal.nD Cert.ProjRetRefIdeal.τ).loc Cert.ProjRetRefIdeal.main_arg1)
          ∧ r.2.mem ((c.tc : Thread Cert.ProjRetRefIdeal.nD Cert.ProjRetRefIdeal.τ).loc Cert.ProjRetRefIdeal.main_arg2) = m' ((c.tc : Thread Cert.ProjRetRefIdeal.nD Cert.ProjRetRefIdeal.τ).loc Cert.ProjRetRefIdeal.main_arg2))

def preserves_ProjSb_ProjSbIdeal : Prop :=
  True

def algebraic_ProjSbIdeal_ProjSbRefIdeal [hProjSbIdeal : Cert.ProjSbIdeal.Facts] [hProjSbRefIdeal : Cert.ProjSbRefIdeal.Facts] : Prop :=
  ∀ (m : (ℓ : Loc Cert.ProjSbIdeal.nD Cert.ProjSbIdeal.τ Cert.ProjSbIdeal.sig) → Buf (Elt Ideal) ℓ) (g : Dev Cert.ProjSbIdeal.nD → PrngReg)
    (m' : (ℓ : Loc Cert.ProjSbRefIdeal.nD Cert.ProjSbRefIdeal.τ Cert.ProjSbRefIdeal.sig) → Buf (Elt Ideal) ℓ) (g' : Dev Cert.ProjSbRefIdeal.nD → PrngReg), Pre_ProjSbIdeal m →
    (∀ c : Dev Cert.ProjSbIdeal.nD,
      m' ((c.tc : Thread Cert.ProjSbRefIdeal.nD Cert.ProjSbRefIdeal.τ).loc Cert.ProjSbRefIdeal.main_arg0) = m ((c.tc : Thread Cert.ProjSbIdeal.nD Cert.ProjSbIdeal.τ).loc Cert.ProjSbIdeal.main_arg0)
      ∧ m' ((c.tc : Thread Cert.ProjSbRefIdeal.nD Cert.ProjSbRefIdeal.τ).loc Cert.ProjSbRefIdeal.main_arg1) = m ((c.tc : Thread Cert.ProjSbIdeal.nD Cert.ProjSbIdeal.τ).loc Cert.ProjSbIdeal.main_arg1)
      ∧ m' ((c.tc : Thread Cert.ProjSbRefIdeal.nD Cert.ProjSbRefIdeal.τ).loc Cert.ProjSbRefIdeal.main_arg2) = m ((c.tc : Thread Cert.ProjSbIdeal.nD Cert.ProjSbIdeal.τ).loc Cert.ProjSbIdeal.main_arg2)
      ∧ m' ((c.tc : Thread Cert.ProjSbRefIdeal.nD Cert.ProjSbRefIdeal.τ).loc Cert.ProjSbRefIdeal.main_arg3) = m ((c.tc : Thread Cert.ProjSbIdeal.nD Cert.ProjSbIdeal.τ).loc Cert.ProjSbIdeal.main_arg3)
      ∧ m' ((c.tc : Thread Cert.ProjSbRefIdeal.nD Cert.ProjSbRefIdeal.τ).loc Cert.ProjSbRefIdeal.main_arg4) = m ((c.tc : Thread Cert.ProjSbIdeal.nD Cert.ProjSbIdeal.τ).loc Cert.ProjSbIdeal.main_arg4)
      ∧ m' ((c.tc : Thread Cert.ProjSbRefIdeal.nD Cert.ProjSbRefIdeal.τ).loc Cert.ProjSbRefIdeal.main_arg5) = m ((c.tc : Thread Cert.ProjSbIdeal.nD Cert.ProjSbIdeal.τ).loc Cert.ProjSbIdeal.main_arg5)
      ∧ m' ((c.tc : Thread Cert.ProjSbRefIdeal.nD Cert.ProjSbRefIdeal.τ).loc Cert.ProjSbRefIdeal.main_arg6) = m ((c.tc : Thread Cert.ProjSbIdeal.nD Cert.ProjSbIdeal.τ).loc Cert.ProjSbIdeal.main_arg6)) →
    ∃ (v0 : (c : Dev Cert.ProjSbIdeal.nD) → Buf (Elt Ideal) ((c.tc : Thread Cert.ProjSbIdeal.nD Cert.ProjSbIdeal.τ).loc Cert.ProjSbIdeal.main_v7_0)) (v1 : (c : Dev Cert.ProjSbIdeal.nD) → Buf (Elt Ideal) ((c.tc : Thread Cert.ProjSbIdeal.nD Cert.ProjSbIdeal.τ).loc Cert.ProjSbIdeal.main_v7_1)) (v2 : (c : Dev Cert.ProjSbIdeal.nD) → Buf (Elt Ideal) ((c.tc : Thread Cert.ProjSbIdeal.nD Cert.ProjSbIdeal.τ).loc Cert.ProjSbIdeal.main_v7_2)) (v3 : (c : Dev Cert.ProjSbIdeal.nD) → Buf (Elt Ideal) ((c.tc : Thread Cert.ProjSbIdeal.nD Cert.ProjSbIdeal.τ).loc Cert.ProjSbIdeal.main_v7_3)) (v4 : (c : Dev Cert.ProjSbIdeal.nD) → Buf (Elt Ideal) ((c.tc : Thread Cert.ProjSbIdeal.nD Cert.ProjSbIdeal.τ).loc Cert.ProjSbIdeal.main_v7_4)),
      θ_run (Cert.ProjSbIdeal.defs (F := Ideal)) (onTc (τ := Cert.ProjSbIdeal.τ) (Cert.ProjSbIdeal.main (F := Ideal))) ⟨m, fun _ => 0, g⟩ (fun r => ∀ c : Dev Cert.ProjSbIdeal.nD,
          r.2.mem ((c.tc : Thread Cert.ProjSbIdeal.nD Cert.ProjSbIdeal.τ).loc Cert.ProjSbIdeal.main_v7_0) = v0 c
          ∧ r.2.mem ((c.tc : Thread Cert.ProjSbIdeal.nD Cert.ProjSbIdeal.τ).loc Cert.ProjSbIdeal.main_v7_1) = v1 c
          ∧ r.2.mem ((c.tc : Thread Cert.ProjSbIdeal.nD Cert.ProjSbIdeal.τ).loc Cert.ProjSbIdeal.main_v7_2) = v2 c
          ∧ r.2.mem ((c.tc : Thread Cert.ProjSbIdeal.nD Cert.ProjSbIdeal.τ).loc Cert.ProjSbIdeal.main_v7_3) = v3 c
          ∧ r.2.mem ((c.tc : Thread Cert.ProjSbIdeal.nD Cert.ProjSbIdeal.τ).loc Cert.ProjSbIdeal.main_v7_4) = v4 c
          ∧ r.2.mem ((c.tc : Thread Cert.ProjSbIdeal.nD Cert.ProjSbIdeal.τ).loc Cert.ProjSbIdeal.main_arg0) = m ((c.tc : Thread Cert.ProjSbIdeal.nD Cert.ProjSbIdeal.τ).loc Cert.ProjSbIdeal.main_arg0)
          ∧ r.2.mem ((c.tc : Thread Cert.ProjSbIdeal.nD Cert.ProjSbIdeal.τ).loc Cert.ProjSbIdeal.main_arg1) = m ((c.tc : Thread Cert.ProjSbIdeal.nD Cert.ProjSbIdeal.τ).loc Cert.ProjSbIdeal.main_arg1)
          ∧ r.2.mem ((c.tc : Thread Cert.ProjSbIdeal.nD Cert.ProjSbIdeal.τ).loc Cert.ProjSbIdeal.main_arg2) = m ((c.tc : Thread Cert.ProjSbIdeal.nD Cert.ProjSbIdeal.τ).loc Cert.ProjSbIdeal.main_arg2)
          ∧ r.2.mem ((c.tc : Thread Cert.ProjSbIdeal.nD Cert.ProjSbIdeal.τ).loc Cert.ProjSbIdeal.main_arg3) = m ((c.tc : Thread Cert.ProjSbIdeal.nD Cert.ProjSbIdeal.τ).loc Cert.ProjSbIdeal.main_arg3)
          ∧ r.2.mem ((c.tc : Thread Cert.ProjSbIdeal.nD Cert.ProjSbIdeal.τ).loc Cert.ProjSbIdeal.main_arg4) = m ((c.tc : Thread Cert.ProjSbIdeal.nD Cert.ProjSbIdeal.τ).loc Cert.ProjSbIdeal.main_arg4)
          ∧ r.2.mem ((c.tc : Thread Cert.ProjSbIdeal.nD Cert.ProjSbIdeal.τ).loc Cert.ProjSbIdeal.main_arg5) = m ((c.tc : Thread Cert.ProjSbIdeal.nD Cert.ProjSbIdeal.τ).loc Cert.ProjSbIdeal.main_arg5)
          ∧ r.2.mem ((c.tc : Thread Cert.ProjSbIdeal.nD Cert.ProjSbIdeal.τ).loc Cert.ProjSbIdeal.main_arg6) = m ((c.tc : Thread Cert.ProjSbIdeal.nD Cert.ProjSbIdeal.τ).loc Cert.ProjSbIdeal.main_arg6))
      ∧ θ_run (Cert.ProjSbRefIdeal.defs (F := Ideal)) (onTc (τ := Cert.ProjSbRefIdeal.τ) (Cert.ProjSbRefIdeal.main (F := Ideal))) ⟨m', fun _ => 0, g'⟩ (fun r => ∀ c : Dev Cert.ProjSbRefIdeal.nD,
          r.2.mem ((c.tc : Thread Cert.ProjSbRefIdeal.nD Cert.ProjSbRefIdeal.τ).loc Cert.ProjSbRefIdeal.main_v23) = v0 c
          ∧ r.2.mem ((c.tc : Thread Cert.ProjSbRefIdeal.nD Cert.ProjSbRefIdeal.τ).loc Cert.ProjSbRefIdeal.main_v25) = v1 c
          ∧ r.2.mem ((c.tc : Thread Cert.ProjSbRefIdeal.nD Cert.ProjSbRefIdeal.τ).loc Cert.ProjSbRefIdeal.main_v28) = v2 c
          ∧ r.2.mem ((c.tc : Thread Cert.ProjSbRefIdeal.nD Cert.ProjSbRefIdeal.τ).loc Cert.ProjSbRefIdeal.main_v31) = v3 c
          ∧ r.2.mem ((c.tc : Thread Cert.ProjSbRefIdeal.nD Cert.ProjSbRefIdeal.τ).loc Cert.ProjSbRefIdeal.main_v34) = v4 c
          ∧ r.2.mem ((c.tc : Thread Cert.ProjSbRefIdeal.nD Cert.ProjSbRefIdeal.τ).loc Cert.ProjSbRefIdeal.main_arg0) = m' ((c.tc : Thread Cert.ProjSbRefIdeal.nD Cert.ProjSbRefIdeal.τ).loc Cert.ProjSbRefIdeal.main_arg0)
          ∧ r.2.mem ((c.tc : Thread Cert.ProjSbRefIdeal.nD Cert.ProjSbRefIdeal.τ).loc Cert.ProjSbRefIdeal.main_arg1) = m' ((c.tc : Thread Cert.ProjSbRefIdeal.nD Cert.ProjSbRefIdeal.τ).loc Cert.ProjSbRefIdeal.main_arg1)
          ∧ r.2.mem ((c.tc : Thread Cert.ProjSbRefIdeal.nD Cert.ProjSbRefIdeal.τ).loc Cert.ProjSbRefIdeal.main_arg2) = m' ((c.tc : Thread Cert.ProjSbRefIdeal.nD Cert.ProjSbRefIdeal.τ).loc Cert.ProjSbRefIdeal.main_arg2)
          ∧ r.2.mem ((c.tc : Thread Cert.ProjSbRefIdeal.nD Cert.ProjSbRefIdeal.τ).loc Cert.ProjSbRefIdeal.main_arg3) = m' ((c.tc : Thread Cert.ProjSbRefIdeal.nD Cert.ProjSbRefIdeal.τ).loc Cert.ProjSbRefIdeal.main_arg3)
          ∧ r.2.mem ((c.tc : Thread Cert.ProjSbRefIdeal.nD Cert.ProjSbRefIdeal.τ).loc Cert.ProjSbRefIdeal.main_arg4) = m' ((c.tc : Thread Cert.ProjSbRefIdeal.nD Cert.ProjSbRefIdeal.τ).loc Cert.ProjSbRefIdeal.main_arg4)
          ∧ r.2.mem ((c.tc : Thread Cert.ProjSbRefIdeal.nD Cert.ProjSbRefIdeal.τ).loc Cert.ProjSbRefIdeal.main_arg5) = m' ((c.tc : Thread Cert.ProjSbRefIdeal.nD Cert.ProjSbRefIdeal.τ).loc Cert.ProjSbRefIdeal.main_arg5)
          ∧ r.2.mem ((c.tc : Thread Cert.ProjSbRefIdeal.nD Cert.ProjSbRefIdeal.τ).loc Cert.ProjSbRefIdeal.main_arg6) = m' ((c.tc : Thread Cert.ProjSbRefIdeal.nD Cert.ProjSbRefIdeal.τ).loc Cert.ProjSbRefIdeal.main_arg6))

def preserves_Layer_LayerIdeal : Prop :=
  True

def algebraic_LayerIdeal_LayerRefIdeal_pre_finite_l [hLayerIdeal : Cert.LayerIdeal.Facts] [hLayerRefIdeal : Cert.LayerRefIdeal.Facts] [hPre_finite_l : Cert.Pre_finite_l.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerRefIdeal.nD Cert.LayerRefIdeal.τ Cert.LayerRefIdeal.sig) → Buf (Elt Ideal) ℓ) (g' : Dev Cert.LayerRefIdeal.nD → PrngReg), Pre_LayerIdeal_finite_l m →
    (∀ c : Dev Cert.LayerIdeal.nD,
      m' ((c.tc : Thread Cert.LayerRefIdeal.nD Cert.LayerRefIdeal.τ).loc Cert.LayerRefIdeal.main_arg0) = m ((c.tc : Thread Cert.LayerIdeal.nD Cert.LayerIdeal.τ).loc Cert.LayerIdeal.main_arg0)
      ∧ m' ((c.tc : Thread Cert.LayerRefIdeal.nD Cert.LayerRefIdeal.τ).loc Cert.LayerRefIdeal.main_arg1) = m ((c.tc : Thread Cert.LayerIdeal.nD Cert.LayerIdeal.τ).loc Cert.LayerIdeal.main_arg1)
      ∧ m' ((c.tc : Thread Cert.LayerRefIdeal.nD Cert.LayerRefIdeal.τ).loc Cert.LayerRefIdeal.main_arg2) = m ((c.tc : Thread Cert.LayerIdeal.nD Cert.LayerIdeal.τ).loc Cert.LayerIdeal.main_arg2)
      ∧ m' ((c.tc : Thread Cert.LayerRefIdeal.nD Cert.LayerRefIdeal.τ).loc Cert.LayerRefIdeal.main_arg3) = m ((c.tc : Thread Cert.LayerIdeal.nD Cert.LayerIdeal.τ).loc Cert.LayerIdeal.main_arg3)
      ∧ m' ((c.tc : Thread Cert.LayerRefIdeal.nD Cert.LayerRefIdeal.τ).loc Cert.LayerRefIdeal.main_arg4) = m ((c.tc : Thread Cert.LayerIdeal.nD Cert.LayerIdeal.τ).loc Cert.LayerIdeal.main_arg4)
      ∧ m' ((c.tc : Thread Cert.LayerRefIdeal.nD Cert.LayerRefIdeal.τ).loc Cert.LayerRefIdeal.main_arg5) = m ((c.tc : Thread Cert.LayerIdeal.nD Cert.LayerIdeal.τ).loc Cert.LayerIdeal.main_arg5)
      ∧ m' ((c.tc : Thread Cert.LayerRefIdeal.nD Cert.LayerRefIdeal.τ).loc Cert.LayerRefIdeal.main_arg6) = m ((c.tc : Thread Cert.LayerIdeal.nD Cert.LayerIdeal.τ).loc Cert.LayerIdeal.main_arg6)
      ∧ m' ((c.tc : Thread Cert.LayerRefIdeal.nD Cert.LayerRefIdeal.τ).loc Cert.LayerRefIdeal.main_arg7) = m ((c.tc : Thread Cert.LayerIdeal.nD Cert.LayerIdeal.τ).loc Cert.LayerIdeal.main_arg7)
      ∧ m' ((c.tc : Thread Cert.LayerRefIdeal.nD Cert.LayerRefIdeal.τ).loc Cert.LayerRefIdeal.main_arg8) = m ((c.tc : Thread Cert.LayerIdeal.nD Cert.LayerIdeal.τ).loc Cert.LayerIdeal.main_arg8)
      ∧ m' ((c.tc : Thread Cert.LayerRefIdeal.nD Cert.LayerRefIdeal.τ).loc Cert.LayerRefIdeal.main_arg9) = m ((c.tc : Thread Cert.LayerIdeal.nD Cert.LayerIdeal.τ).loc Cert.LayerIdeal.main_arg9)
      ∧ m' ((c.tc : Thread Cert.LayerRefIdeal.nD Cert.LayerRefIdeal.τ).loc Cert.LayerRefIdeal.main_arg10) = m ((c.tc : Thread Cert.LayerIdeal.nD Cert.LayerIdeal.τ).loc Cert.LayerIdeal.main_arg10)
      ∧ m' ((c.tc : Thread Cert.LayerRefIdeal.nD Cert.LayerRefIdeal.τ).loc Cert.LayerRefIdeal.main_arg11) = m ((c.tc : Thread Cert.LayerIdeal.nD Cert.LayerIdeal.τ).loc Cert.LayerIdeal.main_arg11)) →
    ∃ (v0 : (c : Dev Cert.LayerIdeal.nD) → Buf (Elt Ideal) ((c.tc : Thread Cert.LayerIdeal.nD Cert.LayerIdeal.τ).loc Cert.LayerIdeal.main_v161)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v161) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
          ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11))
      ∧ θ_run (Cert.LayerRefIdeal.defs (F := Ideal)) (onTc (τ := Cert.LayerRefIdeal.τ) (Cert.LayerRefIdeal.main (F := Ideal))) ⟨m', fun _ => 0, g'⟩ (fun r => ∀ c : Dev Cert.LayerRefIdeal.nD,
          r.2.mem ((c.tc : Thread Cert.LayerRefIdeal.nD Cert.LayerRefIdeal.τ).loc Cert.LayerRefIdeal.main_v267) = v0 c
          ∧ r.2.mem ((c.tc : Thread Cert.LayerRefIdeal.nD Cert.LayerRefIdeal.τ).loc Cert.LayerRefIdeal.main_arg0) = m' ((c.tc : Thread Cert.LayerRefIdeal.nD Cert.LayerRefIdeal.τ).loc Cert.LayerRefIdeal.main_arg0)
          ∧ r.2.mem ((c.tc : Thread Cert.LayerRefIdeal.nD Cert.LayerRefIdeal.τ).loc Cert.LayerRefIdeal.main_arg1) = m' ((c.tc : Thread Cert.LayerRefIdeal.nD Cert.LayerRefIdeal.τ).loc Cert.LayerRefIdeal.main_arg1)
          ∧ r.2.mem ((c.tc : Thread Cert.LayerRefIdeal.nD Cert.LayerRefIdeal.τ).loc Cert.LayerRefIdeal.main_arg2) = m' ((c.tc : Thread Cert.LayerRefIdeal.nD Cert.LayerRefIdeal.τ).loc Cert.LayerRefIdeal.main_arg2)
          ∧ r.2.mem ((c.tc : Thread Cert.LayerRefIdeal.nD Cert.LayerRefIdeal.τ).loc Cert.LayerRefIdeal.main_arg3) = m' ((c.tc : Thread Cert.LayerRefIdeal.nD Cert.LayerRefIdeal.τ).loc Cert.LayerRefIdeal.main_arg3)
          ∧ r.2.mem ((c.tc : Thread Cert.LayerRefIdeal.nD Cert.LayerRefIdeal.τ).loc Cert.LayerRefIdeal.main_arg4) = m' ((c.tc : Thread Cert.LayerRefIdeal.nD Cert.LayerRefIdeal.τ).loc Cert.LayerRefIdeal.main_arg4)
          ∧ r.2.mem ((c.tc : Thread Cert.LayerRefIdeal.nD Cert.LayerRefIdeal.τ).loc Cert.LayerRefIdeal.main_arg5) = m' ((c.tc : Thread Cert.LayerRefIdeal.nD Cert.LayerRefIdeal.τ).loc Cert.LayerRefIdeal.main_arg5)
          ∧ r.2.mem ((c.tc : Thread Cert.LayerRefIdeal.nD Cert.LayerRefIdeal.τ).loc Cert.LayerRefIdeal.main_arg6) = m' ((c.tc : Thread Cert.LayerRefIdeal.nD Cert.LayerRefIdeal.τ).loc Cert.LayerRefIdeal.main_arg6)
          ∧ r.2.mem ((c.tc : Thread Cert.LayerRefIdeal.nD Cert.LayerRefIdeal.τ).loc Cert.LayerRefIdeal.main_arg7) = m' ((c.tc : Thread Cert.LayerRefIdeal.nD Cert.LayerRefIdeal.τ).loc Cert.LayerRefIdeal.main_arg7)
          ∧ r.2.mem ((c.tc : Thread Cert.LayerRefIdeal.nD Cert.LayerRefIdeal.τ).loc Cert.LayerRefIdeal.main_arg8) = m' ((c.tc : Thread Cert.LayerRefIdeal.nD Cert.LayerRefIdeal.τ).loc Cert.LayerRefIdeal.main_arg8)
          ∧ r.2.mem ((c.tc : Thread Cert.LayerRefIdeal.nD Cert.LayerRefIdeal.τ).loc Cert.LayerRefIdeal.main_arg9) = m' ((c.tc : Thread Cert.LayerRefIdeal.nD Cert.LayerRefIdeal.τ).loc Cert.LayerRefIdeal.main_arg9)
          ∧ r.2.mem ((c.tc : Thread Cert.LayerRefIdeal.nD Cert.LayerRefIdeal.τ).loc Cert.LayerRefIdeal.main_arg10) = m' ((c.tc : Thread Cert.LayerRefIdeal.nD Cert.LayerRefIdeal.τ).loc Cert.LayerRefIdeal.main_arg10)
          ∧ r.2.mem ((c.tc : Thread Cert.LayerRefIdeal.nD Cert.LayerRefIdeal.τ).loc Cert.LayerRefIdeal.main_arg11) = m' ((c.tc : Thread Cert.LayerRefIdeal.nD Cert.LayerRefIdeal.τ).loc Cert.LayerRefIdeal.main_arg11))

def Claim : Prop :=
  ∃ (hKernel : Cert.Kernel.Facts) (hKernelIdeal : Cert.KernelIdeal.Facts) (hReferenceIdeal : Cert.ReferenceIdeal.Facts) (hTailLast : Cert.TailLast.Facts) (hTailLastIdeal : Cert.TailLastIdeal.Facts) (hTailLastRefIdeal : Cert.TailLastRefIdeal.Facts) (hTailFirst : Cert.TailFirst.Facts) (hTailFirstIdeal : Cert.TailFirstIdeal.Facts) (hTailFirstRefIdeal : Cert.TailFirstRefIdeal.Facts) (hProjRet : Cert.ProjRet.Facts) (hProjRetIdeal : Cert.ProjRetIdeal.Facts) (hProjRetRefIdeal : Cert.ProjRetRefIdeal.Facts) (hProjSb : Cert.ProjSb.Facts) (hProjSbIdeal : Cert.ProjSbIdeal.Facts) (hProjSbRefIdeal : Cert.ProjSbRefIdeal.Facts) (hLayer : Cert.Layer.Facts) (hLayerIdeal : Cert.LayerIdeal.Facts) (hLayerRefIdeal : Cert.LayerRefIdeal.Facts) (hPre_finite : Cert.Pre_finite.Facts) (hPre_finite_h : Cert.Pre_finite_h.Facts) (hPre_finite_l : Cert.Pre_finite_l.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_TailLast (hTailLast := hTailLast)
    ∧ quiescent_TailLastIdeal (hTailLastIdeal := hTailLastIdeal)
    ∧ quiescent_TailLastRefIdeal (hTailLastRefIdeal := hTailLastRefIdeal)
    ∧ quiescent_TailFirst (hTailFirst := hTailFirst)
    ∧ quiescent_TailFirstIdeal (hTailFirstIdeal := hTailFirstIdeal)
    ∧ quiescent_TailFirstRefIdeal (hTailFirstRefIdeal := hTailFirstRefIdeal)
    ∧ quiescent_ProjRet (hProjRet := hProjRet)
    ∧ quiescent_ProjRetIdeal (hProjRetIdeal := hProjRetIdeal)
    ∧ quiescent_ProjRetIdeal_pre_finite_h (hProjRetIdeal := hProjRetIdeal) (hPre_finite_h := hPre_finite_h)
    ∧ quiescent_ProjRetRefIdeal (hProjRetRefIdeal := hProjRetRefIdeal)
    ∧ quiescent_ProjRetRefIdeal_pre_finite_h (hProjRetRefIdeal := hProjRetRefIdeal) (hPre_finite_h := hPre_finite_h)
    ∧ quiescent_ProjSb (hProjSb := hProjSb)
    ∧ quiescent_ProjSbIdeal (hProjSbIdeal := hProjSbIdeal)
    ∧ quiescent_ProjSbRefIdeal (hProjSbRefIdeal := hProjSbRefIdeal)
    ∧ quiescent_Layer (hLayer := hLayer)
    ∧ quiescent_LayerIdeal (hLayerIdeal := hLayerIdeal)
    ∧ quiescent_LayerIdeal_pre_finite_l (hLayerIdeal := hLayerIdeal) (hPre_finite_l := hPre_finite_l)
    ∧ quiescent_LayerRefIdeal (hLayerRefIdeal := hLayerRefIdeal)
    ∧ quiescent_LayerRefIdeal_pre_finite_l (hLayerRefIdeal := hLayerRefIdeal) (hPre_finite_l := hPre_finite_l)
    ∧ preserves_Kernel_KernelIdeal
    ∧ algebraic_KernelIdeal_ReferenceIdeal_pre_finite (hKernelIdeal := hKernelIdeal) (hReferenceIdeal := hReferenceIdeal) (hPre_finite := hPre_finite)
    ∧ preserves_TailLast_TailLastIdeal
    ∧ algebraic_TailLastIdeal_TailLastRefIdeal (hTailLastIdeal := hTailLastIdeal) (hTailLastRefIdeal := hTailLastRefIdeal)
    ∧ preserves_TailFirst_TailFirstIdeal
    ∧ algebraic_TailFirstIdeal_TailFirstRefIdeal (hTailFirstIdeal := hTailFirstIdeal) (hTailFirstRefIdeal := hTailFirstRefIdeal)
    ∧ preserves_ProjRet_ProjRetIdeal
    ∧ algebraic_ProjRetIdeal_ProjRetRefIdeal_pre_finite_h (hProjRetIdeal := hProjRetIdeal) (hProjRetRefIdeal := hProjRetRefIdeal) (hPre_finite_h := hPre_finite_h)
    ∧ preserves_ProjSb_ProjSbIdeal
    ∧ algebraic_ProjSbIdeal_ProjSbRefIdeal (hProjSbIdeal := hProjSbIdeal) (hProjSbRefIdeal := hProjSbRefIdeal)
    ∧ preserves_Layer_LayerIdeal
    ∧ algebraic_LayerIdeal_LayerRefIdeal_pre_finite_l (hLayerIdeal := hLayerIdeal) (hLayerRefIdeal := hLayerRefIdeal) (hPre_finite_l := hPre_finite_l)
-- ==== Pre_finite.lean ====
abbrev S32768x6144 : Shape := ⟨2, ![32768, 6144]⟩
abbrev S_ : Shape := ⟨0, ![]⟩

class Facts : Prop where
  bitsLt_bf16_f32 : FTy.bits .bf16 < FTy.bits .f32
  bcast_S_S32768x6144 : S_.BroadcastsInDim S32768x6144 (![] : Fin 0 → Fin S32768x6144.rank)

variable [Facts]

def fn {F : FTy → Type} [FloatOps F] (main_arg0 : FVec F S32768x6144 .bf16) : IVec S32768x6144 1 :=
  let main_v0 : FVec F S32768x6144 .f32 := (extf .f32 · bitsLt_bf16_f32) main_arg0
  let main_v1 : FVec F S32768x6144 .f32 := Host.absf main_v0
  let main_cst : FVec F S_ .f32 := constant S_ .f32 0x7F800000#32
  let main_v2 : FVec F S32768x6144 .f32 := broadcastInDim S32768x6144 ![] bcast_S_S32768x6144 main_cst
  let main_v3 : IVec S32768x6144 1 := cmpf .olt main_v1 main_v2
  main_v3
-- ==== Pre_finite_h.lean ====
abbrev S32768x1024 : Shape := ⟨2, ![32768, 1024]⟩
abbrev S2x1024 : Shape := ⟨2, ![2, 1024]⟩
abbrev S1024x6144 : Shape := ⟨2, ![1024, 6144]⟩
abbrev S_ : Shape := ⟨0, ![]⟩

class Facts : Prop where
  bcast_S_S32768x1024 : S_.BroadcastsInDim S32768x1024 (![] : Fin 0 → Fin S32768x1024.rank)
  bcast_S_S2x1024 : S_.BroadcastsInDim S2x1024 (![] : Fin 0 → Fin S2x1024.rank)
  bitsLt_bf16_f32 : FTy.bits .bf16 < FTy.bits .f32
  bcast_S_S1024x6144 : S_.BroadcastsInDim S1024x6144 (![] : Fin 0 → Fin S1024x6144.rank)

variable [Facts]

def fn {F : FTy → Type} [FloatOps F] (main_arg0 : FVec F S32768x1024 .f32) (main_arg1 : FVec F S2x1024 .f32) (main_arg2 : FVec F S1024x6144 .bf16) : IVec S32768x1024 1 × IVec S2x1024 1 × IVec S1024x6144 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1024x6144 .f32 := (extf .f32 · bitsLt_bf16_f32) main_arg2
  let main_v7 : FVec F S1024x6144 .f32 := Host.absf main_v6
  let main_cst_1 : FVec F S_ .f32 := constant S_ .f32 0x7F800000#32
  let main_v8 : FVec F S1024x6144 .f32 := broadcastInDim S1024x6144 ![] bcast_S_S1024x6144 main_cst_1
  let main_v9 : IVec S1024x6144 1 := cmpf .olt main_v7 main_v8
  (main_v2, main_v5, main_v9)
-- ==== Pre_finite_l.lean ====
abbrev S32768x1024 : Shape := ⟨2, ![32768, 1024]⟩
abbrev S2x32768x256 : Shape := ⟨3, ![2, 32768, 256]⟩
abbrev S2x1024 : Shape := ⟨2, ![2, 1024]⟩
abbrev S1024x6144 : Shape := ⟨2, ![1024, 6144]⟩
abbrev S2048x1024 : Shape := ⟨2, ![2048, 1024]⟩
abbrev S1024x4096 : Shape := ⟨2, ![1024, 4096]⟩
abbrev S4096x1024 : Shape := ⟨2, ![4096, 1024]⟩
abbrev S1024x1024 : Shape := ⟨2, ![1024, 1024]⟩
abbrev S2x256x1024 : Shape := ⟨3, ![2, 256, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  bcast_S_S2x1024 : S_.BroadcastsInDim S2x1024 (![] : Fin 0 → Fin S2x1024.rank)
  bitsLt_bf16_f32 : FTy.bits .bf16 < FTy.bits .f32
  bcast_S_S1024x6144 : S_.BroadcastsInDim S1024x6144 (![] : Fin 0 → Fin S1024x6144.rank)

variable [Facts]

def fn {F : FTy → Type} [FloatOps F] (main_arg0 : FVec F S32768x1024 .f32) (main_arg1 : FVec F S2x32768x256 .f32) (main_arg2 : FVec F S2x1024 .f32) (main_arg3 : FVec F S1024x6144 .bf16) (main_arg4 : FVec F S2048x1024 .bf16) (main_arg5 : FVec F S2x1024 .f32) (main_arg6 : FVec F S1024x4096 .bf16) (main_arg7 : FVec F S4096x1024 .bf16) (main_arg8 : FVec F S2x1024 .f32) (main_arg9 : FVec F S1024x1024 .bf16) (main_arg10 : FVec F S2x256x1024 .f32) (main_arg11 : FVec F S1024 .f32) : IVec S32768x1024 1 × IVec S2x1024 1 × IVec S1024x6144 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S2x1024 .f32 := Host.absf main_arg2
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1024x6144 .f32 := (extf .f32 · bitsLt_bf16_f32) main_arg3
  let main_v7 : FVec F S1024x6144 .f32 := Host.absf main_v6
  let main_cst_1 : FVec F S_ .f32 := constant S_ .f32 0x7F800000#32
  let main_v8 : FVec F S1024x6144 .f32 := broadcastInDim S1024x6144 ![] bcast_S_S1024x6144 main_cst_1
  let main_v9 : IVec S1024x6144 1 := cmpf .olt main_v7 main_v8
  (main_v2, main_v5, main_v9)
-- ==== Kernel.lean ====
abbrev S32768x6144 : Shape := ⟨2, ![32768, 6144]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x1x512 : Shape := ⟨3, ![4, 1, 512]⟩
abbrev S8x4096x6144 : Shape := ⟨3, ![8, 4096, 6144]⟩
abbrev S8x4096x2048 : Shape := ⟨3, ![8, 4096, 2048]⟩
abbrev S1x4096x256 : Shape := ⟨3, ![1, 4096, 256]⟩
abbrev S1x4096x512 : Shape := ⟨3, ![1, 4096, 512]⟩
abbrev S1x1x512 : Shape := ⟨3, ![1, 1, 512]⟩
abbrev S256x512 : Shape := ⟨2, ![256, 512]⟩
abbrev S1x256x512 : Shape := ⟨3, ![1, 256, 512]⟩
abbrev S1x512 : Shape := ⟨2, ![1, 512]⟩

abbrev nBuf : Space → Nat
  | .hbm => 92
  | .vmem => 19
  | .smem => 0
  | _ => 0

abbrev bufTy : (tb : Table) → Fin (tcTables nBuf tb) → BufTy
  | .hbm, ⟨0, _⟩ => ⟨S32768x6144, .bf16⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S4096, .f32⟩
  | .hbm, ⟨16, _⟩ => ⟨S4096x1, .f32⟩
  | .hbm, ⟨17, _⟩ => ⟨S1x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S256, .f32⟩
  | .hbm, ⟨32, _⟩ => ⟨S256x1, .f32⟩
  | .hbm, ⟨33, _⟩ => ⟨S1x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .i1⟩
  | .hbm, ⟨40, _⟩ => ⟨S4x1x1, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S1x256x256, .f32⟩
  | .hbm, ⟨45, _⟩ => ⟨S4x256x256, .f32⟩
  | .hbm, ⟨46, _⟩ => ⟨S4x256x256, .f32⟩
  | .hbm, ⟨47, _⟩ => ⟨S4x256x256, .f32⟩
  | .hbm, ⟨48, _⟩ => ⟨S4x256x256, .f32⟩
  | .hbm, ⟨49, _⟩ => ⟨S_, .f32⟩
  | .hbm, ⟨50, _⟩ => ⟨S_, .f32⟩
  | .hbm, ⟨51, _⟩ => ⟨S4x256x256, .i1⟩
  | .hbm, ⟨52, _⟩ => ⟨S4x256x256, .f32⟩
  | .hbm, ⟨53, _⟩ => ⟨S4x256x256, .f32⟩
  | .hbm, ⟨54, _⟩ => ⟨S4x1, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S4x256, .f32⟩
  | .hbm, ⟨60, _⟩ => ⟨S4x256, .f32⟩
  | .hbm, ⟨61, _⟩ => ⟨S4x256, .f32⟩
  | .hbm, ⟨62, _⟩ => ⟨S4x256, .f32⟩
  | .hbm, ⟨63, _⟩ => ⟨S4x1, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S1x256, .f32⟩
  | .hbm, ⟨68, _⟩ => ⟨S4x256, .f32⟩
  | .hbm, ⟨69, _⟩ => ⟨S4x256, .f32⟩
  | .hbm, ⟨70, _⟩ => ⟨S4x256, .f32⟩
  | .hbm, ⟨71, _⟩ => ⟨S4x256, .f32⟩
  | .hbm, ⟨72, _⟩ => ⟨S_, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S4096x128, .f32⟩
  | .hbm, ⟨77, _⟩ => ⟨S4096x128, .f32⟩
  | .hbm, ⟨78, _⟩ => ⟨S_, .f32⟩
  | .hbm, ⟨79, _⟩ => ⟨S4x256x256, .f32⟩
  | .hbm, ⟨80, _⟩ => ⟨S4x256x256, .f32⟩
  | .hbm, ⟨81, _⟩ => ⟨S4x256x1, .f32⟩
  | .hbm, ⟨82, _⟩ => ⟨S4x256x256, .f32⟩
  | .hbm, ⟨83, _⟩ => ⟨S_, .f32⟩
  | .hbm, ⟨84, _⟩ => ⟨S4x256, .f32⟩
  | .hbm, ⟨85, _⟩ => ⟨S4x256, .f32⟩
  | .hbm, ⟨86, _⟩ => ⟨S4x256x1, .f32⟩
  | .hbm, ⟨87, _⟩ => ⟨S4x256x256, .f32⟩
  | .hbm, ⟨88, _⟩ => ⟨S4x1x1, .f32⟩
  | .hbm, ⟨89, _⟩ => ⟨S4x1x512, .f32⟩
  | .hbm, ⟨90, _⟩ => ⟨S8x4096x6144, .bf16⟩
  | .hbm, ⟨91, _⟩ => ⟨S8x4096x2048, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x1x512, .f32⟩
  | .local _ .vmem, ⟨15, _⟩ => ⟨S1x1x512, .f32⟩
  | .local _ .vmem, ⟨16, _⟩ => ⟨S1x4096x512, .bf16⟩
  | .local _ .vmem, ⟨17, _⟩ => ⟨S1x4096x512, .bf16⟩
  | .local _ .vmem, ⟨18, _⟩ => ⟨S256x512, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_6 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_7 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S32768x6144 : Shape := ⟨2, ![32768, 6144]⟩
abbrev S8x4096x6144 : Shape := ⟨3, ![8, 4096, 6144]⟩
abbrev S8x4096x1024 : Shape := ⟨3, ![8, 4096, 1024]⟩
abbrev S8x4096x2048 : Shape := ⟨3, ![8, 4096, 2048]⟩
abbrev S8x4096x4x256 : Shape := ⟨4, ![8, 4096, 4, 256]⟩
abbrev S_ : Shape := ⟨0, ![]⟩
abbrev S8x4096x4x512 : Shape := ⟨4, ![8, 4096, 4, 512]⟩
abbrev S8x32x128x4x256 : Shape := ⟨5, ![8, 32, 128, 4, 256]⟩
abbrev S32x8x4x128x256 : Shape := ⟨5, ![32, 8, 4, 128, 256]⟩
abbrev S8x32x128x4x512 : Shape := ⟨5, ![8, 32, 128, 4, 512]⟩
abbrev S32x8x4x128x512 : Shape := ⟨5, ![32, 8, 4, 128, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S8x4x256x512 : Shape := ⟨4, ![8, 4, 256, 512]⟩
abbrev S1x8x4x128x256 : Shape := ⟨5, ![1, 8, 4, 128, 256]⟩
abbrev S8x4x128x256 : Shape := ⟨4, ![8, 4, 128, 256]⟩
abbrev S1x8x4x128x512 : Shape := ⟨5, ![1, 8, 4, 128, 512]⟩
abbrev S8x4x128x512 : Shape := ⟨4, ![8, 4, 128, 512]⟩
abbrev S8x4x128x128 : Shape := ⟨4, ![8, 4, 128, 128]⟩
abbrev S1x4x128x128 : Shape := ⟨4, ![1, 4, 128, 128]⟩
abbrev S8x4096x4 : Shape := ⟨3, ![8, 4096, 4]⟩
abbrev S8x4096x4x1 : Shape := ⟨4, ![8, 4096, 4, 1]⟩

abbrev nBuf : Space → Nat
  | .hbm => 159
  | .vmem => 0
  | .smem => 0
  | _ => 0

abbrev hbmTy0_0 (i : Nat) : BufTy := match i % 128 with
  | 0 => ⟨S32768x6144, .bf16⟩
  | 1 => ⟨S32768x6144, .f32⟩
  | 2 => ⟨S8x4096x6144, .f32⟩
  | 3 => ⟨S8x4096x1024, .f32⟩
  | 4 => ⟨S8x4096x1024, .f32⟩
  | 5 => ⟨S8x4096x2048, .f32⟩
  | 6 => ⟨S8x4096x2048, .f32⟩
  | 7 => ⟨S8x4096x4x256, .f32⟩
  | 8 => ⟨S8x4096x4x256, .f32⟩
  | 9 => ⟨S_, .f32⟩
  | 10 => ⟨S8x4096x4x256, .f32⟩
  | 11 => ⟨S8x4096x4x256, .f32⟩
  | 12 => ⟨S8x4096x4x512, .f32⟩
  | 13 => ⟨S8x32x128x4x256, .f32⟩
  | 14 => ⟨S32x8x4x128x256, .f32⟩
  | 15 => ⟨S8x32x128x4x256, .f32⟩
  | 16 => ⟨S32x8x4x128x256, .f32⟩
  | 17 => ⟨S8x32x128x4x512, .f32⟩
  | 18 => ⟨S32x8x4x128x512, .f32⟩
  | 19 => ⟨S4, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S4, .f32⟩
  | 27 => ⟨S4, .f32⟩
  | 28 => ⟨S4, .f32⟩
  | 29 => ⟨S128, .f32⟩
  | 30 => ⟨S128x1, .f32⟩
  | 31 => ⟨S1x128, .f32⟩
  | 32 => ⟨S128x128, .f32⟩
  | 33 => ⟨S128x128, .f32⟩
  | 34 => ⟨S128x128, .f32⟩
  | 35 => ⟨S_, .f32⟩
  | 36 => ⟨S128x128, .f32⟩
  | 37 => ⟨S128x128, .i1⟩
  | 38 => ⟨S4x1x1, .f32⟩
  | 39 => ⟨S_, .f32⟩
  | 40 => ⟨S128x128, .f32⟩
  | 41 => ⟨S128x128, .f32⟩
  | 42 => ⟨S1x128x128, .f32⟩
  | 43 => ⟨S4x128x128, .f32⟩
  | 44 => ⟨S4x128x128, .f32⟩
  | 45 => ⟨S4x128x128, .f32⟩
  | 46 => ⟨S4x128x128, .f32⟩
  | 47 => ⟨S_, .f32⟩
  | 48 => ⟨S_, .f32⟩
  | 49 => ⟨S4x128x128, .i1⟩
  | 50 => ⟨S4x128x128, .f32⟩
  | 51 => ⟨S4x128x128, .f32⟩
  | 52 => ⟨S4x1, .f32⟩
  | 53 => ⟨S_, .f32⟩
  | 54 => ⟨S128, .f32⟩
  | 55 => ⟨S128, .f32⟩
  | 56 => ⟨S1x128, .f32⟩
  | 57 => ⟨S4x128, .f32⟩
  | 58 => ⟨S4x128, .f32⟩
  | 59 => ⟨S4x128, .f32⟩
  | 60 => ⟨S4x128, .f32⟩
  | 61 => ⟨S1x4x128x1, .f32⟩
  | 62 => ⟨S4x1, .f32⟩
  | 63 => ⟨S_, .f32⟩
  | 64 => ⟨S128, .f32⟩
  | 65 => ⟨S128, .f32⟩
  | 66 => ⟨S1x128, .f32⟩
  | 67 => ⟨S4x128, .f32⟩
  | 68 => ⟨S4x128, .f32⟩
  | 69 => ⟨S4x128, .f32⟩
  | 70 => ⟨S4x128, .f32⟩
  | 71 => ⟨S1x4x128x1, .f32⟩
  | 72 => ⟨S_, .f32⟩
  | 73 => ⟨S4, .f32⟩
  | 74 => ⟨S4, .f32⟩
  | 75 => ⟨S4, .f32⟩
  | 76 => ⟨S1x4x1x1, .f32⟩
  | 77 => ⟨S_, .f32⟩
  | 78 => ⟨S8x4x256x512, .f32⟩
  | 79 => ⟨S_, .f32⟩
  | 80 => ⟨S32x8x4x128x512, .f32⟩
  | 81 => ⟨S_, .i32⟩
  | 82 => ⟨S32x8x4x128x256, .f32⟩
  | 83 => ⟨S32x8x4x128x256, .f32⟩
  | 84 => ⟨S32x8x4x128x512, .f32⟩
  | 85 => ⟨S4x128x128, .f32⟩
  | 86 => ⟨S1x4x128x1, .f32⟩
  | 87 => ⟨S1x4x1x1, .f32⟩
  | 88 => ⟨S1x4x128x1, .f32⟩
  | 89 => ⟨S_, .i32⟩
  | 90 => ⟨S8x4x256x512, .f32⟩
  | 91 => ⟨S32x8x4x128x512, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x8x4x128x256, .f32⟩
  | 99 => ⟨S8x4x128x256, .f32⟩
  | 100 => ⟨S_, .i32⟩
  | 101 => ⟨S_, .i32⟩
  | 102 => ⟨S_, .i32⟩
  | 103 => ⟨S_, .i32⟩
  | 104 => ⟨S1x8x4x128x256, .f32⟩
  | 105 => ⟨S8x4x128x256, .f32⟩
  | 106 => ⟨S_, .i32⟩
  | 107 => ⟨S_, .i32⟩
  | 108 => ⟨S_, .i32⟩
  | 109 => ⟨S_, .i32⟩
  | 110 => ⟨S1x8x4x128x512, .f32⟩
  | 111 => ⟨S8x4x128x512, .f32⟩
  | 112 => ⟨S8x4x128x128, .f32⟩
  | 113 => ⟨S1x4x128x128, .f32⟩
  | 114 => ⟨S8x4x128x128, .f32⟩
  | 115 => ⟨S8x4x128x128, .f32⟩
  | 116 => ⟨S8x4x128x512, .f32⟩
  | 117 => ⟨S8x4x128x512, .f32⟩
  | 118 => ⟨S8x4x128x512, .f32⟩
  | 119 => ⟨S8x4x128x512, .f32⟩
  | 120 => ⟨S8x4x256x512, .f32⟩
  | 121 => ⟨S8x4x256x512, .f32⟩
  | 122 => ⟨S8x4x128x256, .f32⟩
  | 123 => ⟨S8x4x128x256, .f32⟩
  | 124 => ⟨S8x4x256x512, .f32⟩
  | 125 => ⟨S8x4x256x512, .f32⟩
  | 126 => ⟨S8x4x128x512, .f32⟩
  | 127 => ⟨S1x8x4x128x512, .f32⟩
  | _ => ⟨S32768x6144, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S32x8x4x128x512, .f32⟩
  | 5 => ⟨S_, .i32⟩
  | 6 => ⟨S_, .i32⟩
  | 7 => ⟨S8x32x128x4x512, .f32⟩
  | 8 => ⟨S8x4096x4x512, .f32⟩
  | 9 => ⟨S8x4096x4x512, .f32⟩
  | 10 => ⟨S_, .f32⟩
  | 11 => ⟨S8x4096x4, .f32⟩
  | 12 => ⟨S8x4096x4x1, .f32⟩
  | 13 => ⟨S_, .f32⟩
  | 14 => ⟨S8x4096x4x1, .f32⟩
  | 15 => ⟨S8x4096x4x1, .f32⟩
  | 16 => ⟨S_, .f32⟩
  | 17 => ⟨S8x4096x4x1, .f32⟩
  | 18 => ⟨S8x4096x4x1, .f32⟩
  | 19 => ⟨S8x4096x4x1, .f32⟩
  | 20 => ⟨S8x4096x4x512, .f32⟩
  | 21 => ⟨S8x4096x4x512, .f32⟩
  | 22 => ⟨S8x4096x2048, .f32⟩
  | 23 => ⟨S32768x6144, .f32⟩
  | 24 => ⟨S8x4096x6144, .f32⟩
  | 25 => ⟨S8x4096x1024, .f32⟩
  | 26 => ⟨S8x4096x1024, .f32⟩
  | 27 => ⟨S8x4096x2048, .f32⟩
  | 28 => ⟨S8x4096x2048, .f32⟩
  | 29 => ⟨S8x4096x2048, .f32⟩
  | 30 => ⟨S8x4096x2048, .bf16⟩
  | _ => ⟨S32768x6144, .bf16⟩

abbrev hbmTy (i : Nat) : BufTy := match i / 128 with
  | 0 => hbmTy0_0 i
  | 1 => hbmTy0_1 i
  | _ => ⟨S32768x6144, .bf16⟩

abbrev bufTy : (tb : Table) → Fin (tcTables nBuf tb) → BufTy
  | .hbm, ⟨i, _⟩ => hbmTy i
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst_0 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_2 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_3 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_8 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_c : Ref sig .tc := ⟨.hbm, 81, rfl⟩
abbrev main_v66_0 : Ref sig .tc := ⟨.hbm, 82, rfl⟩
abbrev main_v66_1 : Ref sig .tc := ⟨.hbm, 83, rfl⟩
abbrev main_v66_2 : Ref sig .tc := ⟨.hbm, 84, rfl⟩
abbrev main_v66_3 : Ref sig .tc := ⟨.hbm, 85, rfl⟩
abbrev main_v66_4 : Ref sig .tc := ⟨.hbm, 86, rfl⟩
abbrev main_v66_5 : Ref sig .tc := ⟨.hbm, 87, rfl⟩
abbrev main_v66_6 : Ref sig .tc := ⟨.hbm, 88, rfl⟩
abbrev main_v66_7 : Ref sig .tc := ⟨.hbm, 89, rfl⟩
abbrev main_v66_8 : Ref sig .tc := ⟨.hbm, 90, rfl⟩
abbrev main_v66_9 : Ref sig .tc := ⟨.hbm, 91, rfl⟩
abbrev main_while0c_c_22 : Ref sig .tc := ⟨.hbm, 92, rfl⟩
abbrev main_while0c_v88 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_c_2 : Ref sig .tc := ⟨.hbm, 97, rfl⟩
abbrev main_while0b_call1_v0 : Ref sig .tc := ⟨.hbm, 98, rfl⟩
abbrev main_while0b_v88 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_call2_c_2 : Ref sig .tc := ⟨.hbm, 103, rfl⟩
abbrev main_while0b_call2_v0 : Ref sig .tc := ⟨.hbm, 104, rfl⟩
abbrev main_while0b_v89 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_call3_c_2 : Ref sig .tc := ⟨.hbm, 109, rfl⟩
abbrev main_while0b_call3_v0 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_v94 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_v100 : Ref sig .tc := ⟨.hbm, 121, rfl⟩
abbrev main_while0b_v101 : Ref sig .tc := ⟨.hbm, 122, rfl⟩
abbrev main_while0b_v102 : Ref sig .tc := ⟨.hbm, 123, rfl⟩
abbrev main_while0b_v103 : Ref sig .tc := ⟨.hbm, 124, rfl⟩
abbrev main_while0b_v104 : Ref sig .tc := ⟨.hbm, 125, rfl⟩
abbrev main_while0b_v105 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v106 : Ref sig .tc := ⟨.hbm, 132, rfl⟩
abbrev main_while0b_c_22 : Ref sig .tc := ⟨.hbm, 133, rfl⟩
abbrev main_while0b_v107 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_cst_10 : Ref sig .tc := ⟨.hbm, 138, rfl⟩
abbrev main_v70 : Ref sig .tc := ⟨.hbm, 139, rfl⟩
abbrev main_v71 : Ref sig .tc := ⟨.hbm, 140, rfl⟩
abbrev main_cst_11 : Ref sig .tc := ⟨.hbm, 141, rfl⟩
abbrev main_v72 : Ref sig .tc := ⟨.hbm, 142, rfl⟩
abbrev main_v73 : Ref sig .tc := ⟨.hbm, 143, rfl⟩
abbrev main_cst_12 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩

abbrev nD : Nat := 1
abbrev τ : Topo := Topo.v7x

variable {F : FTy → Type} [FloatOps F]

abbrev main_while0_count : Scf.Loop 32 := ⟨0#32, 32#32, 1#32⟩
-- ==== TailLast.lean ====
abbrev S32768x1024 : Shape := ⟨2, ![32768, 1024]⟩
abbrev S32768x2048 : Shape := ⟨2, ![32768, 2048]⟩
abbrev S2x32768x256 : Shape := ⟨3, ![2, 32768, 256]⟩
abbrev S2048x1024 : Shape := ⟨2, ![2048, 1024]⟩
abbrev S2x1024 : Shape := ⟨2, ![2, 1024]⟩
abbrev S1024x4096 : Shape := ⟨2, ![1024, 4096]⟩
abbrev S4096x1024 : Shape := ⟨2, ![4096, 1024]⟩
abbrev S1024x1024 : Shape := ⟨2, ![1024, 1024]⟩
abbrev S2x256x1024 : Shape := ⟨3, ![2, 256, 1024]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S512x1024 : Shape := ⟨2, ![512, 1024]⟩
abbrev S512x2048 : Shape := ⟨2, ![512, 2048]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 22
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2x32768x256, .f32⟩
  | .hbm, ⟨3, _⟩ => ⟨S2048x1024, .bf16⟩
  | .hbm, ⟨4, _⟩ => ⟨S2x1024, .f32⟩
  | .hbm, ⟨5, _⟩ => ⟨S1024x4096, .bf16⟩
  | .hbm, ⟨6, _⟩ => ⟨S4096x1024, .bf16⟩
  | .hbm, ⟨7, _⟩ => ⟨S2x1024, .f32⟩
  | .hbm, ⟨8, _⟩ => ⟨S1024x1024, .bf16⟩
  | .hbm, ⟨9, _⟩ => ⟨S2x256x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x256x1024, .f32⟩
  | .hbm, ⟨16, _⟩ => ⟨S256x1024, .f32⟩
  | .hbm, ⟨17, _⟩ => ⟨S256x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1x512x256, .f32⟩
  | .local _ .vmem, ⟨5, _⟩ => ⟨S1x512x256, .f32⟩
  | .local _ .vmem, ⟨6, _⟩ => ⟨S2048x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== TailLastRefIdeal.lean ====
abbrev S32768x1024 : Shape := ⟨2, ![32768, 1024]⟩
abbrev S32768x2048 : Shape := ⟨2, ![32768, 2048]⟩
abbrev S2x32768x256 : Shape := ⟨3, ![2, 32768, 256]⟩
abbrev S2048x1024 : Shape := ⟨2, ![2048, 1024]⟩
abbrev S2x1024 : Shape := ⟨2, ![2, 1024]⟩
abbrev S1024x4096 : Shape := ⟨2, ![1024, 4096]⟩
abbrev S4096x1024 : Shape := ⟨2, ![4096, 1024]⟩
abbrev S1024x1024 : Shape := ⟨2, ![1024, 1024]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩
abbrev S1x32768x256 : Shape := ⟨3, ![1, 32768, 256]⟩
abbrev S32768x256 : Shape := ⟨2, ![32768, 256]⟩
abbrev S1x256x1024 : Shape := ⟨3, ![1, 256, 1024]⟩
abbrev S256x1024 : Shape := ⟨2, ![256, 1024]⟩

abbrev nBuf : Space → Nat
  | .hbm => 93
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2x32768x256, .f32⟩
  | .hbm, ⟨3, _⟩ => ⟨S2048x1024, .bf16⟩
  | .hbm, ⟨4, _⟩ => ⟨S2x1024, .f32⟩
  | .hbm, ⟨5, _⟩ => ⟨S1024x4096, .bf16⟩
  | .hbm, ⟨6, _⟩ => ⟨S4096x1024, .bf16⟩
  | .hbm, ⟨7, _⟩ => ⟨S2x1024, .f32⟩
  | .hbm, ⟨8, _⟩ => ⟨S1024x1024, .bf16⟩
  | .hbm, ⟨9, _⟩ => ⟨S2x256x1024, .f32⟩
  | .hbm, ⟨10, _⟩ => ⟨S1024, .f32⟩
  | .hbm, ⟨11, _⟩ => ⟨S32768x2048, .f32⟩
  | .hbm, ⟨12, _⟩ => ⟨S2048x1024, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S1024x4096, .f32⟩
  | .hbm, ⟨34, _⟩ => ⟨S32768x4096, .f32⟩
  | .hbm, ⟨35, _⟩ => ⟨S_, .f32⟩
  | .hbm, ⟨36, _⟩ => ⟨S32768x4096, .f32⟩
  | .hbm, ⟨37, _⟩ => ⟨S32768x4096, .f32⟩
  | .hbm, ⟨38, _⟩ => ⟨S32768x4096, .f32⟩
  | .hbm, ⟨39, _⟩ => ⟨S4096x1024, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S1024, .f32⟩
  | .hbm, ⟨44, _⟩ => ⟨S32768x1024, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | .hbm, ⟨60, _⟩ => ⟨S1024x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768x1024, .f32⟩
  | .hbm, ⟨69, _⟩ => ⟨S32768x1024, .f32⟩
  | .hbm, ⟨70, _⟩ => ⟨S1x32768x256, .f32⟩
  | .hbm, ⟨71, _⟩ => ⟨S32768x256, .f32⟩
  | .hbm, ⟨72, _⟩ => ⟨S1x256x1024, .f32⟩
  | .hbm, ⟨73, _⟩ => ⟨S256x1024, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S_, .f32⟩
  | .hbm, ⟨79, _⟩ => ⟨S32768, .f32⟩
  | .hbm, ⟨80, _⟩ => ⟨S32768x1, .f32⟩
  | .hbm, ⟨81, _⟩ => ⟨S_, .f32⟩
  | .hbm, ⟨82, _⟩ => ⟨S32768x1, .f32⟩
  | .hbm, ⟨83, _⟩ => ⟨S32768x1, .f32⟩
  | .hbm, ⟨84, _⟩ => ⟨S_, .f32⟩
  | .hbm, ⟨85, _⟩ => ⟨S32768x1, .f32⟩
  | .hbm, ⟨86, _⟩ => ⟨S32768x1, .f32⟩
  | .hbm, ⟨87, _⟩ => ⟨S32768x1, .f32⟩
  | .hbm, ⟨88, _⟩ => ⟨S32768x1024, .f32⟩
  | .hbm, ⟨89, _⟩ => ⟨S32768x1024, .f32⟩
  | .hbm, ⟨90, _⟩ => ⟨S1x1024, .f32⟩
  | .hbm, ⟨91, _⟩ => ⟨S32768x1024, .f32⟩
  | .hbm, ⟨92, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== TailFirst.lean ====
abbrev S32768x1024 : Shape := ⟨2, ![32768, 1024]⟩
abbrev S2x32768x256 : Shape := ⟨3, ![2, 32768, 256]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S2x256x1024 : Shape := ⟨3, ![2, 256, 1024]⟩
abbrev S1024 : Shape := ⟨1, ![1024]⟩
abbrev S1x1024x6144 : Shape := ⟨3, ![1, 1024, 6144]⟩
abbrev S1x2048x1024 : Shape := ⟨3, ![1, 2048, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S1x1024 : Shape := ⟨2, ![1, 1024]⟩
abbrev S1x256x1024 : Shape := ⟨3, ![1, 256, 1024]⟩
abbrev S256x1024 : Shape := ⟨2, ![256, 1024]⟩
abbrev S1024x6144 : Shape := ⟨2, ![1024, 6144]⟩
abbrev S2048x1024 : Shape := ⟨2, ![2048, 1024]⟩
abbrev S512x1024 : Shape := ⟨2, ![512, 1024]⟩
abbrev S1x512x256 : Shape := ⟨3, ![1, 512, 256]⟩
abbrev S1x16x6144 : Shape := ⟨3, ![1, 16, 6144]⟩
abbrev S1x32x1024 : Shape := ⟨3, ![1, 32, 1024]⟩
abbrev S1x16x4096 : Shape := ⟨3, ![1, 16, 4096]⟩
abbrev S1x64x1024 : Shape := ⟨3, ![1, 64, 1024]⟩
abbrev S1x16x1024 : Shape := ⟨3, ![1, 16, 1024]⟩
abbrev S16x6144 : Shape := ⟨2, ![16, 6144]⟩
abbrev S32x1024 : Shape := ⟨2, ![32, 1024]⟩
abbrev S16x4096 : Shape := ⟨2, ![16, 4096]⟩
abbrev S64x1024 : Shape := ⟨2, ![64, 1024]⟩
abbrev S16x1024 : Shape := ⟨2, ![16, 1024]⟩
abbrev S512 : Shape := ⟨1, ![512]⟩
abbrev S512x1 : Shape := ⟨2, ![512, 1]⟩
abbrev S512x256 : Shape := ⟨2, ![512, 256]⟩

abbrev nBuf : Space → Nat
  | .hbm => 32
  | .vmem => 36
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x32768x256, .f32⟩
  | .hbm, ⟨3, _⟩ => ⟨S1024x1024, .bf16⟩
  | .hbm, ⟨4, _⟩ => ⟨S2x1024, .f32⟩
  | .hbm, ⟨5, _⟩ => ⟨S1024x4096, .bf16⟩
  | .hbm, ⟨6, _⟩ => ⟨S4096x1024, .bf16⟩
  | .hbm, ⟨7, _⟩ => ⟨S2x1024, .f32⟩
  | .hbm, ⟨8, _⟩ => ⟨S1024x1024, .bf16⟩
  | .hbm, ⟨9, _⟩ => ⟨S2x256x1024, .f32⟩
  | .hbm, ⟨10, _⟩ => ⟨S1024, .f32⟩
  | .hbm, ⟨11, _⟩ => ⟨S1x1024x6144, .f32⟩
  | .hbm, ⟨12, _⟩ => ⟨S1x2048x1024, .f32⟩
  | .hbm, ⟨13, _⟩ => ⟨S2x1024x4096, .f32⟩
  | .hbm, ⟨14, _⟩ => ⟨S2x4096x1024, .f32⟩
  | .hbm, ⟨15, _⟩ => ⟨S2x1024x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x256x1024, .f32⟩
  | .hbm, ⟨21, _⟩ => ⟨S256x1024, .f32⟩
  | .hbm, ⟨22, _⟩ => ⟨S256x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S32768x1024, .f32⟩
  | .hbm, ⟨27, _⟩ => ⟨S1024x6144, .bf16⟩
  | .hbm, ⟨28, _⟩ => ⟨S2048x1024, .bf16⟩
  | .hbm, ⟨29, _⟩ => ⟨S1024x4096, .bf16⟩
  | .hbm, ⟨30, _⟩ => ⟨S4096x1024, .bf16⟩
  | .hbm, ⟨31, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x16x6144, .f32⟩
  | .local _ .vmem, ⟨15, _⟩ => ⟨S1x16x6144, .f32⟩
  | .local _ .vmem, ⟨16, _⟩ => ⟨S1x32x1024, .f32⟩
  | .local _ .vmem, ⟨17, _⟩ => ⟨S1x32x1024, .f32⟩
  | .local _ .vmem, ⟨18, _⟩ => ⟨S1x16x4096, .f32⟩
  | .local _ .vmem, ⟨19, _⟩ => ⟨S1x16x4096, .f32⟩
  | .local _ .vmem, ⟨20, _⟩ => ⟨S1x64x1024, .f32⟩
  | .local _ .vmem, ⟨21, _⟩ => ⟨S1x64x1024, .f32⟩
  | .local _ .vmem, ⟨22, _⟩ => ⟨S1x16x1024, .f32⟩
  | .local _ .vmem, ⟨23, _⟩ => ⟨S1x16x1024, .f32⟩
  | .local _ .vmem, ⟨24, _⟩ => ⟨S512x1024, .f32⟩
  | .local _ .vmem, ⟨25, _⟩ => ⟨S512x1024, .f32⟩
  | .local _ .vmem, ⟨26, _⟩ => ⟨S16x6144, .bf16⟩
  | .local _ .vmem, ⟨27, _⟩ => ⟨S16x6144, .bf16⟩
  | .local _ .vmem, ⟨28, _⟩ => ⟨S32x1024, .bf16⟩
  | .local _ .vmem, ⟨29, _⟩ => ⟨S32x1024, .bf16⟩
  | .local _ .vmem, ⟨30, _⟩ => ⟨S16x4096, .bf16⟩
  | .local _ .vmem, ⟨31, _⟩ => ⟨S16x4096, .bf16⟩
  | .local _ .vmem, ⟨32, _⟩ => ⟨S64x1024, .bf16⟩
  | .local _ .vmem, ⟨33, _⟩ => ⟨S64x1024, .bf16⟩
  | .local _ .vmem, ⟨34, _⟩ => ⟨S16x1024, .bf16⟩
  | .local _ .vmem, ⟨35, _⟩ => ⟨S16x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v10_3 : Ref sig .tc := ⟨.hbm, 29, rfl⟩
abbrev main_v10_4 : Ref sig .tc := ⟨.hbm, 30, rfl⟩
abbrev main_v10_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x16x6144 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x16x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x6144 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x4096 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== TailFirstRefIdeal.lean ====
abbrev S32768x1024 : Shape := ⟨2, ![32768, 1024]⟩
abbrev S2x32768x256 : Shape := ⟨3, ![2, 32768, 256]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S2x256x1024 : Shape := ⟨3, ![2, 256, 1024]⟩
abbrev S1024 : Shape := ⟨1, ![1024]⟩
abbrev S1x1024x6144 : Shape := ⟨3, ![1, 1024, 6144]⟩
abbrev S1x2048x1024 : Shape := ⟨3, ![1, 2048, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩
abbrev S1x32768x256 : Shape := ⟨3, ![1, 32768, 256]⟩
abbrev S32768x256 : Shape := ⟨2, ![32768, 256]⟩
abbrev S1x256x1024 : Shape := ⟨3, ![1, 256, 1024]⟩
abbrev S256x1024 : Shape := ⟨2, ![256, 1024]⟩
abbrev S1024x6144 : Shape := ⟨2, ![1024, 6144]⟩
abbrev S2048x1024 : Shape := ⟨2, ![2048, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x32768x256, .f32⟩
  | .hbm, ⟨3, _⟩ => ⟨S1024x1024, .bf16⟩
  | .hbm, ⟨4, _⟩ => ⟨S2x1024, .f32⟩
  | .hbm, ⟨5, _⟩ => ⟨S1024x4096, .bf16⟩
  | .hbm, ⟨6, _⟩ => ⟨S4096x1024, .bf16⟩
  | .hbm, ⟨7, _⟩ => ⟨S2x1024, .f32⟩
  | .hbm, ⟨8, _⟩ => ⟨S1024x1024, .bf16⟩
  | .hbm, ⟨9, _⟩ => ⟨S2x256x1024, .f32⟩
  | .hbm, ⟨10, _⟩ => ⟨S1024, .f32⟩
  | .hbm, ⟨11, _⟩ => ⟨S1x1024x6144, .f32⟩
  | .hbm, ⟨12, _⟩ => ⟨S1x2048x1024, .f32⟩
  | .hbm, ⟨13, _⟩ => ⟨S2x1024x4096, .f32⟩
  | .hbm, ⟨14, _⟩ => ⟨S2x4096x1024, .f32⟩
  | .hbm, ⟨15, _⟩ => ⟨S2x1024x1024, .f32⟩
  | .hbm, ⟨16, _⟩ => ⟨S32768x1024, .f32⟩
  | .hbm, ⟨17, _⟩ => ⟨S1024x1024, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S1024x4096, .f32⟩
  | .hbm, ⟨39, _⟩ => ⟨S32768x4096, .f32⟩
  | .hbm, ⟨40, _⟩ => ⟨S_, .f32⟩
  | .hbm, ⟨41, _⟩ => ⟨S32768x4096, .f32⟩
  | .hbm, ⟨42, _⟩ => ⟨S32768x4096, .f32⟩
  | .hbm, ⟨43, _⟩ => ⟨S32768x4096, .f32⟩
  | .hbm, ⟨44, _⟩ => ⟨S4096x1024, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S1024x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S_, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768x1024, .f32⟩
  | .hbm, ⟨74, _⟩ => ⟨S32768x1024, .f32⟩
  | .hbm, ⟨75, _⟩ => ⟨S1x32768x256, .f32⟩
  | .hbm, ⟨76, _⟩ => ⟨S32768x256, .f32⟩
  | .hbm, ⟨77, _⟩ => ⟨S1x256x1024, .f32⟩
  | .hbm, ⟨78, _⟩ => ⟨S256x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S1024x6144, .f32⟩
  | .hbm, ⟨83, _⟩ => ⟨S1024x6144, .bf16⟩
  | .hbm, ⟨84, _⟩ => ⟨S2048x1024, .f32⟩
  | .hbm, ⟨85, _⟩ => ⟨S2048x1024, .bf16⟩
  | .hbm, ⟨86, _⟩ => ⟨S1x1024x4096, .f32⟩
  | .hbm, ⟨87, _⟩ => ⟨S1024x4096, .f32⟩
  | .hbm, ⟨88, _⟩ => ⟨S1024x4096, .bf16⟩
  | .hbm, ⟨89, _⟩ => ⟨S1x4096x1024, .f32⟩
  | .hbm, ⟨90, _⟩ => ⟨S4096x1024, .f32⟩
  | .hbm, ⟨91, _⟩ => ⟨S4096x1024, .bf16⟩
  | .hbm, ⟨92, _⟩ => ⟨S1x1024x1024, .f32⟩
  | .hbm, ⟨93, _⟩ => ⟨S1024x1024, .f32⟩
  | .hbm, ⟨94, _⟩ => ⟨S1024x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call0_cst : Ref sig .tc := ⟨.hbm, 40, rfl⟩
abbrev main_call0_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== ProjRet.lean ====
abbrev S32768x1024 : Shape := ⟨2, ![32768, 1024]⟩
abbrev S2x1024 : Shape := ⟨2, ![2, 1024]⟩
abbrev S1024x6144 : Shape := ⟨2, ![1024, 6144]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x1x512 : Shape := ⟨3, ![4, 1, 512]⟩
abbrev S1x1024 : Shape := ⟨2, ![1, 1024]⟩
abbrev S1024 : Shape := ⟨1, ![1024]⟩
abbrev S32768x6144 : Shape := ⟨2, ![32768, 6144]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 96
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1024x6144, .bf16⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S4096, .f32⟩
  | .hbm, ⟨18, _⟩ => ⟨S4096x1, .f32⟩
  | .hbm, ⟨19, _⟩ => ⟨S1x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S256, .f32⟩
  | .hbm, ⟨34, _⟩ => ⟨S256x1, .f32⟩
  | .hbm, ⟨35, _⟩ => ⟨S1x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .i1⟩
  | .hbm, ⟨42, _⟩ => ⟨S4x1x1, .f32⟩
  | .hbm, ⟨43, _⟩ => ⟨S_, .f32⟩
  | .hbm, ⟨44, _⟩ => ⟨S256x256, .f32⟩
  | .hbm, ⟨45, _⟩ => ⟨S256x256, .f32⟩
  | .hbm, ⟨46, _⟩ => ⟨S1x256x256, .f32⟩
  | .hbm, ⟨47, _⟩ => ⟨S4x256x256, .f32⟩
  | .hbm, ⟨48, _⟩ => ⟨S4x256x256, .f32⟩
  | .hbm, ⟨49, _⟩ => ⟨S4x256x256, .f32⟩
  | .hbm, ⟨50, _⟩ => ⟨S4x256x256, .f32⟩
  | .hbm, ⟨51, _⟩ => ⟨S_, .f32⟩
  | .hbm, ⟨52, _⟩ => ⟨S_, .f32⟩
  | .hbm, ⟨53, _⟩ => ⟨S4x256x256, .i1⟩
  | .hbm, ⟨54, _⟩ => ⟨S4x256x256, .f32⟩
  | .hbm, ⟨55, _⟩ => ⟨S4x256x256, .f32⟩
  | .hbm, ⟨56, _⟩ => ⟨S4x1, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S1x256, .f32⟩
  | .hbm, ⟨61, _⟩ => ⟨S4x256, .f32⟩
  | .hbm, ⟨62, _⟩ => ⟨S4x256, .f32⟩
  | .hbm, ⟨63, _⟩ => ⟨S4x256, .f32⟩
  | .hbm, ⟨64, _⟩ => ⟨S4x256, .f32⟩
  | .hbm, ⟨65, _⟩ => ⟨S4x1, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S1x256, .f32⟩
  | .hbm, ⟨70, _⟩ => ⟨S4x256, .f32⟩
  | .hbm, ⟨71, _⟩ => ⟨S4x256, .f32⟩
  | .hbm, ⟨72, _⟩ => ⟨S4x256, .f32⟩
  | .hbm, ⟨73, _⟩ => ⟨S4x256, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4096x128, .f32⟩
  | .hbm, ⟨79, _⟩ => ⟨S4096x128, .f32⟩
  | .hbm, ⟨80, _⟩ => ⟨S_, .f32⟩
  | .hbm, ⟨81, _⟩ => ⟨S4x256x256, .f32⟩
  | .hbm, ⟨82, _⟩ => ⟨S4x256x256, .f32⟩
  | .hbm, ⟨83, _⟩ => ⟨S4x256x1, .f32⟩
  | .hbm, ⟨84, _⟩ => ⟨S4x256x256, .f32⟩
  | .hbm, ⟨85, _⟩ => ⟨S_, .f32⟩
  | .hbm, ⟨86, _⟩ => ⟨S4x256, .f32⟩
  | .hbm, ⟨87, _⟩ => ⟨S4x256, .f32⟩
  | .hbm, ⟨88, _⟩ => ⟨S4x256x1, .f32⟩
  | .hbm, ⟨89, _⟩ => ⟨S4x256x256, .f32⟩
  | .hbm, ⟨90, _⟩ => ⟨S4x1x1, .f32⟩
  | .hbm, ⟨91, _⟩ => ⟨S4x1x512, .f32⟩
  | .hbm, ⟨92, _⟩ => ⟨S1x1024, .f32⟩
  | .hbm, ⟨93, _⟩ => ⟨S1024, .f32⟩
  | .hbm, ⟨94, _⟩ => ⟨S1x1024, .f32⟩
  | .hbm, ⟨95, _⟩ => ⟨S32768x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x6144, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x6144, .bf16⟩
  | .local _ .vmem, ⟨9, _⟩ => ⟨S1024x6144, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRetRefIdeal.lean ====
abbrev S32768x1024 : Shape := ⟨2, ![32768, 1024]⟩
abbrev S2x1024 : Shape := ⟨2, ![2, 1024]⟩
abbrev S1024x6144 : Shape := ⟨2, ![1024, 6144]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x6144 : Shape := ⟨2, ![32768, 6144]⟩
abbrev S8x4096x6144 : Shape := ⟨3, ![8, 4096, 6144]⟩
abbrev S8x4096x1024 : Shape := ⟨3, ![8, 4096, 1024]⟩
abbrev S8x4096x2048 : Shape := ⟨3, ![8, 4096, 2048]⟩
abbrev S4096 : Shape := ⟨1, ![4096]⟩
abbrev S8x4096x4x256 : Shape := ⟨4, ![8, 4096, 4, 256]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S8x4096x4x128 : Shape := ⟨4, ![8, 4096, 4, 128]⟩

abbrev nBuf : Space → Nat
  | .hbm => 119
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1024x6144, .bf16⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x6144, .f32⟩
  | .hbm, ⟨22, _⟩ => ⟨S32768x6144, .f32⟩
  | .hbm, ⟨23, _⟩ => ⟨S8x4096x6144, .f32⟩
  | .hbm, ⟨24, _⟩ => ⟨S8x4096x1024, .f32⟩
  | .hbm, ⟨25, _⟩ => ⟨S8x4096x1024, .f32⟩
  | .hbm, ⟨26, _⟩ => ⟨S8x4096x2048, .f32⟩
  | .hbm, ⟨27, _⟩ => ⟨S8x4096x2048, .f32⟩
  | .hbm, ⟨28, _⟩ => ⟨S4096, .i32⟩
  | .hbm, ⟨29, _⟩ => ⟨S8x4096x4x256, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S4096, .f32⟩
  | .hbm, ⟨45, _⟩ => ⟨S4096x1, .f32⟩
  | .hbm, ⟨46, _⟩ => ⟨S1x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S1x4096x1x128, .f32⟩
  | .hbm, ⟨52, _⟩ => ⟨S4096x128, .f32⟩
  | .hbm, ⟨53, _⟩ => ⟨S1x4096x1x128, .f32⟩
  | .hbm, ⟨54, _⟩ => ⟨S8x4096x4x128, .f32⟩
  | .hbm, ⟨55, _⟩ => ⟨S8x4096x4x128, .f32⟩
  | .hbm, ⟨56, _⟩ => ⟨S8x4096x4x128, .f32⟩
  | .hbm, ⟨57, _⟩ => ⟨S8x4096x4x128, .f32⟩
  | .hbm, ⟨58, _⟩ => ⟨S8x4096x4x128, .f32⟩
  | .hbm, ⟨59, _⟩ => ⟨S8x4096x4x128, .f32⟩
  | .hbm, ⟨60, _⟩ => ⟨S8x4096x4x128, .f32⟩
  | .hbm, ⟨61, _⟩ => ⟨S8x4096x4x128, .f32⟩
  | .hbm, ⟨62, _⟩ => ⟨S8x4096x4x128, .f32⟩
  | .hbm, ⟨63, _⟩ => ⟨S8x4096x4x128, .f32⟩
  | .hbm, ⟨64, _⟩ => ⟨S8x4096x4x128, .f32⟩
  | .hbm, ⟨65, _⟩ => ⟨S8x4096x4x128, .f32⟩
  | .hbm, ⟨66, _⟩ => ⟨S8x4096x4x256, .f32⟩
  | .hbm, ⟨67, _⟩ => ⟨S8x4096x1024, .f32⟩
  | .hbm, ⟨68, _⟩ => ⟨S8x4096x4x256, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S4096, .f32⟩
  | .hbm, ⟨84, _⟩ => ⟨S4096x1, .f32⟩
  | .hbm, ⟨85, _⟩ => ⟨S1x128, .f32⟩
  | .hbm, ⟨86, _⟩ => ⟨S4096x128, .f32⟩
  | .hbm, ⟨87, _⟩ => ⟨S4096x128, .f32⟩
  | .hbm, ⟨88, _⟩ => ⟨S4096x128, .f32⟩
  | .hbm, ⟨89, _⟩ => ⟨S4096x128, .f32⟩
  | .hbm, ⟨90, _⟩ => ⟨S1x4096x1x128, .f32⟩
  | .hbm, ⟨91, _⟩ => ⟨S4096x128, .f32⟩
  | .hbm, ⟨92, _⟩ => ⟨S1x4096x1x128, .f32⟩
  | .hbm, ⟨93, _⟩ => ⟨S8x4096x4x128, .f32⟩
  | .hbm, ⟨94, _⟩ => ⟨S8x4096x4x128, .f32⟩
  | .hbm, ⟨95, _⟩ => ⟨S8x4096x4x128, .f32⟩
  | .hbm, ⟨96, _⟩ => ⟨S8x4096x4x128, .f32⟩
  | .hbm, ⟨97, _⟩ => ⟨S8x4096x4x128, .f32⟩
  | .hbm, ⟨98, _⟩ => ⟨S8x4096x4x128, .f32⟩
  | .hbm, ⟨99, _⟩ => ⟨S8x4096x4x128, .f32⟩
  | .hbm, ⟨100, _⟩ => ⟨S8x4096x4x128, .f32⟩
  | .hbm, ⟨101, _⟩ => ⟨S8x4096x4x128, .f32⟩
  | .hbm, ⟨102, _⟩ => ⟨S8x4096x4x128, .f32⟩
  | .hbm, ⟨103, _⟩ => ⟨S8x4096x4x128, .f32⟩
  | .hbm, ⟨104, _⟩ => ⟨S8x4096x4x128, .f32⟩
  | .hbm, ⟨105, _⟩ => ⟨S8x4096x4x256, .f32⟩
  | .hbm, ⟨106, _⟩ => ⟨S8x4096x1024, .f32⟩
  | .hbm, ⟨107, _⟩ => ⟨S8x4096x2048, .f32⟩
  | .hbm, ⟨108, _⟩ => ⟨S8x4096x2048, .f32⟩
  | .hbm, ⟨109, _⟩ => ⟨S_, .f32⟩
  | .hbm, ⟨110, _⟩ => ⟨S8x4096x2048, .f32⟩
  | .hbm, ⟨111, _⟩ => ⟨S8x4096x2048, .f32⟩
  | .hbm, ⟨112, _⟩ => ⟨S_, .f32⟩
  | .hbm, ⟨113, _⟩ => ⟨S8x4096x2048, .f32⟩
  | .hbm, ⟨114, _⟩ => ⟨S8x4096x2048, .f32⟩
  | .hbm, ⟨115, _⟩ => ⟨S8x4096x2048, .f32⟩
  | .hbm, ⟨116, _⟩ => ⟨S8x4096x6144, .f32⟩
  | .hbm, ⟨117, _⟩ => ⟨S32768x6144, .f32⟩
  | .hbm, ⟨118, _⟩ => ⟨S32768x6144, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_8 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_call0_v0 : Ref sig .tc := ⟨.hbm, 107, rfl⟩
abbrev main_call0_v1 : Ref sig .tc := ⟨.hbm, 108, rfl⟩
abbrev main_call0_cst : Ref sig .tc := ⟨.hbm, 109, rfl⟩
abbrev main_call0_v2 : Ref sig .tc := ⟨.hbm, 110, rfl⟩
abbrev main_call0_v3 : Ref sig .tc := ⟨.hbm, 111, rfl⟩
abbrev main_call0_cst_0 : Ref sig .tc := ⟨.hbm, 112, rfl⟩
abbrev main_call0_v4 : Ref sig .tc := ⟨.hbm, 113, rfl⟩
abbrev main_call0_v5 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩

abbrev nD : Nat := 1
abbrev τ : Topo := Topo.v7x

variable {F : FTy → Type} [FloatOps F]
-- ==== ProjSb.lean ====
abbrev S32768x1024 : Shape := ⟨2, ![32768, 1024]⟩
abbrev S2x1024 : Shape := ⟨2, ![2, 1024]⟩
abbrev S1024x3072 : Shape := ⟨2, ![1024, 3072]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S_ : Shape := ⟨0, ![]⟩
abbrev S1024 : Shape := ⟨1, ![1024]⟩
abbrev S2048 : Shape := ⟨1, ![2048]⟩
abbrev S3072 : Shape := ⟨1, ![3072]⟩
abbrev S1x1024 : Shape := ⟨2, ![1, 1024]⟩
abbrev S1x3072 : Shape := ⟨2, ![1, 3072]⟩
abbrev S32768x3072 : Shape := ⟨2, ![32768, 3072]⟩
abbrev S1024x1024 : Shape := ⟨2, ![1024, 1024]⟩
abbrev S1024x4096 : Shape := ⟨2, ![1024, 4096]⟩
abbrev S4096x1024 : Shape := ⟨2, ![4096, 1024]⟩
abbrev S1x32x1024 : Shape := ⟨3, ![1, 32, 1024]⟩
abbrev S1x32x4096 : Shape := ⟨3, ![1, 32, 4096]⟩
abbrev S1x128x1024 : Shape := ⟨3, ![1, 128, 1024]⟩
abbrev S32x1024 : Shape := ⟨2, ![32, 1024]⟩
abbrev S32x4096 : Shape := ⟨2, ![32, 4096]⟩
abbrev S128x1024 : Shape := ⟨2, ![128, 1024]⟩
abbrev S1024x1 : Shape := ⟨2, ![1024, 1]⟩
abbrev S1024x1536 : Shape := ⟨2, ![1024, 1536]⟩
abbrev S1x1536 : Shape := ⟨2, ![1, 1536]⟩

abbrev nBuf : Space → Nat
  | .hbm => 21
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1024x3072, .bf16⟩
  | .hbm, ⟨3, _⟩ => ⟨S1x1024x1024, .f32⟩
  | .hbm, ⟨4, _⟩ => ⟨S2x1024x4096, .f32⟩
  | .hbm, ⟨5, _⟩ => ⟨S2x4096x1024, .f32⟩
  | .hbm, ⟨6, _⟩ => ⟨S2x1024x1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S2048, .f32⟩
  | .hbm, ⟨11, _⟩ => ⟨S3072, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x3072, .f32⟩
  | .hbm, ⟨16, _⟩ => ⟨S32768x3072, .bf16⟩
  | .hbm, ⟨17, _⟩ => ⟨S1024x1024, .bf16⟩
  | .hbm, ⟨18, _⟩ => ⟨S1024x4096, .bf16⟩
  | .hbm, ⟨19, _⟩ => ⟨S4096x1024, .bf16⟩
  | .hbm, ⟨20, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S1x32x1024, .f32⟩
  | .local _ .vmem, ⟨6, _⟩ => ⟨S1x32x1024, .f32⟩
  | .local _ .vmem, ⟨7, _⟩ => ⟨S1x32x4096, .f32⟩
  | .local _ .vmem, ⟨8, _⟩ => ⟨S1x32x4096, .f32⟩
  | .local _ .vmem, ⟨9, _⟩ => ⟨S1x128x1024, .f32⟩
  | .local _ .vmem, ⟨10, _⟩ => ⟨S1x128x1024, .f32⟩
  | .local _ .vmem, ⟨11, _⟩ => ⟨S1x32x1024, .f32⟩
  | .local _ .vmem, ⟨12, _⟩ => ⟨S1x32x1024, .f32⟩
  | .local _ .vmem, ⟨13, _⟩ => ⟨S1024x3072, .bf16⟩
  | .local _ .vmem, ⟨14, _⟩ => ⟨S1024x3072, .bf16⟩
  | .local _ .vmem, ⟨15, _⟩ => ⟨S32x1024, .bf16⟩
  | .local _ .vmem, ⟨16, _⟩ => ⟨S32x1024, .bf16⟩
  | .local _ .vmem, ⟨17, _⟩ => ⟨S32x4096, .bf16⟩
  | .local _ .vmem, ⟨18, _⟩ => ⟨S32x4096, .bf16⟩
  | .local _ .vmem, ⟨19, _⟩ => ⟨S128x1024, .bf16⟩
  | .local _ .vmem, ⟨20, _⟩ => ⟨S128x1024, .bf16⟩
  | .local _ .vmem, ⟨21, _⟩ => ⟨S32x1024, .bf16⟩
  | .local _ .vmem, ⟨22, _⟩ => ⟨S32x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjSbRefIdeal.lean ====
abbrev S32768x1024 : Shape := ⟨2, ![32768, 1024]⟩
abbrev S2x1024 : Shape := ⟨2, ![2, 1024]⟩
abbrev S1024x3072 : Shape := ⟨2, ![1024, 3072]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1024x3072, .bf16⟩
  | .hbm, ⟨3, _⟩ => ⟨S1x1024x1024, .f32⟩
  | .hbm, ⟨4, _⟩ => ⟨S2x1024x4096, .f32⟩
  | .hbm, ⟨5, _⟩ => ⟨S2x4096x1024, .f32⟩
  | .hbm, ⟨6, _⟩ => ⟨S2x1024x1024, .f32⟩
  | .hbm, ⟨7, _⟩ => ⟨S1x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S1024x3072, .f32⟩
  | .hbm, ⟨26, _⟩ => ⟨S32768x3072, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x3072, .f32⟩
  | .hbm, ⟨34, _⟩ => ⟨S32768x3072, .bf16⟩
  | .hbm, ⟨35, _⟩ => ⟨S1024x1024, .f32⟩
  | .hbm, ⟨36, _⟩ => ⟨S1024x1024, .bf16⟩
  | .hbm, ⟨37, _⟩ => ⟨S1x1024x4096, .f32⟩
  | .hbm, ⟨38, _⟩ => ⟨S1024x4096, .f32⟩
  | .hbm, ⟨39, _⟩ => ⟨S1024x4096, .bf16⟩
  | .hbm, ⟨40, _⟩ => ⟨S1x4096x1024, .f32⟩
  | .hbm, ⟨41, _⟩ => ⟨S4096x1024, .f32⟩
  | .hbm, ⟨42, _⟩ => ⟨S4096x1024, .bf16⟩
  | .hbm, ⟨43, _⟩ => ⟨S1x1024x1024, .f32⟩
  | .hbm, ⟨44, _⟩ => ⟨S1024x1024, .f32⟩
  | .hbm, ⟨45, _⟩ => ⟨S1024x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Layer.lean ====
abbrev S32768x1024 : Shape := ⟨2, ![32768, 1024]⟩
abbrev S2x32768x256 : Shape := ⟨3, ![2, 32768, 256]⟩
abbrev S2x1024 : Shape := ⟨2, ![2, 1024]⟩
abbrev S1024x6144 : Shape := ⟨2, ![1024, 6144]⟩
abbrev S2048x1024 : Shape := ⟨2, ![2048, 1024]⟩
abbrev S1024x4096 : Shape := ⟨2, ![1024, 4096]⟩
abbrev S4096x1024 : Shape := ⟨2, ![4096, 1024]⟩
abbrev S1024x1024 : Shape := ⟨2, ![1024, 1024]⟩
abbrev S2x256x1024 : Shape := ⟨3, ![2, 256, 1024]⟩
abbrev S1024 : Shape := ⟨1, ![1024]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x1x512 : Shape := ⟨3, ![4, 1, 512]⟩
abbrev S1x1024 : Shape := ⟨2, ![1, 1024]⟩
abbrev S32768x6144 : Shape := ⟨2, ![32768, 6144]⟩
abbrev S1024x128 : Shape := ⟨2, ![1024, 128]⟩
abbrev S1024x1 : Shape := ⟨2, ![1024, 1]⟩
abbrev S8x4096x6144 : Shape := ⟨3, ![8, 4096, 6144]⟩
abbrev S8x4096x2048 : Shape := ⟨3, ![8, 4096, 2048]⟩
abbrev S1x4096x256 : Shape := ⟨3, ![1, 4096, 256]⟩
abbrev S1x4096x512 : Shape := ⟨3, ![1, 4096, 512]⟩
abbrev S1x1x512 : Shape := ⟨3, ![1, 1, 512]⟩
abbrev S256x512 : Shape := ⟨2, ![256, 512]⟩
abbrev S1x256x512 : Shape := ⟨3, ![1, 256, 512]⟩
abbrev S1x512 : Shape := ⟨2, ![1, 512]⟩
abbrev S32768x2048 : Shape := ⟨2, ![32768, 2048]⟩
abbrev S1x256x1024 : Shape := ⟨3, ![1, 256, 1024]⟩
abbrev S256x1024 : Shape := ⟨2, ![256, 1024]⟩
abbrev S512x1024 : Shape := ⟨2, ![512, 1024]⟩
abbrev S512x2048 : Shape := ⟨2, ![512, 2048]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 208
  | .vmem => 45
  | .smem => 0
  | _ => 0

abbrev hbmTy0_0 (i : Nat) : BufTy := match i % 128 with
  | 0 => ⟨S32768x1024, .f32⟩
  | 1 => ⟨S2x32768x256, .f32⟩
  | 2 => ⟨S2x1024, .f32⟩
  | 3 => ⟨S1024x6144, .bf16⟩
  | 4 => ⟨S2048x1024, .bf16⟩
  | 5 => ⟨S2x1024, .f32⟩
  | 6 => ⟨S1024x4096, .bf16⟩
  | 7 => ⟨S4096x1024, .bf16⟩
  | 8 => ⟨S2x1024, .f32⟩
  | 9 => ⟨S1024x1024, .bf16⟩
  | 10 => ⟨S2x256x1024, .f32⟩
  | 11 => ⟨S1024, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S4096, .f32⟩
  | 27 => ⟨S4096x1, .f32⟩
  | 28 => ⟨S1x128, .f32⟩
  | 29 => ⟨S4096x128, .f32⟩
  | 30 => ⟨S4096x128, .f32⟩
  | 31 => ⟨S4096x128, .f32⟩
  | 32 => ⟨S4, .f32⟩
  | 33 => ⟨S_, .f32⟩
  | 34 => ⟨S4, .f32⟩
  | 35 => ⟨S4, .f32⟩
  | 36 => ⟨S_, .f32⟩
  | 37 => ⟨S4, .f32⟩
  | 38 => ⟨S4, .f32⟩
  | 39 => ⟨S4, .f32⟩
  | 40 => ⟨S4, .f32⟩
  | 41 => ⟨S4, .f32⟩
  | 42 => ⟨S256, .f32⟩
  | 43 => ⟨S256x1, .f32⟩
  | 44 => ⟨S1x256, .f32⟩
  | 45 => ⟨S256x256, .f32⟩
  | 46 => ⟨S256x256, .f32⟩
  | 47 => ⟨S256x256, .f32⟩
  | 48 => ⟨S_, .f32⟩
  | 49 => ⟨S256x256, .f32⟩
  | 50 => ⟨S256x256, .i1⟩
  | 51 => ⟨S4x1x1, .f32⟩
  | 52 => ⟨S_, .f32⟩
  | 53 => ⟨S256x256, .f32⟩
  | 54 => ⟨S256x256, .f32⟩
  | 55 => ⟨S1x256x256, .f32⟩
  | 56 => ⟨S4x256x256, .f32⟩
  | 57 => ⟨S4x256x256, .f32⟩
  | 58 => ⟨S4x256x256, .f32⟩
  | 59 => ⟨S4x256x256, .f32⟩
  | 60 => ⟨S_, .f32⟩
  | 61 => ⟨S_, .f32⟩
  | 62 => ⟨S4x256x256, .i1⟩
  | 63 => ⟨S4x256x256, .f32⟩
  | 64 => ⟨S4x256x256, .f32⟩
  | 65 => ⟨S4x1, .f32⟩
  | 66 => ⟨S_, .f32⟩
  | 67 => ⟨S256, .f32⟩
  | 68 => ⟨S256, .f32⟩
  | 69 => ⟨S1x256, .f32⟩
  | 70 => ⟨S4x256, .f32⟩
  | 71 => ⟨S4x256, .f32⟩
  | 72 => ⟨S4x256, .f32⟩
  | 73 => ⟨S4x256, .f32⟩
  | 74 => ⟨S4x1, .f32⟩
  | 75 => ⟨S_, .f32⟩
  | 76 => ⟨S256, .f32⟩
  | 77 => ⟨S256, .f32⟩
  | 78 => ⟨S1x256, .f32⟩
  | 79 => ⟨S4x256, .f32⟩
  | 80 => ⟨S4x256, .f32⟩
  | 81 => ⟨S4x256, .f32⟩
  | 82 => ⟨S4x256, .f32⟩
  | 83 => ⟨S_, .f32⟩
  | 84 => ⟨S4, .f32⟩
  | 85 => ⟨S4, .f32⟩
  | 86 => ⟨S4, .f32⟩
  | 87 => ⟨S4096x128, .f32⟩
  | 88 => ⟨S4096x128, .f32⟩
  | 89 => ⟨S_, .f32⟩
  | 90 => ⟨S4x256x256, .f32⟩
  | 91 => ⟨S4x256x256, .f32⟩
  | 92 => ⟨S4x256x1, .f32⟩
  | 93 => ⟨S4x256x256, .f32⟩
  | 94 => ⟨S_, .f32⟩
  | 95 => ⟨S4x256, .f32⟩
  | 96 => ⟨S4x256, .f32⟩
  | 97 => ⟨S4x256x1, .f32⟩
  | 98 => ⟨S4x256x256, .f32⟩
  | 99 => ⟨S4x1x1, .f32⟩
  | 100 => ⟨S4x1x512, .f32⟩
  | 101 => ⟨S1x1024, .f32⟩
  | 102 => ⟨S1024, .f32⟩
  | 103 => ⟨S1x1024, .f32⟩
  | 104 => ⟨S32768x6144, .bf16⟩
  | 105 => ⟨S128, .f32⟩
  | 106 => ⟨S_, .f32⟩
  | 107 => ⟨S128, .f32⟩
  | 108 => ⟨S128, .f32⟩
  | 109 => ⟨S_, .f32⟩
  | 110 => ⟨S128, .f32⟩
  | 111 => ⟨S128, .f32⟩
  | 112 => ⟨S128, .f32⟩
  | 113 => ⟨S_, .f32⟩
  | 114 => ⟨S128, .f32⟩
  | 115 => ⟨S128, .f32⟩
  | 116 => ⟨S_, .f32⟩
  | 117 => ⟨S128, .f32⟩
  | 118 => ⟨S128, .f32⟩
  | 119 => ⟨S4096, .f32⟩
  | 120 => ⟨S4096x1, .f32⟩
  | 121 => ⟨S1x128, .f32⟩
  | 122 => ⟨S4096x128, .f32⟩
  | 123 => ⟨S4096x128, .f32⟩
  | 124 => ⟨S4096x128, .f32⟩
  | 125 => ⟨S4, .f32⟩
  | 126 => ⟨S_, .f32⟩
  | 127 => ⟨S4, .f32⟩
  | _ => ⟨S32768x1024, .f32⟩

abbrev hbmTy0_1 (i : Nat) : BufTy := match i % 128 with
  | 0 => ⟨S4, .f32⟩
  | 1 => ⟨S_, .f32⟩
  | 2 => ⟨S4, .f32⟩
  | 3 => ⟨S4, .f32⟩
  | 4 => ⟨S4, .f32⟩
  | 5 => ⟨S4, .f32⟩
  | 6 => ⟨S4, .f32⟩
  | 7 => ⟨S256, .f32⟩
  | 8 => ⟨S256x1, .f32⟩
  | 9 => ⟨S1x256, .f32⟩
  | 10 => ⟨S256x256, .f32⟩
  | 11 => ⟨S256x256, .f32⟩
  | 12 => ⟨S256x256, .f32⟩
  | 13 => ⟨S_, .f32⟩
  | 14 => ⟨S256x256, .f32⟩
  | 15 => ⟨S256x256, .i1⟩
  | 16 => ⟨S4x1x1, .f32⟩
  | 17 => ⟨S_, .f32⟩
  | 18 => ⟨S256x256, .f32⟩
  | 19 => ⟨S256x256, .f32⟩
  | 20 => ⟨S1x256x256, .f32⟩
  | 21 => ⟨S4x256x256, .f32⟩
  | 22 => ⟨S4x256x256, .f32⟩
  | 23 => ⟨S4x256x256, .f32⟩
  | 24 => ⟨S4x256x256, .f32⟩
  | 25 => ⟨S_, .f32⟩
  | 26 => ⟨S_, .f32⟩
  | 27 => ⟨S4x256x256, .i1⟩
  | 28 => ⟨S4x256x256, .f32⟩
  | 29 => ⟨S4x256x256, .f32⟩
  | 30 => ⟨S4x1, .f32⟩
  | 31 => ⟨S_, .f32⟩
  | 32 => ⟨S256, .f32⟩
  | 33 => ⟨S256, .f32⟩
  | 34 => ⟨S1x256, .f32⟩
  | 35 => ⟨S4x256, .f32⟩
  | 36 => ⟨S4x256, .f32⟩
  | 37 => ⟨S4x256, .f32⟩
  | 38 => ⟨S4x256, .f32⟩
  | 39 => ⟨S4x1, .f32⟩
  | 40 => ⟨S_, .f32⟩
  | 41 => ⟨S256, .f32⟩
  | 42 => ⟨S256, .f32⟩
  | 43 => ⟨S1x256, .f32⟩
  | 44 => ⟨S4x256, .f32⟩
  | 45 => ⟨S4x256, .f32⟩
  | 46 => ⟨S4x256, .f32⟩
  | 47 => ⟨S4x256, .f32⟩
  | 48 => ⟨S_, .f32⟩
  | 49 => ⟨S4, .f32⟩
  | 50 => ⟨S4, .f32⟩
  | 51 => ⟨S4, .f32⟩
  | 52 => ⟨S4096x128, .f32⟩
  | 53 => ⟨S4096x128, .f32⟩
  | 54 => ⟨S_, .f32⟩
  | 55 => ⟨S4x256x256, .f32⟩
  | 56 => ⟨S4x256x256, .f32⟩
  | 57 => ⟨S4x256x1, .f32⟩
  | 58 => ⟨S4x256x256, .f32⟩
  | 59 => ⟨S_, .f32⟩
  | 60 => ⟨S4x256, .f32⟩
  | 61 => ⟨S4x256, .f32⟩
  | 62 => ⟨S4x256x1, .f32⟩
  | 63 => ⟨S4x256x256, .f32⟩
  | 64 => ⟨S4x1x1, .f32⟩
  | 65 => ⟨S4x1x512, .f32⟩
  | 66 => ⟨S8x4096x6144, .bf16⟩
  | 67 => ⟨S8x4096x2048, .bf16⟩
  | 68 => ⟨S32768x2048, .bf16⟩
  | 69 => ⟨S1x1024, .f32⟩
  | 70 => ⟨S1024, .f32⟩
  | 71 => ⟨S1x1024, .f32⟩
  | 72 => ⟨S1024, .f32⟩
  | 73 => ⟨S1x256x1024, .f32⟩
  | 74 => ⟨S256x1024, .f32⟩
  | 75 => ⟨S256x1024, .bf16⟩
  | 76 => ⟨S1x1024, .f32⟩
  | 77 => ⟨S1x1024, .f32⟩
  | 78 => ⟨S1x1024, .f32⟩
  | 79 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x6144, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x6144, .bf16⟩
  | .local _ .vmem, ⟨9, _⟩ => ⟨S1024x6144, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S1x4096x512, .bf16⟩
  | .local _ .vmem, ⟨15, _⟩ => ⟨S1x4096x512, .bf16⟩
  | .local _ .vmem, ⟨16, _⟩ => ⟨S1x4096x512, .bf16⟩
  | .local _ .vmem, ⟨17, _⟩ => ⟨S1x4096x512, .bf16⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x1x512, .f32⟩
  | .local _ .vmem, ⟨25, _⟩ => ⟨S1x1x512, .f32⟩
  | .local _ .vmem, ⟨26, _⟩ => ⟨S1x4096x512, .bf16⟩
  | .local _ .vmem, ⟨27, _⟩ => ⟨S1x4096x512, .bf16⟩
  | .local _ .vmem, ⟨28, _⟩ => ⟨S256x512, .f32⟩
  | .local _ .vmem, ⟨29, _⟩ => ⟨S512x1024, .f32⟩
  | .local _ .vmem, ⟨30, _⟩ => ⟨S512x1024, .f32⟩
  | .local _ .vmem, ⟨31, _⟩ => ⟨S512x2048, .bf16⟩
  | .local _ .vmem, ⟨32, _⟩ => ⟨S512x2048, .bf16⟩
  | .local _ .vmem, ⟨33, _⟩ => ⟨S1x512x256, .f32⟩
  | .local _ .vmem, ⟨34, _⟩ => ⟨S1x512x256, .f32⟩
  | .local _ .vmem, ⟨35, _⟩ => ⟨S2048x1024, .bf16⟩
  | .local _ .vmem, ⟨36, _⟩ => ⟨S1x1024, .f32⟩
  | .local _ .vmem, ⟨37, _⟩ => ⟨S1024x4096, .bf16⟩
  | .local _ .vmem, ⟨38, _⟩ => ⟨S4096x1024, .bf16⟩
  | .local _ .vmem, ⟨39, _⟩ => ⟨S1x1024, .f32⟩
  | .local _ .vmem, ⟨40, _⟩ => ⟨S1024x1024, .bf16⟩
  | .local _ .vmem, ⟨41, _⟩ => ⟨S256x1024, .bf16⟩
  | .local _ .vmem, ⟨42, _⟩ => ⟨S1x1024, .f32⟩
  | .local _ .vmem, ⟨43, _⟩ => ⟨S512x1024, .f32⟩
  | .local _ .vmem, ⟨44, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_cst_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_19 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_21 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_v116 : Ref sig .tc := ⟨.hbm, 157, rfl⟩
abbrev main_v117 : Ref sig .tc := ⟨.hbm, 158, rfl⟩
abbrev main_cst_22 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_23 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_24 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_25 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_26 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg11_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem11_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 4, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1x1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true, false]

abbrev stage1_8 : Fin 2 → Memref sig .tc .vmem S1x4096x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2048x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x4096 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4096x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S512x1024 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]
-- ==== LayerRefIdeal.lean ====
abbrev S32768x1024 : Shape := ⟨2, ![32768, 1024]⟩
abbrev S2x32768x256 : Shape := ⟨3, ![2, 32768, 256]⟩
abbrev S2x1024 : Shape := ⟨2, ![2, 1024]⟩
abbrev S1024x6144 : Shape := ⟨2, ![1024, 6144]⟩
abbrev S2048x1024 : Shape := ⟨2, ![2048, 1024]⟩
abbrev S1024x4096 : Shape := ⟨2, ![1024, 4096]⟩
abbrev S4096x1024 : Shape := ⟨2, ![4096, 1024]⟩
abbrev S1024x1024 : Shape := ⟨2, ![1024, 1024]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S32768x6144 : Shape := ⟨2, ![32768, 6144]⟩
abbrev S8x4096x6144 : Shape := ⟨3, ![8, 4096, 6144]⟩
abbrev S8x4096x1024 : Shape := ⟨3, ![8, 4096, 1024]⟩
abbrev S8x4096x2048 : Shape := ⟨3, ![8, 4096, 2048]⟩
abbrev S4096 : Shape := ⟨1, ![4096]⟩
abbrev S8x4096x4x256 : Shape := ⟨4, ![8, 4096, 4, 256]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S8x4096x4x128 : Shape := ⟨4, ![8, 4096, 4, 128]⟩
abbrev S8x4096x4x512 : Shape := ⟨4, ![8, 4096, 4, 512]⟩
abbrev S8x32x128x4x256 : Shape := ⟨5, ![8, 32, 128, 4, 256]⟩
abbrev S32x8x4x128x256 : Shape := ⟨5, ![32, 8, 4, 128, 256]⟩
abbrev S8x32x128x4x512 : Shape := ⟨5, ![8, 32, 128, 4, 512]⟩
abbrev S32x8x4x128x512 : Shape := ⟨5, ![32, 8, 4, 128, 512]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S8x4x256x512 : Shape := ⟨4, ![8, 4, 256, 512]⟩
abbrev S1x8x4x128x256 : Shape := ⟨5, ![1, 8, 4, 128, 256]⟩
abbrev S8x4x128x256 : Shape := ⟨4, ![8, 4, 128, 256]⟩
abbrev S1x8x4x128x512 : Shape := ⟨5, ![1, 8, 4, 128, 512]⟩
abbrev S8x4x128x512 : Shape := ⟨4, ![8, 4, 128, 512]⟩
abbrev S8x4x128x128 : Shape := ⟨4, ![8, 4, 128, 128]⟩
abbrev S1x4x128x128 : Shape := ⟨4, ![1, 4, 128, 128]⟩
abbrev S8x4096x4 : Shape := ⟨3, ![8, 4096, 4]⟩
abbrev S8x4096x4x1 : Shape := ⟨4, ![8, 4096, 4, 1]⟩
abbrev S32768x2048 : Shape := ⟨2, ![32768, 2048]⟩
abbrev S32768x4096 : Shape := ⟨2, ![32768, 4096]⟩
abbrev S1x32768x256 : Shape := ⟨3, ![1, 32768, 256]⟩
abbrev S32768x256 : Shape := ⟨2, ![32768, 256]⟩
abbrev S1x256x1024 : Shape := ⟨3, ![1, 256, 1024]⟩
abbrev S256x1024 : Shape := ⟨2, ![256, 1024]⟩

abbrev nBuf : Space → Nat
  | .hbm => 393
  | .vmem => 0
  | .smem => 0
  | _ => 0

abbrev hbmTy0_0 (i : Nat) : BufTy := match i % 128 with
  | 0 => ⟨S32768x1024, .f32⟩
  | 1 => ⟨S2x32768x256, .f32⟩
  | 2 => ⟨S2x1024, .f32⟩
  | 3 => ⟨S1024x6144, .bf16⟩
  | 4 => ⟨S2048x1024, .bf16⟩
  | 5 => ⟨S2x1024, .f32⟩
  | 6 => ⟨S1024x4096, .bf16⟩
  | 7 => ⟨S4096x1024, .bf16⟩
  | 8 => ⟨S2x1024, .f32⟩
  | 9 => ⟨S1024x1024, .bf16⟩
  | 10 => ⟨S2x256x1024, .f32⟩
  | 11 => ⟨S1024, .f32⟩
  | 12 => ⟨S1x1024, .f32⟩
  | 13 => ⟨S1024, .f32⟩
  | 14 => ⟨S32768x1024, .f32⟩
  | 15 => ⟨S_, .f32⟩
  | 16 => ⟨S32768, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x1024, .f32⟩
  | 26 => ⟨S32768x1024, .f32⟩
  | 27 => ⟨S1x1024, .f32⟩
  | 28 => ⟨S32768x1024, .f32⟩
  | 29 => ⟨S32768x1024, .f32⟩
  | 30 => ⟨S1024x6144, .f32⟩
  | 31 => ⟨S32768x6144, .f32⟩
  | 32 => ⟨S8x4096x6144, .f32⟩
  | 33 => ⟨S8x4096x1024, .f32⟩
  | 34 => ⟨S8x4096x1024, .f32⟩
  | 35 => ⟨S8x4096x2048, .f32⟩
  | 36 => ⟨S8x4096x2048, .f32⟩
  | 37 => ⟨S4096, .i32⟩
  | 38 => ⟨S8x4096x4x256, .f32⟩
  | 39 => ⟨S128, .f32⟩
  | 40 => ⟨S_, .f32⟩
  | 41 => ⟨S128, .f32⟩
  | 42 => ⟨S128, .f32⟩
  | 43 => ⟨S_, .f32⟩
  | 44 => ⟨S128, .f32⟩
  | 45 => ⟨S128, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S4096, .f32⟩
  | 54 => ⟨S4096x1, .f32⟩
  | 55 => ⟨S1x128, .f32⟩
  | 56 => ⟨S4096x128, .f32⟩
  | 57 => ⟨S4096x128, .f32⟩
  | 58 => ⟨S4096x128, .f32⟩
  | 59 => ⟨S4096x128, .f32⟩
  | 60 => ⟨S1x4096x1x128, .f32⟩
  | 61 => ⟨S4096x128, .f32⟩
  | 62 => ⟨S1x4096x1x128, .f32⟩
  | 63 => ⟨S8x4096x4x128, .f32⟩
  | 64 => ⟨S8x4096x4x128, .f32⟩
  | 65 => ⟨S8x4096x4x128, .f32⟩
  | 66 => ⟨S8x4096x4x128, .f32⟩
  | 67 => ⟨S8x4096x4x128, .f32⟩
  | 68 => ⟨S8x4096x4x128, .f32⟩
  | 69 => ⟨S8x4096x4x128, .f32⟩
  | 70 => ⟨S8x4096x4x128, .f32⟩
  | 71 => ⟨S8x4096x4x128, .f32⟩
  | 72 => ⟨S8x4096x4x128, .f32⟩
  | 73 => ⟨S8x4096x4x128, .f32⟩
  | 74 => ⟨S8x4096x4x128, .f32⟩
  | 75 => ⟨S8x4096x4x256, .f32⟩
  | 76 => ⟨S8x4096x1024, .f32⟩
  | 77 => ⟨S8x4096x4x256, .f32⟩
  | 78 => ⟨S128, .f32⟩
  | 79 => ⟨S_, .f32⟩
  | 80 => ⟨S128, .f32⟩
  | 81 => ⟨S128, .f32⟩
  | 82 => ⟨S_, .f32⟩
  | 83 => ⟨S128, .f32⟩
  | 84 => ⟨S128, .f32⟩
  | 85 => ⟨S128, .f32⟩
  | 86 => ⟨S_, .f32⟩
  | 87 => ⟨S128, .f32⟩
  | 88 => ⟨S128, .f32⟩
  | 89 => ⟨S_, .f32⟩
  | 90 => ⟨S128, .f32⟩
  | 91 => ⟨S128, .f32⟩
  | 92 => ⟨S4096, .f32⟩
  | 93 => ⟨S4096x1, .f32⟩
  | 94 => ⟨S1x128, .f32⟩
  | 95 => ⟨S4096x128, .f32⟩
  | 96 => ⟨S4096x128, .f32⟩
  | 97 => ⟨S4096x128, .f32⟩
  | 98 => ⟨S4096x128, .f32⟩
  | 99 => ⟨S1x4096x1x128, .f32⟩
  | 100 => ⟨S4096x128, .f32⟩
  | 101 => ⟨S1x4096x1x128, .f32⟩
  | 102 => ⟨S8x4096x4x128, .f32⟩
  | 103 => ⟨S8x4096x4x128, .f32⟩
  | 104 => ⟨S8x4096x4x128, .f32⟩
  | 105 => ⟨S8x4096x4x128, .f32⟩
  | 106 => ⟨S8x4096x4x128, .f32⟩
  | 107 => ⟨S8x4096x4x128, .f32⟩
  | 108 => ⟨S8x4096x4x128, .f32⟩
  | 109 => ⟨S8x4096x4x128, .f32⟩
  | 110 => ⟨S8x4096x4x128, .f32⟩
  | 111 => ⟨S8x4096x4x128, .f32⟩
  | 112 => ⟨S8x4096x4x128, .f32⟩
  | 113 => ⟨S8x4096x4x128, .f32⟩
  | 114 => ⟨S8x4096x4x256, .f32⟩
  | 115 => ⟨S8x4096x1024, .f32⟩
  | 116 => ⟨S8x4096x2048, .f32⟩
  | 117 => ⟨S8x4096x2048, .f32⟩
  | 118 => ⟨S_, .f32⟩
  | 119 => ⟨S8x4096x2048, .f32⟩
  | 120 => ⟨S8x4096x2048, .f32⟩
  | 121 => ⟨S_, .f32⟩
  | 122 => ⟨S8x4096x2048, .f32⟩
  | 123 => ⟨S8x4096x2048, .f32⟩
  | 124 => ⟨S8x4096x2048, .f32⟩
  | 125 => ⟨S8x4096x6144, .f32⟩
  | 126 => ⟨S32768x6144, .f32⟩
  | 127 => ⟨S8x4096x6144, .f32⟩
  | _ => ⟨S32768x1024, .f32⟩

abbrev hbmTy0_1 (i : Nat) : BufTy := match i % 128 with
  | 0 => ⟨S8x4096x1024, .f32⟩
  | 1 => ⟨S8x4096x1024, .f32⟩
  | 2 => ⟨S8x4096x2048, .f32⟩
  | 3 => ⟨S8x4096x2048, .f32⟩
  | 4 => ⟨S8x4096x4x256, .f32⟩
  | 5 => ⟨S8x4096x4x256, .f32⟩
  | 6 => ⟨S_, .f32⟩
  | 7 => ⟨S8x4096x4x256, .f32⟩
  | 8 => ⟨S8x4096x4x256, .f32⟩
  | 9 => ⟨S8x4096x4x512, .f32⟩
  | 10 => ⟨S8x32x128x4x256, .f32⟩
  | 11 => ⟨S32x8x4x128x256, .f32⟩
  | 12 => ⟨S8x32x128x4x256, .f32⟩
  | 13 => ⟨S32x8x4x128x256, .f32⟩
  | 14 => ⟨S8x32x128x4x512, .f32⟩
  | 15 => ⟨S32x8x4x128x512, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S4, .f32⟩
  | 24 => ⟨S4, .f32⟩
  | 25 => ⟨S4, .f32⟩
  | 26 => ⟨S128, .f32⟩
  | 27 => ⟨S128x1, .f32⟩
  | 28 => ⟨S1x128, .f32⟩
  | 29 => ⟨S128x128, .f32⟩
  | 30 => ⟨S128x128, .f32⟩
  | 31 => ⟨S128x128, .f32⟩
  | 32 => ⟨S_, .f32⟩
  | 33 => ⟨S128x128, .f32⟩
  | 34 => ⟨S128x128, .i1⟩
  | 35 => ⟨S4x1x1, .f32⟩
  | 36 => ⟨S_, .f32⟩
  | 37 => ⟨S128x128, .f32⟩
  | 38 => ⟨S128x128, .f32⟩
  | 39 => ⟨S1x128x128, .f32⟩
  | 40 => ⟨S4x128x128, .f32⟩
  | 41 => ⟨S4x128x128, .f32⟩
  | 42 => ⟨S4x128x128, .f32⟩
  | 43 => ⟨S4x128x128, .f32⟩
  | 44 => ⟨S_, .f32⟩
  | 45 => ⟨S_, .f32⟩
  | 46 => ⟨S4x128x128, .i1⟩
  | 47 => ⟨S4x128x128, .f32⟩
  | 48 => ⟨S4x128x128, .f32⟩
  | 49 => ⟨S4x1, .f32⟩
  | 50 => ⟨S_, .f32⟩
  | 51 => ⟨S128, .f32⟩
  | 52 => ⟨S128, .f32⟩
  | 53 => ⟨S1x128, .f32⟩
  | 54 => ⟨S4x128, .f32⟩
  | 55 => ⟨S4x128, .f32⟩
  | 56 => ⟨S4x128, .f32⟩
  | 57 => ⟨S4x128, .f32⟩
  | 58 => ⟨S1x4x128x1, .f32⟩
  | 59 => ⟨S4x1, .f32⟩
  | 60 => ⟨S_, .f32⟩
  | 61 => ⟨S128, .f32⟩
  | 62 => ⟨S128, .f32⟩
  | 63 => ⟨S1x128, .f32⟩
  | 64 => ⟨S4x128, .f32⟩
  | 65 => ⟨S4x128, .f32⟩
  | 66 => ⟨S4x128, .f32⟩
  | 67 => ⟨S4x128, .f32⟩
  | 68 => ⟨S1x4x128x1, .f32⟩
  | 69 => ⟨S_, .f32⟩
  | 70 => ⟨S4, .f32⟩
  | 71 => ⟨S4, .f32⟩
  | 72 => ⟨S4, .f32⟩
  | 73 => ⟨S1x4x1x1, .f32⟩
  | 74 => ⟨S_, .f32⟩
  | 75 => ⟨S8x4x256x512, .f32⟩
  | 76 => ⟨S_, .f32⟩
  | 77 => ⟨S32x8x4x128x512, .f32⟩
  | 78 => ⟨S_, .i32⟩
  | 79 => ⟨S32x8x4x128x256, .f32⟩
  | 80 => ⟨S32x8x4x128x256, .f32⟩
  | 81 => ⟨S32x8x4x128x512, .f32⟩
  | 82 => ⟨S4x128x128, .f32⟩
  | 83 => ⟨S1x4x128x1, .f32⟩
  | 84 => ⟨S1x4x1x1, .f32⟩
  | 85 => ⟨S1x4x128x1, .f32⟩
  | 86 => ⟨S_, .i32⟩
  | 87 => ⟨S8x4x256x512, .f32⟩
  | 88 => ⟨S32x8x4x128x512, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x8x4x128x256, .f32⟩
  | 96 => ⟨S8x4x128x256, .f32⟩
  | 97 => ⟨S_, .i32⟩
  | 98 => ⟨S_, .i32⟩
  | 99 => ⟨S_, .i32⟩
  | 100 => ⟨S_, .i32⟩
  | 101 => ⟨S1x8x4x128x256, .f32⟩
  | 102 => ⟨S8x4x128x256, .f32⟩
  | 103 => ⟨S_, .i32⟩
  | 104 => ⟨S_, .i32⟩
  | 105 => ⟨S_, .i32⟩
  | 106 => ⟨S_, .i32⟩
  | 107 => ⟨S1x8x4x128x512, .f32⟩
  | 108 => ⟨S8x4x128x512, .f32⟩
  | 109 => ⟨S8x4x128x128, .f32⟩
  | 110 => ⟨S1x4x128x128, .f32⟩
  | 111 => ⟨S8x4x128x128, .f32⟩
  | 112 => ⟨S8x4x128x128, .f32⟩
  | 113 => ⟨S8x4x128x512, .f32⟩
  | 114 => ⟨S8x4x128x512, .f32⟩
  | 115 => ⟨S8x4x128x512, .f32⟩
  | 116 => ⟨S8x4x128x512, .f32⟩
  | 117 => ⟨S8x4x256x512, .f32⟩
  | 118 => ⟨S8x4x256x512, .f32⟩
  | 119 => ⟨S8x4x128x256, .f32⟩
  | 120 => ⟨S8x4x128x256, .f32⟩
  | 121 => ⟨S8x4x256x512, .f32⟩
  | 122 => ⟨S8x4x256x512, .f32⟩
  | 123 => ⟨S8x4x128x512, .f32⟩
  | 124 => ⟨S1x8x4x128x512, .f32⟩
  | 125 => ⟨S_, .i32⟩
  | 126 => ⟨S_, .i32⟩
  | 127 => ⟨S_, .i32⟩
  | _ => ⟨S32768x1024, .f32⟩

abbrev hbmTy0_2 (i : Nat) : BufTy := match i % 128 with
  | 0 => ⟨S_, .i32⟩
  | 1 => ⟨S32x8x4x128x512, .f32⟩
  | 2 => ⟨S_, .i32⟩
  | 3 => ⟨S_, .i32⟩
  | 4 => ⟨S8x32x128x4x512, .f32⟩
  | 5 => ⟨S8x4096x4x512, .f32⟩
  | 6 => ⟨S8x4096x4x512, .f32⟩
  | 7 => ⟨S_, .f32⟩
  | 8 => ⟨S8x4096x4, .f32⟩
  | 9 => ⟨S8x4096x4x1, .f32⟩
  | 10 => ⟨S_, .f32⟩
  | 11 => ⟨S8x4096x4x1, .f32⟩
  | 12 => ⟨S8x4096x4x1, .f32⟩
  | 13 => ⟨S_, .f32⟩
  | 14 => ⟨S8x4096x4x1, .f32⟩
  | 15 => ⟨S8x4096x4x1, .f32⟩
  | 16 => ⟨S8x4096x4x1, .f32⟩
  | 17 => ⟨S8x4096x4x512, .f32⟩
  | 18 => ⟨S8x4096x4x512, .f32⟩
  | 19 => ⟨S8x4096x2048, .f32⟩
  | 20 => ⟨S1x1024, .f32⟩
  | 21 => ⟨S1024, .f32⟩
  | 22 => ⟨S32768x1024, .f32⟩
  | 23 => ⟨S_, .f32⟩
  | 24 => ⟨S32768, .f32⟩
  | 25 => ⟨S32768x1, .f32⟩
  | 26 => ⟨S_, .f32⟩
  | 27 => ⟨S32768x1, .f32⟩
  | 28 => ⟨S32768x1, .f32⟩
  | 29 => ⟨S_, .f32⟩
  | 30 => ⟨S32768x1, .f32⟩
  | 31 => ⟨S32768x1, .f32⟩
  | 32 => ⟨S32768x1, .f32⟩
  | 33 => ⟨S32768x1024, .f32⟩
  | 34 => ⟨S32768x1024, .f32⟩
  | 35 => ⟨S1x1024, .f32⟩
  | 36 => ⟨S32768x1024, .f32⟩
  | 37 => ⟨S32768x1024, .f32⟩
  | 38 => ⟨S1024x6144, .f32⟩
  | 39 => ⟨S32768x6144, .f32⟩
  | 40 => ⟨S8x4096x6144, .f32⟩
  | 41 => ⟨S8x4096x1024, .f32⟩
  | 42 => ⟨S8x4096x1024, .f32⟩
  | 43 => ⟨S8x4096x2048, .f32⟩
  | 44 => ⟨S8x4096x2048, .f32⟩
  | 45 => ⟨S8x4096x2048, .f32⟩
  | 46 => ⟨S8x4096x2048, .f32⟩
  | 47 => ⟨S_, .f32⟩
  | 48 => ⟨S8x4096x2048, .f32⟩
  | 49 => ⟨S8x4096x2048, .f32⟩
  | 50 => ⟨S_, .f32⟩
  | 51 => ⟨S8x4096x2048, .f32⟩
  | 52 => ⟨S8x4096x2048, .f32⟩
  | 53 => ⟨S8x4096x2048, .f32⟩
  | 54 => ⟨S8x4096x2048, .f32⟩
  | 55 => ⟨S32768x2048, .f32⟩
  | 56 => ⟨S2048x1024, .f32⟩
  | 57 => ⟨S32768x1024, .f32⟩
  | 58 => ⟨S32768x1024, .f32⟩
  | 59 => ⟨S1x1024, .f32⟩
  | 60 => ⟨S1024, .f32⟩
  | 61 => ⟨S32768x1024, .f32⟩
  | 62 => ⟨S_, .f32⟩
  | 63 => ⟨S32768, .f32⟩
  | 64 => ⟨S32768x1, .f32⟩
  | 65 => ⟨S_, .f32⟩
  | 66 => ⟨S32768x1, .f32⟩
  | 67 => ⟨S32768x1, .f32⟩
  | 68 => ⟨S_, .f32⟩
  | 69 => ⟨S32768x1, .f32⟩
  | 70 => ⟨S32768x1, .f32⟩
  | 71 => ⟨S32768x1, .f32⟩
  | 72 => ⟨S32768x1024, .f32⟩
  | 73 => ⟨S32768x1024, .f32⟩
  | 74 => ⟨S1x1024, .f32⟩
  | 75 => ⟨S32768x1024, .f32⟩
  | 76 => ⟨S32768x1024, .f32⟩
  | 77 => ⟨S1024x4096, .f32⟩
  | 78 => ⟨S32768x4096, .f32⟩
  | 79 => ⟨S_, .f32⟩
  | 80 => ⟨S32768x4096, .f32⟩
  | 81 => ⟨S32768x4096, .f32⟩
  | 82 => ⟨S32768x4096, .f32⟩
  | 83 => ⟨S4096x1024, .f32⟩
  | 84 => ⟨S32768x1024, .f32⟩
  | 85 => ⟨S32768x1024, .f32⟩
  | 86 => ⟨S1x1024, .f32⟩
  | 87 => ⟨S1024, .f32⟩
  | 88 => ⟨S32768x1024, .f32⟩
  | 89 => ⟨S_, .f32⟩
  | 90 => ⟨S32768, .f32⟩
  | 91 => ⟨S32768x1, .f32⟩
  | 92 => ⟨S_, .f32⟩
  | 93 => ⟨S32768x1, .f32⟩
  | 94 => ⟨S32768x1, .f32⟩
  | 95 => ⟨S_, .f32⟩
  | 96 => ⟨S32768x1, .f32⟩
  | 97 => ⟨S32768x1, .f32⟩
  | 98 => ⟨S32768x1, .f32⟩
  | 99 => ⟨S32768x1024, .f32⟩
  | 100 => ⟨S32768x1024, .f32⟩
  | 101 => ⟨S1x1024, .f32⟩
  | 102 => ⟨S32768x1024, .f32⟩
  | 103 => ⟨S32768x1024, .f32⟩
  | 104 => ⟨S1024x1024, .f32⟩
  | 105 => ⟨S32768x1024, .f32⟩
  | 106 => ⟨S32768x1024, .f32⟩
  | 107 => ⟨S32768x1024, .f32⟩
  | 108 => ⟨S_, .f32⟩
  | 109 => ⟨S32768x1024, .f32⟩
  | 110 => ⟨S32768x1024, .f32⟩
  | 111 => ⟨S_, .f32⟩
  | 112 => ⟨S32768x1024, .f32⟩
  | 113 => ⟨S32768x1024, .f32⟩
  | 114 => ⟨S1x32768x256, .f32⟩
  | 115 => ⟨S32768x256, .f32⟩
  | 116 => ⟨S1x256x1024, .f32⟩
  | 117 => ⟨S256x1024, .f32⟩
  | 118 => ⟨S32768x1024, .f32⟩
  | 119 => ⟨S32768x1024, .f32⟩
  | 120 => ⟨S32768x1024, .f32⟩
  | 121 => ⟨S32768x1024, .f32⟩
  | 122 => ⟨S_, .f32⟩
  | 123 => ⟨S32768, .f32⟩
  | 124 => ⟨S32768x1, .f32⟩
  | 125 => ⟨S_, .f32⟩
  | 126 => ⟨S32768x1, .f32⟩
  | 127 => ⟨S32768x1, .f32⟩
  | _ => ⟨S32768x1024, .f32⟩

abbrev hbmTy0_3 (i : Nat) : BufTy := match i % 128 with
  | 0 => ⟨S_, .f32⟩
  | 1 => ⟨S32768x1, .f32⟩
  | 2 => ⟨S32768x1, .f32⟩
  | 3 => ⟨S32768x1, .f32⟩
  | 4 => ⟨S32768x1024, .f32⟩
  | 5 => ⟨S32768x1024, .f32⟩
  | 6 => ⟨S1x1024, .f32⟩
  | 7 => ⟨S32768x1024, .f32⟩
  | 8 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | 3 => hbmTy0_3 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_call0_v0 : Ref sig .tc := ⟨.hbm, 116, rfl⟩
abbrev main_call0_v1 : Ref sig .tc := ⟨.hbm, 117, rfl⟩
abbrev main_call0_cst : Ref sig .tc := ⟨.hbm, 118, rfl⟩
abbrev main_call0_v2 : Ref sig .tc := ⟨.hbm, 119, rfl⟩
abbrev main_call0_v3 : Ref sig .tc := ⟨.hbm, 120, rfl⟩
abbrev main_call0_cst_0 : Ref sig .tc := ⟨.hbm, 121, rfl⟩
abbrev main_call0_v4 : Ref sig .tc := ⟨.hbm, 122, rfl⟩
abbrev main_call0_v5 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_10 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_11 : Ref sig .tc := ⟨.hbm, 145, rfl⟩
abbrev main_v113 : Ref sig .tc := ⟨.hbm, 146, rfl⟩
abbrev main_v114 : Ref sig .tc := ⟨.hbm, 147, rfl⟩
abbrev main_cst_12 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_13 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_14 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_15 : Ref sig .tc := ⟨.hbm, 172, rfl⟩
abbrev main_call1_v0 : Ref sig .tc := ⟨.hbm, 173, rfl⟩
abbrev main_call1_v1 : Ref sig .tc := ⟨.hbm, 174, rfl⟩
abbrev main_call1_v2 : Ref sig .tc := ⟨.hbm, 175, rfl⟩
abbrev main_v136 : Ref sig .tc := ⟨.hbm, 176, rfl⟩
abbrev main_v137 : Ref sig .tc := ⟨.hbm, 177, rfl⟩
abbrev main_cst_16 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_17 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_18 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_19 : Ref sig .tc := ⟨.hbm, 202, rfl⟩
abbrev main_v159 : Ref sig .tc := ⟨.hbm, 203, rfl⟩
abbrev main_cst_20 : Ref sig .tc := ⟨.hbm, 204, rfl⟩
abbrev main_v160 : Ref sig .tc := ⟨.hbm, 205, rfl⟩
abbrev main_c : Ref sig .tc := ⟨.hbm, 206, rfl⟩
abbrev main_v161_0 : Ref sig .tc := ⟨.hbm, 207, rfl⟩
abbrev main_v161_1 : Ref sig .tc := ⟨.hbm, 208, rfl⟩
abbrev main_v161_2 : Ref sig .tc := ⟨.hbm, 209, rfl⟩
abbrev main_v161_3 : Ref sig .tc := ⟨.hbm, 210, rfl⟩
abbrev main_v161_4 : Ref sig .tc := ⟨.hbm, 211, rfl⟩
abbrev main_v161_5 : Ref sig .tc := ⟨.hbm, 212, rfl⟩
abbrev main_v161_6 : Ref sig .tc := ⟨.hbm, 213, rfl⟩
abbrev main_v161_7 : Ref sig .tc := ⟨.hbm, 214, rfl⟩
abbrev main_v161_8 : Ref sig .tc := ⟨.hbm, 215, rfl⟩
abbrev main_v161_9 : Ref sig .tc := ⟨.hbm, 216, rfl⟩
abbrev main_while0c_c_47 : Ref sig .tc := ⟨.hbm, 217, rfl⟩
abbrev main_while0c_v268 : Ref sig .tc := ⟨.hbm, 218, rfl⟩
abbrev main_while0b_call2_c : Ref sig .tc := ⟨.hbm, 219, rfl⟩
abbrev main_while0b_call2_c_0 : Ref sig .tc := ⟨.hbm, 220, rfl⟩
abbrev main_while0b_call2_c_1 : Ref sig .tc := ⟨.hbm, 221, rfl⟩
abbrev main_while0b_call2_c_2 : Ref sig .tc := ⟨.hbm, 222, rfl⟩
abbrev main_while0b_call2_v0 : Ref sig .tc := ⟨.hbm, 223, rfl⟩
abbrev main_while0b_v268 : Ref sig .tc := ⟨.hbm, 224, rfl⟩
abbrev main_while0b_call3_c : Ref sig .tc := ⟨.hbm, 225, rfl⟩
abbrev main_while0b_call3_c_0 : Ref sig .tc := ⟨.hbm, 226, rfl⟩
abbrev main_while0b_call3_c_1 : Ref sig .tc := ⟨.hbm, 227, rfl⟩
abbrev main_while0b_call3_c_2 : Ref sig .tc := ⟨.hbm, 228, rfl⟩
abbrev main_while0b_call3_v0 : Ref sig .tc := ⟨.hbm, 229, rfl⟩
abbrev main_while0b_v269 : Ref sig .tc := ⟨.hbm, 230, rfl⟩
abbrev main_while0b_call4_c : Ref sig .tc := ⟨.hbm, 231, rfl⟩
abbrev main_while0b_call4_c_0 : Ref sig .tc := ⟨.hbm, 232, rfl⟩
abbrev main_while0b_call4_c_1 : Ref sig .tc := ⟨.hbm, 233, rfl⟩
abbrev main_while0b_call4_c_2 : Ref sig .tc := ⟨.hbm, 234, rfl⟩
abbrev main_while0b_call4_v0 : Ref sig .tc := ⟨.hbm, 235, rfl⟩
abbrev main_while0b_v270 : Ref sig .tc := ⟨.hbm, 236, rfl⟩
abbrev main_while0b_v271 : Ref sig .tc := ⟨.hbm, 237, rfl⟩
abbrev main_while0b_v272 : Ref sig .tc := ⟨.hbm, 238, rfl⟩
abbrev main_while0b_v273 : Ref sig .tc := ⟨.hbm, 239, rfl⟩
abbrev main_while0b_v274 : Ref sig .tc := ⟨.hbm, 240, rfl⟩
abbrev main_while0b_v275 : Ref sig .tc := ⟨.hbm, 241, rfl⟩
abbrev main_while0b_v276 : Ref sig .tc := ⟨.hbm, 242, rfl⟩
abbrev main_while0b_v277 : Ref sig .tc := ⟨.hbm, 243, rfl⟩
abbrev main_while0b_v278 : Ref sig .tc := ⟨.hbm, 244, rfl⟩
abbrev main_while0b_v279 : Ref sig .tc := ⟨.hbm, 245, rfl⟩
abbrev main_while0b_v280 : Ref sig .tc := ⟨.hbm, 246, rfl⟩
abbrev main_while0b_v281 : Ref sig .tc := ⟨.hbm, 247, rfl⟩
abbrev main_while0b_v282 : Ref sig .tc := ⟨.hbm, 248, rfl⟩
abbrev main_while0b_v283 : Ref sig .tc := ⟨.hbm, 249, rfl⟩
abbrev main_while0b_v284 : Ref sig .tc := ⟨.hbm, 250, rfl⟩
abbrev main_while0b_v285 : Ref sig .tc := ⟨.hbm, 251, rfl⟩
abbrev main_while0b_call5_v0 : Ref sig .tc := ⟨.hbm, 252, rfl⟩
abbrev main_while0b_call5_c : Ref sig .tc := ⟨.hbm, 253, rfl⟩
abbrev main_while0b_call5_c_0 : Ref sig .tc := ⟨.hbm, 254, rfl⟩
abbrev main_while0b_call5_c_1 : Ref sig .tc := ⟨.hbm, 255, rfl⟩
abbrev main_while0b_call5_c_2 : Ref sig .tc := ⟨.hbm, 256, rfl⟩
abbrev main_while0b_v286 : Ref sig .tc := ⟨.hbm, 257, rfl⟩
abbrev main_while0b_c_47 : Ref sig .tc := ⟨.hbm, 258, rfl⟩
abbrev main_while0b_v287 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_cst_21 : Ref sig .tc := ⟨.hbm, 263, rfl⟩
abbrev main_v165 : Ref sig .tc := ⟨.hbm, 264, rfl⟩
abbrev main_v166 : Ref sig .tc := ⟨.hbm, 265, rfl⟩
abbrev main_cst_22 : Ref sig .tc := ⟨.hbm, 266, rfl⟩
abbrev main_v167 : Ref sig .tc := ⟨.hbm, 267, rfl⟩
abbrev main_v168 : Ref sig .tc := ⟨.hbm, 268, rfl⟩
abbrev main_cst_23 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_cst_24 : Ref sig .tc := ⟨.hbm, 279, rfl⟩
abbrev main_v178 : Ref sig .tc := ⟨.hbm, 280, rfl⟩
abbrev main_v179 : Ref sig .tc := ⟨.hbm, 281, rfl⟩
abbrev main_cst_25 : Ref sig .tc := ⟨.hbm, 282, rfl⟩
abbrev main_v180 : Ref sig .tc := ⟨.hbm, 283, rfl⟩
abbrev main_v181 : Ref sig .tc := ⟨.hbm, 284, rfl⟩
abbrev main_cst_26 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_call6_v0 : Ref sig .tc := ⟨.hbm, 301, rfl⟩
abbrev main_call6_v1 : Ref sig .tc := ⟨.hbm, 302, rfl⟩
abbrev main_call6_cst : Ref sig .tc := ⟨.hbm, 303, rfl⟩
abbrev main_call6_v2 : Ref sig .tc := ⟨.hbm, 304, rfl⟩
abbrev main_call6_v3 : Ref sig .tc := ⟨.hbm, 305, rfl⟩
abbrev main_call6_cst_0 : Ref sig .tc := ⟨.hbm, 306, rfl⟩
abbrev main_call6_v4 : Ref sig .tc := ⟨.hbm, 307, rfl⟩
abbrev main_call6_v5 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_cst_27 : Ref sig .tc := ⟨.hbm, 318, rfl⟩
abbrev main_v206 : Ref sig .tc := ⟨.hbm, 319, rfl⟩
abbrev main_v207 : Ref sig .tc := ⟨.hbm, 320, rfl⟩
abbrev main_cst_28 : Ref sig .tc := ⟨.hbm, 321, rfl⟩
abbrev main_v208 : Ref sig .tc := ⟨.hbm, 322, rfl⟩
abbrev main_v209 : Ref sig .tc := ⟨.hbm, 323, rfl⟩
abbrev main_cst_29 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_call7_cst : Ref sig .tc := ⟨.hbm, 335, rfl⟩
abbrev main_call7_v0 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_v225 : Ref sig .tc := ⟨.hbm, 342, rfl⟩
abbrev main_v226 : Ref sig .tc := ⟨.hbm, 343, rfl⟩
abbrev main_v227 : Ref sig .tc := ⟨.hbm, 344, rfl⟩
abbrev main_cst_30 : Ref sig .tc := ⟨.hbm, 345, rfl⟩
abbrev main_v228 : Ref sig .tc := ⟨.hbm, 346, rfl⟩
abbrev main_v229 : Ref sig .tc := ⟨.hbm, 347, rfl⟩
abbrev main_cst_31 : Ref sig .tc := ⟨.hbm, 348, rfl⟩
abbrev main_v230 : Ref sig .tc := ⟨.hbm, 349, rfl⟩
abbrev main_v231 : Ref sig .tc := ⟨.hbm, 350, rfl⟩
abbrev main_cst_32 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_v238 : Ref sig .tc := ⟨.hbm, 358, rfl⟩
abbrev main_v239 : Ref sig .tc := ⟨.hbm, 359, rfl⟩
abbrev main_v240 : Ref sig .tc := ⟨.hbm, 360, rfl⟩
abbrev main_v241 : Ref sig .tc := ⟨.hbm, 361, rfl⟩
abbrev main_v242 : Ref sig .tc := ⟨.hbm, 362, rfl⟩
abbrev main_v243 : Ref sig .tc := ⟨.hbm, 363, rfl⟩
abbrev main_cst_33 : Ref sig .tc := ⟨.hbm, 364, rfl⟩
abbrev main_v244 : Ref sig .tc := ⟨.hbm, 365, rfl⟩
abbrev main_v245 : Ref sig .tc := ⟨.hbm, 366, rfl⟩
abbrev main_cst_34 : Ref sig .tc := ⟨.hbm, 367, rfl⟩
abbrev main_v246 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_v251 : Ref sig .tc := ⟨.hbm, 373, rfl⟩
abbrev main_v252 : Ref sig .tc := ⟨.hbm, 374, rfl⟩
abbrev main_v253 : Ref sig .tc := ⟨.hbm, 375, rfl⟩
abbrev main_v254 : Ref sig .tc := ⟨.hbm, 376, rfl⟩
abbrev main_v255 : Ref sig .tc := ⟨.hbm, 377, rfl⟩
abbrev main_cst_35 : Ref sig .tc := ⟨.hbm, 378, rfl⟩
abbrev main_v256 : Ref sig .tc := ⟨.hbm, 379, rfl⟩
abbrev main_v257 : Ref sig .tc := ⟨.hbm, 380, rfl⟩
abbrev main_cst_36 : Ref sig .tc := ⟨.hbm, 381, rfl⟩
abbrev main_v258 : Ref sig .tc := ⟨.hbm, 382, rfl⟩
abbrev main_v259 : Ref sig .tc := ⟨.hbm, 383, rfl⟩
abbrev main_cst_37 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_v264 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩

abbrev nD : Nat := 1
abbrev τ : Topo := Topo.v7x

variable {F : FTy → Type} [FloatOps F]

abbrev main_while0_count : Scf.Loop 32 := ⟨0#32, 32#32, 1#32⟩
-- ==== Proof.Ret.Body.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Ret

open Cert.KernelIdeal Cert.KernelIdeal.Gen Idealize.ShloMosaic Idealize.ShloMosaic.TcCoe

/-- Rows `256 c … 256 c + 255` of a block of keys or queries. -/
def rowsK (x : Vec Ideal S1x4096x256 .bf16) (c : ℕ) (h : c < 16) : Vec Ideal S1x256x256 .bf16 :=
  View.ld x (Rect.unit (s := S1x4096x256) ![0, 256 * c, 0] S1x256x256.size (by intro a; fin_cases a <;> simp [S1x4096x256, S1x256x256] <;> omega))

/-- Rows `256 c … 256 c + 255` are rows of the block. -/
theorem inbV (c : ℕ) (h : c < 16) : ∀ a, (![0, 256 * c, 0] : Fin 3 → ℕ) a + S1x256x512.size a ≤ S1x4096x512.size a := by
  intro a; fin_cases a <;> simp [S1x4096x512, S1x256x512] <;> omega

/-- Rows `256 c … 256 c + 255` of a block of values or gates. -/
def rowsV (x : Vec Ideal S1x4096x512 .bf16) (c : ℕ) (h : c < 16) : Vec Ideal S1x256x512 .bf16 :=
  View.ld x (Rect.unit (s := S1x4096x512) ![0, 256 * c, 0] S1x256x512.size (inbV c h))

/-- The state after a chunk, of the chunk's keys and values, the two decay tables and the state before it. -/
def nextP (kc : Vec Ideal S1x256x256 .bf16) (vc : Vec Ideal S1x256x512 .bf16) (kvd : Vec Ideal S1x256x256 .f32) (cd : Vec Ideal S1x1x512 .f32)
    (st : Vec Ideal S256x512 .f32) : Vec Ideal S256x512 .f32 :=
  shapeCast S256x512 (addf (F := Ideal) (φ := .f32) (mulf (F := Ideal) (φ := .f32) st (broadcastTo S256x512 (shapeCast S1x512 cd shapeCasts_S1x1x512_S1x512) broadcasts_S1x512_S256x512))
    (matmul dot_S256x256_S256x512_S256x512_0_0_1_1_n_n none
      (truncf .bf16 (mulf (extf .f32 (shapeCast S256x256 kc shapeCasts_S1x256x256_S256x256 : FVec Ideal S256x256 .bf16) bitsLt_bf16_f32) (shapeCast S256x256 kvd shapeCasts_S1x256x256_S256x256)) bitsLt_bf16_f32)
      (shapeCast S256x512 vc shapeCasts_S1x256x512_S256x512 : FVec Ideal S256x512 .bf16) (constant S256x512 .f32 0x00000000#32))) shapeCasts_S256x512_S256x512

/-- A chunk's outputs before the normalisation, of its queries, keys and values, the two decay tables and the state before it. -/
def rawP (qc kc : Vec Ideal S1x256x256 .bf16) (vc : Vec Ideal S1x256x512 .bf16) (intra cross : Vec Ideal S1x256x256 .f32)
    (st : Vec Ideal S256x512 .f32) : FVec Ideal S256x512 .f32 :=
  addf (F := Ideal) (φ := .f32)
    (matmul dot_S256x256_S256x512_S256x512_1_0_0_1_n_n none
      (truncf .bf16 (mulf (F := Ideal) (φ := .f32) (matmul dot_S256x256_S256x256_S256x256_1_1_0_0_n_n none (shapeCast S256x256 qc shapeCasts_S1x256x256_S256x256 : FVec Ideal S256x256 .bf16) (shapeCast S256x256 kc shapeCasts_S1x256x256_S256x256 : FVec Ideal S256x256 .bf16) (constant S256x256 .f32 0x00000000#32))
        (shapeCast S256x256 intra shapeCasts_S1x256x256_S256x256)) bitsLt_bf16_f32) (shapeCast S256x512 vc shapeCasts_S1x256x512_S256x512 : FVec Ideal S256x512 .bf16) (constant S256x512 .f32 0x00000000#32))
    (matmul dot_S256x256_S256x512_S256x512_1_0_0_1_n_n none
      (truncf .bf16 (mulf (F := Ideal) (φ := .f32) (extf .f32 (shapeCast S256x256 qc shapeCasts_S1x256x256_S256x256 : FVec Ideal S256x256 .bf16) bitsLt_bf16_f32) (shapeCast S256x256 cross shapeCasts_S1x256x256_S256x256)) bitsLt_bf16_f32)
      (truncf (F := Ideal) (φ := .f32) .bf16 st bitsLt_bf16_f32) (constant S256x512 .f32 0x00000000#32))

/-- The normalisation and the gate of a chunk. -/
def normP (y : FVec Ideal S256x512 .f32) (gc : Vec Ideal S1x256x512 .bf16) : Vec Ideal S1x256x512 .bf16 :=
  shapeCast S1x256x512 (truncf (F := Ideal) (φ := .f32) .bf16 (mulf (F := Ideal) (φ := .f32) (extf .f32 (shapeCast S256x512 gc shapeCasts_S1x256x512_S256x512 : FVec Ideal S256x512 .bf16) bitsLt_bf16_f32)
    (mulf y (broadcastTo S256x512 (rsqrt (addf (divf (shapeCast S256x1 (multiReduction .add [1] S256 (mulf y y) 0x00000000#32 reduces_S256x512_S256 (.inl rfl) rfl) shapeCasts_S256_S256x1)
      (broadcast S256x1 (Scalar.ofBits .f32 0x44000000#32))) (broadcast S256x1 (Scalar.ofBits .f32 0x358637BD#32)))) broadcasts_S256x1_S256x512))) bitsLt_bf16_f32) shapeCasts_S256x512_S1x256x512

/-- The operations of a chunk's state update, named. -/
theorem fold_next (kc : Vec Ideal S1x256x256 .bf16) (vc : Vec Ideal S1x256x512 .bf16) (kvd : Vec Ideal S1x256x256 .f32) (cd : Vec Ideal S1x1x512 .f32)
    (st : Vec Ideal S256x512 .f32) :
    shapeCast S256x512 (addf (F := Ideal) (φ := .f32) (mulf (F := Ideal) (φ := .f32) st (broadcastTo S256x512 (shapeCast S1x512 cd shapeCasts_S1x1x512_S1x512) broadcasts_S1x512_S256x512))
    (matmul dot_S256x256_S256x512_S256x512_0_0_1_1_n_n none
      (truncf .bf16 (mulf (extf .f32 (shapeCast S256x256 kc shapeCasts_S1x256x256_S256x256 : FVec Ideal S256x256 .bf16) bitsLt_bf16_f32) (shapeCast S256x256 kvd shapeCasts_S1x256x256_S256x256)) bitsLt_bf16_f32)
      (shapeCast S256x512 vc shapeCasts_S1x256x512_S256x512 : FVec Ideal S256x512 .bf16) (constant S256x512 .f32 0x00000000#32))) shapeCasts_S256x512_S256x512 = nextP kc vc kvd cd st := rfl

/-- The operations of a chunk's outputs before the normalisation, named. -/
theorem fold_raw (qc kc : Vec Ideal S1x256x256 .bf16) (vc : Vec Ideal S1x256x512 .bf16) (intra cross : Vec Ideal S1x256x256 .f32)
    (st : Vec Ideal S256x512 .f32) :
    addf (F := Ideal) (φ := .f32)
    (matmul dot_S256x256_S256x512_S256x512_1_0_0_1_n_n none
      (truncf .bf16 (mulf (F := Ideal) (φ := .f32) (matmul dot_S256x256_S256x256_S256x256_1_1_0_0_n_n none (shapeCast S256x256 qc shapeCasts_S1x256x256_S256x256 : FVec Ideal S256x256 .bf16) (shapeCast S256x256 kc shapeCasts_S1x256x256_S256x256 : FVec Ideal S256x256 .bf16) (constant S256x256 .f32 0x00000000#32))
        (shapeCast S256x256 intra shapeCasts_S1x256x256_S256x256)) bitsLt_bf16_f32) (shapeCast S256x512 vc shapeCasts_S1x256x512_S256x512 : FVec Ideal S256x512 .bf16) (constant S256x512 .f32 0x00000000#32))
    (matmul dot_S256x256_S256x512_S256x512_1_0_0_1_n_n none
      (truncf .bf16 (mulf (F := Ideal) (φ := .f32) (extf .f32 (shapeCast S256x256 qc shapeCasts_S1x256x256_S256x256 : FVec Ideal S256x256 .bf16) bitsLt_bf16_f32) (shapeCast S256x256 cross shapeCasts_S1x256x256_S256x256)) bitsLt_bf16_f32)
      (truncf (F := Ideal) (φ := .f32) .bf16 st bitsLt_bf16_f32) (constant S256x512 .f32 0x00000000#32)) = rawP qc kc vc intra cross st := rfl

/-- The operations of a chunk's normalisation and gate, named. -/
theorem fold_norm (y : FVec Ideal S256x512 .f32) (gc : Vec Ideal S1x256x512 .bf16) :
    shapeCast S1x256x512 (truncf (F := Ideal) (φ := .f32) .bf16 (mulf (F := Ideal) (φ := .f32) (extf .f32 (shapeCast S256x512 gc shapeCasts_S1x256x512_S256x512 : FVec Ideal S256x512 .bf16) bitsLt_bf16_f32)
    (mulf y (broadcastTo S256x512 (rsqrt (addf (divf (shapeCast S256x1 (multiReduction .add [1] S256 (mulf y y) 0x00000000#32 reduces_S256x512_S256 (.inl rfl) rfl) shapeCasts_S256_S256x1)
      (broadcast S256x1 (Scalar.ofBits .f32 0x44000000#32))) (broadcast S256x1 (Scalar.ofBits .f32 0x358637BD#32)))) broadcasts_S256x1_S256x512))) bitsLt_bf16_f32) shapeCasts_S256x512_S1x256x512 = normP y gc := rfl

/-- The state before chunk `c` (zero before the first). -/
def stP (x1 : Vec Ideal S1x4096x256 .bf16) (x2 : Vec Ideal S1x4096x512 .bf16) (x6 : Vec Ideal S1x256x256 .f32) (x7 : Vec Ideal S1x1x512 .f32) :
    (c : ℕ) → c ≤ 16 → Vec Ideal S256x512 .f32
  | 0, _ => k0_pay2 (F := Ideal)
  | c + 1, h => nextP (rowsK x1 c h) (rowsV x2 c h) x6 x7 (stP x1 x2 x6 x7 c (Nat.le_of_succ_le h))

/-- What chunk `c` of a block writes. -/
def outC (x0 x1 : Vec Ideal S1x4096x256 .bf16) (x2 x3 : Vec Ideal S1x4096x512 .bf16) (x4 x5 x6 : Vec Ideal S1x256x256 .f32)
    (x7 : Vec Ideal S1x1x512 .f32) (c : ℕ) (h : c < 16) : Vec Ideal S1x256x512 .bf16 :=
  normP (rawP (rowsK x0 c h) (rowsK x1 c h) (rowsV x2 c h) x4 x5 (stP x1 x2 x6 x7 c h.le)) (rowsV x3 c h)

/-- What a block writes: row `n` is row `n % 256` of what chunk `n / 256` writes. -/
def outB (x0 x1 : Vec Ideal S1x4096x256 .bf16) (x2 x3 : Vec Ideal S1x4096x512 .bf16) (x4 x5 x6 : Vec Ideal S1x256x256 .f32)
    (x7 : Vec Ideal S1x1x512 .f32) (y : S1x4096x512.Idx) : EReal :=
  outC x0 x1 x2 x3 x4 x5 x6 x7 ((y 1).val / 256) (by have := (y 1).isLt; simp [S1x4096x512] at this; omega)
    (ix3 (0 : Fin 1) (⟨(y 1).val % 256, Nat.mod_lt _ (by decide)⟩ : Fin 256) (⟨(y 2).val, (y 2).isLt⟩ : Fin 512))

/-- At an index of chunk `c` the block's value is the chunk's. -/
theorem outB_emb (x0 x1 : Vec Ideal S1x4096x256 .bf16) (x2 x3 : Vec Ideal S1x4096x512 .bf16) (x4 x5 x6 : Vec Ideal S1x256x256 .f32)
    (x7 : Vec Ideal S1x1x512 .f32) (c : ℕ) (h : c < 16) (x : S1x256x512.Idx) (y : S1x4096x512.Idx)
    (h1 : (y 1).val = 256 * c + (x 1).val) (h2 : (y 2).val = (x 2).val) :
    outB x0 x1 x2 x3 x4 x5 x6 x7 y = outC x0 x1 x2 x3 x4 x5 x6 x7 c h x := by
  have hx : (x 1).val < 256 := (x 1).isLt
  have hc : (y 1).val / 256 = c := by omega
  have hm : (y 1).val % 256 = (x 1).val := by omega
  have hi : ix3 (0 : Fin 1) (⟨(y 1).val % 256, Nat.mod_lt _ (by decide)⟩ : Fin 256) (⟨(y 2).val, (y 2).isLt⟩ : Fin 512) = x := by
    have hx0 : (x 0).val < 1 := (x 0).isLt
    blk_ext
  unfold outB
  rw [hi]
  subst hc
  rfl

/-- A stored tile that is what chunk `c` writes is the block's value at the rows it is stored to. -/
theorem outB_tile (x0 x1 : Vec Ideal S1x4096x256 .bf16) (x2 x3 : Vec Ideal S1x4096x512 .bf16) (x4 x5 x6 : Vec Ideal S1x256x256 .f32)
    (x7 : Vec Ideal S1x1x512 .f32) (c : ℕ) (h : c < 16) (w : Vec Ideal S1x256x512 .bf16) (hw : w = outC x0 x1 x2 x3 x4 x5 x6 x7 c h)
    (x : S1x256x512.Idx) :
    w x = outB x0 x1 x2 x3 x4 x5 x6 x7 ((Rect.unit (s := S1x4096x512) ![0, 256 * c, 0] S1x256x512.size (inbV c h)).emb x) := by
  rw [hw]
  refine (outB_emb x0 x1 x2 x3 x4 x5 x6 x7 c h x _ ?_ ?_).symm <;> blk_simp

variable (m : (ℓ : Loc nD τ sig) → Buf (Elt Ideal) ℓ)

set_option maxHeartbeats 2000000 in
/-- At every grid point the block left is `outB` of the point's input blocks. -/
theorem outs_eq (c : Dev nD) (t : Fin cfg0.N) :
    outsAt0 (F := Ideal) m c t = outB (iblk m c 0 t) (iblk m c 1 t) (iblk m c 2 t) (iblk m c 3 t) (iblk m c 4 t) (iblk m c 5 t) (iblk m c 6 t) (iblk m c 7 t) := by
  unfold outsAt0
  frame_open
  simp (disch := decide) only [↓ View.readCov_skip, ↓ View.readCov_cons_toLoadRect, ↓ View.readCov_fill]
  frame_out
  simp only [
    k0_pay1, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113,
    k0_pay114,
    fold_next, fold_raw, fold_norm]
  funext y
  refine View.canon_apply_of_pieces (Val := Elt Ideal) (e := .bf16) (outB (iblk m c 0 t) (iblk m c 1 t) (iblk m c 2 t) (iblk m c 3 t) (iblk m c 4 t) (iblk m c 5 t) (iblk m c 6 t) (iblk m c 7 t)) _
    (View.PiecesOf.mem ?_) y (View.cover_of_tiledL (s := S1x4096x512) _ S1x256x512.size (by sl_kernel_rfl) y)
  exact ⟨fun x => outB_tile _ _ _ _ _ _ _ _ 15 (by decide) _ rfl x,
    fun x => outB_tile _ _ _ _ _ _ _ _ 14 (by decide) _ rfl x,
    fun x => outB_tile _ _ _ _ _ _ _ _ 13 (by decide) _ rfl x,
    fun x => outB_tile _ _ _ _ _ _ _ _ 12 (by decide) _ rfl x,
    fun x => outB_tile _ _ _ _ _ _ _ _ 11 (by decide) _ rfl x,
    fun x => outB_tile _ _ _ _ _ _ _ _ 10 (by decide) _ rfl x,
    fun x => outB_tile _ _ _ _ _ _ _ _ 9 (by decide) _ rfl x,
    fun x => outB_tile _ _ _ _ _ _ _ _ 8 (by decide) _ rfl x,
    fun x => outB_tile _ _ _ _ _ _ _ _ 7 (by decide) _ rfl x,
    fun x => outB_tile _ _ _ _ _ _ _ _ 6 (by decide) _ rfl x,
    fun x => outB_tile _ _ _ _ _ _ _ _ 5 (by decide) _ rfl x,
    fun x => outB_tile _ _ _ _ _ _ _ _ 4 (by decide) _ rfl x,
    fun x => outB_tile _ _ _ _ _ _ _ _ 3 (by decide) _ rfl x,
    fun x => outB_tile _ _ _ _ _ _ _ _ 2 (by decide) _ rfl x,
    fun x => outB_tile _ _ _ _ _ _ _ _ 1 (by decide) _ rfl x,
    fun x => outB_tile _ _ _ _ _ _ _ _ 0 (by decide) _ rfl x, trivial⟩

end Cert.Ret
end
-- ==== Proof.Ret.Pay.lean ====
module

public import proofs.«01_k».proof.Proof.Ret.Body

@[expose] public section

set_option maxRecDepth 16384

noncomputable section

namespace Cert.Ret

open Cert.KernelIdeal Cert.KernelIdeal.Gen Idealize.ShloMosaic Idealize.ShloMosaic.TcCoe

/-- An entry of the state after a chunk. -/
theorem nextP_at (kc : Vec Ideal S1x256x256 .bf16) (vc : Vec Ideal S1x256x512 .bf16) (kvd : Vec Ideal S1x256x256 .f32) (cd : Vec Ideal S1x1x512 .f32)
    (st : Vec Ideal S256x512 .f32) (d : Fin 256) (e : Fin 512) :
    nextP kc vc kvd cd st (ix2 d e) = st (ix2 d e) * cd (ix3 0 0 e) + ∑ r : Fin 256, (kc (ix3 0 r d) * kvd (ix3 0 r d)) * vc (ix3 0 r e) := by
  pointwise [nextP]

/-- An entry of a chunk's outputs before the normalisation. -/
theorem rawP_at (qc kc : Vec Ideal S1x256x256 .bf16) (vc : Vec Ideal S1x256x512 .bf16) (intra cross : Vec Ideal S1x256x256 .f32)
    (st : Vec Ideal S256x512 .f32) (r : Fin 256) (e : Fin 512) :
    rawP qc kc vc intra cross st (ix2 r e) =
      ∑ x, (∑ x_1, qc (ix3 0 r x_1) * kc (ix3 0 x x_1)) * intra (ix3 0 r x) * vc (ix3 0 x e)
        + ∑ x, qc (ix3 0 r x) * cross (ix3 0 r x) * st (ix2 x e) := by
  pointwise [rawP]

/-- An entry of a chunk's normalised, gated outputs. -/
theorem normP_at (y : FVec Ideal S256x512 .f32) (gc : Vec Ideal S1x256x512 .bf16) (r : Fin 256) (e : Fin 512) :
    normP y gc (ix3 0 r e) = gc (ix3 0 r e) * (y (ix2 r e) * Ideal.rsqrt (Ideal.div (∑ x, y (ix2 r x) * y (ix2 r x))
      (Ideal.ofBits .f32 1140850688#32) + Ideal.ofBits .f32 897988541#32)) := by
  pointwise [normP]

end Cert.Ret
end
-- ==== Proof.Ret.Math.lean ====
module

public import Mathlib.Data.EReal.Operations
public import Mathlib.Analysis.SpecialFunctions.Exp

@[expose] public section

noncomputable section

namespace Cert.Ret

/-- A finite sum of reals, as an extended real, is the sum of the extended reals. -/
theorem coe_sumR {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The decayed sum of the first `N` products of a key entry and a value entry. -/
def stR (l : ℝ) (k v : ℕ → ℝ) (N : ℕ) : ℝ := ∑ m ∈ Finset.range N, k m * Real.exp (l * ((N : ℝ) - 1 - m)) * v m

/-- The retention at position `n`: the sum over the positions up to `n` of the decayed scores times the values. -/
def retR {D : ℕ} (l : ℝ) (q k : ℕ → Fin D → ℝ) (v : ℕ → ℝ) (n : ℕ) : ℝ :=
  ∑ m ∈ Finset.range (n + 1), (∑ d : Fin D, q n d * k m d) * Real.exp (l * ((n : ℝ) - m)) * v m

theorem stR_zero (l : ℝ) (k v : ℕ → ℝ) : stR l k v 0 = 0 := by simp [stR]

/-- The decayed sum `C` positions further on, from the decayed sum before them. -/
theorem stR_add (l : ℝ) (k v : ℕ → ℝ) (N C : ℕ) :
    stR l k v (N + C) = stR l k v N * Real.exp (l * C) + ∑ r : Fin C, k (N + r) * Real.exp (l * ((C : ℝ) - 1 - (r : ℕ))) * v (N + r) := by
  unfold stR
  rw [Finset.sum_range_add, Finset.sum_mul, ← Finset.sum_range (fun r => k (N + r) * Real.exp (l * ((C : ℝ) - 1 - (r : ℕ))) * v (N + r))]
  congr 1
  · refine Finset.sum_congr rfl fun m _ => ?_
    have : l * (((N + C : ℕ) : ℝ) - 1 - m) = l * ((N : ℝ) - 1 - m) + l * C := by push_cast; ring
    rw [this, Real.exp_add]; ring
  · refine Finset.sum_congr rfl fun r _ => ?_
    have : l * (((N + C : ℕ) : ℝ) - 1 - ((N + r : ℕ) : ℝ)) = l * ((C : ℝ) - 1 - r) := by push_cast; ring
    rw [this]

/-- The retention at a position of a block of `C` positions: the scores inside the block, and the state before the block. -/
theorem retR_add {D : ℕ} (l : ℝ) (q k : ℕ → Fin D → ℝ) (v : ℕ → ℝ) (N C : ℕ) (r : Fin C) :
    (∑ j : Fin C, (∑ d : Fin D, q (N + r) d * k (N + j) d) * (if (j : ℕ) ≤ r then Real.exp (l * (((r : ℕ) : ℝ) - (j : ℕ))) else 0) * v (N + j))
      + (∑ d : Fin D, q (N + r) d * stR l (fun m => k m d) v N) * Real.exp (l * (((r : ℕ) : ℝ) + 1)) = retR l q k v (N + r) := by
  obtain ⟨r, hr⟩ := r
  simp only
  unfold retR stR
  rw [show N + r + 1 = N + (r + 1) from rfl, Finset.sum_range_add, add_comm]
  congr 1
  · rw [Finset.sum_mul]
    simp only [Finset.mul_sum, Finset.sum_mul]
    rw [Finset.sum_comm]
    refine Finset.sum_congr rfl fun m _ => Finset.sum_congr rfl fun d _ => ?_
    have : l * (((N + r : ℕ) : ℝ) - m) = l * ((N : ℝ) - 1 - m) + l * ((r : ℝ) + 1) := by push_cast; ring
    rw [this, Real.exp_add]; ring
  · rw [← Finset.sum_range (fun j => (∑ d : Fin D, q (N + r) d * k (N + j) d) * (if j ≤ r then Real.exp (l * ((r : ℝ) - (j : ℝ))) else 0) * v (N + j))]
    obtain ⟨C', rfl⟩ : ∃ C', C = (r + 1) + C' := ⟨C - (r + 1), by omega⟩
    rw [Finset.sum_range_add]
    rw [show (∑ x ∈ Finset.range C', (∑ d : Fin D, q (N + r) d * k (N + (r + 1 + x)) d) *
        (if r + 1 + x ≤ r then Real.exp (l * ((r : ℝ) - ((r + 1 + x : ℕ) : ℝ))) else 0) * v (N + (r + 1 + x))) = 0 from
      Finset.sum_eq_zero fun x _ => by rw [if_neg (by omega)]; ring, add_zero]
    refine Finset.sum_congr rfl fun j hj => ?_
    rw [if_pos (by have := Finset.mem_range.mp hj; omega)]
    have : l * (((N + r : ℕ) : ℝ) - ((N + j : ℕ) : ℝ)) = l * ((r : ℝ) - j) := by push_cast; ring
    rw [this]

end Cert.Ret

end
-- ==== Proof.Ret.Spec.lean ====
module

public import Idealize.ShloMosaic.PureOps.Ideal
public import Idealize.ShloMosaic.Lib.Pointwise
public import proofs.«01_k».proof.Proof.Ret.Math

@[expose] public section

noncomputable section

namespace Cert.Ret

open Idealize.ShloMosaic

/-- An index below 2^31, converted to a float, is that number. -/
theorem nat_val (n : ℕ) (h : n < 2 ^ 31) : (FloatOps.sitofp FTy.f32 (BitVec.ofNat 32 n) : Ideal .f32) = (((n : ℝ)) : EReal) := by
  have : ((BitVec.ofNat 32 n).toInt) = (n : ℤ) := by
    rw [BitVec.toInt_eq_toNat_of_lt (by rw [BitVec.toNat_ofNat]; omega), BitVec.toNat_ofNat]; omega
  show ((((BitVec.ofNat 32 n).toInt : ℝ)) : EReal) = _
  rw [this]; push_cast; rfl

/-- The literal 1/16. -/
theorem lit_sixteenth : Ideal.ofBits .f32 1031798784#32 = (((1 / 16 : ℝ)) : EReal) := by simp [Ideal.ofBits, Ideal.ieee, -EReal.coe_mul]; norm_num
/-- The literal 127. -/
theorem lit_127 : Ideal.ofBits .f32 1123942400#32 = (((127 : ℝ)) : EReal) := by simp [Ideal.ofBits, Ideal.ieee, -EReal.coe_mul]; norm_num
/-- The literal 128. -/
theorem lit_128 : Ideal.ofBits .f32 1124073472#32 = (((128 : ℝ)) : EReal) := by simp [Ideal.ofBits, Ideal.ieee, -EReal.coe_mul]; norm_num
/-- The literal 255. -/
theorem lit_255 : Ideal.ofBits .f32 1132396544#32 = (((255 : ℝ)) : EReal) := by simp [Ideal.ofBits, Ideal.ieee, -EReal.coe_mul]; norm_num
/-- The literal 256. -/
theorem lit_256 : Ideal.ofBits .f32 1132462080#32 = (((256 : ℝ)) : EReal) := by simp [Ideal.ofBits, Ideal.ieee, -EReal.coe_mul]; norm_num
/-- The literal -5. -/
theorem lit_m5 : Ideal.ofBits .f32 3231711232#32 = (((-5 : ℝ)) : EReal) := by simp [Ideal.ofBits, Ideal.ieee, -EReal.coe_mul]; norm_num
/-- The logarithm of two as the programs write it is a positive real number. -/
theorem lit_ln2 : ∃ c : ℝ, 0 < c ∧ Ideal.ofBits .f32 1060205080#32 = (c : EReal) := by
  refine ⟨(Ideal.ofBits .f32 1060205080#32).toReal, ?_, ?_⟩ <;> simp [Ideal.ofBits, Ideal.ieee, -EReal.coe_mul]

/-- The logarithm of two as the programs write it. -/
def ln2R : ℝ := lit_ln2.choose
theorem ln2R_pos : 0 < ln2R := lit_ln2.choose_spec.1
theorem lit_ln2_eq : Ideal.ofBits .f32 1060205080#32 = (ln2R : EReal) := lit_ln2.choose_spec.2

/-- The logarithm of a head's decay. -/
def lgR (h : ℕ) : ℝ := Real.log (1 - Real.exp (ln2R * (-5 - h)))

/-- What both programs compute as the logarithm of a head's decay is that real number. -/
theorem lg_val (h : ℕ) : Ideal.log1p (-Ideal.exp (Ideal.ofBits .f32 1060205080#32 * (Ideal.ofBits .f32 3231711232#32 - (((h : ℝ)) : EReal)))) = (lgR h : EReal) := by
  rw [lit_ln2_eq, lit_m5, ← EReal.coe_sub, ← EReal.coe_mul, Ideal.exp_coe, Ideal.log1p, ← EReal.coe_one, ← EReal.coe_neg, ← EReal.coe_add, Ideal.log_coe]
  have h1 : Real.exp (ln2R * (-5 - h)) < 1 := by
    rw [Real.exp_lt_one_iff]
    have := ln2R_pos
    have hh : (0 : ℝ) ≤ h := Nat.cast_nonneg h
    nlinarith
  rw [if_neg (by linarith), lgR, sub_eq_add_neg (1 : ℝ)]

/-- The masked decay of two positions of a chunk is a real number. -/
theorem mask_val (l : ℝ) (r j : ℕ) :
    (if (0 : EReal) ≤ (((r : ℝ)) : EReal) - (((j : ℝ)) : EReal) then Ideal.exp ((l : EReal) * max ((((r : ℝ)) : EReal) - (((j : ℝ)) : EReal)) 0) else 0)
      = ((if j ≤ r then Real.exp (l * ((r : ℝ) - (j : ℝ))) else 0 : ℝ) : EReal) := by
  rw [← EReal.coe_sub, ← EReal.coe_zero]
  by_cases h : j ≤ r
  · have h' : (0 : ℝ) ≤ (r : ℝ) - j := by have : (j : ℝ) ≤ r := by exact_mod_cast h
                                          linarith
    rw [if_pos (by exact_mod_cast h'), if_pos h, max_eq_left (by exact_mod_cast h'), ← EReal.coe_mul, Ideal.exp_coe]
  · have h' : (r : ℝ) - j < 0 := by have : (r : ℝ) < j := by exact_mod_cast (not_le.mp h)
                                    linarith
    rw [if_neg (by rw [not_le]; exact_mod_cast h'), if_neg h]

/-- The rows and columns of the projections. -/
abbrev Proj : Type := FVec Ideal ⟨2, ![32768, 6144]⟩ .bf16

/-- An entry of the projections as a real number (zero outside). -/
def xr (X : Proj) (n col : ℕ) : ℝ := if h : n < 32768 ∧ col < 6144 then (X (ix2 ⟨n, h.1⟩ ⟨col, h.2⟩)).toReal else 0

/-- The queries of a sequence and head. -/
def qR (X : Proj) (b h : ℕ) (n : ℕ) (d : Fin 256) : ℝ := xr X (b * 4096 + n) (h * 256 + d)
/-- The scaled keys of a sequence and head. -/
def kR (X : Proj) (b h : ℕ) (n : ℕ) (d : Fin 256) : ℝ := xr X (b * 4096 + n) (1024 + h * 256 + d) * (1 / 16)
/-- One column of the values of a sequence and head. -/
def vR (X : Proj) (b h : ℕ) (e : Fin 512) (n : ℕ) : ℝ := xr X (b * 4096 + n) (2048 + h * 512 + e)

/-- A finite entry is its real number. -/
theorem xr_eq (X : Proj) (hX : ∀ n col, ∃ r : ℝ, X (ix2 n col) = (r : EReal)) (n : Fin 32768) (col : Fin 6144) :
    X (ix2 n col) = ((xr X n col : ℝ) : EReal) := by
  obtain ⟨r, hr⟩ := hX n col
  rw [xr, dif_pos ⟨n.isLt, col.isLt⟩]
  simp only [Fin.eta]
  rw [hr, EReal.toReal_coe]

/-- The retention of a sequence and head at a position and a value column. -/
def yR (X : Proj) (b h n : ℕ) (e : Fin 512) : ℝ := retR (lgR h) (qR X b h) (kR X b h) (vR X b h e) n
/-- The decayed key-value state of a sequence and head before a position. -/
def sR (X : Proj) (b h N : ℕ) (d : Fin 256) (e : Fin 512) : ℝ := stR (lgR h) (fun m => kR X b h m d) (vR X b h e) N

/-- The gated, normalised retention: what both programs compute. -/
def outR (X : Proj) (b : Fin 8) (n : Fin 4096) (h : Fin 4) (e : Fin 512) : EReal :=
  X (ix2 (⟨b.val * 4096 + n.val, by omega⟩ : Fin 32768) (⟨4096 + h.val * 512 + e.val, by omega⟩ : Fin 6144)) *
    ((yR X b h n e : EReal) * Ideal.rsqrt (Ideal.div (∑ x : Fin 512, (yR X b h n x : EReal) * (yR X b h n x : EReal)) (Ideal.ofBits .f32 1140850688#32) + Ideal.ofBits .f32 897988541#32))

end Cert.Ret

end
-- ==== Proof.Ret.Tables.lean ====
module

public import proofs.«01_k».proof.Proof.Ret.Spec
public import proofs.«01_k».proof.Proof.Ret.Body

@[expose] public section

set_option maxRecDepth 16384

noncomputable section

namespace Cert.Ret

open Cert.KernelIdeal Cert.KernelIdeal.Gen Idealize.ShloMosaic Idealize.ShloMosaic.TcCoe

variable (m : (ℓ : Loc nD τ sig) → Buf (Elt Ideal) ℓ)

/-- The blocks of a point. -/
theorem idx : ∀ t : Fin cfg0.N, win0_0.index t = ![t.val / 4, 0, t.val % 4] ∧ win0_1.index t = ![t.val / 4, 0, t.val % 4 + 4]
    ∧ win0_2.index t = ![t.val / 4, 0, t.val % 4 + 4] ∧ win0_3.index t = ![t.val / 4, 0, t.val % 4 + 8] ∧ win0_4.index t = ![t.val % 4, 0, 0]
    ∧ win0_5.index t = ![t.val % 4, 0, 0] ∧ win0_6.index t = ![t.val % 4, 0, 0] ∧ win0_7.index t = ![t.val % 4, 0, 0]
    ∧ win0_8.index t = ![t.val / 4, 0, t.val % 4] :=
  (by decide +kernel : ∀ t : Fin grid0.N, _)

/-- An entry of the table of decays inside a chunk. -/
theorem v63_at (c : Dev nD) (h : Fin 4) (r j : Fin 256) :
    V m c main_v63 (ix3 h r j) = (((if (j : ℕ) ≤ r then Real.exp (lgR h * ((r : ℕ) - (j : ℕ) : ℝ)) else 0) * (1 / 16) : ℝ) : EReal) := by
  simp only [V, hostOps0, hostOps0_1, hostOps0_2, List.flatten_cons, List.flatten_nil, List.cons_append, List.nil_append, List.append_nil, StableHlo.after_cons, StableHlo.after_nil]
  after_results_simp
  simp -implicitDefEqProofs only [StableHlo.TRef.toBuf, StableHlo.TRef.ofBuf, cast_cast, cast_eq]
  pointwise
  rw [nat_val _ (by have := r.isLt; omega), nat_val _ (by have := j.isLt; omega), nat_val _ (by have := h.isLt; omega), lg_val,
    show (id (constant S_ FTy.f32 0#32 : FVec Ideal S_ .f32) ix0 : EReal) = 0 from Ideal.ofBits_zero_f32, mask_val, lit_sixteenth, ← EReal.coe_mul]
/-- An entry of the table of decays of the state inside a chunk. -/
theorem v65_at (c : Dev nD) (h : Fin 4) (r j : Fin 256) :
    V m c main_v65 (ix3 h r j) = ((Real.exp (lgR h * ((r : ℕ) + 1 : ℝ)) : ℝ) : EReal) := by
  simp only [V, hostOps0, hostOps0_1, hostOps0_2, List.flatten_cons, List.flatten_nil, List.cons_append, List.nil_append, List.append_nil, StableHlo.after_cons, StableHlo.after_nil]
  after_results_simp
  pointwise
  rw [nat_val _ (by have := h.isLt; omega), lg_val, nat_val _ (by have := r.isLt; omega)]
  norm_cast
/-- An entry of the table of decays of a chunk's keys. -/
theorem v69_at (c : Dev nD) (h : Fin 4) (r j : Fin 256) :
    V m c main_v69 (ix3 h r j) = ((Real.exp (lgR h * ((256 : ℝ) - 1 - (r : ℕ))) * (1 / 16) : ℝ) : EReal) := by
  simp only [V, hostOps0, hostOps0_1, hostOps0_2, List.flatten_cons, List.flatten_nil, List.cons_append, List.nil_append, List.append_nil, StableHlo.after_cons, StableHlo.after_nil]
  after_results_simp
  pointwise
  rw [nat_val _ (by have := h.isLt; omega), lg_val, nat_val _ (by have := r.isLt; omega), lit_255, lit_sixteenth, ← EReal.coe_sub, ← EReal.coe_mul, Ideal.exp_coe, ← EReal.coe_mul]
  norm_num
/-- An entry of the table of decays of the state over a chunk. -/
theorem v71_at (c : Dev nD) (h : Fin 4) (j : Fin 512) :
    V m c main_v71 (ix3 h 0 j) = ((Real.exp (lgR h * ((256 : ℕ) : ℝ)) : ℝ) : EReal) := by
  simp only [V, hostOps0, hostOps0_1, hostOps0_2, List.flatten_cons, List.flatten_nil, List.cons_append, List.nil_append, List.append_nil, StableHlo.after_cons, StableHlo.after_nil]
  after_results_simp
  pointwise
  rw [nat_val _ (by have := h.isLt; omega), lg_val, lit_256, ← EReal.coe_mul, Ideal.exp_coe]
  norm_num
/-- An entry of the projections as the kernel's call takes them. -/
theorem v72_at (c : Dev nD) (b : Fin 8) (n : Fin 4096) (x : Fin 6144) :
    V m c main_v72 (ix3 b n x) = m ((c : Thread nD τ).loc main_arg0) (ix2 (⟨b.val * 4096 + n.val, by omega⟩ : Fin 32768) x) := by
  simp only [V, hostOps0, hostOps0_1, hostOps0_2, List.flatten_cons, List.flatten_nil, List.cons_append, List.nil_append, List.append_nil, StableHlo.after_cons, StableHlo.after_nil]
  after_results_simp
  pointwise

/-- The sequence of a point. -/
theorem seq_lt : ∀ t : Fin grid0.N, t.val / 4 < 8 := by decide +kernel

/-- The block of queries of a point. -/
theorem q_at (c : Dev nD) (t : Fin grid0.N) (n : Fin 4096) (d : Fin 256) :
    iblk m c 0 t (ix3 0 n d) = m ((c : Thread nD τ).loc main_arg0)
      (ix2 (⟨t.val / 4 * 4096 + n.val, by have := seq_lt t; omega⟩ : Fin 32768) (⟨t.val % 4 * 256 + d.val, by omega⟩ : Fin 6144)) := by
  have h := idx t
  refine Eq.trans ?_ (v72_at m c ⟨t.val / 4, seq_lt t⟩ n ⟨t.val % 4 * 256 + d.val, by omega⟩)
  blk_simp [iblk]
  congr 1
  blk_ext [h]
/-- The block of keys of a point. -/
theorem k_at (c : Dev nD) (t : Fin grid0.N) (n : Fin 4096) (d : Fin 256) :
    iblk m c 1 t (ix3 0 n d) = m ((c : Thread nD τ).loc main_arg0)
      (ix2 (⟨t.val / 4 * 4096 + n.val, by have := seq_lt t; omega⟩ : Fin 32768) (⟨1024 + t.val % 4 * 256 + d.val, by omega⟩ : Fin 6144)) := by
  have h := idx t
  refine Eq.trans ?_ (v72_at m c ⟨t.val / 4, seq_lt t⟩ n ⟨1024 + t.val % 4 * 256 + d.val, by omega⟩)
  blk_simp [iblk]
  congr 1
  blk_ext [h]
/-- The block of values of a point. -/
theorem v_at (c : Dev nD) (t : Fin grid0.N) (n : Fin 4096) (d : Fin 512) :
    iblk m c 2 t (ix3 0 n d) = m ((c : Thread nD τ).loc main_arg0)
      (ix2 (⟨t.val / 4 * 4096 + n.val, by have := seq_lt t; omega⟩ : Fin 32768) (⟨2048 + t.val % 4 * 512 + d.val, by omega⟩ : Fin 6144)) := by
  have h := idx t
  refine Eq.trans ?_ (v72_at m c ⟨t.val / 4, seq_lt t⟩ n ⟨2048 + t.val % 4 * 512 + d.val, by omega⟩)
  blk_simp [iblk]
  congr 1
  blk_ext [h]
/-- The block of gates of a point. -/
theorem g_at (c : Dev nD) (t : Fin grid0.N) (n : Fin 4096) (d : Fin 512) :
    iblk m c 3 t (ix3 0 n d) = m ((c : Thread nD τ).loc main_arg0)
      (ix2 (⟨t.val / 4 * 4096 + n.val, by have := seq_lt t; omega⟩ : Fin 32768) (⟨4096 + t.val % 4 * 512 + d.val, by omega⟩ : Fin 6144)) := by
  have h := idx t
  refine Eq.trans ?_ (v72_at m c ⟨t.val / 4, seq_lt t⟩ n ⟨4096 + t.val % 4 * 512 + d.val, by omega⟩)
  blk_simp [iblk]
  congr 1
  blk_ext [h]
/-- The block of decays inside a chunk. -/
theorem intra_at (c : Dev nD) (t : Fin grid0.N) (r j : Fin 256) :
    iblk m c 4 t (ix3 0 r j) = V m c main_v63 (ix3 (⟨t.val % 4, by omega⟩ : Fin 4) r j) := by
  have h := idx t
  blk_simp [iblk]
  congr 1
  blk_ext [h]
/-- The block of decays of the state inside a chunk. -/
theorem cross_at (c : Dev nD) (t : Fin grid0.N) (r j : Fin 256) :
    iblk m c 5 t (ix3 0 r j) = V m c main_v65 (ix3 (⟨t.val % 4, by omega⟩ : Fin 4) r j) := by
  have h := idx t
  blk_simp [iblk]
  congr 1
  blk_ext [h]
/-- The block of decays of the keys. -/
theorem kvd_at (c : Dev nD) (t : Fin grid0.N) (r j : Fin 256) :
    iblk m c 6 t (ix3 0 r j) = V m c main_v69 (ix3 (⟨t.val % 4, by omega⟩ : Fin 4) r j) := by
  have h := idx t
  blk_simp [iblk]
  congr 1
  blk_ext [h]
/-- The block of decays over a chunk. -/
theorem cd_at (c : Dev nD) (t : Fin grid0.N) (j : Fin 512) :
    iblk m c 7 t (ix3 0 0 j) = V m c main_v71 (ix3 (⟨t.val % 4, by omega⟩ : Fin 4) 0 j) := by
  have h := idx t
  blk_simp [iblk]
  congr 1
  blk_ext [h]

/-- A point's decay of the keys is a real number. -/
theorem kvd_real (c : Dev nD) (t : Fin grid0.N) (r j : Fin 256) :
    iblk m c 6 t (ix3 0 r j) = ((Real.exp (lgR (t.val % 4) * ((256 : ℝ) - 1 - (r : ℕ))) * (1 / 16) : ℝ) : EReal) :=
  (kvd_at m c t r j).trans (v69_at m c _ r j)
/-- A point's decay inside a chunk is a real number. -/
theorem intra_real (c : Dev nD) (t : Fin grid0.N) (r j : Fin 256) :
    iblk m c 4 t (ix3 0 r j) = (((if (j : ℕ) ≤ r then Real.exp (lgR (t.val % 4) * ((r : ℕ) - (j : ℕ) : ℝ)) else 0) * (1 / 16) : ℝ) : EReal) :=
  (intra_at m c t r j).trans (v63_at m c _ r j)
/-- A point's decay of the state inside a chunk is a real number. -/
theorem cross_real (c : Dev nD) (t : Fin grid0.N) (r j : Fin 256) :
    iblk m c 5 t (ix3 0 r j) = ((Real.exp (lgR (t.val % 4) * ((r : ℕ) + 1 : ℝ)) : ℝ) : EReal) :=
  (cross_at m c t r j).trans (v65_at m c _ r j)

/-- Where an entry of a point's block of the result lies in the result. -/
theorem out_emb (t : Fin grid0.N) (n : Fin 4096) (d : Fin 512) :
    (win0_8.blk t).view.emb (ix3 0 n d) = (ix3 (⟨t.val / 4, seq_lt t⟩ : Fin 8) n (⟨t.val % 4 * 512 + d.val, by omega⟩ : Fin 2048)) := by
  have h := idx t
  blk_ext [h]

end Cert.Ret
end
-- ==== Proof.Ret.Kernel.lean ====
module

public import proofs.«01_k».proof.Proof.Ret.Pay
public import proofs.«01_k».proof.Proof.Ret.Tables

@[expose] public section

set_option maxRecDepth 16384

noncomputable section

namespace Cert.Ret

open Cert.KernelIdeal Cert.KernelIdeal.Gen Idealize.ShloMosaic Idealize.ShloMosaic.TcCoe

/-- An entry of a chunk's rows of keys or queries. -/
theorem rowsK_at (x : Vec Ideal S1x4096x256 .bf16) (c : ℕ) (h : c < 16) (r d : Fin 256) :
    rowsK x c h (ix3 0 r d) = x (ix3 0 (⟨256 * c + r.val, by omega⟩ : Fin 4096) d) := by
  unfold rowsK
  refine congrArg x (?_ : (Rect.unit (s := S1x4096x256) ![0, 256 * c, 0] S1x256x256.size _).emb (ix3 0 r d) = _)
  funext a
  apply Fin.ext
  fin_cases a <;> (try blk_simp) <;> rfl

/-- An entry of a chunk's rows of values or gates. -/
theorem rowsV_at (x : Vec Ideal S1x4096x512 .bf16) (c : ℕ) (h : c < 16) (r : Fin 256) (d : Fin 512) :
    rowsV x c h (ix3 0 r d) = x (ix3 0 (⟨256 * c + r.val, by omega⟩ : Fin 4096) d) := by
  unfold rowsV
  refine congrArg x (?_ : (Rect.unit (s := S1x4096x512) ![0, 256 * c, 0] S1x256x512.size _).emb (ix3 0 r d) = _)
  funext a
  apply Fin.ext
  fin_cases a <;> (try blk_simp) <;> rfl

/-- An entry of a block's value is an entry of its chunk's. -/
theorem outB_at (x0 x1 : Vec Ideal S1x4096x256 .bf16) (x2 x3 : Vec Ideal S1x4096x512 .bf16) (x4 x5 x6 : Vec Ideal S1x256x256 .f32)
    (x7 : Vec Ideal S1x1x512 .f32) (n : Fin 4096) (e : Fin 512) :
    outB x0 x1 x2 x3 x4 x5 x6 x7 (ix3 0 n e) = outC x0 x1 x2 x3 x4 x5 x6 x7 (n.val / 256) (by omega) (ix3 0 ⟨n.val % 256, Nat.mod_lt _ (by decide)⟩ e) := rfl

variable (m : (ℓ : Loc nD τ sig) → Buf (Elt Ideal) ℓ)

/-- The projections the kernel is given. -/
abbrev XK (c : Dev nD) : Proj := m ((c : Thread nD τ).loc main_arg0)

section
variable (c : Dev nD) (hX : ∀ n col, ∃ r : ℝ, XK m c (ix2 n col) = (r : EReal)) (t : Fin grid0.N)
include hX

/-- An entry of a point's queries is a real number. -/
theorem q_real (n : Fin 4096) (d : Fin 256) : iblk m c 0 t (ix3 0 n d) = ((qR (XK m c) (t.val / 4) (t.val % 4) n d : ℝ) : EReal) :=
  (q_at m c t n d).trans (xr_eq (XK m c) hX _ _)
/-- An entry of a point's values is a real number. -/
theorem v_real (n : Fin 4096) (e : Fin 512) : iblk m c 2 t (ix3 0 n e) = ((vR (XK m c) (t.val / 4) (t.val % 4) e n : ℝ) : EReal) :=
  (v_at m c t n e).trans (xr_eq (XK m c) hX _ _)
/-- An entry of a point's keys is a real number. -/
theorem k_real (n : Fin 4096) (d : Fin 256) :
    iblk m c 1 t (ix3 0 n d) = ((xr (XK m c) (t.val / 4 * 4096 + n) (1024 + t.val % 4 * 256 + d) : ℝ) : EReal) :=
  (k_at m c t n d).trans (xr_eq (XK m c) hX _ _)

/-- The state before a chunk is the decayed sum over the positions before it. -/
theorem stP_eq (k : ℕ) (hk : k ≤ 16) (d : Fin 256) (e : Fin 512) :
    stP (iblk m c 1 t) (iblk m c 2 t) (iblk m c 6 t) (iblk m c 7 t) k hk (ix2 d e) = ((sR (XK m c) (t.val / 4) (t.val % 4) (256 * k) d e : ℝ) : EReal) := by
  induction k with
  | zero =>
    show k0_pay2 (F := Ideal) (ix2 d e) = _
    rw [Nat.mul_zero, sR, stR_zero, EReal.coe_zero]
    pointwise [k0_pay2]
  | succ k ih =>
    show nextP _ _ _ _ _ (ix2 d e) = _
    rw [nextP_at, ih (by omega), cd_at, v71_at, show 256 * (k + 1) = 256 * k + 256 from by ring]
    unfold sR
    rw [stR_add _ _ _ (256 * k) 256]
    simp only [rowsK_at, rowsV_at, k_real m c hX, v_real m c hX, kvd_real, ← EReal.coe_mul, ← coe_sumR, ← EReal.coe_add]
    refine congrArg (fun z : ℝ => (z : EReal)) (congrArg₂ (fun a b : ℝ => a + b) rfl (Finset.sum_congr rfl fun r _ => ?_))
    unfold kR
    push_cast
    ring

/-- A chunk's outputs before the normalisation are the retention at its positions. -/
theorem raw_eq (k : ℕ) (hk : k < 16) (r : Fin 256) (e : Fin 512) :
    rawP (rowsK (iblk m c 0 t) k hk) (rowsK (iblk m c 1 t) k hk) (rowsV (iblk m c 2 t) k hk) (iblk m c 4 t) (iblk m c 5 t)
      (stP (iblk m c 1 t) (iblk m c 2 t) (iblk m c 6 t) (iblk m c 7 t) k hk.le) (ix2 r e)
      = ((yR (XK m c) (t.val / 4) (t.val % 4) (256 * k + r) e : ℝ) : EReal) := by
  rw [rawP_at]
  simp only [stP_eq m c hX, rowsK_at, rowsV_at, q_real m c hX, k_real m c hX, v_real m c hX, intra_real, cross_real, ← EReal.coe_mul, ← coe_sumR, ← EReal.coe_add]
  unfold yR sR
  rw [← retR_add (lgR (t.val % 4)) _ _ _ (256 * k) 256 r]
  refine congrArg (fun z : ℝ => (z : EReal)) (congrArg₂ (fun a b : ℝ => a + b) (Finset.sum_congr rfl fun j _ => ?_) ?_)
  · unfold kR
    simp only [← mul_assoc, ← Finset.sum_mul]
    ring
  · rw [Finset.sum_mul]
    refine Finset.sum_congr rfl fun d _ => ?_
    ring

/-- What a point writes. -/
theorem out_point (n : Fin 4096) (e : Fin 512) :
    outsAt0 (F := Ideal) m c t (ix3 0 n e) = outR (XK m c) ⟨t.val / 4, seq_lt t⟩ n ⟨t.val % 4, by omega⟩ e := by
  rw [outs_eq, outB_at, outC, normP_at]
  simp only [raw_eq m c hX, rowsV_at, g_at]
  have hn : 256 * (n.val / 256) + n.val % 256 = n.val := Nat.div_add_mod _ _
  simp only [hn]
  rfl
end

/-- The whole result: at a sequence, position and column, the gated, normalised retention. -/
def outArr (X : Proj) : Vec Ideal S8x4096x2048 .bf16 := fun y =>
  outR X (⟨(y 0).val, (y 0).isLt⟩ : Fin 8) (⟨(y 1).val, (y 1).isLt⟩ : Fin 4096) (⟨(y 2).val / 512, by have : (y 2).val < 2048 := (y 2).isLt; omega⟩ : Fin 4)
    (⟨(y 2).val % 512, Nat.mod_lt _ (by decide)⟩ : Fin 512)

/-- An entry of the whole result. -/
theorem outArr_at (X : Proj) (b : Fin 8) (n : Fin 4096) (h : Fin 4) (e : Fin 512) :
    outArr X (ix3 b n (⟨h.val * 512 + e.val, by omega⟩ : Fin 2048)) = outR X b n h e := by
  have h1 : (⟨(h.val * 512 + e.val) / 512, by omega⟩ : Fin 4) = h := Fin.ext (by show (h.val * 512 + e.val) / 512 = h.val; omega)
  have h2 : (⟨(h.val * 512 + e.val) % 512, Nat.mod_lt _ (by decide)⟩ : Fin 512) = e := Fin.ext (by show (h.val * 512 + e.val) % 512 = e.val; omega)
  show outR X b n ⟨(h.val * 512 + e.val) / 512, _⟩ ⟨(h.val * 512 + e.val) % 512, _⟩ = _
  rw [h1, h2]

/-- The kernel's result is the gated, normalised retention of the projections. -/
theorem kernel_eq (c : Dev nD) (hX : ∀ n col, ∃ r : ℝ, XK m c (ix2 n col) = (r : EReal)) :
    (dats m 0 c).arrAt 8 cfg0.N = outArr (XK m c) := by
  refine (dats m 0 c).arrAt_eq_of_covers 8 (outArr (XK m c)) (by decide +kernel) fun t hf y => ?_
  blk_simp
  rw [after0_8]
  have e : (y : S1x4096x512.Idx) = ix3 (0 : Fin 1) (⟨(y 1).val, (y 1).isLt⟩ : Fin 4096) (⟨(y 2).val, (y 2).isLt⟩ : Fin 512) := by
    have hx0 : (y 0).val < 1 := (y 0).isLt
    blk_ext
  rw [e, out_point m c hX]
  refine Eq.trans (outArr_at _ _ _ _ _).symm (congrArg (outArr (XK m c)) (out_emb t _ _).symm)

end Cert.Ret
end
-- ==== Proof.Ret.RefEntry.lean ====
module

public import proofs.«01_k».proof.Proof.Gen.ReferenceIdeal.Step
public import proofs.«01_k».proof.Proof.Ret.Spec
public import Idealize.ShloMosaic.Lib.Pipeline.ValueKit

@[expose] public section

set_option maxRecDepth 16384

noncomputable section

namespace Cert.Ret

open Cert.ReferenceIdeal Cert.ReferenceIdeal.Gen Cert.ReferenceIdeal.Step Idealize.ShloMosaic

/-- An entry of the chunked queries. -/
theorem qc_at (X : Proj) (j : Fin 32) (b : Fin 8) (h : Fin 4) (r : Fin 128) (d : Fin 256) :
    A_main_v12 (F := Ideal) X (ix5 j b h r d) = X (ix2 (⟨b.val * 4096 + (128 * j.val + r.val), by omega⟩ : Fin 32768) (⟨h.val * 256 + d.val, by omega⟩ : Fin 6144)) := by
  pointwise [A_main_v12, A_main_v11, A_main_v6, A_main_v2, A_main_v1, A_main_v0]
  congr 1
  blk_ext

/-- An entry of the chunked, scaled keys. -/
theorem kc_at (X : Proj) (j : Fin 32) (b : Fin 8) (h : Fin 4) (r : Fin 128) (d : Fin 256) :
    A_main_v14 (F := Ideal) X (ix5 j b h r d) = X (ix2 (⟨b.val * 4096 + (128 * j.val + r.val), by omega⟩ : Fin 32768) (⟨1024 + h.val * 256 + d.val, by omega⟩ : Fin 6144)) * (((1 / 16 : ℝ)) : EReal) := by
  pointwise [A_main_v14, A_main_v13, A_main_v9, A_main_v7, A_main_v3, A_main_v1, A_main_v0, K_main_v8, K_main_cst]
  rw [lit_sixteenth]
  congr 2
  blk_ext

/-- An entry of the chunked values. -/
theorem vc_at (X : Proj) (j : Fin 32) (b : Fin 8) (h : Fin 4) (r : Fin 128) (e : Fin 512) :
    A_main_v16 (F := Ideal) X (ix5 j b h r e) = X (ix2 (⟨b.val * 4096 + (128 * j.val + r.val), by omega⟩ : Fin 32768) (⟨2048 + h.val * 512 + e.val, by omega⟩ : Fin 6144)) := by
  pointwise [A_main_v16, A_main_v15, A_main_v10, A_main_v4, A_main_v1, A_main_v0]
  congr 1
  blk_ext

/-- The logarithm of a head's decay. -/
theorem lg_at (h : Fin 4) : K_main_v24 (F := Ideal) (ix1 h) = (lgR h : EReal) := by
  pointwise [K_main_v24, K_main_v23, K_main_v22, K_main_v21, K_main_v20, K_main_cst_1, K_main_v19, K_main_v18, K_main_cst_0, K_main_v17]
  rw [nat_val _ (by have := h.isLt; omega), lg_val]

/-- The decays inside a chunk. -/
theorem intraR_at (h : Fin 4) (r j : Fin 128) :
    K_main_v41 (F := Ideal) (ix3 h r j) = ((if (j : ℕ) ≤ r then Real.exp (lgR h * ((r : ℕ) - (j : ℕ) : ℝ)) else 0 : ℝ) : EReal) := by
  pointwise [K_main_v41, K_main_call0_v1, K_main_v32, K_main_v31, K_main_cst_2, K_main_v30, K_main_v29, K_main_v28, K_main_v27, K_main_v26, K_main_v25, K_main_v40, K_main_v39, K_main_v38, K_main_v37, K_main_v36, K_main_v35,
    K_main_v34, K_main_cst_3, K_main_v33, K_main_call0_v2, K_main_call0_v0, K_main_cst_4]
  rw [lg_at, nat_val _ (by have := r.isLt; omega), nat_val _ (by have := j.isLt; omega),
    show (id (constant S_ FTy.f32 0#32 : FVec Ideal S_ .f32) ix0 : EReal) = 0 from Ideal.ofBits_zero_f32, mask_val]

/-- The decays of the state inside a chunk. -/
theorem crossR_at (h : Fin 4) (r : Fin 128) :
    K_main_v50 (F := Ideal) (ix4 0 h r 0) = ((Real.exp (lgR h * ((r : ℕ) + 1 : ℝ)) : ℝ) : EReal) := by
  pointwise [K_main_v50, K_main_v49, K_main_v48, K_main_v47, K_main_v46, K_main_v45, K_main_v44, K_main_v43, K_main_cst_5, K_main_v42, K_main_v25]
  rw [lg_at, nat_val _ (by have := r.isLt; omega)]
  norm_cast

/-- The decays of the keys. -/
theorem kvdR_at (h : Fin 4) (r : Fin 128) :
    K_main_v59 (F := Ideal) (ix4 0 h r 0) = ((Real.exp (lgR h * (((128 : ℕ) : ℝ) - 1 - (r : ℕ))) : ℝ) : EReal) := by
  pointwise [K_main_v59, K_main_v58, K_main_v57, K_main_v56, K_main_v55, K_main_v54, K_main_v53, K_main_v52, K_main_cst_6, K_main_v51, K_main_v25]
  rw [lg_at, nat_val _ (by have := r.isLt; omega), lit_127, ← EReal.coe_sub, ← EReal.coe_mul, Ideal.exp_coe]
  norm_num

/-- The decay of the state over a chunk. -/
theorem cdR_at (h : Fin 4) :
    K_main_v63 (F := Ideal) (ix4 0 h 0 0) = ((Real.exp (lgR h * ((128 : ℕ) : ℝ)) : ℝ) : EReal) := by
  pointwise [K_main_v63, K_main_v62, K_main_v61, K_main_v60, K_main_cst_7]
  rw [lg_at, lit_128, ← EReal.coe_mul, Ideal.exp_coe]
  norm_num

end Cert.Ret
end
-- ==== Proof.Ret.RefRun.lean ====
module

public import proofs.«01_k».proof.Proof.Gen.ReferenceIdeal.Run
public import proofs.«01_k».proof.Proof.Ret.RefEntry
public import Idealize.ShloMosaic.Lib.WordCmp

@[expose] public section

set_option maxRecDepth 16384

noncomputable section

namespace Cert.Ret

open Cert.ReferenceIdeal Cert.ReferenceIdeal.Gen Cert.ReferenceIdeal.Value Idealize.ShloMosaic Idealize.ShloMosaic.TcCoe Idealize.ShloMosaic.StableHlo

variable {V0 : Valuation τ sig (Elt Ideal)}

/-- Where trip `j` reads and writes its chunk. -/
def at5 (j : ℕ) : Fin 5 → ℕ := ![j, 0, 0, 0, 0]

/-- The starts a trip computes are those. -/
theorem starts {j : Fin 32} (h7 : V0 (Proc.devRef .tc main_v66_7) = constantI S_ 32 (BitVec.ofNat 32 j)) (a : Fin 5) :
    (((![V0 (Proc.devRef .tc main_v66_7), constantI S_ 32 0#32, constantI S_ 32 0#32, constantI S_ 32 0#32, constantI S_ 32 0#32] : Fin 5 → (⟨S_, .i32⟩ : BufTy).Contents (Elt Ideal))) a (Shape.Idx.first h_S_)).toInt
      = ((at5 j a : ℕ) : ℤ) := by
  have hj : (BitVec.ofNat 32 j.val).toInt = (j.val : ℤ) := by
    have := j.isLt
    rw [BitVec.toInt_eq_toNat_of_lt (by rw [BitVec.toNat_ofNat]; omega), BitVec.toNat_ofNat]; omega
  fin_cases a
  · show (V0 (Proc.devRef .tc main_v66_7) (Shape.Idx.first h_S_)).toInt = (j.val : ℤ)
    rw [h7]; exact hj
  all_goals rfl

/-- A chunk of width 256 is a slice at those starts. -/
theorem fits256 (j : Fin 32) : S32x8x4x128x256.Slices (at5 j) S1x8x4x128x256 :=
  ⟨rfl, fun a => by have := j.isLt; fin_cases a <;> simp [at5, S32x8x4x128x256, S1x8x4x128x256] <;> omega⟩
/-- A chunk of width 512 is a slice at those starts. -/
theorem fits512 (j : Fin 32) : S32x8x4x128x512.Slices (at5 j) S1x8x4x128x512 :=
  ⟨rfl, fun a => by have := j.isLt; fin_cases a <;> simp [at5, S32x8x4x128x512, S1x8x4x128x512] <;> omega⟩

section
variable {j : Fin 32} (h7 : V0 (Proc.devRef .tc main_v66_7) = constantI S_ 32 (BitVec.ofNat 32 j)) (b : Fin 8) (h : Fin 4)
include h7

/-- The chunk of queries a trip reads. -/
theorem qslice_at (r : Fin 128) (d : Fin 256) : res_main_while0b_v88 V0 (ix4 b h r d) = V0 (Proc.devRef .tc main_v66_0) (ix5 j b h r d) := by
  unfold res_main_while0b_v88
  rw [WordCmp.dynamicSlice_eq_extract _ _ _ _ (at5 j) (fits256 j) (starts h7)]
  pointwise [at5]
/-- The chunk of keys a trip reads. -/
theorem kslice_at (r : Fin 128) (d : Fin 256) : res_main_while0b_v89 V0 (ix4 b h r d) = V0 (Proc.devRef .tc main_v66_1) (ix5 j b h r d) := by
  unfold res_main_while0b_v89
  rw [WordCmp.dynamicSlice_eq_extract _ _ _ _ (at5 j) (fits256 j) (starts h7)]
  pointwise [at5]
/-- The chunk of values a trip reads. -/
theorem vslice_at (r : Fin 128) (e : Fin 512) : res_main_while0b_v90 V0 (ix4 b h r e) = V0 (Proc.devRef .tc main_v66_2) (ix5 j b h r e) := by
  unfold res_main_while0b_v90
  rw [WordCmp.dynamicSlice_eq_extract _ _ _ _ (at5 j) (fits512 j) (starts h7)]
  pointwise [at5]

/-- The outputs of other trips are kept. -/
theorem ys_other (j' : Fin 32) (hne : j' ≠ j) (r : Fin 128) (e : Fin 512) :
    step_main_v66_9 V0 (ix5 j' b h r e) = V0 (Proc.devRef .tc main_v66_9) (ix5 j' b h r e) := by
  unfold step_main_v66_9
  rw [id, WordCmp.dynamicUpdateSlice_eq_update _ _ _ _ (at5 j) (fits512 j) (starts h7)]
  unfold updateSlice
  refine dif_neg fun hin => hne ?_
  have h0 := hin 0
  have h1 : j.val ≤ j'.val := h0.1
  have h2 : j'.val < j.val + 1 := h0.2
  exact Fin.ext (by omega)

end

/-- The state before a trip. -/
abbrev stV (V0 : Valuation τ sig (Elt Ideal)) : FVec Ideal S8x4x256x512 .f32 := V0 (Proc.devRef .tc main_v66_8)
/-- The decay of a whole chunk. -/
abbrev cdV (V0 : Valuation τ sig (Elt Ideal)) : FVec Ideal S1x4x1x1 .f32 := V0 (Proc.devRef .tc main_v66_5)
/-- The decays of the keys of a chunk. -/
abbrev kvV (V0 : Valuation τ sig (Elt Ideal)) : FVec Ideal S1x4x128x1 .f32 := V0 (Proc.devRef .tc main_v66_6)
/-- The decays between two positions of a chunk. -/
abbrev inV (V0 : Valuation τ sig (Elt Ideal)) : FVec Ideal S4x128x128 .f32 := V0 (Proc.devRef .tc main_v66_3)
/-- The decays of the state within a chunk. -/
abbrev crV (V0 : Valuation τ sig (Elt Ideal)) : FVec Ideal S1x4x128x1 .f32 := V0 (Proc.devRef .tc main_v66_4)
/-- The outputs so far. -/
abbrev ysV (V0 : Valuation τ sig (Elt Ideal)) : FVec Ideal S32x8x4x128x512 .f32 := V0 (Proc.devRef .tc main_v66_9)
/-- The projections. -/
abbrev arV (V0 : Valuation τ sig (Elt Ideal)) : Proj := V0 (Proc.devRef .tc main_arg0)
/-- The trip's queries. -/
abbrev qsV (V0 : Valuation τ sig (Elt Ideal)) : FVec Ideal S8x4x128x256 .f32 := res_main_while0b_v88 V0
/-- The trip's keys. -/
abbrev ksV (V0 : Valuation τ sig (Elt Ideal)) : FVec Ideal S8x4x128x256 .f32 := res_main_while0b_v89 V0
/-- The trip's values. -/
abbrev vsV (V0 : Valuation τ sig (Elt Ideal)) : FVec Ideal S8x4x128x512 .f32 := res_main_while0b_v90 V0

/-- The state a trip leaves. -/
theorem st_at (b : Fin 8) (h : Fin 4) (d : Fin 256) (e : Fin 512) :
    step_main_v66_8 V0 (ix4 b h d e) = stV V0 (ix4 b h d e) * cdV V0 (ix4 0 h 0 0)
      + ∑ x : Fin 128, ksV V0 (ix4 b h x d) * kvV V0 (ix4 0 h x 0)
          * vsV V0 (ix4 b h x e) := by
  pointwise [step_main_v66_8, id]

/-- The outputs a trip writes. -/
theorem ys_at {j : Fin 32} (h7 : V0 (Proc.devRef .tc main_v66_7) = constantI S_ 32 (BitVec.ofNat 32 j)) (b : Fin 8) (h : Fin 4) (r : Fin 128) (e : Fin 512) :
    step_main_v66_9 V0 (ix5 j b h r e) =
      ∑ x : Fin 128, (∑ d : Fin 256, qsV V0 (ix4 b h r d) * ksV V0 (ix4 b h x d))
          * inV V0 (ix3 h r x) * vsV V0 (ix4 b h x e)
      + (∑ d : Fin 256, qsV V0 (ix4 b h r d) * stV V0 (ix4 b h d e))
          * crV V0 (ix4 0 h r 0) := by
  unfold step_main_v66_9
  rw [id, WordCmp.dynamicUpdateSlice_eq_update _ _ _ _ (at5 j) (fits512 j) (starts h7)]
  pointwise [at5]
  refine dif_pos fun a => ?_
  fin_cases a
  · exact ⟨le_rfl, Nat.lt_succ_self _⟩
  · exact ⟨Nat.zero_le _, (Nat.zero_add 8).symm ▸ b.isLt⟩
  · exact ⟨Nat.zero_le _, (Nat.zero_add 4).symm ▸ h.isLt⟩
  · exact ⟨Nat.zero_le _, (Nat.zero_add 128).symm ▸ r.isLt⟩
  · exact ⟨Nat.zero_le _, (Nat.zero_add 512).symm ▸ e.isLt⟩

/-- An entry of the reference's result, of what the trips leave. -/
theorem out_at (b : Fin 8) (n : Fin 4096) (h : Fin 4) (e : Fin 512) :
    out_main_v87 V0 (ix3 b n (⟨h.val * 512 + e.val, by omega⟩ : Fin 2048)) =
      arV V0 (ix2 (⟨b.val * 4096 + n.val, by omega⟩ : Fin 32768) (⟨4096 + (h.val * 512 + e.val), by omega⟩ : Fin 6144)) *
      (ysV V0 (ix5 (⟨n.val / 128, by omega⟩ : Fin 32) b h (⟨n.val % 128, Nat.mod_lt _ (by decide)⟩ : Fin 128) e) *
        Ideal.rsqrt
          (Ideal.div
              (∑ x : Fin 512,
                ysV V0 (ix5 (⟨n.val / 128, by omega⟩ : Fin 32) b h (⟨n.val % 128, Nat.mod_lt _ (by decide)⟩ : Fin 128) x) *
                  ysV V0 (ix5 (⟨n.val / 128, by omega⟩ : Fin 32) b h (⟨n.val % 128, Nat.mod_lt _ (by decide)⟩ : Fin 128) x))
              (Ideal.ofBits FTy.f32 1140850688#32) +
            Ideal.ofBits FTy.f32 897988541#32)) := by
  pointwise [out_main_v87]

/-- What the trips before trip `k` leave: the chunks and tables, the decayed sum over the positions before, the outputs so far. -/
structure Before (X : Proj) (V0 : Valuation τ sig (Elt Ideal)) (k : ℕ) : Prop where
  q : V0 (Proc.devRef .tc main_v66_0) = Step.A_main_v12 (F := Ideal) X
  ky : V0 (Proc.devRef .tc main_v66_1) = Step.A_main_v14 (F := Ideal) X
  v : V0 (Proc.devRef .tc main_v66_2) = Step.A_main_v16 (F := Ideal) X
  intra : V0 (Proc.devRef .tc main_v66_3) = Step.K_main_v41 (F := Ideal)
  cross : V0 (Proc.devRef .tc main_v66_4) = Step.K_main_v50 (F := Ideal)
  decay : V0 (Proc.devRef .tc main_v66_5) = Step.K_main_v63 (F := Ideal)
  keys : V0 (Proc.devRef .tc main_v66_6) = Step.K_main_v59 (F := Ideal)
  count : V0 (Proc.devRef .tc main_v66_7) = constantI S_ 32 (BitVec.ofNat 32 k)
  state : ∀ (b : Fin 8) (h : Fin 4) (d : Fin 256) (e : Fin 512), stV V0 (ix4 b h d e) = ((sR X b h (128 * k) d e : ℝ) : EReal)
  outs : ∀ (j : Fin 32) (b : Fin 8) (h : Fin 4) (r : Fin 128) (e : Fin 512), j.val < k →
    ysV V0 (ix5 j b h r e) = ((yR X b h (128 * j.val + r.val) e : ℝ) : EReal)

section
variable {X : Proj} (hX : ∀ n col, ∃ r : ℝ, X (ix2 n col) = (r : EReal)) {j : Fin 32} (I : Before X V0 j) (b : Fin 8) (h : Fin 4)
include hX I

/-- An entry of the chunk of queries of a trip. -/
theorem q_trip (r : Fin 128) (d : Fin 256) : qsV V0 (ix4 b h r d) = ((qR X b h (128 * j.val + r.val) d : ℝ) : EReal) :=
  (qslice_at I.count b h r d).trans ((congrFun I.q _).trans ((qc_at X j b h r d).trans (xr_eq X hX _ _)))
/-- An entry of the chunk of scaled keys of a trip. -/
theorem k_trip (r : Fin 128) (d : Fin 256) : ksV V0 (ix4 b h r d) = ((kR X b h (128 * j.val + r.val) d : ℝ) : EReal) := by
  refine (kslice_at I.count b h r d).trans ((congrFun I.ky _).trans ((kc_at X j b h r d).trans ?_))
  rw [xr_eq X hX, ← EReal.coe_mul]
  rfl
/-- An entry of the chunk of values of a trip. -/
theorem v_trip (r : Fin 128) (e : Fin 512) : vsV V0 (ix4 b h r e) = ((vR X b h e (128 * j.val + r.val) : ℝ) : EReal) :=
  (vslice_at I.count b h r e).trans ((congrFun I.v _).trans ((vc_at X j b h r e).trans (xr_eq X hX _ _)))

/-- The state after a trip is the decayed sum over one chunk more. -/
theorem state_trip (d : Fin 256) (e : Fin 512) : step_main_v66_8 V0 (ix4 b h d e) = ((sR X b h (128 * (j.val + 1)) d e : ℝ) : EReal) := by
  rw [st_at, I.state, show cdV V0 (ix4 0 h 0 0) = _ from (congrFun I.decay _).trans (cdR_at h)]
  simp only [k_trip hX I, v_trip hX I, fun x => (show kvV V0 (ix4 0 h x 0) = _ from (congrFun I.keys _).trans (kvdR_at h x)), ← EReal.coe_mul, ← coe_sumR, ← EReal.coe_add]
  rw [show 128 * (j.val + 1) = 128 * j.val + 128 from by ring]
  unfold sR
  rw [stR_add _ _ _ (128 * j.val) 128]

/-- The outputs a trip writes are the retention at its positions. -/
theorem outs_trip (r : Fin 128) (e : Fin 512) : step_main_v66_9 V0 (ix5 j b h r e) = ((yR X b h (128 * j.val + r.val) e : ℝ) : EReal) := by
  rw [ys_at I.count, show crV V0 (ix4 0 h r 0) = _ from (congrFun I.cross _).trans (crossR_at h r)]
  simp only [q_trip hX I, k_trip hX I, v_trip hX I, I.state, fun x => (show inV V0 (ix3 h r x) = _ from (congrFun I.intra _).trans (intraR_at h r x)), ← EReal.coe_mul, ← coe_sumR, ← EReal.coe_add]
  unfold yR sR
  rw [← retR_add (lgR h) _ _ _ (128 * j.val) 128 r]

/-- One trip more. -/
theorem trip : Before X (STEP V0) (j.val + 1) where
  q := (STEP_main_v66_0 V0).trans I.q
  ky := (STEP_main_v66_1 V0).trans I.ky
  v := (STEP_main_v66_2 V0).trans I.v
  intra := (STEP_main_v66_3 V0).trans I.intra
  cross := (STEP_main_v66_4 V0).trans I.cross
  decay := (STEP_main_v66_5 V0).trans I.decay
  keys := (STEP_main_v66_6 V0).trans I.keys
  count := by
    rw [STEP_main_v66_7, step_main_v66_7, I.count]
    funext i
    show BitVec.ofNat 32 j.val + 1#32 = _
    rw [show (1#32 : BitVec 32) = BitVec.ofNat 32 1 from rfl, ← BitVec.ofNat_add]
    rfl
  state b h d e := (congrFun (STEP_main_v66_8 V0) _).trans (state_trip hX I b h d e)
  outs j' b h r e hlt := by
    refine (congrFun (STEP_main_v66_9 V0) _).trans ?_
    by_cases hj : j' = j
    · subst hj
      exact outs_trip hX I b h r e
    · refine (ys_other I.count b h j' hj r e).trans (I.outs j' b h r e ?_)
      have : j'.val ≠ j.val := fun e => hj (Fin.ext e)
      omega
end

variable (m : (ℓ : Loc nD τ sig) → Buf (Elt Ideal) ℓ) (c : Dev nD)

/-- The projections the reference is given. -/
abbrev XR : Proj := m ((c.tc : Thread nD τ).loc main_arg0)

set_option maxRecDepth 65536 in
set_option maxHeartbeats 500000 in
/-- Before the first trip. -/
theorem before_first : Before (XR m c) (entryContents preI m c) 0 := by
  constructor
  case outs => exact fun j b h r e hlt => absurd hlt (by omega)
  case state =>
    intro b h d e
    have e8 : entryContents preI m c (Proc.devRef .tc main_v66_8) = Step.K_main_v64 (F := Ideal) := by
      simp only [entryContents, afterL_cons, afterL_nil]; after_reads_simp; rfl
    refine (congrFun e8 _).trans ?_
    rw [Nat.mul_zero, sR, stR_zero, EReal.coe_zero]
    pointwise [Step.K_main_v64, Step.K_main_cst_8]
  all_goals (simp only [entryContents, afterL_cons, afterL_nil]; after_reads_simp; rfl)

/-- After any number of trips up to the last. -/
theorem before_iter (hX : ∀ n col, ∃ r : ℝ, XR m c (ix2 n col) = (r : EReal)) (k : ℕ) (hk : k ≤ 32) : Before (XR m c) (STEP^[k] (entryContents preI m c)) k := by
  induction k with
  | zero => exact before_first m c
  | succ k ih =>
    rw [Function.iterate_succ_apply']
    exact trip hX (j := ⟨k, hk⟩) (ih (by omega))

/-- An entry of the reference's result is the gated, normalised retention of the projections. -/
theorem ref_at (hX : ∀ n col, ∃ r : ℝ, XR m c (ix2 n col) = (r : EReal)) (b : Fin 8) (n : Fin 4096) (h : Fin 4) (e : Fin 512) :
    out_main_v87 (STEP^[32] (entryContents preI m c)) (ix3 b n (⟨h.val * 512 + e.val, by omega⟩ : Fin 2048)) = outR (XR m c) b n h e := by
  have I := before_iter m c hX 32 le_rfl
  have hn : 128 * (n.val / 128) + n.val % 128 = n.val := Nat.div_add_mod _ _
  rw [out_at, show arV (STEP^[32] (entryContents preI m c)) = XR m c from iter_main_arg0 m c 32]
  have ho := fun x : Fin 512 => I.outs (⟨n.val / 128, by omega⟩ : Fin 32) b h (⟨n.val % 128, Nat.mod_lt _ (by decide)⟩ : Fin 128) x (by show n.val / 128 < 32; omega)
  simp only [ho, hn]
  unfold outR
  simp only [Nat.add_assoc]

end Cert.Ret
end
-- ==== Proof.Ret.Claim.lean ====
module

public import proofs.«01_k».proof.Defs
public import proofs.«01_k».proof.Proof.Gen.Pre_finite
public import proofs.«01_k».proof.Proof.Gen.KernelIdeal.Value
public import proofs.«01_k».proof.Proof.Ret.Kernel
public import proofs.«01_k».proof.Proof.Ret.RefRun
public import Idealize.ShloMosaic.Lib.Claim

@[expose] public section

set_option maxRecDepth 16384

noncomputable section

namespace Cert.Ret

open Idealize.ShloMosaic Idealize.SL.Sem

/-- A number whose absolute value is below the f32 infinity is a real number. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- Finite projections are real numbers. -/
theorem real_of_pre (X : Proj) (h : Cert.Pre_finite.fn (F := Ideal) X = fun _ => 1#1) (n : Fin 32768) (col : Fin 6144) :
    ∃ r : ℝ, X (ix2 n col) = (r : EReal) := by
  refine real_of_abs_lt _ ?_
  have h' := congrFun h (ix2 n col)
  rw [← h']
  symm
  pointwise [Cert.Pre_finite.fn]
  rfl

/-- An array with those entries is the whole result. -/
theorem eq_outArr (X : Proj) (A : Vec Ideal Cert.KernelIdeal.S8x4096x2048 .bf16)
    (hA : ∀ (b : Fin 8) (n : Fin 4096) (h : Fin 4) (e : Fin 512), A (ix3 b n (⟨h.val * 512 + e.val, by omega⟩ : Fin 2048)) = outR X b n h e) : A = outArr X := by
  funext y
  have h2 : (y 2).val < 2048 := (y 2).isLt
  have hy : y = ix3 (⟨(y 0).val, (y 0).isLt⟩ : Fin 8) (⟨(y 1).val, (y 1).isLt⟩ : Fin 4096)
      (⟨(⟨(y 2).val / 512, by omega⟩ : Fin 4).val * 512 + (⟨(y 2).val % 512, Nat.mod_lt _ (by decide)⟩ : Fin 512).val, by
        show (y 2).val / 512 * 512 + (y 2).val % 512 < 2048; omega⟩ : Fin 2048) := by
    funext a
    apply Fin.ext
    fin_cases a
    · rfl
    · rfl
    · show (y 2).val = (y 2).val / 512 * 512 + (y 2).val % 512
      omega
  exact (congrArg A hy).trans (hA _ _ _ _)

/-- The reference's whole result. -/
theorem ref_eq (m : (ℓ : Loc Cert.ReferenceIdeal.nD Cert.ReferenceIdeal.τ Cert.ReferenceIdeal.sig) → Buf (Elt Ideal) ℓ) (c : Dev Cert.ReferenceIdeal.nD)
    (hX : ∀ n col, ∃ r : ℝ, XR m c (ix2 n col) = (r : EReal)) :
    Cert.ReferenceIdeal.Value.out_main_v87 (Cert.ReferenceIdeal.Value.STEP^[32] (StableHlo.entryContents Cert.ReferenceIdeal.Value.preI m c)) = outArr (XR m c) :=
  eq_outArr _ _ (ref_at m c hX)

/-- Over the extended reals the retention kernel and the reference compute the same array from finite projections. -/
theorem algebraic : Cert.algebraic_KernelIdeal_ReferenceIdeal_pre_finite := by
  intro m g m' g' hpre hagree
  have hK : ∀ c : Dev Cert.KernelIdeal.nD, ∀ n col, ∃ r : ℝ, XK m c (ix2 n col) = (r : EReal) := fun c => real_of_pre _ (hpre c)
  have hXX : ∀ c : Dev Cert.KernelIdeal.nD, XR m' c = XK m c := hagree
  have hR : ∀ c : Dev Cert.KernelIdeal.nD, ∀ n col, ∃ r : ℝ, XR m' c (ix2 n col) = (r : EReal) := fun c => (hXX c).symm ▸ hK c
  have hV : ∀ c : Dev Cert.KernelIdeal.nD,
      Cert.ReferenceIdeal.Value.out_main_v87 (Cert.ReferenceIdeal.Value.STEP^[32] (StableHlo.entryContents Cert.ReferenceIdeal.Value.preI m' c)) = outArr (XK m c) :=
    fun c => (ref_eq m' c (hR c)).trans (congrArg outArr (hXX c))
  refine ⟨fun c => outArr (XK m c), ?_, ?_⟩
  · refine (θ_run Cert.KernelIdeal.defs _ _).mono (fun r h c => ?_) (Cert.KernelIdeal.Value.run_blocks m g)
    obtain ⟨h1, h2⟩ := h c
    exact ⟨Eq.trans h1 (kernel_eq m c (hK c)), h2⟩
  · refine (θ_run Cert.ReferenceIdeal.defs _ _).mono (fun r h c => ?_) (Cert.ReferenceIdeal.Value.run m' g')
    obtain ⟨h1, h2⟩ := h c
    exact ⟨Eq.trans h1 (hV c), h2⟩

end Cert.Ret
end
-- ==== Proof.Tail.Spec.lean ====
module

public import Idealize.ShloMosaic.Lib.IdealHost
public import Idealize.ShloMosaic.Lib.Pointwise
public import Idealize.ShloMosaic.Lib.Pipeline.ValueKit

@[expose] public section

noncomputable section

/-! What the tail of a layer computes, row by row, over the extended reals. -/

namespace Cert.Tail

open Idealize.ShloMosaic

/-- A row. -/
abbrev Row := Fin 1024 → EReal

/-- A row divided by the root of its mean square and scaled. -/
def nrm (x g : Row) : Row := fun j =>
  x j * Ideal.rsqrt (Ideal.div (∑ k : Fin 1024, x k * x k) (Ideal.ofBits .f32 0x44800000#32) + Ideal.ofBits .f32 0x358637BD#32) * g j

/-- A row with a row of a product added. -/
def addDot {n : ℕ} (x : Row) (y : Fin n → EReal) (w : Fin n → Row) : Row := fun j => x j + ∑ k : Fin n, y k * w k j

/-- The square of the positive part of a column of a product. -/
def act (x w : Row) : EReal := max (∑ k : Fin 1024, x k * w k) 0 * max (∑ k : Fin 1024, x k * w k) 0

/-- A row with its feed-forward layer added. -/
def ffn (x g : Row) (wu : Fin 1024 → Fin 4096 → EReal) (wd : Fin 4096 → Row) : Row := fun j =>
  x j + ∑ f : Fin 4096, act (nrm x g) (fun k => wu k f) * wd f j

/-- A row with its gated embedding added. -/
def ple (x g : Row) (p : Fin 256 → EReal) (wg : Fin 1024 → Row) (wp : Fin 256 → Row) : Row := fun j =>
  x j + (∑ k : Fin 256, p k * wp k j) * Ideal.logistic (∑ k : Fin 1024, nrm x g k * wg k j)

/-- The row a tail leaves before any last norm. -/
def row {n : ℕ} (x : Row) (y : Fin n → EReal) (wo : Fin n → Row) (gm : Row) (wu : Fin 1024 → Fin 4096 → EReal) (wd : Fin 4096 → Row) (gp : Row)
    (p : Fin 256 → EReal) (wg : Fin 1024 → Row) (wp : Fin 256 → Row) : Row :=
  ple (ffn (addDot x y wo) gm wu wd) gp p wg wp

/-- A sum over the 4096 columns is a sum of its four quarters. -/
theorem sum_quarters (F : Fin 4096 → EReal) :
    ∑ f : Fin 4096, F f = (∑ k : Fin 1024, F ⟨k.val, by omega⟩) + (∑ k : Fin 1024, F ⟨1024 + k.val, by omega⟩)
      + (∑ k : Fin 1024, F ⟨2048 + k.val, by omega⟩) + ∑ k : Fin 1024, F ⟨3072 + k.val, by omega⟩ := by
  have h1 := Fin.sum_univ_add (M := EReal) (a := 3072) (b := 1024) (fun f => F f)
  have h2 := Fin.sum_univ_add (M := EReal) (a := 2048) (b := 1024) (fun f : Fin 3072 => F (Fin.castAdd 1024 f))
  have h3 := Fin.sum_univ_add (M := EReal) (a := 1024) (b := 1024) (fun f : Fin 2048 => F (Fin.castAdd 1024 (Fin.castAdd 1024 f)))
  exact h1.trans (congrArg (· + _) (h2.trans (congrArg (· + _) h3)))

/-- A row with its feed-forward layer added a quarter at a time. -/
theorem ffn_eq (x g : Row) (wu : Fin 1024 → Fin 4096 → EReal) (wd : Fin 4096 → Row) (j : Fin 1024) :
    ffn x g wu wd j = x j + (∑ k : Fin 1024, act (nrm x g) (fun i => wu i ⟨k.val, by omega⟩) * wd ⟨k.val, by omega⟩ j)
      + (∑ k : Fin 1024, act (nrm x g) (fun i => wu i ⟨1024 + k.val, by omega⟩) * wd ⟨1024 + k.val, by omega⟩ j)
      + (∑ k : Fin 1024, act (nrm x g) (fun i => wu i ⟨2048 + k.val, by omega⟩) * wd ⟨2048 + k.val, by omega⟩ j)
      + ∑ k : Fin 1024, act (nrm x g) (fun i => wu i ⟨3072 + k.val, by omega⟩) * wd ⟨3072 + k.val, by omega⟩ j := by
  unfold ffn
  rw [sum_quarters]
  simp only [add_assoc]

end Cert.Tail
end
-- ==== Proof.Tail.LastBody.lean ====
module

public import proofs.«01_k».proof.Proof.Tail.Spec
public import proofs.«01_k».proof.Proof.Gen.TailLastIdeal.Frame
public import proofs.«01_k».proof.Proof.Gen.TailLastIdeal.Value

@[expose] public section

set_option maxRecDepth 16384

noncomputable section

namespace Cert.Tail.Last

open Cert.TailLastIdeal Cert.TailLastIdeal.Gen Idealize.ShloMosaic Idealize.ShloMosaic.TcCoe

/-- The residual with the projected attention added. -/
theorem pay2_at (v0 : Vec Ideal S512x1024 .f32) (v1 : Vec Ideal S512x2048 .bf16) (v2 : Vec Ideal S2048x1024 .bf16) (i : Fin 512) (j : Fin 1024) :
    k0_pay2 v0 v1 v2 (ix2 i j) = addDot (fun j => v0 (ix2 i j)) (fun k => v1 (ix2 i k)) (fun k j => v2 (ix2 k j)) j := by
  pointwise [k0_pay2]
  rfl

/-- Its norm. -/
theorem pay3_at (v0 : Vec Ideal S512x1024 .f32) (v1 : Vec Ideal S512x2048 .bf16) (v2 : Vec Ideal S2048x1024 .bf16) (v5 : Vec Ideal S1x1024 .f32) (i : Fin 512) (j : Fin 1024) :
    k0_pay3 v0 v1 v2 v5 (ix2 i j) = nrm (fun j => k0_pay2 v0 v1 v2 (ix2 i j)) (fun j => v5 (ix2 0 j)) j := by
  pointwise [k0_pay3]
  rfl

/-- The first quarter of the feed-forward layer added. -/
theorem pay4_at (v0 : Vec Ideal S512x1024 .f32) (v1 : Vec Ideal S512x2048 .bf16) (v2 : Vec Ideal S2048x1024 .bf16) (v5 : Vec Ideal S1x1024 .f32)
    (v20 v26 : Vec Ideal S1024x1024 .bf16) (i : Fin 512) (j : Fin 1024) :
    k0_pay4 v0 v1 v2 v5 v20 v26 (ix2 i j) = k0_pay2 v0 v1 v2 (ix2 i j)
      + ∑ k : Fin 1024, act (fun j => k0_pay3 v0 v1 v2 v5 (ix2 i j)) (fun l => v20 (ix2 l k)) * v26 (ix2 k j) := by
  pointwise [k0_pay4]
  rfl

/-- The second quarter's activations. -/
theorem pay5_at (v0 : Vec Ideal S512x1024 .f32) (v1 : Vec Ideal S512x2048 .bf16) (v2 : Vec Ideal S2048x1024 .bf16) (v5 : Vec Ideal S1x1024 .f32)
    (v29 : Vec Ideal S1024x1024 .bf16) (i : Fin 512) (k : Fin 1024) :
    k0_pay5 v0 v1 v2 v5 v29 (ix2 i k) = act (fun j => k0_pay3 v0 v1 v2 v5 (ix2 i j)) (fun l => v29 (ix2 l k)) := by
  pointwise [k0_pay5]
  rfl

/-- The other quarters added. -/
theorem pay6_at (v19 : FVec Ideal S512x1024 .bf16) (v28 : FVec Ideal S512x1024 .f32) (v34 : FVec Ideal S512x1024 .bf16)
    (v35 v38 v44 v47 v53 : Vec Ideal S1024x1024 .bf16) (i : Fin 512) (j : Fin 1024) :
    k0_pay6 v19 v28 v34 v35 v38 v44 v47 v53 (ix2 i j) = v28 (ix2 i j) + (∑ k : Fin 1024, (v34 (ix2 i k) : EReal) * v35 (ix2 k j))
      + (∑ k : Fin 1024, act (fun j => v19 (ix2 i j)) (fun l => v38 (ix2 l k)) * v44 (ix2 k j))
      + ∑ k : Fin 1024, act (fun j => v19 (ix2 i j)) (fun l => v47 (ix2 l k)) * v53 (ix2 k j) := by
  pointwise [k0_pay6]
  rfl

/-- The norm of the sum. -/
theorem pay7_at (v19 : FVec Ideal S512x1024 .bf16) (v28 : FVec Ideal S512x1024 .f32) (v34 : FVec Ideal S512x1024 .bf16)
    (v35 v38 v44 v47 v53 : Vec Ideal S1024x1024 .bf16) (v56 : Vec Ideal S1x1024 .f32) (i : Fin 512) (j : Fin 1024) :
    k0_pay7 v19 v28 v34 v35 v38 v44 v47 v53 v56 (ix2 i j)
      = nrm (fun j => k0_pay6 v19 v28 v34 v35 v38 v44 v47 v53 (ix2 i j)) (fun j => v56 (ix2 0 j)) j := by
  pointwise [k0_pay7]
  rfl

/-- The gated embedding added and the last norm taken. -/
theorem pay1_at (v55 : FVec Ideal S512x1024 .f32) (v70 : FVec Ideal S512x1024 .bf16) (v71 : Vec Ideal S1024x1024 .bf16) (v74 : Vec Ideal S1x512x256 .f32)
    (v77 : Vec Ideal S256x1024 .bf16) (v82 : Vec Ideal S1x1024 .f32) (i : Fin 512) (j : Fin 1024) :
    k0_pay1 v55 v70 v71 v74 v77 v82 (ix2 i j) = nrm (fun j => (v55 (ix2 i j) : EReal) + (∑ k : Fin 256, (v74 (ix3 0 i k) : EReal) * v77 (ix2 k j))
      * Ideal.logistic (∑ k : Fin 1024, (v70 (ix2 i k) : EReal) * v71 (ix2 k j))) (fun j => v82 (ix2 0 j)) j := by
  pointwise [k0_pay1]
  rfl

end Cert.Tail.Last
end
-- ==== Proof.Tail.LastKernel.lean ====
module

public import proofs.«01_k».proof.Proof.Tail.LastBody

@[expose] public section

set_option maxRecDepth 16384

noncomputable section

namespace Cert.Tail.Last

open Cert.TailLastIdeal Cert.TailLastIdeal.Gen Idealize.ShloMosaic Idealize.ShloMosaic.TcCoe

/-- A quarter of the first feed-forward weight's columns. -/
theorem ldU_at (x : Vec Ideal S1024x4096 .bf16) (o : ℕ) (ho : o ≤ 3072) (inb) (l k : Fin 1024) :
    View.ld x (Rect.unit (s := S1024x4096) ![0, o] S1024x1024.size inb) (ix2 l k) = x (ix2 l (⟨o + k.val, by omega⟩ : Fin 4096)) :=
  View.ld_unit_apply_of x _ _ inb _ _ fun a => by fin_cases a <;> (try blk_simp) <;> rfl

/-- A quarter of the second feed-forward weight's rows. -/
theorem ldD_at (x : Vec Ideal S4096x1024 .bf16) (o : ℕ) (ho : o ≤ 3072) (inb) (k j : Fin 1024) :
    View.ld x (Rect.unit (s := S4096x1024) ![o, 0] S1024x1024.size inb) (ix2 k j) = x (ix2 (⟨o + k.val, by omega⟩ : Fin 4096) j) :=
  View.ld_unit_apply_of x _ _ inb _ _ fun a => by fin_cases a <;> (try blk_simp) <;> rfl

/-- What the body leaves in a block. -/
theorem out_at (x0 : Vec Ideal S512x1024 .f32) (x1 : Vec Ideal S512x2048 .bf16) (x2 : Vec Ideal S1x512x256 .f32) (x3 : Vec Ideal S2048x1024 .bf16)
    (x4 : Vec Ideal S1x1024 .f32) (x5 : Vec Ideal S1024x4096 .bf16) (x6 : Vec Ideal S4096x1024 .bf16) (x7 : Vec Ideal S1x1024 .f32)
    (x8 : Vec Ideal S1024x1024 .bf16) (x9 : Vec Ideal S256x1024 .bf16) (x10 : Vec Ideal S1x1024 .f32) (i : Fin 512) (j : Fin 1024) :
    out0_11 x0 x1 x2 x3 x4 x5 x6 x7 x8 x9 x10 (ix2 i j) =
      nrm (row (fun j => x0 (ix2 i j)) (fun k => x1 (ix2 i k)) (fun k j => x3 (ix2 k j)) (fun j => x4 (ix2 0 j)) (fun k f => x5 (ix2 k f))
        (fun f j => x6 (ix2 f j)) (fun j => x7 (ix2 0 j)) (fun k => x2 (ix3 0 i k)) (fun k j => x8 (ix2 k j)) (fun k j => x9 (ix2 k j)))
        (fun j => x10 (ix2 0 j)) j := by
  have e6 : ∀ j : Fin 1024, k0_pay6 (k0_pay8 x0 x1 x2 x3 x4 x5 x6 x7 x8 x9 x10) (k0_pay9 x0 x1 x2 x3 x4 x5 x6 x7 x8 x9 x10) (k0_pay10 x0 x1 x2 x3 x4 x5 x6 x7 x8 x9 x10)
      (View.ld x6 r0_7) (View.ld x5 r0_8) (View.ld x6 r0_9) (View.ld x5 r0_10) (View.ld x6 r0_11) (ix2 i j)
      = ffn (addDot (fun j => x0 (ix2 i j)) (fun k => x1 (ix2 i k)) (fun k j => x3 (ix2 k j))) (fun j => x4 (ix2 0 j)) (fun k f => x5 (ix2 k f))
        (fun f j => x6 (ix2 f j)) j := by
    intro j
    rw [pay6_at, ffn_eq]
    unfold k0_pay8 k0_pay9 k0_pay10
    simp only [pay4_at, pay5_at, pay3_at, pay2_at]
    rw [View.ld_unit_lit _ x0 (by decide), View.ld_unit_lit _ x1 (by decide), View.ld_unit_lit _ x3 (by decide), View.ld_unit_lit _ x4 (by decide)]
    have hU0 : ∀ l k : Fin 1024, View.ld x5 r0_4 (ix2 l k) = x5 (ix2 l (⟨k.val, by omega⟩ : Fin 4096)) := fun l k => by
      rw [ldU_at x5 0 (by omega)]; simp only [Nat.zero_add]
    have hU1 : ∀ l k : Fin 1024, View.ld x5 r0_6 (ix2 l k) = x5 (ix2 l (⟨1024 + k.val, by omega⟩ : Fin 4096)) := ldU_at x5 1024 (by omega) _
    have hU2 : ∀ l k : Fin 1024, View.ld x5 r0_8 (ix2 l k) = x5 (ix2 l (⟨2048 + k.val, by omega⟩ : Fin 4096)) := ldU_at x5 2048 (by omega) _
    have hU3 : ∀ l k : Fin 1024, View.ld x5 r0_10 (ix2 l k) = x5 (ix2 l (⟨3072 + k.val, by omega⟩ : Fin 4096)) := ldU_at x5 3072 (by omega) _
    have hD0 : ∀ k j : Fin 1024, View.ld x6 r0_5 (ix2 k j) = x6 (ix2 (⟨k.val, by omega⟩ : Fin 4096) j) := fun k j => by
      rw [ldD_at x6 0 (by omega)]; simp only [Nat.zero_add]
    have hD1 : ∀ k j : Fin 1024, View.ld x6 r0_7 (ix2 k j) = x6 (ix2 (⟨1024 + k.val, by omega⟩ : Fin 4096) j) := ldD_at x6 1024 (by omega) _
    have hD2 : ∀ k j : Fin 1024, View.ld x6 r0_9 (ix2 k j) = x6 (ix2 (⟨2048 + k.val, by omega⟩ : Fin 4096) j) := ldD_at x6 2048 (by omega) _
    have hD3 : ∀ k j : Fin 1024, View.ld x6 r0_11 (ix2 k j) = x6 (ix2 (⟨3072 + k.val, by omega⟩ : Fin 4096) j) := ldD_at x6 3072 (by omega) _
    simp only [hU0, hU1, hU2, hU3, hD0, hD1, hD2, hD3]
  unfold out0_11
  rw [View.canon_cons_unit_lit _ _ _ (by decide), pay1_at]
  simp only [e6, pay7_at]
  rw [View.ld_unit_lit _ x2 (by decide), View.ld_unit_lit _ x7 (by decide), View.ld_unit_lit _ x8 (by decide), View.ld_unit_lit _ x9 (by decide), View.ld_unit_lit _ x10 (by decide)]
  rfl

variable (m : (ℓ : Loc nD τ sig) → Buf (Elt Ideal) ℓ)

/-- The blocks of a point. -/
theorem idx : ∀ t : Fin cfg0.N, win0_0.index t = ![t.val, 0] ∧ win0_1.index t = ![t.val, 0]
    ∧ win0_2.index t = ![1, t.val, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

/-- The row of a point's row. -/
abbrev rowOf (t : Fin cfg0.N) (i : Fin 512) : Fin 32768 :=
  ⟨512 * t.val + i.val, by have : t.val < 64 := t.isLt; omega⟩

/-- The arguments as the region finds them. -/
theorem arg_eq (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg5 = m ((c : Thread nD τ).loc main_arg5) ∧ V m c main_arg6 = m ((c : Thread nD τ).loc main_arg6)
    ∧ V m c main_arg8 = m ((c : Thread nD τ).loc main_arg8) := by
  simp only [V, hostOps0, StableHlo.after_cons, StableHlo.after_nil]
  refine ⟨?_, ?_, ?_, ?_, ?_, ?_, ?_⟩ <;> after_results_simp

/-- The feed-forward gain. -/
theorem v7_at (c : Dev nD) (j : Fin 1024) : V m c main_v7 (ix2 0 j) = m ((c : Thread nD τ).loc main_arg4) (ix2 1 j) := by
  simp only [V, hostOps0, StableHlo.after_cons, StableHlo.after_nil]
  after_results_simp
  pointwise
/-- The embedding's gain. -/
theorem v8_at (c : Dev nD) (j : Fin 1024) : V m c main_v8 (ix2 0 j) = m ((c : Thread nD τ).loc main_arg7) (ix2 1 j) := by
  simp only [V, hostOps0, StableHlo.after_cons, StableHlo.after_nil]
  after_results_simp
  pointwise
/-- The last gain. -/
theorem v9_at (c : Dev nD) (j : Fin 1024) : V m c main_v9 (ix2 0 j) = m ((c : Thread nD τ).loc main_arg10) (ix1 j) := by
  simp only [V, hostOps0, StableHlo.after_cons, StableHlo.after_nil]
  after_results_simp
  pointwise
/-- The embedding's weight. -/
theorem v6_at (c : Dev nD) (k : Fin 256) (j : Fin 1024) : V m c main_v6 (ix2 k j) = m ((c : Thread nD τ).loc main_arg9) (ix3 1 k j) := by
  simp only [V, hostOps0, StableHlo.after_cons, StableHlo.after_nil]
  after_results_simp
  pointwise

/-- The residual's block. -/
theorem b0_at (c : Dev nD) (t : Fin cfg0.N) (i : Fin 512) (j : Fin 1024) :
    iblk m c 0 t (ix2 i j) = m ((c : Thread nD τ).loc main_arg0) (ix2 (rowOf t i) j) := by
  have h := idx t
  refine Eq.trans ?_ (congrFun (arg_eq m c).1 _)
  blk_simp [iblk]
  congr 1
  blk_ext [h]
/-- The attention's block. -/
theorem b1_at (c : Dev nD) (t : Fin cfg0.N) (i : Fin 512) (j : Fin 2048) :
    iblk m c 1 t (ix2 i j) = m ((c : Thread nD τ).loc main_arg1) (ix2 (rowOf t i) j) := by
  have h := idx t
  refine Eq.trans ?_ (congrFun (arg_eq m c).2.1 _)
  blk_simp [iblk]
  congr 1
  blk_ext [h]
/-- The embeddings' block. -/
theorem b2_at (c : Dev nD) (t : Fin cfg0.N) (i : Fin 512) (k : Fin 256) :
    iblk m c 2 t (ix3 0 i k) = m ((c : Thread nD τ).loc main_arg2) (ix3 1 (rowOf t i) k) := by
  have h := idx t
  refine Eq.trans ?_ (congrFun (arg_eq m c).2.2.1 _)
  blk_simp [iblk]
  congr 1
  blk_ext [h]
/-- The output projection's block. -/
theorem b3_at (c : Dev nD) (t : Fin cfg0.N) (k : Fin 2048) (j : Fin 1024) :
    iblk m c 3 t (ix2 k j) = m ((c : Thread nD τ).loc main_arg3) (ix2 k j) := by
  have h := idx t
  refine Eq.trans ?_ (congrFun (arg_eq m c).2.2.2.1 _)
  blk_simp [iblk]
  congr 1
  blk_ext [h]
/-- The feed-forward gain's block. -/
theorem b4_at (c : Dev nD) (t : Fin cfg0.N) (j : Fin 1024) :
    iblk m c 4 t (ix2 0 j) = m ((c : Thread nD τ).loc main_arg4) (ix2 1 j) := by
  have h := idx t
  refine Eq.trans ?_ (v7_at m c j)
  blk_simp [iblk]
  congr 1
  blk_ext [h]
/-- The first feed-forward weight's block. -/
theorem b5_at (c : Dev nD) (t : Fin cfg0.N) (k : Fin 1024) (f : Fin 4096) :
    iblk m c 5 t (ix2 k f) = m ((c : Thread nD τ).loc main_arg5) (ix2 k f) := by
  have h := idx t
  refine Eq.trans ?_ (congrFun (arg_eq m c).2.2.2.2.1 _)
  blk_simp [iblk]
  congr 1
  blk_ext [h]
/-- The second feed-forward weight's block. -/
theorem b6_at (c : Dev nD) (t : Fin cfg0.N) (f : Fin 4096) (j : Fin 1024) :
    iblk m c 6 t (ix2 f j) = m ((c : Thread nD τ).loc main_arg6) (ix2 f j) := by
  have h := idx t
  refine Eq.trans ?_ (congrFun (arg_eq m c).2.2.2.2.2.1 _)
  blk_simp [iblk]
  congr 1
  blk_ext [h]
/-- The embedding's gain's block. -/
theorem b7_at (c : Dev nD) (t : Fin cfg0.N) (j : Fin 1024) :
    iblk m c 7 t (ix2 0 j) = m ((c : Thread nD τ).loc main_arg7) (ix2 1 j) := by
  have h := idx t
  refine Eq.trans ?_ (v8_at m c j)
  blk_simp [iblk]
  congr 1
  blk_ext [h]
/-- The gate's weight's block. -/
theorem b8_at (c : Dev nD) (t : Fin cfg0.N) (k j : Fin 1024) :
    iblk m c 8 t (ix2 k j) = m ((c : Thread nD τ).loc main_arg8) (ix2 k j) := by
  have h := idx t
  refine Eq.trans ?_ (congrFun (arg_eq m c).2.2.2.2.2.2 _)
  blk_simp [iblk]
  congr 1
  blk_ext [h]
/-- The embedding's weight's block. -/
theorem b9_at (c : Dev nD) (t : Fin cfg0.N) (k : Fin 256) (j : Fin 1024) :
    iblk m c 9 t (ix2 k j) = m ((c : Thread nD τ).loc main_arg9) (ix3 1 k j) := by
  have h := idx t
  refine Eq.trans ?_ (v6_at m c k j)
  blk_simp [iblk]
  congr 1
  blk_ext [h]
/-- The last gain's block. -/
theorem b10_at (c : Dev nD) (t : Fin cfg0.N) (j : Fin 1024) :
    iblk m c 10 t (ix2 0 j) = m ((c : Thread nD τ).loc main_arg10) (ix1 j) := by
  have h := idx t
  refine Eq.trans ?_ (v9_at m c j)
  blk_simp [iblk]
  congr 1
  blk_ext [h]

/-- The tail of the last layer, of its arguments. -/
def outArr (a0 : Vec Ideal S32768x1024 .f32) (a1 : Vec Ideal S32768x2048 .bf16) (a2 : Vec Ideal S2x32768x256 .f32) (a3 : Vec Ideal S2048x1024 .bf16)
    (a4 : Vec Ideal S2x1024 .f32) (a5 : Vec Ideal S1024x4096 .bf16) (a6 : Vec Ideal S4096x1024 .bf16) (a7 : Vec Ideal S2x1024 .f32)
    (a8 : Vec Ideal S1024x1024 .bf16) (a9 : Vec Ideal S2x256x1024 .f32) (a10 : Vec Ideal S1024 .f32) : Vec Ideal S32768x1024 .f32 := fun y =>
  nrm (row (fun j => a0 (ix2 (y 0 : Fin 32768) j)) (fun k => a1 (ix2 (y 0 : Fin 32768) k)) (fun k j => a3 (ix2 k j)) (fun j => a4 (ix2 1 j)) (fun k f => a5 (ix2 k f))
    (fun f j => a6 (ix2 f j)) (fun j => a7 (ix2 1 j)) (fun k => a2 (ix3 1 (y 0 : Fin 32768) k)) (fun k j => a8 (ix2 k j)) (fun k j => a9 (ix3 1 k j)))
    (fun j => a10 (ix1 j)) (y 1 : Fin 1024)

/-- Where a point's block lies in the result. -/
theorem out_emb (t : Fin cfg0.N) (i : Fin 512) (j : Fin 1024) : (win0_11.blk t).view.emb (ix2 i j) = ix2 (rowOf t i) j := by
  have h := idx t
  blk_ext [h]

/-- What a point leaves. -/
theorem out_point (c : Dev nD) (t : Fin cfg0.N) (i : Fin 512) (j : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t)
      (iblk m c 10 t) (ix2 i j) = outArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) (ix2 (rowOf t i) j) := by
  rw [out_at]
  simp only [b0_at, b1_at, b2_at, b3_at, b4_at, b5_at, b6_at, b7_at, b8_at, b9_at, b10_at]
  rfl

/-- The kernel's result is the tail of its arguments. -/
theorem kernel_eq (c : Dev nD) :
    (dats m 0 c).arrAt 11 cfg0.N = outArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  have e : (y : S512x1024.Idx) = ix2 (⟨(y 0).val, (y 0).isLt⟩ : Fin 512) (⟨(y 1).val, (y 1).isLt⟩ : Fin 1024) := by blk_ext
  rw [e]
  exact (out_point m c t _ _).trans (congrArg (outArr _ _ _ _ _ _ _ _ _ _ _) (out_emb t _ _).symm)

end Cert.Tail.Last
end
-- ==== Proof.Tail.LastRef.lean ====
module

public import proofs.«01_k».proof.Proof.Tail.Spec
public import proofs.«01_k».proof.Proof.Gen.TailLastRefIdeal.Read

@[expose] public section

set_option maxRecDepth 16384

noncomputable section

namespace Cert.Tail.Last

open Cert.TailLastRefIdeal Cert.TailLastRefIdeal.Read Idealize.ShloMosaic

variable (x0 : Vec Ideal S32768x1024 .f32) (x1 : Vec Ideal S32768x2048 .bf16) (x2 : Vec Ideal S2x32768x256 .f32) (x3 : Vec Ideal S2048x1024 .bf16)
    (x4 : Vec Ideal S2x1024 .f32) (x5 : Vec Ideal S1024x4096 .bf16) (x6 : Vec Ideal S4096x1024 .bf16) (x7 : Vec Ideal S2x1024 .f32)
    (x8 : Vec Ideal S1024x1024 .bf16) (x9 : Vec Ideal S2x256x1024 .f32) (x10 : Vec Ideal S1024 .f32)

/-- The residual with the projected attention added. -/
theorem ref3_at (i : Fin 32768) (j : Fin 1024) :
    val_main_v3 (F := Ideal) x0 x1 x3 (ix2 i j) = addDot (fun j => x0 (ix2 i j)) (fun k => x1 (ix2 i k)) (fun k j => x3 (ix2 k j)) j := by
  pointwise [val_main_v3, val_main_v2, val_main_v1, val_main_v0]
  rfl

/-- Its norm. -/
theorem ref18_at (i : Fin 32768) (j : Fin 1024) :
    val_main_v18 (F := Ideal) x0 x1 x3 x4 (ix2 i j) = nrm (fun j => val_main_v3 (F := Ideal) x0 x1 x3 (ix2 i j)) (fun j => x4 (ix2 1 j)) j := by
  pointwise [val_main_v18, val_main_v17, val_main_v16, val_main_v15, val_main_v14, val_main_v13, val_main_v12, val_main_v11, val_main_v10, val_main_v9, val_main_v8,
    val_main_v7, val_main_v6, val_main_v5, val_main_v4, val_main_cst, val_main_cst_0, val_main_cst_1]
  rfl

/-- The activations. -/
theorem ref22_at (i : Fin 32768) (f : Fin 4096) :
    val_main_v22 (F := Ideal) x0 x1 x3 x4 x5 (ix2 i f) = act (fun j => val_main_v18 (F := Ideal) x0 x1 x3 x4 (ix2 i j)) (fun k => x5 (ix2 k f)) := by
  pointwise [val_main_v22, val_main_v21, val_main_v20, val_main_v19, val_main_call0_v0, val_main_call0_cst]
  rfl

/-- The feed-forward layer added. -/
theorem ref25_at (i : Fin 32768) (j : Fin 1024) :
    val_main_v25 (F := Ideal) x0 x1 x3 x4 x5 x6 (ix2 i j) = ffn (fun j => val_main_v3 (F := Ideal) x0 x1 x3 (ix2 i j)) (fun j => x4 (ix2 1 j)) (fun k f => x5 (ix2 k f))
      (fun f j => x6 (ix2 f j)) j := by
  pointwise [val_main_v25, val_main_v24, val_main_v23]
  simp only [ref22_at, ref18_at]
  rfl

/-- The norm of the sum. -/
theorem ref40_at (i : Fin 32768) (j : Fin 1024) :
    val_main_v40 (F := Ideal) x0 x1 x3 x4 x5 x6 x7 (ix2 i j) = nrm (fun j => val_main_v25 (F := Ideal) x0 x1 x3 x4 x5 x6 (ix2 i j)) (fun j => x7 (ix2 1 j)) j := by
  pointwise [val_main_v40, val_main_v39, val_main_v38, val_main_v37, val_main_v36, val_main_v35, val_main_v34, val_main_v33, val_main_v32, val_main_v31, val_main_v30,
    val_main_v29, val_main_v28, val_main_v27, val_main_v26, val_main_cst_2, val_main_cst_3, val_main_cst_4]
  rfl

/-- The gated embedding added. -/
theorem ref55_at (i : Fin 32768) (j : Fin 1024) :
    val_main_v55 (F := Ideal) x0 x1 x2 x3 x4 x5 x6 x7 x8 x9 (ix2 i j) = ple (fun j => val_main_v25 (F := Ideal) x0 x1 x3 x4 x5 x6 (ix2 i j)) (fun j => x7 (ix2 1 j))
      (fun k => x2 (ix3 1 i k)) (fun k j => x8 (ix2 k j)) (fun k j => x9 (ix3 1 k j)) j := by
  pointwise [val_main_v55, val_main_v54, val_main_v53, val_main_v52, val_main_v51, val_main_v50, val_main_v49, val_main_v48, val_main_v47, val_main_v46, val_main_v45,
    val_main_v44, val_main_v43, val_main_v42, val_main_v41, val_main_cst_5, val_main_cst_6]
  simp only [ref40_at]
  rfl

/-- The last norm. -/
theorem ref68_at (i : Fin 32768) (j : Fin 1024) :
    val_main_v68 (F := Ideal) x0 x1 x2 x3 x4 x5 x6 x7 x8 x9 x10 (ix2 i j) = nrm (fun j => val_main_v55 (F := Ideal) x0 x1 x2 x3 x4 x5 x6 x7 x8 x9 (ix2 i j))
      (fun j => x10 (ix1 j)) j := by
  pointwise [val_main_v68, val_main_v67, val_main_v66, val_main_v65, val_main_v64, val_main_v63, val_main_v62, val_main_v61, val_main_v60, val_main_v59, val_main_v58,
    val_main_v57, val_main_v56, val_main_cst_7, val_main_cst_8, val_main_cst_9]
  rfl

/-- The reference's rows. -/
theorem ref_at (i : Fin 32768) (j : Fin 1024) :
    val_main_v68 (F := Ideal) x0 x1 x2 x3 x4 x5 x6 x7 x8 x9 x10 (ix2 i j) =
      nrm (row (fun j => x0 (ix2 i j)) (fun k => x1 (ix2 i k)) (fun k j => x3 (ix2 k j)) (fun j => x4 (ix2 1 j)) (fun k f => x5 (ix2 k f))
        (fun f j => x6 (ix2 f j)) (fun j => x7 (ix2 1 j)) (fun k => x2 (ix3 1 i k)) (fun k j => x8 (ix2 k j)) (fun k j => x9 (ix3 1 k j)))
        (fun j => x10 (ix1 j)) j := by
  rw [ref68_at]
  simp only [ref55_at, ref25_at, ref3_at]
  rfl

end Cert.Tail.Last
end
-- ==== Proof.Tail.LastClaim.lean ====
module

public import proofs.«01_k».proof.Defs
public import proofs.«01_k».proof.Proof.Gen.TailLastIdeal.Value
public import proofs.«01_k».proof.Proof.Tail.LastKernel
public import proofs.«01_k».proof.Proof.Tail.LastRef
public import Idealize.ShloMosaic.Lib.Quiescent
public import Idealize.ShloMosaic.Lib.Claim

@[expose] public section

set_option maxRecDepth 16384

noncomputable section

namespace Cert.Tail.Last

open Idealize.ShloMosaic Idealize.SL.Sem

/-- The reference's whole result. -/
theorem ref_eq (x0 : Vec Ideal Cert.TailLastIdeal.S32768x1024 .f32) (x1 : Vec Ideal Cert.TailLastIdeal.S32768x2048 .bf16) (x2 : Vec Ideal Cert.TailLastIdeal.S2x32768x256 .f32)
    (x3 : Vec Ideal Cert.TailLastIdeal.S2048x1024 .bf16) (x4 : Vec Ideal Cert.TailLastIdeal.S2x1024 .f32) (x5 : Vec Ideal Cert.TailLastIdeal.S1024x4096 .bf16)
    (x6 : Vec Ideal Cert.TailLastIdeal.S4096x1024 .bf16) (x7 : Vec Ideal Cert.TailLastIdeal.S2x1024 .f32) (x8 : Vec Ideal Cert.TailLastIdeal.S1024x1024 .bf16)
    (x9 : Vec Ideal Cert.TailLastIdeal.S2x256x1024 .f32) (x10 : Vec Ideal Cert.TailLastIdeal.S1024 .f32) :
    Cert.TailLastRefIdeal.Read.val_main_v68 (F := Ideal) x0 x1 x2 x3 x4 x5 x6 x7 x8 x9 x10 = outArr x0 x1 x2 x3 x4 x5 x6 x7 x8 x9 x10 := by
  funext y
  have hy : y = ix2 (y 0 : Fin 32768) (y 1 : Fin 1024) := by
    funext a
    fin_cases a <;> rfl
  exact (congrArg _ hy).trans (ref_at x0 x1 x2 x3 x4 x5 x6 x7 x8 x9 x10 _ _)

/-- Equal arguments give equal results. -/
theorem outArr_congr {x0 y0 : Vec Ideal Cert.TailLastIdeal.S32768x1024 .f32} {x1 y1 : Vec Ideal Cert.TailLastIdeal.S32768x2048 .bf16} {x2 y2 : Vec Ideal Cert.TailLastIdeal.S2x32768x256 .f32}
    {x3 y3 : Vec Ideal Cert.TailLastIdeal.S2048x1024 .bf16} {x4 y4 : Vec Ideal Cert.TailLastIdeal.S2x1024 .f32} {x5 y5 : Vec Ideal Cert.TailLastIdeal.S1024x4096 .bf16}
    {x6 y6 : Vec Ideal Cert.TailLastIdeal.S4096x1024 .bf16} {x7 y7 : Vec Ideal Cert.TailLastIdeal.S2x1024 .f32} {x8 y8 : Vec Ideal Cert.TailLastIdeal.S1024x1024 .bf16}
    {x9 y9 : Vec Ideal Cert.TailLastIdeal.S2x256x1024 .f32} {x10 y10 : Vec Ideal Cert.TailLastIdeal.S1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) :
    outArr x0 x1 x2 x3 x4 x5 x6 x7 x8 x9 x10 = outArr y0 y1 y2 y3 y4 y5 y6 y7 y8 y9 y10 := by
  subst h0 h1 h2 h3 h4 h5 h6 h7 h8 h9 h10
  rfl

/-- Over the extended reals the tail of the last layer and its reference compute the same array. -/
theorem algebraic : Cert.algebraic_TailLastIdeal_TailLastRefIdeal := by
  intro m g m' g' _ hagree
  refine ⟨fun c => outArr (m ((c.tc : Thread _ _).loc Cert.TailLastIdeal.main_arg0)) (m ((c.tc : Thread _ _).loc Cert.TailLastIdeal.main_arg1))
    (m ((c.tc : Thread _ _).loc Cert.TailLastIdeal.main_arg2)) (m ((c.tc : Thread _ _).loc Cert.TailLastIdeal.main_arg3)) (m ((c.tc : Thread _ _).loc Cert.TailLastIdeal.main_arg4))
    (m ((c.tc : Thread _ _).loc Cert.TailLastIdeal.main_arg5)) (m ((c.tc : Thread _ _).loc Cert.TailLastIdeal.main_arg6)) (m ((c.tc : Thread _ _).loc Cert.TailLastIdeal.main_arg7))
    (m ((c.tc : Thread _ _).loc Cert.TailLastIdeal.main_arg8)) (m ((c.tc : Thread _ _).loc Cert.TailLastIdeal.main_arg9)) (m ((c.tc : Thread _ _).loc Cert.TailLastIdeal.main_arg10)), ?_, ?_⟩
  · refine (θ_run Cert.TailLastIdeal.defs _ _).mono (fun r h c => ?_) (Cert.TailLastIdeal.Value.run_blocks m g)
    obtain ⟨h1, h2⟩ := h c
    exact ⟨Eq.trans h1 (kernel_eq m c), h2⟩
  · refine (θ_run Cert.TailLastRefIdeal.defs _ _).mono (fun r h c => ?_) (Cert.TailLastRefIdeal.Value.run m' g')
    obtain ⟨h1, h2⟩ := h c
    refine ⟨Eq.trans h1 ?_, h2⟩
    obtain ⟨e0, e1, e2, e3, e4, e5, e6, e7, e8, e9, e10⟩ := hagree c
    refine (Cert.TailLastRefIdeal.Read.val_main_v68_eq m' c).trans ?_
    exact (ref_eq _ _ _ _ _ _ _ _ _ _ _).trans (outArr_congr e0 e1 e2 e3 e4 e5 e6 e7 e8 e9 e10)

/-- The reference terminates, keeps its arguments and every counter. -/
theorem frame_ref : Cert.quiescent_TailLastRefIdeal := fun m g _ =>
  (θ_run Cert.TailLastRefIdeal.defs _ _).mono (fun r h => ⟨fun c => (h c).2, Idealize.ShloMosaic.sem_eq_zero_of_no_sems (by decide) r.2⟩)
    (Cert.TailLastRefIdeal.Value.run m g)

end Cert.Tail.Last
end
-- ==== Proof.Tail.FirstBody.lean ====
module

public import proofs.«01_k».proof.Proof.Tail.LastKernel
public import proofs.«01_k».proof.Proof.Gen.TailFirstIdeal.Frame
public import proofs.«01_k».proof.Proof.Gen.TailFirstIdeal.Value

@[expose] public section

set_option maxRecDepth 16384

noncomputable section

namespace Cert.Tail.First

open Cert.TailFirstIdeal Cert.TailFirstIdeal.Gen Idealize.ShloMosaic Idealize.ShloMosaic.TcCoe

/-- The residual with the projected attention added. -/
theorem pay2_at (v0 : Vec Ideal S512x1024 .f32) (v1 : Vec Ideal S512x1024 .bf16) (v2 : Vec Ideal S1024x1024 .bf16) (i : Fin 512) (j : Fin 1024) :
    k0_pay2 v0 v1 v2 (ix2 i j) = addDot (fun j => v0 (ix2 i j)) (fun k => v1 (ix2 i k)) (fun k j => v2 (ix2 k j)) j := by
  pointwise [k0_pay2]
  rfl

/-- Its norm. -/
theorem pay3_at (v0 : Vec Ideal S512x1024 .f32) (v1 : Vec Ideal S512x1024 .bf16) (v2 : Vec Ideal S1024x1024 .bf16) (v5 : Vec Ideal S1x1024 .f32) (i : Fin 512) (j : Fin 1024) :
    k0_pay3 v0 v1 v2 v5 (ix2 i j) = nrm (fun j => k0_pay2 v0 v1 v2 (ix2 i j)) (fun j => v5 (ix2 0 j)) j := by
  pointwise [k0_pay3]
  rfl

/-- The first quarter of the feed-forward layer added. -/
theorem pay4_at (v0 : Vec Ideal S512x1024 .f32) (v1 : Vec Ideal S512x1024 .bf16) (v2 : Vec Ideal S1024x1024 .bf16) (v5 : Vec Ideal S1x1024 .f32)
    (v20 v26 : Vec Ideal S1024x1024 .bf16) (i : Fin 512) (j : Fin 1024) :
    k0_pay4 v0 v1 v2 v5 v20 v26 (ix2 i j) = k0_pay2 v0 v1 v2 (ix2 i j)
      + ∑ k : Fin 1024, act (fun j => k0_pay3 v0 v1 v2 v5 (ix2 i j)) (fun l => v20 (ix2 l k)) * v26 (ix2 k j) := by
  pointwise [k0_pay4]
  rfl

/-- The second quarter's activations. -/
theorem pay5_at (v0 : Vec Ideal S512x1024 .f32) (v1 : Vec Ideal S512x1024 .bf16) (v2 : Vec Ideal S1024x1024 .bf16) (v5 : Vec Ideal S1x1024 .f32)
    (v29 : Vec Ideal S1024x1024 .bf16) (i : Fin 512) (k : Fin 1024) :
    k0_pay5 v0 v1 v2 v5 v29 (ix2 i k) = act (fun j => k0_pay3 v0 v1 v2 v5 (ix2 i j)) (fun l => v29 (ix2 l k)) := by
  pointwise [k0_pay5]
  rfl

/-- The other quarters added. -/
theorem pay6_at (v19 : FVec Ideal S512x1024 .bf16) (v28 : FVec Ideal S512x1024 .f32) (v34 : FVec Ideal S512x1024 .bf16)
    (v35 v38 v44 v47 v53 : Vec Ideal S1024x1024 .bf16) (i : Fin 512) (j : Fin 1024) :
    k0_pay6 v19 v28 v34 v35 v38 v44 v47 v53 (ix2 i j) = v28 (ix2 i j) + (∑ k : Fin 1024, (v34 (ix2 i k) : EReal) * v35 (ix2 k j))
      + (∑ k : Fin 1024, act (fun j => v19 (ix2 i j)) (fun l => v38 (ix2 l k)) * v44 (ix2 k j))
      + ∑ k : Fin 1024, act (fun j => v19 (ix2 i j)) (fun l => v47 (ix2 l k)) * v53 (ix2 k j) :=
  Last.pay6_at v19 v28 v34 v35 v38 v44 v47 v53 i j

/-- The norm of the sum. -/
theorem pay7_at (v19 : FVec Ideal S512x1024 .bf16) (v28 : FVec Ideal S512x1024 .f32) (v34 : FVec Ideal S512x1024 .bf16)
    (v35 v38 v44 v47 v53 : Vec Ideal S1024x1024 .bf16) (v56 : Vec Ideal S1x1024 .f32) (i : Fin 512) (j : Fin 1024) :
    k0_pay7 v19 v28 v34 v35 v38 v44 v47 v53 v56 (ix2 i j)
      = nrm (fun j => k0_pay6 v19 v28 v34 v35 v38 v44 v47 v53 (ix2 i j)) (fun j => v56 (ix2 0 j)) j :=
  Last.pay7_at v19 v28 v34 v35 v38 v44 v47 v53 v56 i j

/-- The gated embedding added. -/
theorem pay8_at (v55 : FVec Ideal S512x1024 .f32) (v70 : FVec Ideal S512x1024 .bf16) (v71 : Vec Ideal S1024x1024 .bf16) (v74 : Vec Ideal S1x512x256 .f32)
    (v77 : Vec Ideal S256x1024 .bf16) (i : Fin 512) (j : Fin 1024) :
    k0_pay8 v55 v70 v71 v74 v77 (ix2 i j) = (v55 (ix2 i j) : EReal) + (∑ k : Fin 256, (v74 (ix3 0 i k) : EReal) * v77 (ix2 k j))
      * Ideal.logistic (∑ k : Fin 1024, (v70 (ix2 i k) : EReal) * v71 (ix2 k j)) := by
  pointwise [k0_pay8]

end Cert.Tail.First
end
-- ==== Proof.Tail.FirstKernel.lean ====
module

public import proofs.«01_k».proof.Proof.Tail.FirstBody

@[expose] public section

set_option maxRecDepth 16384

noncomputable section

namespace Cert.Tail.First

open Cert.TailFirstIdeal Cert.TailFirstIdeal.Gen Idealize.ShloMosaic Idealize.ShloMosaic.TcCoe

/-- What the body leaves in a block. -/
theorem out_at (x0 : Vec Ideal S512x1024 .f32) (x1 : Vec Ideal S512x1024 .bf16) (x2 : Vec Ideal S1x512x256 .f32) (x3 : Vec Ideal S1024x1024 .bf16)
    (x4 : Vec Ideal S1x1024 .f32) (x5 : Vec Ideal S1024x4096 .bf16) (x6 : Vec Ideal S4096x1024 .bf16) (x7 : Vec Ideal S1x1024 .f32)
    (x8 : Vec Ideal S1024x1024 .bf16) (x9 : Vec Ideal S256x1024 .bf16) (x10 : Vec Ideal S1x1024 .f32)
    (x11 : Vec Ideal S1x16x6144 .f32) (x12 : Vec Ideal S1x32x1024 .f32) (x13 : Vec Ideal S1x16x4096 .f32) (x14 : Vec Ideal S1x64x1024 .f32) (x15 : Vec Ideal S1x16x1024 .f32) (i : Fin 512) (j : Fin 1024) :
    out0_16 x0 x1 x2 x3 x4 x5 x6 x7 x8 x9 x10 x11 x12 x13 x14 x15 (ix2 i j) =
      row (fun j => x0 (ix2 i j)) (fun k => x1 (ix2 i k)) (fun k j => x3 (ix2 k j)) (fun j => x4 (ix2 0 j)) (fun k f => x5 (ix2 k f))
        (fun f j => x6 (ix2 f j)) (fun j => x7 (ix2 0 j)) (fun k => x2 (ix3 0 i k)) (fun k j => x8 (ix2 k j)) (fun k j => x9 (ix2 k j)) j := by
  have e6 : ∀ j : Fin 1024, k0_pay6 (k0_pay13 x0 x1 x2 x3 x4 x5 x6 x7 x8 x9 x10 x11 x12 x13 x14 x15) (k0_pay14 x0 x1 x2 x3 x4 x5 x6 x7 x8 x9 x10 x11 x12 x13 x14 x15) (k0_pay15 x0 x1 x2 x3 x4 x5 x6 x7 x8 x9 x10 x11 x12 x13 x14 x15)
      (View.ld x6 r0_6) (View.ld x5 r0_7) (View.ld x6 r0_8) (View.ld x5 r0_9) (View.ld x6 r0_10) (ix2 i j)
      = ffn (addDot (fun j => x0 (ix2 i j)) (fun k => x1 (ix2 i k)) (fun k j => x3 (ix2 k j))) (fun j => x4 (ix2 0 j)) (fun k f => x5 (ix2 k f))
        (fun f j => x6 (ix2 f j)) j := by
    intro j
    rw [pay6_at, ffn_eq]
    unfold k0_pay13 k0_pay14 k0_pay15
    simp only [pay4_at, pay5_at, pay3_at, pay2_at]
    rw [View.ld_unit_lit _ x0 (by decide), View.ld_unit_lit _ x1 (by decide), View.ld_unit_lit _ x3 (by decide), View.ld_unit_lit _ x4 (by decide)]
    have hU0 : ∀ l k : Fin 1024, View.ld x5 r0_3 (ix2 l k) = x5 (ix2 l (⟨k.val, by omega⟩ : Fin 4096)) := fun l k => by
      rw [Last.ldU_at x5 0 (by omega)]; simp only [Nat.zero_add]
    have hU1 : ∀ l k : Fin 1024, View.ld x5 r0_5 (ix2 l k) = x5 (ix2 l (⟨1024 + k.val, by omega⟩ : Fin 4096)) := Last.ldU_at x5 1024 (by omega) _
    have hU2 : ∀ l k : Fin 1024, View.ld x5 r0_7 (ix2 l k) = x5 (ix2 l (⟨2048 + k.val, by omega⟩ : Fin 4096)) := Last.ldU_at x5 2048 (by omega) _
    have hU3 : ∀ l k : Fin 1024, View.ld x5 r0_9 (ix2 l k) = x5 (ix2 l (⟨3072 + k.val, by omega⟩ : Fin 4096)) := Last.ldU_at x5 3072 (by omega) _
    have hD0 : ∀ k j : Fin 1024, View.ld x6 r0_4 (ix2 k j) = x6 (ix2 (⟨k.val, by omega⟩ : Fin 4096) j) := fun k j => by
      rw [Last.ldD_at x6 0 (by omega)]; simp only [Nat.zero_add]
    have hD1 : ∀ k j : Fin 1024, View.ld x6 r0_6 (ix2 k j) = x6 (ix2 (⟨1024 + k.val, by omega⟩ : Fin 4096) j) := Last.ldD_at x6 1024 (by omega) _
    have hD2 : ∀ k j : Fin 1024, View.ld x6 r0_8 (ix2 k j) = x6 (ix2 (⟨2048 + k.val, by omega⟩ : Fin 4096) j) := Last.ldD_at x6 2048 (by omega) _
    have hD3 : ∀ k j : Fin 1024, View.ld x6 r0_10 (ix2 k j) = x6 (ix2 (⟨3072 + k.val, by omega⟩ : Fin 4096) j) := Last.ldD_at x6 3072 (by omega) _
    simp only [hU0, hU1, hU2, hU3, hD0, hD1, hD2, hD3]
  unfold out0_16
  rw [View.canon_cons_unit_lit _ _ _ (by decide), pay8_at]
  simp only [e6, pay7_at]
  rw [View.ld_unit_lit _ x2 (by decide), View.ld_unit_lit _ x7 (by decide), View.ld_unit_lit _ x8 (by decide), View.ld_unit_lit _ x9 (by decide)]
  rfl

variable (m : (ℓ : Loc nD τ sig) → Buf (Elt Ideal) ℓ)

/-- The blocks of a point. -/
theorem idx : ∀ t : Fin cfg0.N, win0_0.index t = ![t.val, 0] ∧ win0_1.index t = ![t.val, 0]
    ∧ win0_2.index t = ![0, t.val, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, t.val, 0] ∧ win0_12.index t = ![0, t.val, 0] ∧ win0_13.index t = ![1, t.val, 0]
    ∧ win0_14.index t = ![1, t.val, 0] ∧ win0_15.index t = ![1, t.val, 0] ∧ win0_16.index t = ![t.val, 0] ∧ win0_17.index t = ![t.val, 0]
    ∧ win0_18.index t = ![t.val, 0] ∧ win0_19.index t = ![t.val, 0] ∧ win0_20.index t = ![t.val, 0] ∧ win0_21.index t = ![t.val, 0] :=
  (by decide +kernel : ∀ t : Fin grid0.N, _)

/-- The row of a point's row. -/
abbrev rowOf (t : Fin cfg0.N) (i : Fin 512) : Fin 32768 :=
  ⟨512 * t.val + i.val, by have : t.val < 64 := t.isLt; omega⟩

/-- The arguments as the region finds them. -/
theorem arg_eq (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg5 = m ((c : Thread nD τ).loc main_arg5) ∧ V m c main_arg6 = m ((c : Thread nD τ).loc main_arg6)
    ∧ V m c main_arg8 = m ((c : Thread nD τ).loc main_arg8) ∧ V m c main_arg11 = m ((c : Thread nD τ).loc main_arg11)
    ∧ V m c main_arg12 = m ((c : Thread nD τ).loc main_arg12) ∧ V m c main_arg13 = m ((c : Thread nD τ).loc main_arg13)
    ∧ V m c main_arg14 = m ((c : Thread nD τ).loc main_arg14) ∧ V m c main_arg15 = m ((c : Thread nD τ).loc main_arg15) := by
  simp only [V, hostOps0, StableHlo.after_cons, StableHlo.after_nil]
  refine ⟨?_, ?_, ?_, ?_, ?_, ?_, ?_, ?_, ?_, ?_, ?_, ?_⟩ <;> after_results_simp

/-- The feed-forward gain. -/
theorem v7_at (c : Dev nD) (j : Fin 1024) : V m c main_v7 (ix2 0 j) = m ((c : Thread nD τ).loc main_arg4) (ix2 0 j) := by
  simp only [V, hostOps0, StableHlo.after_cons, StableHlo.after_nil]
  after_results_simp
  pointwise
/-- The embedding's gain. -/
theorem v8_at (c : Dev nD) (j : Fin 1024) : V m c main_v8 (ix2 0 j) = m ((c : Thread nD τ).loc main_arg7) (ix2 0 j) := by
  simp only [V, hostOps0, StableHlo.after_cons, StableHlo.after_nil]
  after_results_simp
  pointwise
/-- The embedding's weight. -/
theorem v6_at (c : Dev nD) (k : Fin 256) (j : Fin 1024) : V m c main_v6 (ix2 k j) = m ((c : Thread nD τ).loc main_arg9) (ix3 0 k j) := by
  simp only [V, hostOps0, StableHlo.after_cons, StableHlo.after_nil]
  after_results_simp
  pointwise

/-- The residual's block. -/
theorem b0_at (c : Dev nD) (t : Fin cfg0.N) (i : Fin 512) (j : Fin 1024) :
    iblk m c 0 t (ix2 i j) = m ((c : Thread nD τ).loc main_arg0) (ix2 (rowOf t i) j) := by
  have h := idx t
  refine Eq.trans ?_ (congrFun (arg_eq m c).1 _)
  blk_simp [iblk]
  congr 1
  blk_ext [h]
/-- The attention's block. -/
theorem b1_at (c : Dev nD) (t : Fin cfg0.N) (i : Fin 512) (j : Fin 1024) :
    iblk m c 1 t (ix2 i j) = m ((c : Thread nD τ).loc main_arg1) (ix2 (rowOf t i) j) := by
  have h := idx t
  refine Eq.trans ?_ (congrFun (arg_eq m c).2.1 _)
  blk_simp [iblk]
  congr 1
  blk_ext [h]
/-- The embeddings' block. -/
theorem b2_at (c : Dev nD) (t : Fin cfg0.N) (i : Fin 512) (k : Fin 256) :
    iblk m c 2 t (ix3 0 i k) = m ((c : Thread nD τ).loc main_arg2) (ix3 0 (rowOf t i) k) := by
  have h := idx t
  refine Eq.trans ?_ (congrFun (arg_eq m c).2.2.1 _)
  blk_simp [iblk]
  congr 1
  blk_ext [h]
/-- The output projection's block. -/
theorem b3_at (c : Dev nD) (t : Fin cfg0.N) (k j : Fin 1024) :
    iblk m c 3 t (ix2 k j) = m ((c : Thread nD τ).loc main_arg3) (ix2 k j) := by
  have h := idx t
  refine Eq.trans ?_ (congrFun (arg_eq m c).2.2.2.1 _)
  blk_simp [iblk]
  congr 1
  blk_ext [h]
/-- The feed-forward gain's block. -/
theorem b4_at (c : Dev nD) (t : Fin cfg0.N) (j : Fin 1024) :
    iblk m c 4 t (ix2 0 j) = m ((c : Thread nD τ).loc main_arg4) (ix2 0 j) := by
  have h := idx t
  refine Eq.trans ?_ (v7_at m c j)
  blk_simp [iblk]
  congr 1
  blk_ext [h]
/-- The first feed-forward weight's block. -/
theorem b5_at (c : Dev nD) (t : Fin cfg0.N) (k : Fin 1024) (f : Fin 4096) :
    iblk m c 5 t (ix2 k f) = m ((c : Thread nD τ).loc main_arg5) (ix2 k f) := by
  have h := idx t
  refine Eq.trans ?_ (congrFun (arg_eq m c).2.2.2.2.1 _)
  blk_simp [iblk]
  congr 1
  blk_ext [h]
/-- The second feed-forward weight's block. -/
theorem b6_at (c : Dev nD) (t : Fin cfg0.N) (f : Fin 4096) (j : Fin 1024) :
    iblk m c 6 t (ix2 f j) = m ((c : Thread nD τ).loc main_arg6) (ix2 f j) := by
  have h := idx t
  refine Eq.trans ?_ (congrFun (arg_eq m c).2.2.2.2.2.1 _)
  blk_simp [iblk]
  congr 1
  blk_ext [h]
/-- The embedding's gain's block. -/
theorem b7_at (c : Dev nD) (t : Fin cfg0.N) (j : Fin 1024) :
    iblk m c 7 t (ix2 0 j) = m ((c : Thread nD τ).loc main_arg7) (ix2 0 j) := by
  have h := idx t
  refine Eq.trans ?_ (v8_at m c j)
  blk_simp [iblk]
  congr 1
  blk_ext [h]
/-- The gate's weight's block. -/
theorem b8_at (c : Dev nD) (t : Fin cfg0.N) (k j : Fin 1024) :
    iblk m c 8 t (ix2 k j) = m ((c : Thread nD τ).loc main_arg8) (ix2 k j) := by
  have h := idx t
  refine Eq.trans ?_ (congrFun (arg_eq m c).2.2.2.2.2.2.1 _)
  blk_simp [iblk]
  congr 1
  blk_ext [h]
/-- The embedding's weight's block. -/
theorem b9_at (c : Dev nD) (t : Fin cfg0.N) (k : Fin 256) (j : Fin 1024) :
    iblk m c 9 t (ix2 k j) = m ((c : Thread nD τ).loc main_arg9) (ix3 0 k j) := by
  have h := idx t
  refine Eq.trans ?_ (v6_at m c k j)
  blk_simp [iblk]
  congr 1
  blk_ext [h]
/-- The tail of the first layer, of its arguments. -/
def outArr (a0 : Vec Ideal S32768x1024 .f32) (a1 : Vec Ideal S32768x1024 .bf16) (a2 : Vec Ideal S2x32768x256 .f32) (a3 : Vec Ideal S1024x1024 .bf16)
    (a4 : Vec Ideal S2x1024 .f32) (a5 : Vec Ideal S1024x4096 .bf16) (a6 : Vec Ideal S4096x1024 .bf16) (a7 : Vec Ideal S2x1024 .f32)
    (a8 : Vec Ideal S1024x1024 .bf16) (a9 : Vec Ideal S2x256x1024 .f32) : Vec Ideal S32768x1024 .f32 := fun y =>
  row (fun j => a0 (ix2 (y 0 : Fin 32768) j)) (fun k => a1 (ix2 (y 0 : Fin 32768) k)) (fun k j => a3 (ix2 k j)) (fun j => a4 (ix2 0 j)) (fun k f => a5 (ix2 k f))
    (fun f j => a6 (ix2 f j)) (fun j => a7 (ix2 0 j)) (fun k => a2 (ix3 0 (y 0 : Fin 32768) k)) (fun k j => a8 (ix2 k j)) (fun k j => a9 (ix3 0 k j)) (y 1 : Fin 1024)

/-- Where a point's block lies in the result. -/
theorem out_emb (t : Fin cfg0.N) (i : Fin 512) (j : Fin 1024) : (win0_16.blk t).view.emb (ix2 i j) = ix2 (rowOf t i) j := by
  have h := idx t
  blk_ext [h]

/-- The kernel's result is the tail of its arguments. -/
theorem kernel_eq (c : Dev nD) :
    (dats m 0 c).arrAt 16 cfg0.N = outArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  refine (dats m 0 c).arrAt_eq_of_covers 16 _ (by decide +kernel) fun t hf y => ?_
  blk_simp
  rw [after0_16]
  have e : (y : S512x1024.Idx) = ix2 (⟨(y 0).val, (y 0).isLt⟩ : Fin 512) (⟨(y 1).val, (y 1).isLt⟩ : Fin 1024) := by blk_ext
  rw [e, out_at]
  simp only [b0_at, b1_at, b2_at, b3_at, b4_at, b5_at, b6_at, b7_at, b8_at, b9_at]
  exact congrArg (outArr _ _ _ _ _ _ _ _ _ _) (out_emb t _ _).symm

/-- A layer of a stack of weights. -/
def layer {g n k : ℕ} (l : Fin g) (x : (⟨3, ![g, n, k]⟩ : Shape).Idx → EReal) : (⟨2, ![n, k]⟩ : Shape).Idx → EReal := fun y =>
  x (ix3 l (y 0 : Fin n) (y 1 : Fin k))

/-- The next layer's input projection, a block at a time. -/
theorem kernel_eq17 (c : Dev nD) : (dats m 0 c).arrAt 17 cfg0.N = layer (g := 1) 0 (m ((c : Thread nD τ).loc main_arg11)) := by
  refine (dats m 0 c).arrAt_eq_of_covers 17 _ (by decide +kernel) fun t hf y => ?_
  blk_simp
  rw [after0_17]
  have h := idx t
  have ht : t.val < 64 := t.isLt
  have e : (y : S16x6144.Idx) = ix2 (⟨(y 0).val, (y 0).isLt⟩ : Fin 16) (⟨(y 1).val, (y 1).isLt⟩ : Fin 6144) := by blk_ext
  generalize (⟨(y 0).val, (y 0).isLt⟩ : Fin 16) = i at e
  generalize (⟨(y 1).val, (y 1).isLt⟩ : Fin 6144) = j at e
  rw [e]
  have ee : (win0_17.blk t).view.emb (ix2 i j) = ix2 (⟨16 * t.val + i.val, by omega⟩ : Fin 1024) j := by
    blk_ext [h]
  refine Eq.trans ?_ (congrArg (layer (g := 1) 0 (m ((c : Thread nD τ).loc main_arg11))) ee).symm
  have eb : iblk m c 11 t (ix3 0 i j) = m ((c : Thread nD τ).loc main_arg11) (ix3 0 (⟨16 * t.val + i.val, by omega⟩ : Fin 1024) j) := by
    refine Eq.trans ?_ (congrFun (arg_eq m c).2.2.2.2.2.2.2.1 _)
    blk_simp [iblk]
    congr 1
    blk_ext [h]
  refine Eq.trans ?_ eb
  unfold out0_17
  rw [View.canon_cons_unit_lit _ _ _ (by decide), View.ld_unit_lit _ _ (by decide)]
  generalize iblk m c 11 t = x
  pointwise [k0_pay9]

/-- The next layer's output projection, a block at a time. -/
theorem kernel_eq18 (c : Dev nD) : (dats m 0 c).arrAt 18 cfg0.N = layer (g := 1) 0 (m ((c : Thread nD τ).loc main_arg12)) := by
  refine (dats m 0 c).arrAt_eq_of_covers 18 _ (by decide +kernel) fun t hf y => ?_
  blk_simp
  rw [after0_18]
  have h := idx t
  have ht : t.val < 64 := t.isLt
  have e : (y : S32x1024.Idx) = ix2 (⟨(y 0).val, (y 0).isLt⟩ : Fin 32) (⟨(y 1).val, (y 1).isLt⟩ : Fin 1024) := by blk_ext
  generalize (⟨(y 0).val, (y 0).isLt⟩ : Fin 32) = i at e
  generalize (⟨(y 1).val, (y 1).isLt⟩ : Fin 1024) = j at e
  rw [e]
  have ee : (win0_18.blk t).view.emb (ix2 i j) = ix2 (⟨32 * t.val + i.val, by omega⟩ : Fin 2048) j := by
    blk_ext [h]
  refine Eq.trans ?_ (congrArg (layer (g := 1) 0 (m ((c : Thread nD τ).loc main_arg12))) ee).symm
  have eb : iblk m c 12 t (ix3 0 i j) = m ((c : Thread nD τ).loc main_arg12) (ix3 0 (⟨32 * t.val + i.val, by omega⟩ : Fin 2048) j) := by
    refine Eq.trans ?_ (congrFun (arg_eq m c).2.2.2.2.2.2.2.2.1 _)
    blk_simp [iblk]
    congr 1
    blk_ext [h]
  refine Eq.trans ?_ eb
  unfold out0_18
  rw [View.canon_cons_unit_lit _ _ _ (by decide), View.ld_unit_lit _ _ (by decide)]
  generalize iblk m c 12 t = x
  pointwise [k0_pay10]

/-- The next layer's first feed-forward weight, a block at a time. -/
theorem kernel_eq19 (c : Dev nD) : (dats m 0 c).arrAt 19 cfg0.N = layer (g := 2) 1 (m ((c : Thread nD τ).loc main_arg13)) := by
  refine (dats m 0 c).arrAt_eq_of_covers 19 _ (by decide +kernel) fun t hf y => ?_
  blk_simp
  rw [after0_19]
  have h := idx t
  have ht : t.val < 64 := t.isLt
  have e : (y : S16x4096.Idx) = ix2 (⟨(y 0).val, (y 0).isLt⟩ : Fin 16) (⟨(y 1).val, (y 1).isLt⟩ : Fin 4096) := by blk_ext
  generalize (⟨(y 0).val, (y 0).isLt⟩ : Fin 16) = i at e
  generalize (⟨(y 1).val, (y 1).isLt⟩ : Fin 4096) = j at e
  rw [e]
  have ee : (win0_19.blk t).view.emb (ix2 i j) = ix2 (⟨16 * t.val + i.val, by omega⟩ : Fin 1024) j := by
    blk_ext [h]
  refine Eq.trans ?_ (congrArg (layer (g := 2) 1 (m ((c : Thread nD τ).loc main_arg13))) ee).symm
  have eb : iblk m c 13 t (ix3 0 i j) = m ((c : Thread nD τ).loc main_arg13) (ix3 1 (⟨16 * t.val + i.val, by omega⟩ : Fin 1024) j) := by
    refine Eq.trans ?_ (congrFun (arg_eq m c).2.2.2.2.2.2.2.2.2.1 _)
    blk_simp [iblk]
    congr 1
    blk_ext [h]
  refine Eq.trans ?_ eb
  unfold out0_19
  rw [View.canon_cons_unit_lit _ _ _ (by decide), View.ld_unit_lit _ _ (by decide)]
  generalize iblk m c 13 t = x
  pointwise [k0_pay11]

/-- The next layer's second feed-forward weight, a block at a time. -/
theorem kernel_eq20 (c : Dev nD) : (dats m 0 c).arrAt 20 cfg0.N = layer (g := 2) 1 (m ((c : Thread nD τ).loc main_arg14)) := by
  refine (dats m 0 c).arrAt_eq_of_covers 20 _ (by decide +kernel) fun t hf y => ?_
  blk_simp
  rw [after0_20]
  have h := idx t
  have ht : t.val < 64 := t.isLt
  have e : (y : S64x1024.Idx) = ix2 (⟨(y 0).val, (y 0).isLt⟩ : Fin 64) (⟨(y 1).val, (y 1).isLt⟩ : Fin 1024) := by blk_ext
  generalize (⟨(y 0).val, (y 0).isLt⟩ : Fin 64) = i at e
  generalize (⟨(y 1).val, (y 1).isLt⟩ : Fin 1024) = j at e
  rw [e]
  have ee : (win0_20.blk t).view.emb (ix2 i j) = ix2 (⟨64 * t.val + i.val, by omega⟩ : Fin 4096) j := by
    blk_ext [h]
  refine Eq.trans ?_ (congrArg (layer (g := 2) 1 (m ((c : Thread nD τ).loc main_arg14))) ee).symm
  have eb : iblk m c 14 t (ix3 0 i j) = m ((c : Thread nD τ).loc main_arg14) (ix3 1 (⟨64 * t.val + i.val, by omega⟩ : Fin 4096) j) := by
    refine Eq.trans ?_ (congrFun (arg_eq m c).2.2.2.2.2.2.2.2.2.2.1 _)
    blk_simp [iblk]
    congr 1
    blk_ext [h]
  refine Eq.trans ?_ eb
  unfold out0_20
  rw [View.canon_cons_unit_lit _ _ _ (by decide), View.ld_unit_lit _ _ (by decide)]
  generalize iblk m c 14 t = x
  pointwise [k0_pay12]

/-- The next layer's gate weight, a block at a time. -/
theorem kernel_eq21 (c : Dev nD) : (dats m 0 c).arrAt 21 cfg0.N = layer (g := 2) 1 (m ((c : Thread nD τ).loc main_arg15)) := by
  refine (dats m 0 c).arrAt_eq_of_covers 21 _ (by decide +kernel) fun t hf y => ?_
  blk_simp
  rw [after0_21]
  have h := idx t
  have ht : t.val < 64 := t.isLt
  have e : (y : S16x1024.Idx) = ix2 (⟨(y 0).val, (y 0).isLt⟩ : Fin 16) (⟨(y 1).val, (y 1).isLt⟩ : Fin 1024) := by blk_ext
  generalize (⟨(y 0).val, (y 0).isLt⟩ : Fin 16) = i at e
  generalize (⟨(y 1).val, (y 1).isLt⟩ : Fin 1024) = j at e
  rw [e]
  have ee : (win0_21.blk t).view.emb (ix2 i j) = ix2 (⟨16 * t.val + i.val, by omega⟩ : Fin 1024) j := by
    blk_ext [h]
  refine Eq.trans ?_ (congrArg (layer (g := 2) 1 (m ((c : Thread nD τ).loc main_arg15))) ee).symm
  have eb : iblk m c 15 t (ix3 0 i j) = m ((c : Thread nD τ).loc main_arg15) (ix3 1 (⟨16 * t.val + i.val, by omega⟩ : Fin 1024) j) := by
    refine Eq.trans ?_ (congrFun (arg_eq m c).2.2.2.2.2.2.2.2.2.2.2 _)
    blk_simp [iblk]
    congr 1
    blk_ext [h]
  refine Eq.trans ?_ eb
  unfold out0_21
  rw [View.canon_cons_unit_lit _ _ _ (by decide), View.ld_unit_lit _ _ (by decide)]
  generalize iblk m c 15 t = x
  pointwise [k0_pay1]

end Cert.Tail.First
end
-- ==== Proof.Tail.FirstRef.lean ====
module

public import proofs.«01_k».proof.Proof.Tail.Spec
public import proofs.«01_k».proof.Proof.Gen.TailFirstRefIdeal.Read

@[expose] public section

set_option maxRecDepth 16384

noncomputable section

namespace Cert.Tail.First

open Cert.TailFirstRefIdeal Cert.TailFirstRefIdeal.Read Idealize.ShloMosaic

variable (x0 : Vec Ideal S32768x1024 .f32) (x1 : Vec Ideal S32768x1024 .bf16) (x2 : Vec Ideal S2x32768x256 .f32) (x3 : Vec Ideal S1024x1024 .bf16)
    (x4 : Vec Ideal S2x1024 .f32) (x5 : Vec Ideal S1024x4096 .bf16) (x6 : Vec Ideal S4096x1024 .bf16) (x7 : Vec Ideal S2x1024 .f32)
    (x8 : Vec Ideal S1024x1024 .bf16) (x9 : Vec Ideal S2x256x1024 .f32)

/-- The residual with the projected attention added. -/
theorem ref3_at (i : Fin 32768) (j : Fin 1024) :
    val_main_v3 (F := Ideal) x0 x1 x3 (ix2 i j) = addDot (fun j => x0 (ix2 i j)) (fun k => x1 (ix2 i k)) (fun k j => x3 (ix2 k j)) j := by
  pointwise [val_main_v3, val_main_v2, val_main_v1, val_main_v0]
  rfl

/-- Its norm. -/
theorem ref18_at (i : Fin 32768) (j : Fin 1024) :
    val_main_v18 (F := Ideal) x0 x1 x3 x4 (ix2 i j) = nrm (fun j => val_main_v3 (F := Ideal) x0 x1 x3 (ix2 i j)) (fun j => x4 (ix2 0 j)) j := by
  pointwise [val_main_v18, val_main_v17, val_main_v16, val_main_v15, val_main_v14, val_main_v13, val_main_v12, val_main_v11, val_main_v10, val_main_v9, val_main_v8,
    val_main_v7, val_main_v6, val_main_v5, val_main_v4, val_main_cst, val_main_cst_0, val_main_cst_1]
  rfl

/-- The activations. -/
theorem ref22_at (i : Fin 32768) (f : Fin 4096) :
    val_main_v22 (F := Ideal) x0 x1 x3 x4 x5 (ix2 i f) = act (fun j => val_main_v18 (F := Ideal) x0 x1 x3 x4 (ix2 i j)) (fun k => x5 (ix2 k f)) := by
  pointwise [val_main_v22, val_main_v21, val_main_v20, val_main_v19, val_main_call0_v0, val_main_call0_cst]
  rfl

/-- The feed-forward layer added. -/
theorem ref25_at (i : Fin 32768) (j : Fin 1024) :
    val_main_v25 (F := Ideal) x0 x1 x3 x4 x5 x6 (ix2 i j) = ffn (fun j => val_main_v3 (F := Ideal) x0 x1 x3 (ix2 i j)) (fun j => x4 (ix2 0 j)) (fun k f => x5 (ix2 k f))
      (fun f j => x6 (ix2 f j)) j := by
  pointwise [val_main_v25, val_main_v24, val_main_v23]
  simp only [ref22_at, ref18_at]
  rfl

/-- The norm of the sum. -/
theorem ref40_at (i : Fin 32768) (j : Fin 1024) :
    val_main_v40 (F := Ideal) x0 x1 x3 x4 x5 x6 x7 (ix2 i j) = nrm (fun j => val_main_v25 (F := Ideal) x0 x1 x3 x4 x5 x6 (ix2 i j)) (fun j => x7 (ix2 0 j)) j := by
  pointwise [val_main_v40, val_main_v39, val_main_v38, val_main_v37, val_main_v36, val_main_v35, val_main_v34, val_main_v33, val_main_v32, val_main_v31, val_main_v30,
    val_main_v29, val_main_v28, val_main_v27, val_main_v26, val_main_cst_2, val_main_cst_3, val_main_cst_4]
  rfl

/-- The gated embedding added. -/
theorem ref55_at (i : Fin 32768) (j : Fin 1024) :
    val_main_v55 (F := Ideal) x0 x1 x2 x3 x4 x5 x6 x7 x8 x9 (ix2 i j) = ple (fun j => val_main_v25 (F := Ideal) x0 x1 x3 x4 x5 x6 (ix2 i j)) (fun j => x7 (ix2 0 j))
      (fun k => x2 (ix3 0 i k)) (fun k j => x8 (ix2 k j)) (fun k j => x9 (ix3 0 k j)) j := by
  pointwise [val_main_v55, val_main_v54, val_main_v53, val_main_v52, val_main_v51, val_main_v50, val_main_v49, val_main_v48, val_main_v47, val_main_v46, val_main_v45,
    val_main_v44, val_main_v43, val_main_v42, val_main_v41, val_main_cst_5, val_main_cst_6]
  simp only [ref40_at]
  rfl

/-- The reference's rows. -/
theorem ref_at (i : Fin 32768) (j : Fin 1024) :
    val_main_v55 (F := Ideal) x0 x1 x2 x3 x4 x5 x6 x7 x8 x9 (ix2 i j) =
      row (fun j => x0 (ix2 i j)) (fun k => x1 (ix2 i k)) (fun k j => x3 (ix2 k j)) (fun j => x4 (ix2 0 j)) (fun k f => x5 (ix2 k f))
        (fun f j => x6 (ix2 f j)) (fun j => x7 (ix2 0 j)) (fun k => x2 (ix3 0 i k)) (fun k j => x8 (ix2 k j)) (fun k j => x9 (ix3 0 k j)) j := by
  simp only [ref55_at, ref25_at, ref3_at]
  rfl

end Cert.Tail.First
end
-- ==== Proof.Tail.FirstClaim.lean ====
module

public import proofs.«01_k».proof.Defs
public import proofs.«01_k».proof.Proof.Gen.TailFirstIdeal.Value
public import proofs.«01_k».proof.Proof.Tail.FirstKernel
public import proofs.«01_k».proof.Proof.Tail.FirstRef
public import Idealize.ShloMosaic.Lib.Quiescent
public import Idealize.ShloMosaic.Lib.Claim

@[expose] public section

set_option maxRecDepth 16384

noncomputable section

namespace Cert.Tail.First

open Idealize.ShloMosaic Idealize.SL.Sem

/-- The reference's whole result. -/
theorem ref_eq (x0 : Vec Ideal Cert.TailFirstIdeal.S32768x1024 .f32) (x1 : Vec Ideal Cert.TailFirstIdeal.S32768x1024 .bf16) (x2 : Vec Ideal Cert.TailFirstIdeal.S2x32768x256 .f32)
    (x3 : Vec Ideal Cert.TailFirstIdeal.S1024x1024 .bf16) (x4 : Vec Ideal Cert.TailFirstIdeal.S2x1024 .f32) (x5 : Vec Ideal Cert.TailFirstIdeal.S1024x4096 .bf16)
    (x6 : Vec Ideal Cert.TailFirstIdeal.S4096x1024 .bf16) (x7 : Vec Ideal Cert.TailFirstIdeal.S2x1024 .f32) (x8 : Vec Ideal Cert.TailFirstIdeal.S1024x1024 .bf16)
    (x9 : Vec Ideal Cert.TailFirstIdeal.S2x256x1024 .f32) :
    Cert.TailFirstRefIdeal.Read.val_main_v55 (F := Ideal) x0 x1 x2 x3 x4 x5 x6 x7 x8 x9 = outArr x0 x1 x2 x3 x4 x5 x6 x7 x8 x9 := by
  funext y
  have hy : y = ix2 (y 0 : Fin 32768) (y 1 : Fin 1024) := by
    funext a
    fin_cases a <;> rfl
  exact (congrArg _ hy).trans (ref_at x0 x1 x2 x3 x4 x5 x6 x7 x8 x9 _ _)

/-- The reference's weight of the next layer, result 57. -/
theorem ref57_eq (x : Vec Ideal Cert.TailFirstIdeal.S1x1024x6144 .f32) :
    Cert.TailFirstRefIdeal.Read.val_main_v57 (F := Ideal) x = layer (g := 1) 0 x := by
  funext y
  have hy : y = ix2 (y 0 : Fin 1024) (y 1 : Fin 6144) := by
    funext a
    fin_cases a <;> rfl
  generalize (y 0 : Fin 1024) = i at hy
  generalize (y 1 : Fin 6144) = j at hy
  subst hy
  pointwise [Cert.TailFirstRefIdeal.Read.val_main_v57, Cert.TailFirstRefIdeal.Read.val_main_v56]
  rfl

/-- The reference's weight of the next layer, result 59. -/
theorem ref59_eq (x : Vec Ideal Cert.TailFirstIdeal.S1x2048x1024 .f32) :
    Cert.TailFirstRefIdeal.Read.val_main_v59 (F := Ideal) x = layer (g := 1) 0 x := by
  funext y
  have hy : y = ix2 (y 0 : Fin 2048) (y 1 : Fin 1024) := by
    funext a
    fin_cases a <;> rfl
  generalize (y 0 : Fin 2048) = i at hy
  generalize (y 1 : Fin 1024) = j at hy
  subst hy
  pointwise [Cert.TailFirstRefIdeal.Read.val_main_v59, Cert.TailFirstRefIdeal.Read.val_main_v58]
  rfl

/-- The reference's weight of the next layer, result 62. -/
theorem ref62_eq (x : Vec Ideal Cert.TailFirstIdeal.S2x1024x4096 .f32) :
    Cert.TailFirstRefIdeal.Read.val_main_v62 (F := Ideal) x = layer (g := 2) 1 x := by
  funext y
  have hy : y = ix2 (y 0 : Fin 1024) (y 1 : Fin 4096) := by
    funext a
    fin_cases a <;> rfl
  generalize (y 0 : Fin 1024) = i at hy
  generalize (y 1 : Fin 4096) = j at hy
  subst hy
  pointwise [Cert.TailFirstRefIdeal.Read.val_main_v62, Cert.TailFirstRefIdeal.Read.val_main_v61, Cert.TailFirstRefIdeal.Read.val_main_v60]
  rfl

/-- The reference's weight of the next layer, result 65. -/
theorem ref65_eq (x : Vec Ideal Cert.TailFirstIdeal.S2x4096x1024 .f32) :
    Cert.TailFirstRefIdeal.Read.val_main_v65 (F := Ideal) x = layer (g := 2) 1 x := by
  funext y
  have hy : y = ix2 (y 0 : Fin 4096) (y 1 : Fin 1024) := by
    funext a
    fin_cases a <;> rfl
  generalize (y 0 : Fin 4096) = i at hy
  generalize (y 1 : Fin 1024) = j at hy
  subst hy
  pointwise [Cert.TailFirstRefIdeal.Read.val_main_v65, Cert.TailFirstRefIdeal.Read.val_main_v64, Cert.TailFirstRefIdeal.Read.val_main_v63]
  rfl

/-- The reference's weight of the next layer, result 68. -/
theorem ref68_eq (x : Vec Ideal Cert.TailFirstIdeal.S2x1024x1024 .f32) :
    Cert.TailFirstRefIdeal.Read.val_main_v68 (F := Ideal) x = layer (g := 2) 1 x := by
  funext y
  have hy : y = ix2 (y 0 : Fin 1024) (y 1 : Fin 1024) := by
    funext a
    fin_cases a <;> rfl
  generalize (y 0 : Fin 1024) = i at hy
  generalize (y 1 : Fin 1024) = j at hy
  subst hy
  pointwise [Cert.TailFirstRefIdeal.Read.val_main_v68, Cert.TailFirstRefIdeal.Read.val_main_v67, Cert.TailFirstRefIdeal.Read.val_main_v66]
  rfl

/-- Equal arguments give equal results. -/
theorem outArr_congr {x0 y0 : Vec Ideal Cert.TailFirstIdeal.S32768x1024 .f32} {x1 y1 : Vec Ideal Cert.TailFirstIdeal.S32768x1024 .bf16} {x2 y2 : Vec Ideal Cert.TailFirstIdeal.S2x32768x256 .f32}
    {x3 y3 : Vec Ideal Cert.TailFirstIdeal.S1024x1024 .bf16} {x4 y4 : Vec Ideal Cert.TailFirstIdeal.S2x1024 .f32} {x5 y5 : Vec Ideal Cert.TailFirstIdeal.S1024x4096 .bf16}
    {x6 y6 : Vec Ideal Cert.TailFirstIdeal.S4096x1024 .bf16} {x7 y7 : Vec Ideal Cert.TailFirstIdeal.S2x1024 .f32} {x8 y8 : Vec Ideal Cert.TailFirstIdeal.S1024x1024 .bf16}
    {x9 y9 : Vec Ideal Cert.TailFirstIdeal.S2x256x1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) :
    outArr x0 x1 x2 x3 x4 x5 x6 x7 x8 x9 = outArr y0 y1 y2 y3 y4 y5 y6 y7 y8 y9 := by
  subst h0 h1 h2 h3 h4 h5 h6 h7 h8 h9
  rfl

/-- Over the extended reals the tail of the first layer and its reference compute the same array. -/
theorem algebraic : Cert.algebraic_TailFirstIdeal_TailFirstRefIdeal := by
  intro m g m' g' _ hagree
  refine ⟨fun c => outArr (m ((c.tc : Thread _ _).loc Cert.TailFirstIdeal.main_arg0)) (m ((c.tc : Thread _ _).loc Cert.TailFirstIdeal.main_arg1))
    (m ((c.tc : Thread _ _).loc Cert.TailFirstIdeal.main_arg2)) (m ((c.tc : Thread _ _).loc Cert.TailFirstIdeal.main_arg3)) (m ((c.tc : Thread _ _).loc Cert.TailFirstIdeal.main_arg4))
    (m ((c.tc : Thread _ _).loc Cert.TailFirstIdeal.main_arg5)) (m ((c.tc : Thread _ _).loc Cert.TailFirstIdeal.main_arg6)) (m ((c.tc : Thread _ _).loc Cert.TailFirstIdeal.main_arg7))
    (m ((c.tc : Thread _ _).loc Cert.TailFirstIdeal.main_arg8)) (m ((c.tc : Thread _ _).loc Cert.TailFirstIdeal.main_arg9)),
    fun c => layer (g := 1) 0 (m ((c.tc : Thread _ _).loc Cert.TailFirstIdeal.main_arg11)),
    fun c => layer (g := 1) 0 (m ((c.tc : Thread _ _).loc Cert.TailFirstIdeal.main_arg12)),
    fun c => layer (g := 2) 1 (m ((c.tc : Thread _ _).loc Cert.TailFirstIdeal.main_arg13)),
    fun c => layer (g := 2) 1 (m ((c.tc : Thread _ _).loc Cert.TailFirstIdeal.main_arg14)),
    fun c => layer (g := 2) 1 (m ((c.tc : Thread _ _).loc Cert.TailFirstIdeal.main_arg15)), ?_, ?_⟩
  · refine (θ_run Cert.TailFirstIdeal.defs _ _).mono (fun r h c => ?_) (Cert.TailFirstIdeal.Value.run_blocks m g)
    obtain ⟨h0, h1, h2, h3, h4, h5, h6⟩ := h c
    exact ⟨Eq.trans h0 (kernel_eq m c), Eq.trans h1 (kernel_eq17 m c), Eq.trans h2 (kernel_eq18 m c), Eq.trans h3 (kernel_eq19 m c),
      Eq.trans h4 (kernel_eq20 m c), Eq.trans h5 (kernel_eq21 m c), h6⟩
  · refine (θ_run Cert.TailFirstRefIdeal.defs _ _).mono (fun r h c => ?_) (Cert.TailFirstRefIdeal.Value.run m' g')
    obtain ⟨e0, e1, e2, e3, e4, e5, e6, e7, e8, e9, e10, e11, e12, e13, e14, e15⟩ := hagree c
    obtain ⟨h0, h1, h2, h3, h4, h5, h6⟩ := h c
    refine ⟨Eq.trans h0 ?_, Eq.trans h1 ((ref57_eq _).trans (congrArg (layer (g := 1) 0) e11)), Eq.trans h2 ((ref59_eq _).trans (congrArg (layer (g := 1) 0) e12)),
      Eq.trans h3 ((ref62_eq _).trans (congrArg (layer (g := 2) 1) e13)), Eq.trans h4 ((ref65_eq _).trans (congrArg (layer (g := 2) 1) e14)),
      Eq.trans h5 ((ref68_eq _).trans (congrArg (layer (g := 2) 1) e15)), h6⟩
    refine (Cert.TailFirstRefIdeal.Read.val_main_v55_eq m' c).trans ?_
    exact (ref_eq _ _ _ _ _ _ _ _ _ _).trans (outArr_congr e0 e1 e2 e3 e4 e5 e6 e7 e8 e9)

/-- The reference terminates, keeps its arguments and every counter. -/
theorem frame_ref : Cert.quiescent_TailFirstRefIdeal := fun m g _ =>
  (θ_run Cert.TailFirstRefIdeal.defs _ _).mono (fun r h => ⟨fun c => (h c).2.2.2.2.2.2, Idealize.ShloMosaic.sem_eq_zero_of_no_sems (by decide) r.2⟩)
    (Cert.TailFirstRefIdeal.Value.run m g)

end Cert.Tail.First
end
-- ==== Proof.Proj.Spec.lean ====
module

public import proofs.«01_k».proof.Proof.Tail.Spec

@[expose] public section

noncomputable section

/-! What the two input projections compute, row by row, over the extended reals. -/

namespace Cert.Proj

open Idealize.ShloMosaic

/-- A column of the projection of a normalised row. -/
def acc {n : ℕ} (x g : Cert.Tail.Row) (w : Fin 1024 → Fin n → EReal) (j : Fin n) : EReal := ∑ k : Fin 1024, Cert.Tail.nrm x g k * w k j

/-- The projection with its first 1024 columns scaled. -/
def scaled (x g : Cert.Tail.Row) (w : Fin 1024 → Fin 3072 → EReal) (j : Fin 3072) : EReal :=
  acc x g w j * (if j.val < 1024 then Ideal.ofBits .f32 0x3E38AA3B#32 else 1)

/-- A row of the projection: 2048 columns rotated in pairs 128 apart, 2048 as they are, the rest through `G`. -/
def rotated (G : EReal → EReal) (a : Fin 6144 → EReal) (cos sin : Fin 128 → EReal) (j : Fin 6144) : EReal :=
  if h : j.val < 2048 then
    if h2 : j.val % 256 < 128 then a j * cos ⟨j.val % 256, h2⟩ - a ⟨j.val + 128, by omega⟩ * sin ⟨j.val % 256, h2⟩
    else a ⟨j.val - 128, by omega⟩ * sin ⟨j.val % 256 - 128, by omega⟩ + a j * cos ⟨j.val % 256 - 128, by omega⟩
  else if j.val < 4096 then a j else G (a j)

/-- The kernel's gate. -/
def gate (x : EReal) : EReal := Ideal.ofBits .f32 0x3F000000#32 * x + Ideal.ofBits .f32 0x3F000000#32 * x * Ideal.tanh (Ideal.ofBits .f32 0x3F000000#32 * x)

/-- The reference's gate. -/
def silu (x : EReal) : EReal := x * Ideal.logistic x

end Cert.Proj
end
-- ==== Proof.Proj.SbKernel.lean ====
module

public import proofs.«01_k».proof.Proof.Proj.Spec
public import proofs.«01_k».proof.Proof.Tail.FirstKernel
public import proofs.«01_k».proof.Proof.Gen.ProjSbIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj.Sb

open Cert.ProjSbIdeal Cert.ProjSbIdeal.Gen Idealize.ShloMosaic Idealize.ShloMosaic.TcCoe
open Cert.Tail (Row nrm)
open Cert.Tail.First (layer)

/-- The norm. -/
theorem pay5_at (v0 : Vec Ideal S1024x1024 .f32) (v1 : Vec Ideal S1x1024 .f32) (i j : Fin 1024) :
    k0_pay5 v0 v1 (ix2 i j) = nrm (fun j => v0 (ix2 i j)) (fun j => v1 (ix2 0 j)) j := by
  pointwise [k0_pay5]
  rfl

/-- A half of the columns. -/
theorem pay6_at (v0 : Vec Ideal S1024x1024 .f32) (v1 : Vec Ideal S1x1024 .f32) (v16 : Vec Ideal S1024x1536 .bf16) (v18 : Vec Ideal S1x1536 .f32)
    (i : Fin 1024) (j : Fin 1536) :
    k0_pay6 v0 v1 v16 v18 (ix2 i j) = acc (fun j => v0 (ix2 i j)) (fun j => v1 (ix2 0 j)) (fun k j => v16 (ix2 k j)) j * v18 (ix2 0 j) := by
  pointwise [k0_pay6]
  simp only [pay5_at]
  rfl

/-- The other half of the columns. -/
theorem pay7_at (v0 : Vec Ideal S1024x1024 .f32) (v1 : Vec Ideal S1x1024 .f32) (v16 : Vec Ideal S1024x1536 .bf16) (v18 : Vec Ideal S1x1536 .f32)
    (i : Fin 1024) (j : Fin 1536) :
    k0_pay7 v0 v1 v16 v18 (ix2 i j) = acc (fun j => v0 (ix2 i j)) (fun j => v1 (ix2 0 j)) (fun k j => v16 (ix2 k j)) j * v18 (ix2 0 j) :=
  pay6_at v0 v1 v16 v18 i j

/-- What a block holds, of the input blocks. -/
def outB (x0 : Vec Ideal S1024x1024 .f32) (x1 : Vec Ideal S1x1024 .f32) (x2 : Vec Ideal S1024x3072 .bf16) (x3 : Vec Ideal S1x3072 .f32)
    (y : S1024x3072.Idx) : EReal :=
  acc (fun j => x0 (ix2 (y 0 : Fin 1024) j)) (fun j => x1 (ix2 0 j)) (fun k j => x2 (ix2 k j)) (y 1 : Fin 3072) * x3 (ix2 0 (y 1 : Fin 3072))

/-- The columns from `o` of the block, as stored. -/
theorem outB_tile (x0 : Vec Ideal S1024x1024 .f32) (x1 : Vec Ideal S1x1024 .f32) (x2 : Vec Ideal S1024x3072 .bf16) (x3 : Vec Ideal S1x3072 .f32)
    (o : ℕ) (ho : o + 1536 ≤ 3072) (i2) (i3) (w : Vec Ideal S1024x1536 .bf16)
    (hw : w = k0_pay6 x0 x1 (View.ld x2 (Rect.unit (s := S1024x3072) ![0, o] S1024x1536.size i2)) (View.ld x3 (Rect.unit (s := S1x3072) ![0, o] S1x1536.size i3)))
    (x : S1024x1536.Idx) :
    w x = outB x0 x1 x2 x3 ((Rect.unit (s := S1024x3072) ![0, o] S1024x1536.size i2).emb x) := by
  obtain ⟨i, j, rfl⟩ : ∃ (i : Fin 1024) (j : Fin 1536), x = ix2 i j := ⟨x 0, x 1, by
    funext a
    fin_cases a <;> rfl⟩
  have e2 : ∀ (k : Fin 1024) (j : Fin 1536), View.ld x2 (Rect.unit (s := S1024x3072) ![0, o] S1024x1536.size i2) (ix2 k j) = x2 (ix2 k (⟨o + j.val, by omega⟩ : Fin 3072)) :=
    fun k j => View.ld_unit_apply_of x2 _ _ i2 _ _ fun a => by fin_cases a <;> (try blk_simp) <;> rfl
  have e3 : ∀ (j : Fin 1536), View.ld x3 (Rect.unit (s := S1x3072) ![0, o] S1x1536.size i3) (ix2 0 j) = x3 (ix2 0 (⟨o + j.val, by omega⟩ : Fin 3072)) :=
    fun j => View.ld_unit_apply_of x3 _ _ i3 _ _ fun a => by fin_cases a <;> (try blk_simp) <;> rfl
  have ee : (Rect.unit (s := S1024x3072) ![0, o] S1024x1536.size i2).emb (ix2 i j) = ix2 i (⟨o + j.val, by omega⟩ : Fin 3072) := by blk_ext
  rw [hw, pay6_at, ee]
  simp only [e2, e3]
  rfl

/-- What the body leaves in a block. -/
theorem out_eq (x0 : Vec Ideal S1024x1024 .f32) (x1 : Vec Ideal S1x1024 .f32) (x2 : Vec Ideal S1024x3072 .bf16) (x3 : Vec Ideal S1x3072 .f32)
    (x4 : Vec Ideal S1x32x1024 .f32) (x5 : Vec Ideal S1x32x4096 .f32) (x6 : Vec Ideal S1x128x1024 .f32) (x7 : Vec Ideal S1x32x1024 .f32) :
    out0_8 x0 x1 x2 x3 x4 x5 x6 x7 = outB x0 x1 x2 x3 := by
  unfold out0_8
  rw [View.ld_unit_lit _ x0 (by decide), View.ld_unit_lit _ x1 (by decide)]
  funext y
  refine View.canon_apply_of_pieces (Val := Elt Ideal) (e := .bf16) (outB x0 x1 x2 x3) _
    (View.PiecesOf.mem ?_) y (View.cover_of_tiledL (s := S1024x3072) _ S1024x1536.size (by sl_kernel_rfl) y)
  exact ⟨fun x => outB_tile x0 x1 x2 x3 1536 (by omega) _ _ _ rfl x, fun x => outB_tile x0 x1 x2 x3 0 (by omega) _ _ _ rfl x, trivial⟩

set_option maxHeartbeats 4000000 in
/-- The windows' blocks at a point. -/
theorem idx : ∀ t : Fin cfg0.N, win0_0.index t = ![t.val, 0] ∧ win0_1.index t = ![0, 0] ∧ win0_2.index t = ![0, 0] ∧ win0_3.index t = ![0, 0]
    ∧ win0_4.index t = ![0, t.val, 0] ∧ win0_5.index t = ![0, t.val, 0] ∧ win0_6.index t = ![0, t.val, 0] ∧ win0_7.index t = ![0, t.val, 0]
    ∧ win0_8.index t = ![t.val, 0] ∧ win0_9.index t = ![t.val, 0] ∧ win0_10.index t = ![t.val, 0] ∧ win0_11.index t = ![t.val, 0]
    ∧ win0_12.index t = ![t.val, 0] :=
  (by decide +kernel : ∀ t : Fin grid0.N, _)

variable (m : (ℓ : Loc nD τ sig) → Buf (Elt Ideal) ℓ)

/-- The arrays the call reads are the arguments. -/
theorem arg_eq (c : Dev nD) : V m c main_arg0 = m ((c : Thread nD τ).loc main_arg0) ∧ V m c main_arg2 = m ((c : Thread nD τ).loc main_arg2)
    ∧ V m c main_arg3 = m ((c : Thread nD τ).loc main_arg3) ∧ V m c main_arg4 = m ((c : Thread nD τ).loc main_arg4)
    ∧ V m c main_arg5 = m ((c : Thread nD τ).loc main_arg5) ∧ V m c main_arg6 = m ((c : Thread nD τ).loc main_arg6) := by
  simp only [V, hostOps0, StableHlo.after_cons, StableHlo.after_nil]
  refine ⟨?_, ?_, ?_, ?_, ?_, ?_⟩ <;> after_results_simp

/-- The gain of the norm. -/
theorem v5_at (c : Dev nD) (j : Fin 1024) : V m c main_v5 (ix2 0 j) = m ((c : Thread nD τ).loc main_arg1) (ix2 0 j) := by
  simp only [V, hostOps0, StableHlo.after_cons, StableHlo.after_nil]
  after_results_simp
  pointwise

/-- The scales of the columns. -/
theorem v6_at (c : Dev nD) (j : Fin 3072) : V m c main_v6 (ix2 0 j) = if j.val < 1024 then Ideal.ofBits .f32 0x3E38AA3B#32 else 1 := by
  simp only [V, hostOps0, StableHlo.after_cons, StableHlo.after_nil]
  after_results_simp
  pointwise
  after_results_simp
  pointwise
  rfl

/-- The row of a point's block. -/
abbrev rowOf (t : Fin cfg0.N) (i : Fin 1024) : Fin 32768 := ⟨1024 * t.val + i.val, by have ht : t.val < 32 := t.isLt; omega⟩

/-- The rows' block. -/
theorem b0_at (c : Dev nD) (t : Fin cfg0.N) (i j : Fin 1024) :
    iblk m c 0 t (ix2 i j) = m ((c : Thread nD τ).loc main_arg0) (ix2 (rowOf t i) j) := by
  have h := idx t
  refine Eq.trans ?_ (congrFun (arg_eq m c).1 _)
  blk_simp [iblk]
  congr 1
  blk_ext [h]

/-- The gain's block. -/
theorem b1_at (c : Dev nD) (t : Fin cfg0.N) (j : Fin 1024) :
    iblk m c 1 t (ix2 0 j) = m ((c : Thread nD τ).loc main_arg1) (ix2 0 j) := by
  have h := idx t
  refine Eq.trans ?_ (v5_at m c _)
  blk_simp [iblk]
  congr 1
  blk_ext [h]

/-- The weight's block. -/
theorem b2_at (c : Dev nD) (t : Fin cfg0.N) (k : Fin 1024) (j : Fin 3072) :
    iblk m c 2 t (ix2 k j) = m ((c : Thread nD τ).loc main_arg2) (ix2 k j) := by
  have h := idx t
  refine Eq.trans ?_ (congrFun (arg_eq m c).2.1 _)
  blk_simp [iblk]
  congr 1
  blk_ext [h]

/-- The scales' block. -/
theorem b3_at (c : Dev nD) (t : Fin cfg0.N) (j : Fin 3072) :
    iblk m c 3 t (ix2 0 j) = if j.val < 1024 then Ideal.ofBits .f32 0x3E38AA3B#32 else 1 := by
  have h := idx t
  refine Eq.trans ?_ (v6_at m c _)
  blk_simp [iblk]
  congr 1
  blk_ext [h]

/-- The projection of the first layer, of the arguments. -/
def outArr (a0 : Vec Ideal S32768x1024 .f32) (a1 : Vec Ideal S2x1024 .f32) (a2 : Vec Ideal S1024x3072 .bf16) : Vec Ideal S32768x3072 .bf16 := fun y =>
  scaled (fun j => a0 (ix2 (y 0 : Fin 32768) j)) (fun j => a1 (ix2 0 j)) (fun k j => a2 (ix2 k j)) (y 1 : Fin 3072)

/-- The array index of a block's entry. -/
theorem out_emb (t : Fin cfg0.N) (i : Fin 1024) (j : Fin 3072) : (win0_8.blk t).view.emb (ix2 i j) = ix2 (rowOf t i) j := by
  have h := idx t
  blk_ext [h]

/-- The whole array after the call. -/
theorem kernel_eq (c : Dev nD) : (dats m 0 c).arrAt 8 cfg0.N
    = outArr (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  have e : (y : S1024x3072.Idx) = ix2 (⟨(y 0).val, (y 0).isLt⟩ : Fin 1024) (⟨(y 1).val, (y 1).isLt⟩ : Fin 3072) := by blk_ext
  generalize (⟨(y 0).val, (y 0).isLt⟩ : Fin 1024) = i at e
  generalize (⟨(y 1).val, (y 1).isLt⟩ : Fin 3072) = j at e
  rw [e, out_eq]
  refine Eq.trans ?_ (congrArg (outArr _ _ _) (out_emb t _ _).symm)
  refine Eq.trans (b := acc (fun k => iblk m c 0 t (ix2 i k)) (fun k => iblk m c 1 t (ix2 0 k)) (fun k j => iblk m c 2 t (ix2 k j)) j * iblk m c 3 t (ix2 0 j)) rfl ?_
  simp only [b0_at, b1_at, b2_at, b3_at]
  rfl

/-- The first layer's output projection, a block at a time. -/
theorem kernel_eq9 (c : Dev nD) : (dats m 0 c).arrAt 9 cfg0.N = layer (g := 1) 0 (m ((c : Thread nD τ).loc main_arg3)) := by
  refine (dats m 0 c).arrAt_eq_of_covers 9 _ (by decide +kernel) fun t hf y => ?_
  blk_simp
  rw [after0_9]
  have h := idx t
  have ht : t.val < 32 := t.isLt
  have e : (y : S32x1024.Idx) = ix2 (⟨(y 0).val, (y 0).isLt⟩ : Fin 32) (⟨(y 1).val, (y 1).isLt⟩ : Fin 1024) := by blk_ext
  generalize (⟨(y 0).val, (y 0).isLt⟩ : Fin 32) = i at e
  generalize (⟨(y 1).val, (y 1).isLt⟩ : Fin 1024) = j at e
  rw [e]
  have ee : (win0_9.blk t).view.emb (ix2 i j) = ix2 (⟨32 * t.val + i.val, by omega⟩ : Fin 1024) j := by
    blk_ext [h]
  refine Eq.trans ?_ (congrArg (layer (g := 1) 0 (m ((c : Thread nD τ).loc main_arg3))) ee).symm
  have eb : iblk m c 4 t (ix3 0 i j) = m ((c : Thread nD τ).loc main_arg3) (ix3 0 (⟨32 * t.val + i.val, by omega⟩ : Fin 1024) j) := by
    refine Eq.trans ?_ (congrFun (arg_eq m c).2.2.1 _)
    blk_simp [iblk]
    congr 1
    blk_ext [h]
  refine Eq.trans ?_ eb
  unfold out0_9
  rw [View.canon_cons_unit_lit _ _ _ (by decide), View.ld_unit_lit _ _ (by decide)]
  generalize iblk m c 4 t = x
  pointwise [k0_pay1]

/-- The first layer's first feed-forward weight, a block at a time. -/
theorem kernel_eq10 (c : Dev nD) : (dats m 0 c).arrAt 10 cfg0.N = layer (g := 2) 0 (m ((c : Thread nD τ).loc main_arg4)) := by
  refine (dats m 0 c).arrAt_eq_of_covers 10 _ (by decide +kernel) fun t hf y => ?_
  blk_simp
  rw [after0_10]
  have h := idx t
  have ht : t.val < 32 := t.isLt
  have e : (y : S32x4096.Idx) = ix2 (⟨(y 0).val, (y 0).isLt⟩ : Fin 32) (⟨(y 1).val, (y 1).isLt⟩ : Fin 4096) := by blk_ext
  generalize (⟨(y 0).val, (y 0).isLt⟩ : Fin 32) = i at e
  generalize (⟨(y 1).val, (y 1).isLt⟩ : Fin 4096) = j at e
  rw [e]
  have ee : (win0_10.blk t).view.emb (ix2 i j) = ix2 (⟨32 * t.val + i.val, by omega⟩ : Fin 1024) j := by
    blk_ext [h]
  refine Eq.trans ?_ (congrArg (layer (g := 2) 0 (m ((c : Thread nD τ).loc main_arg4))) ee).symm
  have eb : iblk m c 5 t (ix3 0 i j) = m ((c : Thread nD τ).loc main_arg4) (ix3 0 (⟨32 * t.val + i.val, by omega⟩ : Fin 1024) j) := by
    refine Eq.trans ?_ (congrFun (arg_eq m c).2.2.2.1 _)
    blk_simp [iblk]
    congr 1
    blk_ext [h]
  refine Eq.trans ?_ eb
  unfold out0_10
  rw [View.canon_cons_unit_lit _ _ _ (by decide), View.ld_unit_lit _ _ (by decide)]
  generalize iblk m c 5 t = x
  pointwise [k0_pay2]

/-- The first layer's second feed-forward weight, a block at a time. -/
theorem kernel_eq11 (c : Dev nD) : (dats m 0 c).arrAt 11 cfg0.N = layer (g := 2) 0 (m ((c : Thread nD τ).loc main_arg5)) := by
  refine (dats m 0 c).arrAt_eq_of_covers 11 _ (by decide +kernel) fun t hf y => ?_
  blk_simp
  rw [after0_11]
  have h := idx t
  have ht : t.val < 32 := t.isLt
  have e : (y : S128x1024.Idx) = ix2 (⟨(y 0).val, (y 0).isLt⟩ : Fin 128) (⟨(y 1).val, (y 1).isLt⟩ : Fin 1024) := by blk_ext
  generalize (⟨(y 0).val, (y 0).isLt⟩ : Fin 128) = i at e
  generalize (⟨(y 1).val, (y 1).isLt⟩ : Fin 1024) = j at e
  rw [e]
  have ee : (win0_11.blk t).view.emb (ix2 i j) = ix2 (⟨128 * t.val + i.val, by omega⟩ : Fin 4096) j := by
    blk_ext [h]
  refine Eq.trans ?_ (congrArg (layer (g := 2) 0 (m ((c : Thread nD τ).loc main_arg5))) ee).symm
  have eb : iblk m c 6 t (ix3 0 i j) = m ((c : Thread nD τ).loc main_arg5) (ix3 0 (⟨128 * t.val + i.val, by omega⟩ : Fin 4096) j) := by
    refine Eq.trans ?_ (congrFun (arg_eq m c).2.2.2.2.1 _)
    blk_simp [iblk]
    congr 1
    blk_ext [h]
  refine Eq.trans ?_ eb
  unfold out0_11
  rw [View.canon_cons_unit_lit _ _ _ (by decide), View.ld_unit_lit _ _ (by decide)]
  generalize iblk m c 6 t = x
  pointwise [k0_pay3]

/-- The first layer's gate weight, a block at a time. -/
theorem kernel_eq12 (c : Dev nD) : (dats m 0 c).arrAt 12 cfg0.N = layer (g := 2) 0 (m ((c : Thread nD τ).loc main_arg6)) := by
  refine (dats m 0 c).arrAt_eq_of_covers 12 _ (by decide +kernel) fun t hf y => ?_
  blk_simp
  rw [after0_12]
  have h := idx t
  have ht : t.val < 32 := t.isLt
  have e : (y : S32x1024.Idx) = ix2 (⟨(y 0).val, (y 0).isLt⟩ : Fin 32) (⟨(y 1).val, (y 1).isLt⟩ : Fin 1024) := by blk_ext
  generalize (⟨(y 0).val, (y 0).isLt⟩ : Fin 32) = i at e
  generalize (⟨(y 1).val, (y 1).isLt⟩ : Fin 1024) = j at e
  rw [e]
  have ee : (win0_12.blk t).view.emb (ix2 i j) = ix2 (⟨32 * t.val + i.val, by omega⟩ : Fin 1024) j := by
    blk_ext [h]
  refine Eq.trans ?_ (congrArg (layer (g := 2) 0 (m ((c : Thread nD τ).loc main_arg6))) ee).symm
  have eb : iblk m c 7 t (ix3 0 i j) = m ((c : Thread nD τ).loc main_arg6) (ix3 0 (⟨32 * t.val + i.val, by omega⟩ : Fin 1024) j) := by
    refine Eq.trans ?_ (congrFun (arg_eq m c).2.2.2.2.2 _)
    blk_simp [iblk]
    congr 1
    blk_ext [h]
  refine Eq.trans ?_ eb
  unfold out0_12
  rw [View.canon_cons_unit_lit _ _ _ (by decide), View.ld_unit_lit _ _ (by decide)]
  generalize iblk m c 7 t = x
  pointwise [k0_pay4]

end Cert.Proj.Sb
end
-- ==== Proof.Proj.SbRef.lean ====
module

public import proofs.«01_k».proof.Proof.Proj.Spec
public import proofs.«01_k».proof.Proof.Gen.ProjSbRefIdeal.Read
public import Idealize.ShloMosaic.Lib.Pipeline.ValueKit
public import Idealize.ShloMosaic.Lib.Pointwise

@[expose] public section

set_option maxRecDepth 16384

noncomputable section

namespace Cert.Proj.Sb

open Cert.ProjSbRefIdeal Cert.ProjSbRefIdeal.Read Idealize.ShloMosaic
open Cert.Tail (Row nrm)

/-- The reference's norm. -/
theorem ref14_at (x0 : Vec Ideal S32768x1024 .f32) (x1 : Vec Ideal S2x1024 .f32) (n : Fin 32768) (j : Fin 1024) :
    val_main_v14 (F := Ideal) x0 x1 (ix2 n j) = nrm (fun j => x0 (ix2 n j)) (fun j => x1 (ix2 0 j)) j := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's product. -/
theorem ref16_at (x0 : Vec Ideal S32768x1024 .f32) (x1 : Vec Ideal S2x1024 .f32) (x2 : Vec Ideal S1024x3072 .bf16) (n : Fin 32768) (j : Fin 3072) :
    val_main_v16 (F := Ideal) x0 x1 x2 (ix2 n j) = acc (fun j => x0 (ix2 n j)) (fun j => x1 (ix2 0 j)) (fun k j => x2 (ix2 k j)) j := by
  pointwise [val_main_v16, val_main_v15]
  simp only [ref14_at]
  rfl

/-- The reference's rows. -/
theorem ref_at (x0 : Vec Ideal S32768x1024 .f32) (x1 : Vec Ideal S2x1024 .f32) (x2 : Vec Ideal S1024x3072 .bf16) (n : Fin 32768) (j : Fin 3072) :
    val_main_v23 (F := Ideal) x0 x1 x2 (ix2 n j) = scaled (fun j => x0 (ix2 n j)) (fun j => x1 (ix2 0 j)) (fun k j => x2 (ix2 k j)) j := by
  have hj := j.isLt
  pointwise [val_main_v23, val_main_v22, val_main_v21, val_main_v20, val_main_v19, val_main_v18, val_main_v17, val_main_cst_2]
  simp only [ref16_at]
  unfold scaled
  by_cases h : j.val < 1024
  · rw [dif_pos h, if_pos h]
  · rw [dif_neg h, if_neg h, mul_one]
    split
    · exact congrArg _ (Fin.ext (by simp only []; omega))
    · exact congrArg _ (Fin.ext (by simp only []; omega))

end Cert.Proj.Sb
end
-- ==== Proof.Proj.SbClaim.lean ====
module

public import proofs.«01_k».proof.Defs
public import proofs.«01_k».proof.Proof.Gen.ProjSbIdeal.Value
public import proofs.«01_k».proof.Proof.Proj.SbKernel
public import proofs.«01_k».proof.Proof.Proj.SbRef
public import Idealize.ShloMosaic.Lib.Quiescent
public import Idealize.ShloMosaic.Lib.Claim

@[expose] public section

set_option maxRecDepth 16384

noncomputable section

namespace Cert.Proj.Sb

open Idealize.ShloMosaic Idealize.SL.Sem
open Cert.Tail.First (layer)

/-- The reference's whole result. -/
theorem ref_eq (x0 : Vec Ideal Cert.ProjSbIdeal.S32768x1024 .f32) (x1 : Vec Ideal Cert.ProjSbIdeal.S2x1024 .f32) (x2 : Vec Ideal Cert.ProjSbIdeal.S1024x3072 .bf16) :
    Cert.ProjSbRefIdeal.Read.val_main_v23 (F := Ideal) x0 x1 x2 = outArr x0 x1 x2 := by
  funext y
  have hy : y = ix2 (y 0 : Fin 32768) (y 1 : Fin 3072) := by
    funext a
    fin_cases a <;> rfl
  exact (congrArg _ hy).trans (ref_at x0 x1 x2 _ _)

/-- The reference's weight of the first layer, result 25. -/
theorem ref25_eq (x : Vec Ideal Cert.ProjSbIdeal.S1x1024x1024 .f32) :
    Cert.ProjSbRefIdeal.Read.val_main_v25 (F := Ideal) x = layer (g := 1) 0 x := by
  funext y
  have hy : y = ix2 (y 0 : Fin 1024) (y 1 : Fin 1024) := by
    funext a
    fin_cases a <;> rfl
  generalize (y 0 : Fin 1024) = i at hy
  generalize (y 1 : Fin 1024) = j at hy
  subst hy
  pointwise [Cert.ProjSbRefIdeal.Read.val_main_v25, Cert.ProjSbRefIdeal.Read.val_main_v24]
  rfl

/-- The reference's weight of the first layer, result 28. -/
theorem ref28_eq (x : Vec Ideal Cert.ProjSbIdeal.S2x1024x4096 .f32) :
    Cert.ProjSbRefIdeal.Read.val_main_v28 (F := Ideal) x = layer (g := 2) 0 x := by
  funext y
  have hy : y = ix2 (y 0 : Fin 1024) (y 1 : Fin 4096) := by
    funext a
    fin_cases a <;> rfl
  generalize (y 0 : Fin 1024) = i at hy
  generalize (y 1 : Fin 4096) = j at hy
  subst hy
  pointwise [Cert.ProjSbRefIdeal.Read.val_main_v28, Cert.ProjSbRefIdeal.Read.val_main_v27, Cert.ProjSbRefIdeal.Read.val_main_v26]
  rfl

/-- The reference's weight of the first layer, result 31. -/
theorem ref31_eq (x : Vec Ideal Cert.ProjSbIdeal.S2x4096x1024 .f32) :
    Cert.ProjSbRefIdeal.Read.val_main_v31 (F := Ideal) x = layer (g := 2) 0 x := by
  funext y
  have hy : y = ix2 (y 0 : Fin 4096) (y 1 : Fin 1024) := by
    funext a
    fin_cases a <;> rfl
  generalize (y 0 : Fin 4096) = i at hy
  generalize (y 1 : Fin 1024) = j at hy
  subst hy
  pointwise [Cert.ProjSbRefIdeal.Read.val_main_v31, Cert.ProjSbRefIdeal.Read.val_main_v30, Cert.ProjSbRefIdeal.Read.val_main_v29]
  rfl

/-- The reference's weight of the first layer, result 34. -/
theorem ref34_eq (x : Vec Ideal Cert.ProjSbIdeal.S2x1024x1024 .f32) :
    Cert.ProjSbRefIdeal.Read.val_main_v34 (F := Ideal) x = layer (g := 2) 0 x := by
  funext y
  have hy : y = ix2 (y 0 : Fin 1024) (y 1 : Fin 1024) := by
    funext a
    fin_cases a <;> rfl
  generalize (y 0 : Fin 1024) = i at hy
  generalize (y 1 : Fin 1024) = j at hy
  subst hy
  pointwise [Cert.ProjSbRefIdeal.Read.val_main_v34, Cert.ProjSbRefIdeal.Read.val_main_v33, Cert.ProjSbRefIdeal.Read.val_main_v32]
  rfl

/-- Equal arguments give equal results. -/
theorem outArr_congr {x0 y0 : Vec Ideal Cert.ProjSbIdeal.S32768x1024 .f32} {x1 y1 : Vec Ideal Cert.ProjSbIdeal.S2x1024 .f32} {x2 y2 : Vec Ideal Cert.ProjSbIdeal.S1024x3072 .bf16}
    (h0 : x0 = y0) (h1 : x1 = y1) (h2 : x2 = y2) : outArr x0 x1 x2 = outArr y0 y1 y2 := by
  subst h0 h1 h2
  rfl

/-- Over the extended reals the projection of the first layer and its reference compute the same arrays. -/
theorem algebraic : Cert.algebraic_ProjSbIdeal_ProjSbRefIdeal := by
  intro m g m' g' _ hagree
  refine ⟨fun c => outArr (m ((c.tc : Thread _ _).loc Cert.ProjSbIdeal.main_arg0)) (m ((c.tc : Thread _ _).loc Cert.ProjSbIdeal.main_arg1)) (m ((c.tc : Thread _ _).loc Cert.ProjSbIdeal.main_arg2)),
    fun c => layer (g := 1) 0 (m ((c.tc : Thread _ _).loc Cert.ProjSbIdeal.main_arg3)), fun c => layer (g := 2) 0 (m ((c.tc : Thread _ _).loc Cert.ProjSbIdeal.main_arg4)),
    fun c => layer (g := 2) 0 (m ((c.tc : Thread _ _).loc Cert.ProjSbIdeal.main_arg5)), fun c => layer (g := 2) 0 (m ((c.tc : Thread _ _).loc Cert.ProjSbIdeal.main_arg6)), ?_, ?_⟩
  · refine (θ_run Cert.ProjSbIdeal.defs _ _).mono (fun r h c => ?_) (Cert.ProjSbIdeal.Value.run_blocks m g)
    obtain ⟨h0, h1, h2, h3, h4, h5⟩ := h c
    exact ⟨Eq.trans h0 (kernel_eq m c), Eq.trans h1 (kernel_eq9 m c), Eq.trans h2 (kernel_eq10 m c), Eq.trans h3 (kernel_eq11 m c),
      Eq.trans h4 (kernel_eq12 m c), h5⟩
  · refine (θ_run Cert.ProjSbRefIdeal.defs _ _).mono (fun r h c => ?_) (Cert.ProjSbRefIdeal.Value.run m' g')
    obtain ⟨e0, e1, e2, e3, e4, e5, e6⟩ := hagree c
    obtain ⟨h0, h1, h2, h3, h4, h5⟩ := h c
    refine ⟨Eq.trans h0 ?_, Eq.trans h1 ((ref25_eq _).trans (congrArg (layer (g := 1) 0) e3)), Eq.trans h2 ((ref28_eq _).trans (congrArg (layer (g := 2) 0) e4)),
      Eq.trans h3 ((ref31_eq _).trans (congrArg (layer (g := 2) 0) e5)), Eq.trans h4 ((ref34_eq _).trans (congrArg (layer (g := 2) 0) e6)), h5⟩
    refine (Cert.ProjSbRefIdeal.Read.val_main_v23_eq _ _ _).trans ?_
    exact (ref_eq _ _ _).trans (outArr_congr e0 e1 e2)

/-- The reference terminates, keeps its arguments and every counter. -/
theorem frame_ref : Cert.quiescent_ProjSbRefIdeal := fun m g _ =>
  (θ_run Cert.ProjSbRefIdeal.defs _ _).mono (fun r h => ⟨fun c => (h c).2.2.2.2.2, Idealize.ShloMosaic.sem_eq_zero_of_no_sems (by decide) r.2⟩)
    (Cert.ProjSbRefIdeal.Value.run m g)

end Cert.Proj.Sb
end
-- ==== Proof.Proj.RetBody.lean ====
module

public import proofs.«01_k».proof.Proof.Proj.Spec
public import proofs.«01_k».proof.Proof.Gen.ProjRetIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proj.Ret

open Cert.ProjRetIdeal Cert.ProjRetIdeal.Gen Idealize.ShloMosaic Idealize.ShloMosaic.TcCoe
open Cert.Tail (Row nrm)

/-- Columns `1024 q …` of the weight are columns of the weight. -/
theorem inbW (q : ℕ) (h : q < 6) : ∀ a, (![0, 1024 * q] : Fin 2 → ℕ) a + S1024x1024.size a ≤ S1024x6144.size a := by
  intro a
  fin_cases a
  · show 0 + 1024 ≤ 1024
    omega
  · show 1024 * q + 1024 ≤ 6144
    omega

/-- Columns `1024 q + o …` of the result are columns of the result. -/
theorem inbO (q o : ℕ) (h : q < 2) (ho : o + 128 ≤ 1024) : ∀ a, (![0, 1024 * q + o] : Fin 2 → ℕ) a + S1024x128.size a ≤ S1024x6144.size a := by
  intro a
  fin_cases a
  · show 0 + 1024 ≤ 1024
    omega
  · show 1024 * q + o + 128 ≤ 6144
    omega

/-- A chunk of the product with the weight. -/
def accP (x0 : Vec Ideal S1024x1024 .f32) (x1 : Vec Ideal S1x1024 .f32) (x2 : Vec Ideal S1024x6144 .bf16) (q : ℕ) (h : q < 6) : FVec Ideal S1024x1024 .f32 :=
  k0_pay4 x0 x1 (View.ld x2 (Rect.unit (s := S1024x6144) ![0, 1024 * q] S1024x1024.size (inbW q h)))

/-- The norm. -/
theorem pay1_at (x0 : Vec Ideal S1024x1024 .f32) (x1 : Vec Ideal S1x1024 .f32) (i j : Fin 1024) :
    k0_pay1 x0 x1 (ix2 i j) = nrm (fun j => x0 (ix2 i j)) (fun j => x1 (ix2 0 j)) j := by
  pointwise [k0_pay1]
  rfl

/-- The product with a block. -/
theorem pay4_at (x0 : Vec Ideal S1024x1024 .f32) (x1 : Vec Ideal S1x1024 .f32) (w : Vec Ideal S1024x1024 .bf16) (i j : Fin 1024) :
    k0_pay4 x0 x1 w (ix2 i j) = acc (fun j => x0 (ix2 i j)) (fun j => x1 (ix2 0 j)) (fun k j => w (ix2 k j)) j := by
  pointwise [k0_pay4]
  simp only [pay1_at]
  rfl

/-- A row of the product, every column. -/
abbrev full (x0 : Vec Ideal S1024x1024 .f32) (x1 : Vec Ideal S1x1024 .f32) (x2 : Vec Ideal S1024x6144 .bf16) (i : Fin 1024) (j : Fin 6144) : EReal :=
  acc (fun j => x0 (ix2 i j)) (fun j => x1 (ix2 0 j)) (fun k j => x2 (ix2 k j)) j

/-- A chunk's entry. -/
theorem accP_at (x0 : Vec Ideal S1024x1024 .f32) (x1 : Vec Ideal S1x1024 .f32) (x2 : Vec Ideal S1024x6144 .bf16) (q : ℕ) (h : q < 6) (i j : Fin 1024) :
    accP x0 x1 x2 q h (ix2 i j) = full x0 x1 x2 i ⟨1024 * q + j.val, by omega⟩ := by
  have e2 : ∀ (k j : Fin 1024), View.ld x2 (Rect.unit (s := S1024x6144) ![0, 1024 * q] S1024x1024.size (inbW q h)) (ix2 k j) = x2 (ix2 k (⟨1024 * q + j.val, by omega⟩ : Fin 6144)) :=
    fun k j => View.ld_unit_apply_of x2 _ _ (inbW q h) _ _ fun a => by fin_cases a <;> (try blk_simp) <;> rfl
  unfold accP
  rw [pay4_at]
  simp only [e2]
  rfl

/-- The first half of a rotated pair. -/
def firstP (x0 : Vec Ideal S1024x1024 .f32) (x1 : Vec Ideal S1x1024 .f32) (x2 : Vec Ideal S1024x6144 .bf16) (x3 x4 : Vec Ideal S1024x128 .f32) (q o : ℕ) (h : q < 6) (h1 : S1024x1024.Slices ![0, o] S1024x128) (h2 : S1024x1024.Slices ![0, o + 128] S1024x128) : FVec Ideal S1024x128 .bf16 :=
  truncf .bf16 (subf (mulf (extractStridedSlice S1024x128 ![0, o] (accP x0 x1 x2 q h) h1) (k0_pay2 x3))
    (mulf (extractStridedSlice S1024x128 ![0, o + 128] (accP x0 x1 x2 q h) h2) (k0_pay3 x4))) bitsLt_bf16_f32

/-- The second half of a rotated pair. -/
def secondP (x0 : Vec Ideal S1024x1024 .f32) (x1 : Vec Ideal S1x1024 .f32) (x2 : Vec Ideal S1024x6144 .bf16) (x3 x4 : Vec Ideal S1024x128 .f32) (q o : ℕ) (h : q < 6) (h1 : S1024x1024.Slices ![0, o] S1024x128) (h2 : S1024x1024.Slices ![0, o + 128] S1024x128) : FVec Ideal S1024x128 .bf16 :=
  truncf .bf16 (addf (mulf (extractStridedSlice S1024x128 ![0, o] (accP x0 x1 x2 q h) h1) (k0_pay3 x4))
    (mulf (extractStridedSlice S1024x128 ![0, o + 128] (accP x0 x1 x2 q h) h2) (k0_pay2 x3))) bitsLt_bf16_f32

/-- A chunk through the gate. -/
def gateP (x0 : Vec Ideal S1024x1024 .f32) (x1 : Vec Ideal S1x1024 .f32) (x2 : Vec Ideal S1024x6144 .bf16) (q : ℕ) (h : q < 6) : FVec Ideal S1024x1024 .bf16 :=
  k0_pay43 (k0_pay1 x0 x1) (View.ld x2 (Rect.unit (s := S1024x6144) ![0, 1024 * q] S1024x1024.size (inbW q h)))

/-- The first half of a pair, read. -/
theorem firstP_at (x0 : Vec Ideal S1024x1024 .f32) (x1 : Vec Ideal S1x1024 .f32) (x2 : Vec Ideal S1024x6144 .bf16) (x3 x4 : Vec Ideal S1024x128 .f32) (q o : ℕ) (h : q < 6) (h1) (h2) (ho : o + 256 ≤ 1024) (i : Fin 1024) (j : Fin 128) :
    firstP x0 x1 x2 x3 x4 q o h h1 h2 (ix2 i j) = full x0 x1 x2 i ⟨1024 * q + (o + j.val), by omega⟩ * x3 (ix2 i j)
      - full x0 x1 x2 i ⟨1024 * q + (o + 128 + j.val), by omega⟩ * x4 (ix2 i j) := by
  pointwise [firstP, k0_pay2, k0_pay3]
  exact congrArg₂ (fun a b => a * x3 (ix2 i j) - b * x4 (ix2 i j)) (accP_at x0 x1 x2 q h i ⟨o + j.val, by omega⟩) (accP_at x0 x1 x2 q h i ⟨o + 128 + j.val, by omega⟩)

/-- The second half of a pair, read. -/
theorem secondP_at (x0 : Vec Ideal S1024x1024 .f32) (x1 : Vec Ideal S1x1024 .f32) (x2 : Vec Ideal S1024x6144 .bf16) (x3 x4 : Vec Ideal S1024x128 .f32) (q o : ℕ) (h : q < 6) (h1) (h2) (ho : o + 256 ≤ 1024) (i : Fin 1024) (j : Fin 128) :
    secondP x0 x1 x2 x3 x4 q o h h1 h2 (ix2 i j) = full x0 x1 x2 i ⟨1024 * q + (o + j.val), by omega⟩ * x4 (ix2 i j)
      + full x0 x1 x2 i ⟨1024 * q + (o + 128 + j.val), by omega⟩ * x3 (ix2 i j) := by
  pointwise [secondP, k0_pay2, k0_pay3]
  exact congrArg₂ (fun a b => a * x4 (ix2 i j) + b * x3 (ix2 i j)) (accP_at x0 x1 x2 q h i ⟨o + j.val, by omega⟩) (accP_at x0 x1 x2 q h i ⟨o + 128 + j.val, by omega⟩)

/-- A chunk through the gate, read. -/
theorem gateP_at (x0 : Vec Ideal S1024x1024 .f32) (x1 : Vec Ideal S1x1024 .f32) (x2 : Vec Ideal S1024x6144 .bf16) (q : ℕ) (h : q < 6) (i j : Fin 1024) :
    gateP x0 x1 x2 q h (ix2 i j) = gate (full x0 x1 x2 i ⟨1024 * q + j.val, by omega⟩) := by
  rw [← accP_at x0 x1 x2 q h i j]
  pointwise [gateP, k0_pay43, accP, k0_pay4]
  rfl

/-- What a block holds, of the input blocks. -/
def outB (x0 : Vec Ideal S1024x1024 .f32) (x1 : Vec Ideal S1x1024 .f32) (x2 : Vec Ideal S1024x6144 .bf16) (x3 x4 : Vec Ideal S1024x128 .f32) (y : S1024x6144.Idx) : EReal :=
  rotated gate (full x0 x1 x2 (y 0 : Fin 1024)) (fun j => x3 (ix2 (y 0 : Fin 1024) j)) (fun j => x4 (ix2 (y 0 : Fin 1024) j)) (y 1 : Fin 6144)

/-- The first half of a pair, as stored. -/
theorem tileF (x0 : Vec Ideal S1024x1024 .f32) (x1 : Vec Ideal S1x1024 .f32) (x2 : Vec Ideal S1024x6144 .bf16) (x3 x4 : Vec Ideal S1024x128 .f32) (q p : ℕ) (hq : q < 2) (hp : p < 4) (h1) (h2) (w : Vec Ideal S1024x128 .bf16)
    (hw : w = firstP x0 x1 x2 x3 x4 q (256 * p) (by omega) h1 h2) (x : S1024x128.Idx) :
    w x = outB x0 x1 x2 x3 x4 ((Rect.unit (s := S1024x6144) ![0, 1024 * q + 256 * p] S1024x128.size (inbO q (256 * p) hq (by omega))).emb x) := by
  obtain ⟨i, j, rfl⟩ : ∃ (i : Fin 1024) (j : Fin 128), x = ix2 i j := ⟨x 0, x 1, by
    funext a
    fin_cases a <;> rfl⟩
  have ee : (Rect.unit (s := S1024x6144) ![0, 1024 * q + 256 * p] S1024x128.size (inbO q (256 * p) hq (by omega))).emb (ix2 i j)
      = ix2 i (⟨1024 * q + 256 * p + j.val, by omega⟩ : Fin 6144) := by blk_ext
  rw [hw, firstP_at _ _ _ _ _ _ _ _ _ _ (by omega)]
  refine Eq.trans ?_ (congrArg (outB x0 x1 x2 x3 x4) ee).symm
  show _ = rotated gate (full x0 x1 x2 i) (fun j => x3 (ix2 i j)) (fun j => x4 (ix2 i j)) ⟨1024 * q + 256 * p + j.val, _⟩
  have hj := j.isLt
  have e0 : (1024 * q + 256 * p + j.val) % 256 = j.val := by omega
  unfold rotated
  rw [dif_pos (by show 1024 * q + 256 * p + j.val < 2048; omega), dif_pos (by show (1024 * q + 256 * p + j.val) % 256 < 128; omega)]
  simp only [e0]
  refine congrArg₂ (fun a b => full x0 x1 x2 i a * x3 (ix2 i j) - full x0 x1 x2 i b * x4 (ix2 i j)) (Fin.ext ?_) (Fin.ext ?_)
  · show 1024 * q + (256 * p + j.val) = 1024 * q + 256 * p + j.val
    omega
  · show 1024 * q + (256 * p + 128 + j.val) = 1024 * q + 256 * p + j.val + 128
    omega

/-- The second half of a pair, as stored. -/
theorem tileS (x0 : Vec Ideal S1024x1024 .f32) (x1 : Vec Ideal S1x1024 .f32) (x2 : Vec Ideal S1024x6144 .bf16) (x3 x4 : Vec Ideal S1024x128 .f32) (q p : ℕ) (hq : q < 2) (hp : p < 4) (h1) (h2) (w : Vec Ideal S1024x128 .bf16)
    (hw : w = secondP x0 x1 x2 x3 x4 q (256 * p) (by omega) h1 h2) (x : S1024x128.Idx) :
    w x = outB x0 x1 x2 x3 x4 ((Rect.unit (s := S1024x6144) ![0, 1024 * q + (256 * p + 128)] S1024x128.size (inbO q (256 * p + 128) hq (by omega))).emb x) := by
  obtain ⟨i, j, rfl⟩ : ∃ (i : Fin 1024) (j : Fin 128), x = ix2 i j := ⟨x 0, x 1, by
    funext a
    fin_cases a <;> rfl⟩
  have ee : (Rect.unit (s := S1024x6144) ![0, 1024 * q + (256 * p + 128)] S1024x128.size (inbO q (256 * p + 128) hq (by omega))).emb (ix2 i j)
      = ix2 i (⟨1024 * q + (256 * p + 128) + j.val, by omega⟩ : Fin 6144) := by blk_ext
  rw [hw, secondP_at _ _ _ _ _ _ _ _ _ _ (by omega)]
  refine Eq.trans ?_ (congrArg (outB x0 x1 x2 x3 x4) ee).symm
  show _ = rotated gate (full x0 x1 x2 i) (fun j => x3 (ix2 i j)) (fun j => x4 (ix2 i j)) ⟨1024 * q + (256 * p + 128) + j.val, _⟩
  have hj := j.isLt
  have e0 : (1024 * q + (256 * p + 128) + j.val) % 256 - 128 = j.val := by omega
  unfold rotated
  rw [dif_pos (by show 1024 * q + (256 * p + 128) + j.val < 2048; omega), dif_neg (by show ¬(1024 * q + (256 * p + 128) + j.val) % 256 < 128; omega)]
  simp only [e0]
  refine congrArg₂ (fun a b => full x0 x1 x2 i a * x4 (ix2 i j) + full x0 x1 x2 i b * x3 (ix2 i j)) (Fin.ext ?_) (Fin.ext ?_)
  · show 1024 * q + (256 * p + j.val) = 1024 * q + (256 * p + 128) + j.val - 128
    omega
  · show 1024 * q + (256 * p + 128 + j.val) = 1024 * q + (256 * p + 128) + j.val
    omega

/-- A chunk of values, as stored. -/
theorem tileV (x0 : Vec Ideal S1024x1024 .f32) (x1 : Vec Ideal S1x1024 .f32) (x2 : Vec Ideal S1024x6144 .bf16) (x3 x4 : Vec Ideal S1024x128 .f32) (q : ℕ) (h0 : 2 ≤ q) (hq : q < 4) (w : Vec Ideal S1024x1024 .bf16)
    (hw : w = truncf .bf16 (accP x0 x1 x2 q (by omega)) bitsLt_bf16_f32) (x : S1024x1024.Idx) :
    w x = outB x0 x1 x2 x3 x4 ((Rect.unit (s := S1024x6144) ![0, 1024 * q] S1024x1024.size (inbW q (by omega))).emb x) := by
  obtain ⟨i, j, rfl⟩ : ∃ (i j : Fin 1024), x = ix2 i j := ⟨x 0, x 1, by
    funext a
    fin_cases a <;> rfl⟩
  have ee : (Rect.unit (s := S1024x6144) ![0, 1024 * q] S1024x1024.size (inbW q (by omega))).emb (ix2 i j)
      = ix2 i (⟨1024 * q + j.val, by omega⟩ : Fin 6144) := by blk_ext
  rw [hw]
  refine Eq.trans ?_ (congrArg (outB x0 x1 x2 x3 x4) ee).symm
  refine (accP_at x0 x1 x2 q (by omega) i j).trans ?_
  show _ = rotated gate (full x0 x1 x2 i) (fun j => x3 (ix2 i j)) (fun j => x4 (ix2 i j)) ⟨1024 * q + j.val, _⟩
  unfold rotated
  rw [dif_neg (by show ¬1024 * q + j.val < 2048; omega), if_pos (by show 1024 * q + j.val < 4096; omega)]

/-- A chunk of the gate, as stored. -/
theorem tileG (x0 : Vec Ideal S1024x1024 .f32) (x1 : Vec Ideal S1x1024 .f32) (x2 : Vec Ideal S1024x6144 .bf16) (x3 x4 : Vec Ideal S1024x128 .f32) (q : ℕ) (h0 : 4 ≤ q) (hq : q < 6) (w : Vec Ideal S1024x1024 .bf16)
    (hw : w = gateP x0 x1 x2 q hq) (x : S1024x1024.Idx) :
    w x = outB x0 x1 x2 x3 x4 ((Rect.unit (s := S1024x6144) ![0, 1024 * q] S1024x1024.size (inbW q (by omega))).emb x) := by
  obtain ⟨i, j, rfl⟩ : ∃ (i j : Fin 1024), x = ix2 i j := ⟨x 0, x 1, by
    funext a
    fin_cases a <;> rfl⟩
  have ee : (Rect.unit (s := S1024x6144) ![0, 1024 * q] S1024x1024.size (inbW q (by omega))).emb (ix2 i j)
      = ix2 i (⟨1024 * q + j.val, by omega⟩ : Fin 6144) := by blk_ext
  rw [hw, gateP_at]
  refine Eq.trans ?_ (congrArg (outB x0 x1 x2 x3 x4) ee).symm
  show _ = rotated gate (full x0 x1 x2 i) (fun j => x3 (ix2 i j)) (fun j => x4 (ix2 i j)) ⟨1024 * q + j.val, _⟩
  unfold rotated
  rw [dif_neg (by show ¬1024 * q + j.val < 2048; omega), if_neg (by show ¬1024 * q + j.val < 4096; omega)]

variable (m : (ℓ : Loc nD τ sig) → Buf (Elt Ideal) ℓ)

/-- At every grid point the block left is `outB` of the point's input blocks. -/
theorem outs_eq (c : Dev nD) (t : Fin cfg0.N) :
    outsAt0 (F := Ideal) m c t = outB (iblk m c 0 t) (iblk m c 1 t) (iblk m c 2 t) (iblk m c 3 t) (iblk m c 4 t) := by
  unfold outsAt0
  frame_open
  frame_out
  funext y
  refine View.canon_apply_of_pieces (Val := Elt Ideal) (e := .bf16) (outB (iblk m c 0 t) (iblk m c 1 t) (iblk m c 2 t) (iblk m c 3 t) (iblk m c 4 t)) _
    (View.PiecesOf.mem ?_) y (View.cover_of_tiledBy _ ![1024, 128] (by sl_kernel_rfl) y)
  exact ⟨fun x => tileG _ _ _ _ _ 5 (by omega) (by omega) _ rfl x,
    fun x => tileG _ _ _ _ _ 4 (by omega) (by omega) _ rfl x,
    fun x => tileV _ _ _ _ _ 3 (by omega) (by omega) _ rfl x,
    fun x => tileV _ _ _ _ _ 2 (by omega) (by omega) _ rfl x,
    fun x => tileS _ _ _ _ _ 1 3 (by omega) (by omega) (by decide) (by decide) _ rfl x,
    fun x => tileF _ _ _ _ _ 1 3 (by omega) (by omega) (by decide) (by decide) _ rfl x,
    fun x => tileS _ _ _ _ _ 1 2 (by omega) (by omega) (by decide) (by decide) _ rfl x,
    fun x => tileF _ _ _ _ _ 1 2 (by omega) (by omega) (by decide) (by decide) _ rfl x,
    fun x => tileS _ _ _ _ _ 1 1 (by omega) (by omega) (by decide) (by decide) _ rfl x,
    fun x => tileF _ _ _ _ _ 1 1 (by omega) (by omega) (by decide) (by decide) _ rfl x,
    fun x => tileS _ _ _ _ _ 1 0 (by omega) (by omega) (by decide) (by decide) _ rfl x,
    fun x => tileF _ _ _ _ _ 1 0 (by omega) (by omega) (by decide) (by decide) _ rfl x,
    fun x => tileS _ _ _ _ _ 0 3 (by omega) (by omega) (by decide) (by decide) _ rfl x,
    fun x => tileF _ _ _ _ _ 0 3 (by omega) (by omega) (by decide) (by decide) _ rfl x,
    fun x => tileS _ _ _ _ _ 0 2 (by omega) (by omega) (by decide) (by decide) _ rfl x,
    fun x => tileF _ _ _ _ _ 0 2 (by omega) (by omega) (by decide) (by decide) _ rfl x,
    fun x => tileS _ _ _ _ _ 0 1 (by omega) (by omega) (by decide) (by decide) _ rfl x,
    fun x => tileF _ _ _ _ _ 0 1 (by omega) (by omega) (by decide) (by decide) _ rfl x,
    fun x => tileS _ _ _ _ _ 0 0 (by omega) (by omega) (by decide) (by decide) _ rfl x,
    fun x => tileF _ _ _ _ _ 0 0 (by omega) (by omega) (by decide) (by decide) _ rfl x,
    trivial⟩

end Cert.Proj.Ret
end
-- ==== Proof.Proj.RetKernel.lean ====
module

public import proofs.«01_k».proof.Proof.Proj.RetBody
public import proofs.«01_k».proof.Proof.Gen.ProjRetRefIdeal.Read

@[expose] public section

set_option maxRecDepth 16384

noncomputable section

namespace Cert.Proj.Ret

open Cert.ProjRetIdeal Cert.ProjRetIdeal.Gen Idealize.ShloMosaic Idealize.ShloMosaic.TcCoe
open Cert.Tail (Row nrm)

set_option maxHeartbeats 4000000 in
/-- The windows' blocks at a point. -/
theorem idx : ∀ t : Fin cfg0.N, win0_0.index t = ![t.val, 0] ∧ win0_1.index t = ![0, 0] ∧ win0_2.index t = ![0, 0] ∧ win0_3.index t = ![t.val % 4, 0]
    ∧ win0_4.index t = ![t.val % 4, 0] ∧ win0_5.index t = ![t.val, 0] :=
  (by decide +kernel : ∀ t : Fin grid0.N, _)

variable (m : (ℓ : Loc nD τ sig) → Buf (Elt Ideal) ℓ)

/-- The arrays the call reads are the arguments. -/
theorem arg_eq (c : Dev nD) : V m c main_arg0 = m ((c : Thread nD τ).loc main_arg0) ∧ V m c main_arg2 = m ((c : Thread nD τ).loc main_arg2) := by
  simp only [V, hostOps0, hostOps0_1, hostOps0_2, List.flatten_cons, List.flatten_nil, List.append_nil, List.cons_append, List.nil_append, StableHlo.after_cons, StableHlo.after_nil]
  refine ⟨?_, ?_⟩ <;> after_results_simp

/-- The gain of the norm. -/
theorem v74_at (c : Dev nD) (j : Fin 1024) : V m c main_v74 (ix2 0 j) = m ((c : Thread nD τ).loc main_arg1) (ix2 1 j) := by
  simp only [V, hostOps0, hostOps0_1, hostOps0_2, List.flatten_cons, List.flatten_nil, List.append_nil, List.cons_append, List.nil_append, StableHlo.after_cons, StableHlo.after_nil]
  after_results_simp
  pointwise

/-- The two tables of the rotation are the reference's. -/
theorem tab_eq (c : Dev nD) : V m c main_v60 = Cert.ProjRetRefIdeal.Read.val_main_v40 (F := Ideal) ∧ V m c main_v61 = Cert.ProjRetRefIdeal.Read.val_main_v42 (F := Ideal) := by
  simp only [V, hostOps0, hostOps0_1, hostOps0_2, List.flatten_cons, List.flatten_nil, List.append_nil, List.cons_append, List.nil_append, StableHlo.after_cons, StableHlo.after_nil]
  refine ⟨?_, ?_⟩ <;> after_results_simp <;> rfl

/-- The row of a point's block. -/
abbrev rowOf (t : Fin cfg0.N) (i : Fin 1024) : Fin 32768 := ⟨1024 * t.val + i.val, by have ht : t.val < 32 := t.isLt; omega⟩

/-- A row's place in its sequence. -/
abbrev posOf (n : Fin 32768) : Fin 4096 := ⟨n.val % 4096, by omega⟩

/-- The rows' block. -/
theorem b0_at (c : Dev nD) (t : Fin cfg0.N) (i j : Fin 1024) :
    iblk m c 0 t (ix2 i j) = m ((c : Thread nD τ).loc main_arg0) (ix2 (rowOf t i) j) := by
  have h := idx t
  refine Eq.trans ?_ (congrFun (arg_eq m c).1 _)
  blk_simp [iblk]
  congr 1
  blk_ext [h]

/-- The gain's block. -/
theorem b1_at (c : Dev nD) (t : Fin cfg0.N) (j : Fin 1024) :
    iblk m c 1 t (ix2 0 j) = m ((c : Thread nD τ).loc main_arg1) (ix2 1 j) := by
  have h := idx t
  refine Eq.trans ?_ (v74_at m c _)
  blk_simp [iblk]
  congr 1
  blk_ext [h]

/-- The weight's block. -/
theorem b2_at (c : Dev nD) (t : Fin cfg0.N) (k : Fin 1024) (j : Fin 6144) :
    iblk m c 2 t (ix2 k j) = m ((c : Thread nD τ).loc main_arg2) (ix2 k j) := by
  have h := idx t
  refine Eq.trans ?_ (congrFun (arg_eq m c).2 _)
  blk_simp [iblk]
  congr 1
  blk_ext [h]

/-- The cosines' block. -/
theorem b3_at (c : Dev nD) (t : Fin cfg0.N) (i : Fin 1024) (j : Fin 128) :
    iblk m c 3 t (ix2 i j) = Cert.ProjRetRefIdeal.Read.val_main_v40 (F := Ideal) (ix2 (posOf (rowOf t i)) j) := by
  have h := idx t
  have ht : t.val < 32 := t.isLt
  have hi := i.isLt
  have hr : (1024 * t.val + i.val) % 4096 = 1024 * (t.val % 4) + i.val := by omega
  refine Eq.trans ?_ (congrFun (tab_eq m c).1 _)
  blk_simp [iblk]
  congr 1
  blk_ext [h, hr]

/-- The sines' block. -/
theorem b4_at (c : Dev nD) (t : Fin cfg0.N) (i : Fin 1024) (j : Fin 128) :
    iblk m c 4 t (ix2 i j) = Cert.ProjRetRefIdeal.Read.val_main_v42 (F := Ideal) (ix2 (posOf (rowOf t i)) j) := by
  have h := idx t
  have ht : t.val < 32 := t.isLt
  have hi := i.isLt
  have hr : (1024 * t.val + i.val) % 4096 = 1024 * (t.val % 4) + i.val := by omega
  refine Eq.trans ?_ (congrFun (tab_eq m c).2 _)
  blk_simp [iblk]
  congr 1
  blk_ext [h, hr]

/-- The projection of the second layer, of the arguments, its last columns through `G`. -/
def outArr (G : EReal → EReal) (a0 : Vec Ideal S32768x1024 .f32) (a1 : Vec Ideal S2x1024 .f32) (a2 : Vec Ideal S1024x6144 .bf16) : Vec Ideal S32768x6144 .bf16 := fun y =>
  rotated G (acc (fun j => a0 (ix2 (y 0 : Fin 32768) j)) (fun j => a1 (ix2 1 j)) (fun k j => a2 (ix2 k j)))
    (fun j => Cert.ProjRetRefIdeal.Read.val_main_v40 (F := Ideal) (ix2 (posOf (y 0 : Fin 32768)) j))
    (fun j => Cert.ProjRetRefIdeal.Read.val_main_v42 (F := Ideal) (ix2 (posOf (y 0 : Fin 32768)) j)) (y 1 : Fin 6144)

/-- The array index of a block's entry. -/
theorem out_emb (t : Fin cfg0.N) (i : Fin 1024) (j : Fin 6144) : (win0_5.blk t).view.emb (ix2 i j) = ix2 (rowOf t i) j := by
  have h := idx t
  blk_ext [h]

/-- What a point leaves. -/
theorem out_point (c : Dev nD) (t : Fin cfg0.N) (i : Fin 1024) (j : Fin 6144) : outsAt0 m c t (ix2 i j)
    = outArr gate (m ((c : Thread nD τ).loc main_arg0)) (m ((c : Thread nD τ).loc main_arg1)) (m ((c : Thread nD τ).loc main_arg2)) (ix2 (rowOf t i) j) := by
  rw [outs_eq]
  refine Eq.trans (b := rotated gate (acc (fun k => iblk m c 0 t (ix2 i k)) (fun k => iblk m c 1 t (ix2 0 k)) (fun k j => iblk m c 2 t (ix2 k j)))
    (fun j => iblk m c 3 t (ix2 i j)) (fun j => iblk m c 4 t (ix2 i j)) j) rfl ?_
  simp only [b0_at, b1_at, b2_at, b3_at, b4_at]
  rfl

/-- The whole array after the call. -/
theorem kernel_eq (c : Dev nD) : (dats m 0 c).arrAt 5 cfg0.N
    = outArr gate (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have e : (y : S1024x6144.Idx) = ix2 (⟨(y 0).val, (y 0).isLt⟩ : Fin 1024) (⟨(y 1).val, (y 1).isLt⟩ : Fin 6144) := by blk_ext
  generalize (⟨(y 0).val, (y 0).isLt⟩ : Fin 1024) = i at e
  generalize (⟨(y 1).val, (y 1).isLt⟩ : Fin 6144) = j at e
  rw [e]
  exact (out_point m c t i j).trans (congrArg (outArr gate _ _ _) (out_emb t _ _).symm)

end Cert.Proj.Ret
end
-- ==== Proof.Proj.RetRef.lean ====
module

public import proofs.«01_k».proof.Proof.Proj.Spec
public import proofs.«01_k».proof.Proof.Gen.ProjRetRefIdeal.Read
public import Idealize.ShloMosaic.Lib.Pipeline.ValueKit
public import Idealize.ShloMosaic.Lib.Pointwise

@[expose] public section

set_option maxRecDepth 16384

noncomputable section

namespace Cert.Proj.Ret

open Cert.ProjRetRefIdeal Cert.ProjRetRefIdeal.Read Idealize.ShloMosaic
open Cert.Tail (Row nrm)

/-- The reference's norm. -/
theorem ref14_at (x0 : Vec Ideal S32768x1024 .f32) (x1 : Vec Ideal S2x1024 .f32) (n : Fin 32768) (j : Fin 1024) :
    val_main_v14 (F := Ideal) x0 x1 (ix2 n j) = nrm (fun j => x0 (ix2 n j)) (fun j => x1 (ix2 1 j)) j := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- A row of the product, every column. -/
abbrev prod (x0 : Vec Ideal S32768x1024 .f32) (x1 : Vec Ideal S2x1024 .f32) (x2 : Vec Ideal S1024x6144 .bf16) (n : Fin 32768) (j : Fin 6144) : EReal :=
  acc (fun j => x0 (ix2 n j)) (fun j => x1 (ix2 1 j)) (fun k j => x2 (ix2 k j)) j

/-- The reference's product. -/
theorem ref16_at (x0 : Vec Ideal S32768x1024 .f32) (x1 : Vec Ideal S2x1024 .f32) (x2 : Vec Ideal S1024x6144 .bf16) (n : Fin 32768) (j : Fin 6144) :
    val_main_v16 (F := Ideal) x0 x1 x2 (ix2 n j) = prod x0 x1 x2 n j := by
  pointwise [val_main_v16, val_main_v15]
  simp only [ref14_at]
  rfl

/-- A row of a sequence. -/
abbrev rowAt (b : Fin 8) (s : Fin 4096) : Fin 32768 := ⟨b.val * 4096 + s.val, by omega⟩

/-- The product, by sequences. -/
theorem ref17_at (x0 : Vec Ideal S32768x1024 .f32) (x1 : Vec Ideal S2x1024 .f32) (x2 : Vec Ideal S1024x6144 .bf16) (b : Fin 8) (s : Fin 4096) (j : Fin 6144) :
    val_main_v17 (F := Ideal) x0 x1 x2 (ix3 b s j) = prod x0 x1 x2 (rowAt b s) j := by
  rw [← ref16_at]
  pointwise [val_main_v17]

/-- A rotated query of a head. -/
theorem ref56_at (x0 : Vec Ideal S32768x1024 .f32) (x1 : Vec Ideal S2x1024 .f32) (x2 : Vec Ideal S1024x6144 .bf16) (b : Fin 8) (s : Fin 4096) (h : Fin 4) (j : Fin 256) :
    val_main_v56 (F := Ideal) x0 x1 x2 (ix4 b s h j)
      = if h2 : j.val < 128 then prod x0 x1 x2 (rowAt b s) ⟨h.val * 256 + j.val, by omega⟩ * val_main_v40 (F := Ideal) (ix2 s ⟨j.val, h2⟩)
          - prod x0 x1 x2 (rowAt b s) ⟨h.val * 256 + (128 + j.val), by omega⟩ * val_main_v42 (F := Ideal) (ix2 s ⟨j.val, h2⟩)
        else prod x0 x1 x2 (rowAt b s) ⟨h.val * 256 + (j.val - 128), by omega⟩ * val_main_v42 (F := Ideal) (ix2 s ⟨j.val - 128, by omega⟩)
          + prod x0 x1 x2 (rowAt b s) ⟨h.val * 256 + (128 + (j.val - 128)), by omega⟩ * val_main_v40 (F := Ideal) (ix2 s ⟨j.val - 128, by omega⟩) := by
  have hj := j.isLt
  pointwise [val_main_v56, val_main_v55, val_main_v54, val_main_v53, val_main_v52, val_main_v51, val_main_v50, val_main_v49, val_main_v48, val_main_v47, val_main_v46, val_main_v45, val_main_v44, val_main_v43, val_main_v41, val_main_v23, val_main_v18]
  simp only [ref17_at]

/-- A rotated key of a head. -/
theorem ref91_at (x0 : Vec Ideal S32768x1024 .f32) (x1 : Vec Ideal S2x1024 .f32) (x2 : Vec Ideal S1024x6144 .bf16) (b : Fin 8) (s : Fin 4096) (h : Fin 4) (j : Fin 256) :
    val_main_v91 (F := Ideal) x0 x1 x2 (ix4 b s h j)
      = if h2 : j.val < 128 then prod x0 x1 x2 (rowAt b s) ⟨1024 + (h.val * 256 + j.val), by omega⟩ * val_main_v75 (F := Ideal) (ix2 s ⟨j.val, h2⟩)
          - prod x0 x1 x2 (rowAt b s) ⟨1024 + (h.val * 256 + (128 + j.val)), by omega⟩ * val_main_v77 (F := Ideal) (ix2 s ⟨j.val, h2⟩)
        else prod x0 x1 x2 (rowAt b s) ⟨1024 + (h.val * 256 + (j.val - 128)), by omega⟩ * val_main_v77 (F := Ideal) (ix2 s ⟨j.val - 128, by omega⟩)
          + prod x0 x1 x2 (rowAt b s) ⟨1024 + (h.val * 256 + (128 + (j.val - 128))), by omega⟩ * val_main_v75 (F := Ideal) (ix2 s ⟨j.val - 128, by omega⟩) := by
  have hj := j.isLt
  pointwise [val_main_v91, val_main_v90, val_main_v89, val_main_v88, val_main_v87, val_main_v86, val_main_v85, val_main_v84, val_main_v83, val_main_v82, val_main_v81, val_main_v80, val_main_v79, val_main_v78, val_main_v76, val_main_v58, val_main_v19]
  simp only [ref17_at]

/-- The first half of a pair, its columns named otherwise. -/
theorem sub_pair (a : Fin 6144 → EReal) (x y : EReal) {u u' v v' : Fin 6144} (hu : u.val = u'.val) (hv : v.val = v'.val) : a u * x - a v * y = a u' * x - a v' * y := by
  rw [Fin.ext hu, Fin.ext hv]

/-- The second half of a pair, its columns named otherwise. -/
theorem add_pair (a : Fin 6144 → EReal) (x y : EReal) {u u' v v' : Fin 6144} (hu : u.val = u'.val) (hv : v.val = v'.val) : a u * x + a v * y = a u' * x + a v' * y := by
  rw [Fin.ext hu, Fin.ext hv]

/-- The columns of the reference's four parts are the columns of the whole. -/
theorem pick (a : Fin 6144 → EReal) (c s : Fin 128 → EReal) (j : Fin 6144) :
    (if h : j.val < 1024 then
      if h2 : j.val % 256 < 128 then a ⟨j.val / 256 * 256 + j.val % 256, by omega⟩ * c ⟨j.val % 256, h2⟩ - a ⟨j.val / 256 * 256 + (128 + j.val % 256), by omega⟩ * s ⟨j.val % 256, h2⟩
      else a ⟨j.val / 256 * 256 + (j.val % 256 - 128), by omega⟩ * s ⟨j.val % 256 - 128, by omega⟩ + a ⟨j.val / 256 * 256 + (128 + (j.val % 256 - 128)), by omega⟩ * c ⟨j.val % 256 - 128, by omega⟩
    else if h1 : j.val - 1024 < 1024 then
      if h2 : (j.val - 1024) % 256 < 128 then a ⟨1024 + ((j.val - 1024) / 256 * 256 + (j.val - 1024) % 256), by omega⟩ * c ⟨(j.val - 1024) % 256, h2⟩
          - a ⟨1024 + ((j.val - 1024) / 256 * 256 + (128 + (j.val - 1024) % 256)), by omega⟩ * s ⟨(j.val - 1024) % 256, h2⟩
      else a ⟨1024 + ((j.val - 1024) / 256 * 256 + ((j.val - 1024) % 256 - 128)), by omega⟩ * s ⟨(j.val - 1024) % 256 - 128, by omega⟩
          + a ⟨1024 + ((j.val - 1024) / 256 * 256 + (128 + ((j.val - 1024) % 256 - 128))), by omega⟩ * c ⟨(j.val - 1024) % 256 - 128, by omega⟩
    else if h1 : j.val - 1024 - 1024 < 2048 then a ⟨2048 + (j.val - 1024 - 1024), by omega⟩
    else silu (a ⟨4096 + (j.val - 1024 - 1024 - 2048), by omega⟩)) = rotated silu a c s j := by
  have hj := j.isLt
  unfold rotated
  by_cases h : j.val < 1024
  · rw [dif_pos h, dif_pos (by omega : j.val < 2048)]
    by_cases h2 : j.val % 256 < 128
    · rw [dif_pos h2, dif_pos h2]
      exact sub_pair a _ _ (by simp only []; omega) (by simp only []; omega)
    · rw [dif_neg h2, dif_neg h2]
      exact add_pair a _ _ (by simp only []; omega) (by simp only []; omega)
  · rw [dif_neg h]
    by_cases h1 : j.val - 1024 < 1024
    · rw [dif_pos h1, dif_pos (by omega : j.val < 2048)]
      have e : (j.val - 1024) % 256 = j.val % 256 := by omega
      simp only [e]
      by_cases h2 : j.val % 256 < 128
      · rw [dif_pos h2, dif_pos h2]
        exact sub_pair a _ _ (by simp only []; omega) (by simp only []; omega)
      · rw [dif_neg h2, dif_neg h2]
        exact add_pair a _ _ (by simp only []; omega) (by simp only []; omega)
    · rw [dif_neg h1, dif_neg (by omega : ¬j.val < 2048)]
      by_cases h3 : j.val - 1024 - 1024 < 2048
      · rw [dif_pos h3, if_pos (by omega : j.val < 4096)]
        exact congrArg a (Fin.ext (by simp only []; omega))
      · rw [dif_neg h3, if_neg (by omega : ¬j.val < 4096)]
        exact congrArg (fun u => silu (a u)) (Fin.ext (by simp only []; omega))

/-- A row's place in its sequence. -/
abbrev placeOf (n : Fin 32768) : Fin 4096 := ⟨n.val % 4096, by omega⟩

/-- The reference's rows. -/
theorem ref_at (x0 : Vec Ideal S32768x1024 .f32) (x1 : Vec Ideal S2x1024 .f32) (x2 : Vec Ideal S1024x6144 .bf16) (n : Fin 32768) (j : Fin 6144) :
    val_main_v96 (F := Ideal) x0 x1 x2 (ix2 n j)
      = rotated silu (prod x0 x1 x2 n) (fun k => val_main_v40 (F := Ideal) (ix2 (placeOf n) k)) (fun k => val_main_v42 (F := Ideal) (ix2 (placeOf n) k)) j := by
  have hj := j.isLt
  have hn := n.isLt
  pointwise [val_main_v96, val_main_v95, val_main_v94, val_main_v57, val_main_v92, val_main_v20, val_main_v93, val_main_v21, val_main_call0_v5, val_main_call0_v4,
    val_main_call0_v3, val_main_call0_v2, val_main_call0_v1, val_main_call0_v0, val_main_call0_cst, val_main_call0_cst_0]
  simp only [ref17_at, ref56_at, ref91_at]
  have hrow : rowAt (⟨n.val / 4096, by omega⟩ : Fin 8) (⟨n.val % 4096, by omega⟩ : Fin 4096) = n := Fin.ext (by
    show n.val / 4096 * 4096 + n.val % 4096 = n.val
    omega)
  have e75 : val_main_v75 (F := Ideal) = val_main_v40 (F := Ideal) := rfl
  have e77 : val_main_v77 (F := Ideal) = val_main_v42 (F := Ideal) := rfl
  simp only [hrow, e75, e77]
  exact pick (prod x0 x1 x2 n) (fun k => val_main_v40 (F := Ideal) (ix2 (placeOf n) k)) (fun k => val_main_v42 (F := Ideal) (ix2 (placeOf n) k)) j

end Cert.Proj.Ret
end
-- ==== Proof.Proj.RetClaim.lean ====
module

public import proofs.«01_k».proof.Defs
public import proofs.«01_k».proof.Proof.Ret.Claim
public import proofs.«01_k».proof.Proof.Ret.Math
public import proofs.«01_k».proof.Proof.Gen.Pre_finite_h
public import proofs.«01_k».proof.Proof.Proj.RetKernel
public import proofs.«01_k».proof.Proof.Proj.RetRef

@[expose] public section

set_option maxRecDepth 16384

noncomputable section

namespace Cert.Proj.Ret

open Idealize.ShloMosaic Idealize.SL.Sem
open Cert.Tail (Row nrm)

/-- The literal a half. -/
theorem lit_half : Ideal.ofBits .f32 1056964608#32 = (((1 / 2 : ℝ)) : EReal) := by simp [Ideal.ofBits, Ideal.ieee, -EReal.coe_mul]; norm_num
/-- The literal 1024. -/
theorem lit_1024 : Ideal.ofBits .f32 1149239296#32 = (((1024 : ℝ)) : EReal) := by simp [Ideal.ofBits, Ideal.ieee, -EReal.coe_mul]; norm_num
/-- The norm's small summand is a positive real number. -/
theorem lit_small : ∃ e : ℝ, 0 < e ∧ Ideal.ofBits .f32 897988541#32 = (e : EReal) := by
  refine ⟨(Ideal.ofBits .f32 897988541#32).toReal, ?_, ?_⟩ <;> simp [Ideal.ofBits, Ideal.ieee, -EReal.coe_mul]

/-- A half and a half of the hyperbolic tangent of the half is the logistic function. -/
theorem tanh_half (r : ℝ) : 1 / 2 * r + 1 / 2 * r * Real.tanh (1 / 2 * r) = r * (1 + Real.exp (-r))⁻¹ := by
  have e1 : Real.exp (-r) = Real.exp (-(1 / 2 * r)) * Real.exp (-(1 / 2 * r)) := by
    rw [← Real.exp_add]
    congr 1
    ring
  have e2 : Real.exp (1 / 2 * r) * Real.exp (-(1 / 2 * r)) = 1 := by
    rw [← Real.exp_add, add_neg_cancel, Real.exp_zero]
  have p1 := Real.exp_pos (1 / 2 * r)
  have p2 := Real.exp_pos (-(1 / 2 * r))
  rw [e1, Real.tanh_eq_sinh_div_cosh, Real.sinh_eq, Real.cosh_eq]
  generalize Real.exp (1 / 2 * r) = u at *
  generalize Real.exp (-(1 / 2 * r)) = v at *
  have hu : u + v ≠ 0 := by positivity
  have hv : 1 + v * v ≠ 0 := by positivity
  field_simp
  linear_combination (2 * r * v) * e2

/-- On the reals the two gates agree. -/
theorem gate_real (r : ℝ) : gate (r : EReal) = silu (r : EReal) := by
  unfold gate silu
  rw [lit_half, Ideal.logistic_coe, ← EReal.coe_mul, Ideal.tanh_coe, ← EReal.coe_mul, ← EReal.coe_add, ← EReal.coe_mul, tanh_half]

/-- The norm of a row of reals is real. -/
theorem nrm_real (x g : Row) (hx : ∀ j, ∃ r : ℝ, x j = (r : EReal)) (hg : ∀ j, ∃ r : ℝ, g j = (r : EReal)) (j : Fin 1024) :
    ∃ r : ℝ, nrm x g j = (r : EReal) := by
  choose X hX using hx
  choose G hG using hg
  obtain ⟨e, he, hs⟩ := lit_small
  have hsum : 0 ≤ ∑ k : Fin 1024, X k * X k := Finset.sum_nonneg fun k _ => mul_self_nonneg _
  have hp : 0 < (∑ k : Fin 1024, X k * X k) * (1 / 1024) + e := by positivity
  unfold nrm
  simp only [hX, hG, lit_1024, hs, ← EReal.coe_mul, ← Cert.Ret.coe_sumR]
  rw [Ideal.div_coe (by norm_num), ← EReal.coe_mul, ← EReal.coe_add, Ideal.rsqrt_coe, if_neg (not_lt.mpr hp.le), if_neg hp.ne']
  exact ⟨_, by rw [← EReal.coe_mul, ← EReal.coe_mul]⟩

/-- A column of the product of reals is real. -/
theorem acc_real {n : ℕ} (x g : Row) (w : Fin 1024 → Fin n → EReal) (hx : ∀ j, ∃ r : ℝ, x j = (r : EReal)) (hg : ∀ j, ∃ r : ℝ, g j = (r : EReal))
    (hw : ∀ k j, ∃ r : ℝ, w k j = (r : EReal)) (j : Fin n) : ∃ r : ℝ, acc x g w j = (r : EReal) := by
  choose N hN using nrm_real x g hx hg
  choose W hW using hw
  unfold acc
  simp only [hN, hW, ← EReal.coe_mul, ← Cert.Ret.coe_sumR]
  exact ⟨_, rfl⟩

/-- Through either gate a row of reals is the same. -/
theorem rotated_real (a : Fin 6144 → EReal) (c s : Fin 128 → EReal) (ha : ∀ j, ∃ r : ℝ, a j = (r : EReal)) (j : Fin 6144) :
    rotated gate a c s j = rotated silu a c s j := by
  obtain ⟨r, hr⟩ := ha j
  unfold rotated
  rw [hr, gate_real]

/-- From real arguments the two gates give the same array. -/
theorem outArr_real (a0 : Vec Ideal Cert.ProjRetIdeal.S32768x1024 .f32) (a1 : Vec Ideal Cert.ProjRetIdeal.S2x1024 .f32) (a2 : Vec Ideal Cert.ProjRetIdeal.S1024x6144 .bf16)
    (h0 : ∀ n j, ∃ r : ℝ, a0 (ix2 n j) = (r : EReal)) (h1 : ∀ n j, ∃ r : ℝ, a1 (ix2 n j) = (r : EReal)) (h2 : ∀ n j, ∃ r : ℝ, a2 (ix2 n j) = (r : EReal)) :
    outArr gate a0 a1 a2 = outArr silu a0 a1 a2 := by
  funext y
  exact rotated_real _ _ _ (acc_real _ _ _ (fun j => h0 _ j) (fun j => h1 1 j) h2) _

/-- Finite arguments are real. -/
theorem real_of_pre (a0 : Vec Ideal Cert.ProjRetIdeal.S32768x1024 .f32) (a1 : Vec Ideal Cert.ProjRetIdeal.S2x1024 .f32) (a2 : Vec Ideal Cert.ProjRetIdeal.S1024x6144 .bf16)
    (h : (Cert.Pre_finite_h.fn (F := Ideal) a0 a1 a2).1 = (fun _ => 1#1) ∧ (Cert.Pre_finite_h.fn (F := Ideal) a0 a1 a2).2.1 = (fun _ => 1#1)
      ∧ (Cert.Pre_finite_h.fn (F := Ideal) a0 a1 a2).2.2 = (fun _ => 1#1)) :
    (∀ n j, ∃ r : ℝ, a0 (ix2 n j) = (r : EReal)) ∧ (∀ n j, ∃ r : ℝ, a1 (ix2 n j) = (r : EReal)) ∧ (∀ n j, ∃ r : ℝ, a2 (ix2 n j) = (r : EReal)) := by
  obtain ⟨h0, h1, h2⟩ := h
  refine ⟨fun n j => Cert.Ret.real_of_abs_lt _ ?_, fun n j => Cert.Ret.real_of_abs_lt _ ?_, fun n j => Cert.Ret.real_of_abs_lt _ ?_⟩
  · exact congrFun h0 (ix2 n j)
  · exact congrFun h1 (ix2 n j)
  · exact congrFun h2 (ix2 n j)

/-- The reference's whole result. -/
theorem ref_eq (x0 : Vec Ideal Cert.ProjRetIdeal.S32768x1024 .f32) (x1 : Vec Ideal Cert.ProjRetIdeal.S2x1024 .f32) (x2 : Vec Ideal Cert.ProjRetIdeal.S1024x6144 .bf16) :
    Cert.ProjRetRefIdeal.Read.val_main_v96 (F := Ideal) x0 x1 x2 = outArr silu x0 x1 x2 := by
  funext y
  have hy : y = ix2 (y 0 : Fin 32768) (y 1 : Fin 6144) := by
    funext a
    fin_cases a <;> rfl
  exact (congrArg _ hy).trans (ref_at x0 x1 x2 _ _)

/-- Equal arguments give equal results. -/
theorem outArr_congr {x0 y0 : Vec Ideal Cert.ProjRetIdeal.S32768x1024 .f32} {x1 y1 : Vec Ideal Cert.ProjRetIdeal.S2x1024 .f32} {x2 y2 : Vec Ideal Cert.ProjRetIdeal.S1024x6144 .bf16}
    (h0 : x0 = y0) (h1 : x1 = y1) (h2 : x2 = y2) : outArr silu x0 x1 x2 = outArr silu y0 y1 y2 := by
  subst h0 h1 h2
  rfl

/-- Over the extended reals the projection of the second layer and its reference compute the same array from finite arguments. -/
theorem algebraic : Cert.algebraic_ProjRetIdeal_ProjRetRefIdeal_pre_finite_h := by
  intro m g m' g' hpre hagree
  refine ⟨fun c => outArr silu (m ((c.tc : Thread _ _).loc Cert.ProjRetIdeal.main_arg0)) (m ((c.tc : Thread _ _).loc Cert.ProjRetIdeal.main_arg1))
    (m ((c.tc : Thread _ _).loc Cert.ProjRetIdeal.main_arg2)), ?_, ?_⟩
  · refine (θ_run Cert.ProjRetIdeal.defs _ _).mono (fun r h c => ?_) (Cert.ProjRetIdeal.Value.run_blocks m g)
    obtain ⟨h0, h1⟩ := h c
    obtain ⟨p0, p1, p2⟩ := real_of_pre _ _ _ (hpre c)
    exact ⟨Eq.trans h0 ((kernel_eq m c).trans (outArr_real _ _ _ p0 p1 p2)), h1⟩
  · refine (θ_run Cert.ProjRetRefIdeal.defs _ _).mono (fun r h c => ?_) (Cert.ProjRetRefIdeal.Value.run m' g')
    obtain ⟨e0, e1, e2⟩ := hagree c
    obtain ⟨h0, h1⟩ := h c
    refine ⟨Eq.trans h0 ?_, h1⟩
    refine (Cert.ProjRetRefIdeal.Read.val_main_v96_eq m' c).trans ?_
    exact (ref_eq _ _ _).trans (outArr_congr e0 e1 e2)

/-- The reference terminates, keeps its arguments and every counter. -/
theorem frame_ref : Cert.quiescent_ProjRetRefIdeal := fun m g _ =>
  (θ_run Cert.ProjRetRefIdeal.defs _ _).mono (fun r h => ⟨fun c => (h c).2, Idealize.ShloMosaic.sem_eq_zero_of_no_sems (by decide) r.2⟩)
    (Cert.ProjRetRefIdeal.Value.run m g)

end Cert.Proj.Ret
end
-- ==== Proof.Layer.Proj.lean ====
module

public import proofs.«01_k».proof.Proof.Proj.RetKernel
public import proofs.«01_k».proof.Proof.Gen.LayerIdeal.Frame

@[expose] public section

set_option maxRecDepth 16384

noncomputable section

namespace Cert.Joined

open Cert.LayerIdeal Cert.LayerIdeal.Gen Idealize.ShloMosaic Idealize.ShloMosaic.TcCoe

variable (m : (ℓ : Loc nD τ sig) → Buf (Elt Ideal) ℓ) (ρ : Dev nD → PrngReg)

section
variable (k : (ℓ : Loc Cert.ProjRetIdeal.nD Cert.ProjRetIdeal.τ Cert.ProjRetIdeal.sig) → Buf (Elt Ideal) ℓ) (c : Dev nD)

/-- The projection's arguments are the whole call's. -/
def ProjArgs : Prop :=
  k ((c.tc : Thread _ _).loc Cert.ProjRetIdeal.main_arg0) = m ((c.tc : Thread _ _).loc main_arg0)
    ∧ k ((c.tc : Thread _ _).loc Cert.ProjRetIdeal.main_arg1) = m ((c.tc : Thread _ _).loc main_arg2)
    ∧ k ((c.tc : Thread _ _).loc Cert.ProjRetIdeal.main_arg2) = m ((c.tc : Thread _ _).loc main_arg3)

variable {k c} (h : ProjArgs m k c)
include h

/-- The arrays the projection reads are those it reads on its own. -/
theorem proj_arr : V3 m ρ c main_arg0 = Cert.ProjRetIdeal.Gen.V k c Cert.ProjRetIdeal.main_arg0
    ∧ V3 m ρ c main_v74 = Cert.ProjRetIdeal.Gen.V k c Cert.ProjRetIdeal.main_v74
    ∧ V3 m ρ c main_arg3 = Cert.ProjRetIdeal.Gen.V k c Cert.ProjRetIdeal.main_arg2
    ∧ V3 m ρ c main_v60 = Cert.ProjRetIdeal.Gen.V k c Cert.ProjRetIdeal.main_v60
    ∧ V3 m ρ c main_v61 = Cert.ProjRetIdeal.Gen.V k c Cert.ProjRetIdeal.main_v61 := by
  obtain ⟨h0, h1, h2⟩ := h
  refine ⟨(W3_args m ρ c main_arg0 (by decide)).trans (h0.symm.trans (Cert.Proj.Ret.arg_eq k c).1.symm), ?_,
    (W3_args m ρ c main_arg3 (by decide)).trans (h2.symm.trans (Cert.Proj.Ret.arg_eq k c).2.symm),
    Eq.trans ?_ (Cert.Proj.Ret.tab_eq k c).1.symm, Eq.trans ?_ (Cert.Proj.Ret.tab_eq k c).2.symm⟩
  · funext y
    have hy : y = ix2 (0 : Fin 1) (y 1 : Fin 1024) := by
      have hx0 : (y 0).val < 1 := (y 0).isLt
      blk_ext
    rw [hy]
    refine Eq.trans ?_ (Cert.Proj.Ret.v74_at k c _).symm
    rw [h1]
    simp only [V3, W3, W2, W1, hostOps0, hostOps0_1, hostOps0_2, StableHlo.after_cons, StableHlo.after_nil]
    after_results_simp
    pointwise
  all_goals
    simp only [V3, W3, W2, W1, hostOps0, hostOps0_1, hostOps0_2, StableHlo.after_cons, StableHlo.after_nil]
    after_results_simp
    rfl

set_option maxHeartbeats 2000000 in
/-- Its blocks are those it reads on its own. -/
theorem proj_blk (t : Fin cfg0.N) : iblk0 (V3 m ρ) c 0 t = Cert.ProjRetIdeal.Gen.iblk k c 0 t ∧ iblk0 (V3 m ρ) c 1 t = Cert.ProjRetIdeal.Gen.iblk k c 1 t
    ∧ iblk0 (V3 m ρ) c 2 t = Cert.ProjRetIdeal.Gen.iblk k c 2 t ∧ iblk0 (V3 m ρ) c 3 t = Cert.ProjRetIdeal.Gen.iblk k c 3 t
    ∧ iblk0 (V3 m ρ) c 4 t = Cert.ProjRetIdeal.Gen.iblk k c 4 t := by
  obtain ⟨h0, h1, h2, h3, h4⟩ := proj_arr m ρ h
  refine ⟨?_, ?_, ?_, ?_, ?_⟩ <;> funext y
  · blk_simp [iblk0, Cert.ProjRetIdeal.Gen.iblk]
    exact congrFun h0 _
  · blk_simp [iblk0, Cert.ProjRetIdeal.Gen.iblk]
    exact congrFun h1 _
  · blk_simp [iblk0, Cert.ProjRetIdeal.Gen.iblk]
    exact congrFun h2 _
  · blk_simp [iblk0, Cert.ProjRetIdeal.Gen.iblk]
    exact congrFun h3 _
  · blk_simp [iblk0, Cert.ProjRetIdeal.Gen.iblk]
    exact congrFun h4 _

/-- What a point leaves is what it leaves on its own. -/
theorem proj_outs (t : Fin cfg0.N) : outsAt0 (V3 m ρ) c t = Cert.ProjRetIdeal.Gen.outsAt0 k c t := by
  obtain ⟨h0, h1, h2, h3, h4⟩ := proj_blk m ρ h t
  unfold Cert.ProjRetIdeal.Gen.outsAt0 outsAt0
  rw [h0, h1, h2, h3, h4]
  generalize Cert.ProjRetIdeal.Gen.iblk k c 0 t = x0
  generalize Cert.ProjRetIdeal.Gen.iblk k c 1 t = x1
  generalize Cert.ProjRetIdeal.Gen.iblk k c 2 t = x2
  generalize Cert.ProjRetIdeal.Gen.iblk k c 3 t = x3
  generalize Cert.ProjRetIdeal.Gen.iblk k c 4 t = x4
  frame_open
  frame_out
  rfl

/-- What a point leaves, of the whole call's arguments. -/
theorem proj_point (t : Fin cfg0.N) (i : Fin 1024) (j : Fin 6144) : outsAt0 (V3 m ρ) c t (ix2 i j)
    = Cert.Proj.Ret.outArr Cert.Proj.gate (m ((c.tc : Thread _ _).loc main_arg0))
    (m ((c.tc : Thread _ _).loc main_arg2)) (m ((c.tc : Thread _ _).loc main_arg3)) (ix2 (Cert.Proj.Ret.rowOf t i) j) := by
  rw [proj_outs m ρ h t, Cert.Proj.Ret.out_point k c t i j, h.1, h.2.1, h.2.2]

omit h in
/-- Where a point's block lies in the array. -/
theorem proj_idx : ∀ t : Fin cfg0.N, win0_5.index t = ![t.val, 0] := (by decide +kernel : ∀ t : Fin grid0.N, _)
omit h in
/-- Where a point's entry lies in the array. -/
theorem proj_emb (t : Fin cfg0.N) (i : Fin 1024) (j : Fin 6144) : (win0_5.blk t).view.emb (ix2 i j) = ix2 (Cert.Proj.Ret.rowOf t i) j := by
  have h := proj_idx t
  blk_ext [h]

/-- The array the projection leaves. -/
theorem proj_out : (dat0 (V3 m ρ) c).arrAt 5 cfg0.N = Cert.Proj.Ret.outArr Cert.Proj.gate (m ((c.tc : Thread _ _).loc main_arg0))
    (m ((c.tc : Thread _ _).loc main_arg2)) (m ((c.tc : Thread _ _).loc main_arg3)) := by
  refine (dat0 (V3 m ρ) c).arrAt_eq_of_covers 5 _ (by decide +kernel) fun t hf y => ?_
  blk_simp
  rw [after0_5]
  have e : (y : S1024x6144.Idx) = ix2 (⟨(y 0).val, (y 0).isLt⟩ : Fin 1024) (⟨(y 1).val, (y 1).isLt⟩ : Fin 6144) := by blk_ext
  generalize (⟨(y 0).val, (y 0).isLt⟩ : Fin 1024) = i at e
  generalize (⟨(y 1).val, (y 1).isLt⟩ : Fin 6144) = j at e
  rw [e]
  exact (proj_point m ρ h t i j).trans (congrArg (Cert.Proj.Ret.outArr Cert.Proj.gate _ _ _) (proj_emb t _ _).symm)

end
end Cert.Joined
end
-- ==== Proof.Layer.Ret.lean ====
module

public import proofs.«01_k».proof.Proof.Ret.Kernel
public import proofs.«01_k».proof.Proof.Gen.LayerIdeal.Frame

@[expose] public section

set_option maxRecDepth 16384

noncomputable section

namespace Cert.Joined

open Cert.LayerIdeal Cert.LayerIdeal.Gen Idealize.ShloMosaic Idealize.ShloMosaic.TcCoe

variable (m : (ℓ : Loc nD τ sig) → Buf (Elt Ideal) ℓ) (ρ : Dev nD → PrngReg)

section
variable (k : (ℓ : Loc Cert.KernelIdeal.nD Cert.KernelIdeal.τ Cert.KernelIdeal.sig) → Buf (Elt Ideal) ℓ) (c : Dev nD)

/-- The retention's argument is what the projection left. -/
def RetArgs : Prop :=
  k ((c.tc : Thread _ _).loc Cert.KernelIdeal.main_arg0) = (dat0 (V3 m ρ) c).arrAt 5 cfg0.N

variable {k c} (h : RetArgs m ρ k c)
include h

set_option maxHeartbeats 2000000 in
/-- The arrays the retention reads are those it reads on its own. -/
theorem ret_arr : V7 m ρ c main_v148 = Cert.KernelIdeal.Gen.V k c Cert.KernelIdeal.main_v72
    ∧ V7 m ρ c main_v139 = Cert.KernelIdeal.Gen.V k c Cert.KernelIdeal.main_v63
    ∧ V7 m ρ c main_v141 = Cert.KernelIdeal.Gen.V k c Cert.KernelIdeal.main_v65
    ∧ V7 m ρ c main_v145 = Cert.KernelIdeal.Gen.V k c Cert.KernelIdeal.main_v69
    ∧ V7 m ρ c main_v147 = Cert.KernelIdeal.Gen.V k c Cert.KernelIdeal.main_v71 := by
  have e : W4 m ρ c (Proc.devRef .tc main_v75) = k ((c.tc : Thread _ _).loc Cert.KernelIdeal.main_arg0) :=
    (W4_arr m ρ c 5).trans h.symm
  refine ⟨?_, ?_, ?_, ?_, ?_⟩
  · simp only [V7, W7, W6, W5, hostOps1, hostOps1_1, hostOps1_2, Cert.KernelIdeal.Gen.V, Cert.KernelIdeal.Gen.hostOps0, Cert.KernelIdeal.Gen.hostOps0_1,
      Cert.KernelIdeal.Gen.hostOps0_2, List.flatten_cons, List.flatten_nil, List.cons_append, List.nil_append, List.append_nil, StableHlo.after_cons, StableHlo.after_nil]
    after_results_simp
    rw [e]
    rfl
  all_goals
    simp only [V7, W7, W6, W5, hostOps1, hostOps1_1, hostOps1_2, Cert.KernelIdeal.Gen.V, Cert.KernelIdeal.Gen.hostOps0, Cert.KernelIdeal.Gen.hostOps0_1,
      Cert.KernelIdeal.Gen.hostOps0_2, List.flatten_cons, List.flatten_nil, List.cons_append, List.nil_append, List.append_nil, StableHlo.after_cons, StableHlo.after_nil]
    after_results_simp

set_option maxHeartbeats 4000000 in
/-- Its blocks are those it reads on its own. -/
theorem ret_blk (t : Fin cfg1.N) : iblk1 (V7 m ρ) c 0 t = Cert.KernelIdeal.Gen.iblk k c 0 t ∧ iblk1 (V7 m ρ) c 1 t = Cert.KernelIdeal.Gen.iblk k c 1 t
    ∧ iblk1 (V7 m ρ) c 2 t = Cert.KernelIdeal.Gen.iblk k c 2 t ∧ iblk1 (V7 m ρ) c 3 t = Cert.KernelIdeal.Gen.iblk k c 3 t
    ∧ iblk1 (V7 m ρ) c 4 t = Cert.KernelIdeal.Gen.iblk k c 4 t ∧ iblk1 (V7 m ρ) c 5 t = Cert.KernelIdeal.Gen.iblk k c 5 t
    ∧ iblk1 (V7 m ρ) c 6 t = Cert.KernelIdeal.Gen.iblk k c 6 t ∧ iblk1 (V7 m ρ) c 7 t = Cert.KernelIdeal.Gen.iblk k c 7 t := by
  obtain ⟨h0, h1, h2, h3, h4⟩ := ret_arr m ρ h
  refine ⟨?_, ?_, ?_, ?_, ?_, ?_, ?_, ?_⟩ <;> funext y
  all_goals blk_simp [iblk1, Cert.KernelIdeal.Gen.iblk]
  · exact congrFun h0 _
  · exact congrFun h0 _
  · exact congrFun h0 _
  · exact congrFun h0 _
  · exact congrFun h1 _
  · exact congrFun h2 _
  · exact congrFun h3 _
  · exact congrFun h4 _

set_option maxHeartbeats 4000000 in
/-- What a point leaves is what it leaves on its own. -/
theorem ret_outs (t : Fin cfg1.N) : outsAt1 (V7 m ρ) c t = Cert.KernelIdeal.Gen.outsAt0 k c t := by
  obtain ⟨h0, h1, h2, h3, h4, h5, h6, h7⟩ := ret_blk m ρ h t
  unfold Cert.KernelIdeal.Gen.outsAt0 outsAt1
  rw [h0, h1, h2, h3, h4, h5, h6, h7]
  generalize Cert.KernelIdeal.Gen.iblk k c 0 t = x0
  generalize Cert.KernelIdeal.Gen.iblk k c 1 t = x1
  generalize Cert.KernelIdeal.Gen.iblk k c 2 t = x2
  generalize Cert.KernelIdeal.Gen.iblk k c 3 t = x3
  generalize Cert.KernelIdeal.Gen.iblk k c 4 t = x4
  generalize Cert.KernelIdeal.Gen.iblk k c 5 t = x5
  generalize Cert.KernelIdeal.Gen.iblk k c 6 t = x6
  generalize Cert.KernelIdeal.Gen.iblk k c 7 t = x7
  frame_open
  simp (disch := decide) only [↓ View.readCov_skip, ↓ View.readCov_cons_toLoadRect, ↓ View.readCov_fill]
  frame_out
  rfl

omit h in
/-- Where a point's block lies in the array. -/
theorem ret_idx : ∀ t : Fin cfg1.N, win1_8.index t = ![t.val / 4, 0, t.val % 4] := (by decide +kernel : ∀ t : Fin grid1.N, _)
omit h in
/-- Where a point's entry lies in the array. -/
theorem ret_emb (t : Fin grid1.N) (n : Fin 4096) (d : Fin 512) : (win1_8.blk t).view.emb (ix3 0 n d)
    = (ix3 (⟨t.val / 4, Cert.Ret.seq_lt t⟩ : Fin 8) n (⟨t.val % 4 * 512 + d.val, by omega⟩ : Fin 2048)) := by
  have h := ret_idx t
  blk_ext [h]

/-- The array the retention leaves. -/
theorem ret_out (hX : ∀ n col, ∃ r : ℝ, Cert.Ret.XK k c (ix2 n col) = (r : EReal)) :
    (dat1 (V7 m ρ) c).arrAt 8 cfg1.N = Cert.Ret.outArr (Cert.Ret.XK k c) := by
  refine (dat1 (V7 m ρ) c).arrAt_eq_of_covers 8 _ (by decide +kernel) fun t hf y => ?_
  blk_simp
  rw [after1_8]
  have e : (y : S1x4096x512.Idx) = ix3 (0 : Fin 1) (⟨(y 1).val, (y 1).isLt⟩ : Fin 4096) (⟨(y 2).val, (y 2).isLt⟩ : Fin 512) := by
    have hx0 : (y 0).val < 1 := (y 0).isLt
    blk_ext
  generalize (⟨(y 1).val, (y 1).isLt⟩ : Fin 4096) = i at e
  generalize (⟨(y 2).val, (y 2).isLt⟩ : Fin 512) = j at e
  rw [e]
  refine (congrFun (ret_outs m ρ h t) _).trans ((Cert.Ret.out_point k c hX t i j).trans ?_)
  exact (Cert.Ret.outArr_at _ _ _ _ _).symm.trans (congrArg (Cert.Ret.outArr (Cert.Ret.XK k c)) (ret_emb t _ _).symm)

end
end Cert.Joined
end
-- ==== Proof.Layer.Tail.lean ====
module

public import proofs.«01_k».proof.Proof.Tail.LastKernel
public import proofs.«01_k».proof.Proof.Gen.LayerIdeal.Frame

@[expose] public section

set_option maxRecDepth 16384

noncomputable section

namespace Cert.Joined

open Cert.LayerIdeal Cert.LayerIdeal.Gen Idealize.ShloMosaic Idealize.ShloMosaic.TcCoe

variable (m : (ℓ : Loc nD τ sig) → Buf (Elt Ideal) ℓ) (ρ : Dev nD → PrngReg)

section
variable (k : (ℓ : Loc Cert.TailLastIdeal.nD Cert.TailLastIdeal.τ Cert.TailLastIdeal.sig) → Buf (Elt Ideal) ℓ) (c : Dev nD)

/-- The tail's arguments are the whole call's and what the retention left, its rows in order. -/
structure TailArgs : Prop where
  a0 : k ((c.tc : Thread _ _).loc Cert.TailLastIdeal.main_arg0) = m ((c.tc : Thread _ _).loc main_arg0)
  a1 : k ((c.tc : Thread _ _).loc Cert.TailLastIdeal.main_arg1)
    = shapeCast S32768x2048 ((dat1 (V7 m ρ) c).arrAt 8 cfg1.N : Vec Ideal S8x4096x2048 .bf16) shapeCasts_S8x4096x2048_S32768x2048
  a2 : k ((c.tc : Thread _ _).loc Cert.TailLastIdeal.main_arg2) = m ((c.tc : Thread _ _).loc main_arg1)
  a3 : k ((c.tc : Thread _ _).loc Cert.TailLastIdeal.main_arg3) = m ((c.tc : Thread _ _).loc main_arg4)
  a4 : k ((c.tc : Thread _ _).loc Cert.TailLastIdeal.main_arg4) = m ((c.tc : Thread _ _).loc main_arg5)
  a5 : k ((c.tc : Thread _ _).loc Cert.TailLastIdeal.main_arg5) = m ((c.tc : Thread _ _).loc main_arg6)
  a6 : k ((c.tc : Thread _ _).loc Cert.TailLastIdeal.main_arg6) = m ((c.tc : Thread _ _).loc main_arg7)
  a7 : k ((c.tc : Thread _ _).loc Cert.TailLastIdeal.main_arg7) = m ((c.tc : Thread _ _).loc main_arg8)
  a8 : k ((c.tc : Thread _ _).loc Cert.TailLastIdeal.main_arg8) = m ((c.tc : Thread _ _).loc main_arg9)
  a9 : k ((c.tc : Thread _ _).loc Cert.TailLastIdeal.main_arg9) = m ((c.tc : Thread _ _).loc main_arg10)
  a10 : k ((c.tc : Thread _ _).loc Cert.TailLastIdeal.main_arg10) = m ((c.tc : Thread _ _).loc main_arg11)

variable {k c} (h : TailArgs m ρ k c)
include h

/-- The arrays it takes as they were given. -/
theorem tail_args : V9 m ρ c main_arg0 = Cert.TailLastIdeal.Gen.V k c Cert.TailLastIdeal.main_arg0
    ∧ V9 m ρ c main_arg1 = Cert.TailLastIdeal.Gen.V k c Cert.TailLastIdeal.main_arg2
    ∧ V9 m ρ c main_arg4 = Cert.TailLastIdeal.Gen.V k c Cert.TailLastIdeal.main_arg3
    ∧ V9 m ρ c main_arg6 = Cert.TailLastIdeal.Gen.V k c Cert.TailLastIdeal.main_arg5
    ∧ V9 m ρ c main_arg7 = Cert.TailLastIdeal.Gen.V k c Cert.TailLastIdeal.main_arg6
    ∧ V9 m ρ c main_arg9 = Cert.TailLastIdeal.Gen.V k c Cert.TailLastIdeal.main_arg8 := by
  obtain ⟨g0, -, g2, g3, g5, g6, g8⟩ := Cert.Tail.Last.arg_eq k c
  exact ⟨(W9_args m ρ c main_arg0 (by decide)).trans (h.a0.symm.trans g0.symm),
    (W9_args m ρ c main_arg1 (by decide)).trans (h.a2.symm.trans g2.symm),
    (W9_args m ρ c main_arg4 (by decide)).trans (h.a3.symm.trans g3.symm),
    (W9_args m ρ c main_arg6 (by decide)).trans (h.a5.symm.trans g5.symm),
    (W9_args m ρ c main_arg7 (by decide)).trans (h.a6.symm.trans g6.symm),
    (W9_args m ρ c main_arg9 (by decide)).trans (h.a8.symm.trans g8.symm)⟩

/-- The arrays the host makes for it. -/
theorem tail_arr : V9 m ρ c main_v150 = Cert.TailLastIdeal.Gen.V k c Cert.TailLastIdeal.main_arg1
    ∧ V9 m ρ c main_v158 = Cert.TailLastIdeal.Gen.V k c Cert.TailLastIdeal.main_v7
    ∧ V9 m ρ c main_v159 = Cert.TailLastIdeal.Gen.V k c Cert.TailLastIdeal.main_v8
    ∧ V9 m ρ c main_v157 = Cert.TailLastIdeal.Gen.V k c Cert.TailLastIdeal.main_v6
    ∧ V9 m ρ c main_v160 = Cert.TailLastIdeal.Gen.V k c Cert.TailLastIdeal.main_v9 := by
  have e : W8 m ρ c (Proc.devRef .tc main_v149) = (dat1 (V7 m ρ) c).arrAt 8 cfg1.N := W8_arr m ρ c 8
  refine ⟨?_, ?_, ?_, ?_, ?_⟩
  · refine Eq.trans ?_ (h.a1.symm.trans (Cert.Tail.Last.arg_eq k c).2.1.symm)
    simp only [V9, W9, hostOps2, StableHlo.after_cons, StableHlo.after_nil]
    after_results_simp
    rw [e]
    rfl
  all_goals
    simp only [V9, W9, hostOps2, Cert.TailLastIdeal.Gen.V, Cert.TailLastIdeal.Gen.hostOps0, StableHlo.after_cons, StableHlo.after_nil]
    after_results_simp
    first
      | rw [W8_args m ρ c main_arg5 (by decide), ← h.a4] <;> rfl
      | rw [W8_args m ρ c main_arg8 (by decide), ← h.a7] <;> rfl
      | rw [W8_args m ρ c main_arg10 (by decide), ← h.a9] <;> rfl
      | rw [W8_args m ρ c main_arg11 (by decide), ← h.a10] <;> rfl

set_option maxHeartbeats 4000000 in
/-- Its blocks are those it reads on its own. -/
theorem tail_blk (t : Fin cfg2.N) : iblk2 (V9 m ρ) c 0 t = Cert.TailLastIdeal.Gen.iblk k c 0 t ∧ iblk2 (V9 m ρ) c 1 t = Cert.TailLastIdeal.Gen.iblk k c 1 t
    ∧ iblk2 (V9 m ρ) c 2 t = Cert.TailLastIdeal.Gen.iblk k c 2 t ∧ iblk2 (V9 m ρ) c 3 t = Cert.TailLastIdeal.Gen.iblk k c 3 t
    ∧ iblk2 (V9 m ρ) c 4 t = Cert.TailLastIdeal.Gen.iblk k c 4 t ∧ iblk2 (V9 m ρ) c 5 t = Cert.TailLastIdeal.Gen.iblk k c 5 t
    ∧ iblk2 (V9 m ρ) c 6 t = Cert.TailLastIdeal.Gen.iblk k c 6 t ∧ iblk2 (V9 m ρ) c 7 t = Cert.TailLastIdeal.Gen.iblk k c 7 t
    ∧ iblk2 (V9 m ρ) c 8 t = Cert.TailLastIdeal.Gen.iblk k c 8 t ∧ iblk2 (V9 m ρ) c 9 t = Cert.TailLastIdeal.Gen.iblk k c 9 t
    ∧ iblk2 (V9 m ρ) c 10 t = Cert.TailLastIdeal.Gen.iblk k c 10 t := by
  obtain ⟨h0, h2, h3, h5, h6, h8⟩ := tail_args m ρ h
  obtain ⟨h1, h4, h7, h9, h10⟩ := tail_arr m ρ h
  refine ⟨?_, ?_, ?_, ?_, ?_, ?_, ?_, ?_, ?_, ?_, ?_⟩ <;> funext y
  all_goals blk_simp [iblk2, Cert.TailLastIdeal.Gen.iblk]
  · exact congrFun h0 _
  · exact congrFun h1 _
  · exact congrFun h2 _
  · exact congrFun h3 _
  · exact congrFun h4 _
  · exact congrFun h5 _
  · exact congrFun h6 _
  · exact congrFun h7 _
  · exact congrFun h8 _
  · exact congrFun h9 _
  · exact congrFun h10 _

omit h in
set_option maxHeartbeats 2000000 in
/-- What a point writes of its blocks is what it writes on its own. -/
theorem tail_outs (x0 : Vec Ideal S512x1024 .f32) (x1 : Vec Ideal S512x2048 .bf16) (x2 : Vec Ideal S1x512x256 .f32) (x3 : Vec Ideal S2048x1024 .bf16)
    (x4 : Vec Ideal S1x1024 .f32) (x5 : Vec Ideal S1024x4096 .bf16) (x6 : Vec Ideal S4096x1024 .bf16) (x7 : Vec Ideal S1x1024 .f32)
    (x8 : Vec Ideal S1024x1024 .bf16) (x9 : Vec Ideal S256x1024 .bf16) (x10 : Vec Ideal S1x1024 .f32) :
    out2_11 x0 x1 x2 x3 x4 x5 x6 x7 x8 x9 x10 = Cert.TailLastIdeal.Gen.out0_11 x0 x1 x2 x3 x4 x5 x6 x7 x8 x9 x10 := by
  have e2 : ∀ (v0 : Vec Ideal S512x1024 .f32) (v1 : Vec Ideal S512x2048 .bf16) (v3 : Vec Ideal S2048x1024 .bf16),
      k2_pay2 v0 v1 v3 = Cert.TailLastIdeal.Gen.k0_pay2 v0 v1 v3 := fun v0 v1 v3 => by
    unfold k2_pay2
    dsimp only
    rw [shapeCast_id]
    rfl
  have e3 : ∀ (v0 : Vec Ideal S512x1024 .f32) (v1 : Vec Ideal S512x2048 .bf16) (v3 : Vec Ideal S2048x1024 .bf16) (v6 : Vec Ideal S1x1024 .f32),
      k2_pay3 v0 v1 v3 v6 = Cert.TailLastIdeal.Gen.k0_pay3 v0 v1 v3 v6 := fun v0 v1 v3 v6 => by
    unfold k2_pay3
    rw [e2]
    rfl
  have e4 : ∀ (v0 : Vec Ideal S512x1024 .f32) (v1 : Vec Ideal S512x2048 .bf16) (v3 : Vec Ideal S2048x1024 .bf16) (v6 : Vec Ideal S1x1024 .f32)
      (v21 v27 : Vec Ideal S1024x1024 .bf16), k2_pay4 v0 v1 v3 v6 v21 v27 = Cert.TailLastIdeal.Gen.k0_pay4 v0 v1 v3 v6 v21 v27 := fun v0 v1 v3 v6 v21 v27 => by
    unfold k2_pay4
    rw [e2, e3]
    rfl
  have e5 : ∀ (v0 : Vec Ideal S512x1024 .f32) (v1 : Vec Ideal S512x2048 .bf16) (v3 : Vec Ideal S2048x1024 .bf16) (v6 : Vec Ideal S1x1024 .f32)
      (v30 : Vec Ideal S1024x1024 .bf16), k2_pay5 v0 v1 v3 v6 v30 = Cert.TailLastIdeal.Gen.k0_pay5 v0 v1 v3 v6 v30 := fun v0 v1 v3 v6 v30 => by
    unfold k2_pay5
    rw [e3]
    rfl
  unfold Cert.TailLastIdeal.Gen.out0_11 out2_11
  have e8 : k2_pay8 x0 x1 x2 x3 x4 x5 x6 x7 x8 x9 x10 = Cert.TailLastIdeal.Gen.k0_pay8 x0 x1 x2 x3 x4 x5 x6 x7 x8 x9 x10 := by
    unfold k2_pay8
    rw [e3]
    rfl
  have e9 : k2_pay9 x0 x1 x2 x3 x4 x5 x6 x7 x8 x9 x10 = Cert.TailLastIdeal.Gen.k0_pay9 x0 x1 x2 x3 x4 x5 x6 x7 x8 x9 x10 := by
    unfold k2_pay9
    rw [e4]
    rfl
  have e10 : k2_pay10 x0 x1 x2 x3 x4 x5 x6 x7 x8 x9 x10 = Cert.TailLastIdeal.Gen.k0_pay10 x0 x1 x2 x3 x4 x5 x6 x7 x8 x9 x10 := by
    unfold k2_pay10
    rw [e5]
    rfl
  rw [e8, e9, e10]
  generalize Cert.TailLastIdeal.Gen.k0_pay8 x0 x1 x2 x3 x4 x5 x6 x7 x8 x9 x10 = p8
  generalize Cert.TailLastIdeal.Gen.k0_pay9 x0 x1 x2 x3 x4 x5 x6 x7 x8 x9 x10 = p9
  generalize Cert.TailLastIdeal.Gen.k0_pay10 x0 x1 x2 x3 x4 x5 x6 x7 x8 x9 x10 = p10
  rfl

omit h in
/-- Where a point's block lies in the array. -/
theorem tail_idx : ∀ t : Fin cfg2.N, win2_11.index t = ![t.val, 0] := (by decide +kernel : ∀ t : Fin grid2.N, _)
omit h in
/-- Where a point's entry lies in the array. -/
theorem tail_emb (t : Fin cfg2.N) (i : Fin 512) (j : Fin 1024) : (win2_11.blk t).view.emb (ix2 i j) = ix2 (Cert.Tail.Last.rowOf t i) j := by
  have h := tail_idx t
  blk_ext [h]

/-- The array the tail leaves. -/
theorem tail_out : (dat2 (V9 m ρ) c).arrAt 11 cfg2.N
    = Cert.Tail.Last.outArr (k ((c.tc : Thread _ _).loc Cert.TailLastIdeal.main_arg0)) (k ((c.tc : Thread _ _).loc Cert.TailLastIdeal.main_arg1))
      (k ((c.tc : Thread _ _).loc Cert.TailLastIdeal.main_arg2)) (k ((c.tc : Thread _ _).loc Cert.TailLastIdeal.main_arg3))
      (k ((c.tc : Thread _ _).loc Cert.TailLastIdeal.main_arg4)) (k ((c.tc : Thread _ _).loc Cert.TailLastIdeal.main_arg5))
      (k ((c.tc : Thread _ _).loc Cert.TailLastIdeal.main_arg6)) (k ((c.tc : Thread _ _).loc Cert.TailLastIdeal.main_arg7))
      (k ((c.tc : Thread _ _).loc Cert.TailLastIdeal.main_arg8)) (k ((c.tc : Thread _ _).loc Cert.TailLastIdeal.main_arg9))
      (k ((c.tc : Thread _ _).loc Cert.TailLastIdeal.main_arg10)) := by
  refine (dat2 (V9 m ρ) c).arrAt_eq_of_covers 11 _ (by decide +kernel) fun t hf y => ?_
  blk_simp
  rw [after2_11]
  have e : (y : S512x1024.Idx) = ix2 (⟨(y 0).val, (y 0).isLt⟩ : Fin 512) (⟨(y 1).val, (y 1).isLt⟩ : Fin 1024) := by blk_ext
  generalize (⟨(y 0).val, (y 0).isLt⟩ : Fin 512) = i at e
  generalize (⟨(y 1).val, (y 1).isLt⟩ : Fin 1024) = j at e
  obtain ⟨h0, h1, h2, h3, h4, h5, h6, h7, h8, h9, h10⟩ := tail_blk m ρ h t
  rw [e, h0, h1, h2, h3, h4, h5, h6, h7, h8, h9, h10, tail_outs]
  exact (Cert.Tail.Last.out_point k c t i j).trans (congrArg (Cert.Tail.Last.outArr _ _ _ _ _ _ _ _ _ _ _) (tail_emb t _ _).symm)

end
end Cert.Joined
end
-- ==== Proof.Layer.Run.lean ====
module

public import proofs.«01_k».proof.Proof.Gen.LayerIdeal.Frame
public import Idealize.ShloMosaic.PureOps.Ideal

@[expose] public section

set_option maxRecDepth 16384

noncomputable section

/-! The whole call leaves what its last part makes, and its arguments. -/

namespace Cert.Joined

open Cert.LayerIdeal Cert.LayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- From any memory with zero counters the call terminates with its last part's array as its result, its arguments unchanged. -/
theorem run : θ_run defs (onTc (τ := τ) (main (F := Ideal))) ⟨m, fun _ => 0, ρ⟩ (fun r => ∀ c : Dev nD,
      r.2.mem ((c.tc : Thread nD τ).loc main_v161) = (dat2 (V9 m ρ) c).arrAt 11 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c =>
      ⟨(h c _ (mem_uc main_v161 (by decide))).trans (W10_arr m ρ c 11),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.Joined
end
-- ==== Proof.Layer.RefEntry.lean ====
module

public import proofs.«01_k».proof.Proof.Gen.LayerRefIdeal.Run
public import proofs.«01_k».proof.Proof.Gen.ReferenceIdeal.Step
public import proofs.«01_k».proof.Proof.Ret.Spec
public import proofs.«01_k».proof.Proof.Gen.ProjRetRefIdeal.Read

@[expose] public section

set_option maxRecDepth 16384

noncomputable section

/-! What the reference's loop in the whole call starts from. -/

namespace Cert.Joined.Ref

open Cert.LayerRefIdeal Cert.LayerRefIdeal.Gen Cert.LayerRefIdeal.Value Idealize.ShloMosaic Idealize.ShloMosaic.TcCoe Idealize.ShloMosaic.StableHlo
open Cert.Ret (Proj)

variable (m : (ℓ : Loc nD τ sig) → Buf (Elt Ideal) ℓ) (c : Dev nD)

/-- The projections the reference makes. -/
abbrev XL : Proj := Cert.ProjRetRefIdeal.Read.val_main_v95 (F := Ideal) (m ((c.tc : Thread nD τ).loc main_arg0)) (m ((c.tc : Thread nD τ).loc main_arg2))
  (m ((c.tc : Thread nD τ).loc main_arg3))

/-- Over the extended reals the wider type holds the same numbers. -/
theorem same_f32 (X : Proj) : Cert.ReferenceIdeal.Step.A_main_v0 (F := Ideal) X = X := rfl

section
variable (V : Valuation τ sig (Elt Ideal))

/-- A half of the rotated columns, among the operations that make it. -/
theorem upto_v50 : upto hostOps0 V 63 (Proc.devRef .tc main_v50) = Cert.ProjRetRefIdeal.Read.val_main_v50 (F := Ideal)
    (V (Proc.devRef .tc main_arg0)) (V (Proc.devRef .tc main_arg2)) (V (Proc.devRef .tc main_arg3)) := by
  after_reads_simp
  rfl

/-- A half of the rotated columns, among the operations that make it. -/
theorem upto_v55 : upto hostOps0 V 63 (Proc.devRef .tc main_v55) = Cert.ProjRetRefIdeal.Read.val_main_v55 (F := Ideal)
    (V (Proc.devRef .tc main_arg0)) (V (Proc.devRef .tc main_arg2)) (V (Proc.devRef .tc main_arg3)) := by
  after_reads_simp
  rfl

/-- A half of the rotated columns, among the operations that make it. -/
theorem upto_v85 : upto hostOps0 V 102 (Proc.devRef .tc main_v85) = Cert.ProjRetRefIdeal.Read.val_main_v85 (F := Ideal)
    (V (Proc.devRef .tc main_arg0)) (V (Proc.devRef .tc main_arg2)) (V (Proc.devRef .tc main_arg3)) := by
  after_reads_simp
  rfl

/-- A half of the rotated columns, among the operations that make it. -/
theorem upto_v90 : upto hostOps0 V 102 (Proc.devRef .tc main_v90) = Cert.ProjRetRefIdeal.Read.val_main_v90 (F := Ideal)
    (V (Proc.devRef .tc main_arg0)) (V (Proc.devRef .tc main_arg2)) (V (Proc.devRef .tc main_arg3)) := by
  after_reads_simp
  rfl

/-- The query columns, rotated. -/
theorem at_v57 : after hostOps0 V (Proc.devRef .tc main_v57) = Cert.ProjRetRefIdeal.Read.val_main_v57 (F := Ideal)
    (V (Proc.devRef .tc main_arg0)) (V (Proc.devRef .tc main_arg2)) (V (Proc.devRef .tc main_arg3)) := by
  after_reads_simp
  rw [upto_v50, upto_v55]
  rfl

/-- The key columns, rotated. -/
theorem at_v92 : after hostOps0 V (Proc.devRef .tc main_v92) = Cert.ProjRetRefIdeal.Read.val_main_v92 (F := Ideal)
    (V (Proc.devRef .tc main_arg0)) (V (Proc.devRef .tc main_arg2)) (V (Proc.devRef .tc main_arg3)) := by
  after_reads_simp
  rw [upto_v85, upto_v90]
  rfl

/-- The value columns. -/
theorem at_v20 : after hostOps0 V (Proc.devRef .tc main_v20) = Cert.ProjRetRefIdeal.Read.val_main_v20 (F := Ideal)
    (V (Proc.devRef .tc main_arg0)) (V (Proc.devRef .tc main_arg2)) (V (Proc.devRef .tc main_arg3)) := by
  after_reads_simp
  rfl

/-- The gate's columns. -/
theorem at_v21 : after hostOps0 V (Proc.devRef .tc main_v21) = Cert.ProjRetRefIdeal.Read.val_main_v21 (F := Ideal)
    (V (Proc.devRef .tc main_arg0)) (V (Proc.devRef .tc main_arg2)) (V (Proc.devRef .tc main_arg3)) := by
  after_reads_simp
  rfl

/-- The gate of its columns. -/
theorem at_v93 (x0 : Vec Ideal S32768x1024 .f32) (x1 : Vec Ideal S2x1024 .f32) (x2 : Vec Ideal S1024x6144 .bf16)
    (h : V (Proc.devRef .tc main_v21) = Cert.ProjRetRefIdeal.Read.val_main_v21 (F := Ideal) x0 x1 x2) :
    after hostOps0_1 V (Proc.devRef .tc main_v93) = Cert.ProjRetRefIdeal.Read.val_main_v93 (F := Ideal) x0 x1 x2 := by
  after_reads_simp
  rw [h]
  rfl

/-- The four kinds of columns, side by side. -/
abbrev joined : Proj := shapeCast S32768x6144 (concatenate S8x4096x6144 2 [⟨S8x4096x1024, (V (Proc.devRef .tc main_v57) : Vec Ideal S8x4096x1024 .f32)⟩,
  ⟨S8x4096x1024, (V (Proc.devRef .tc main_v92) : Vec Ideal S8x4096x1024 .f32)⟩, ⟨S8x4096x2048, (V (Proc.devRef .tc main_v20) : Vec Ideal S8x4096x2048 .f32)⟩,
  ⟨S8x4096x2048, (V (Proc.devRef .tc main_v93) : Vec Ideal S8x4096x2048 .f32)⟩]
  Cert.ProjRetRefIdeal.Gen.concatenates_S8x4096x1024_S8x4096x1024_S8x4096x2048_S8x4096x2048_S8x4096x6144_d2) shapeCasts_S8x4096x6144_S32768x6144

/-- The chunks of values, of what the joined columns are made of. -/
theorem values_of : after hostOps0_4 (after hostOps0_3 (after hostOps0_2 V)) (Proc.devRef .tc main_v161_2) = Cert.ReferenceIdeal.Step.A_main_v16 (F := Ideal) (joined V) := by
  simp only [Cert.ReferenceIdeal.Step.A_main_v16, Cert.ReferenceIdeal.Step.A_main_v15, Cert.ReferenceIdeal.Step.A_main_v10, Cert.ReferenceIdeal.Step.A_main_v4, Cert.ReferenceIdeal.Step.A_main_v1, same_f32]
  after_reads_simp
  rw [upto_zero]
  rfl

/-- The chunks of queries, of what the joined columns are made of. -/
theorem queries_of : after hostOps0_4 (after hostOps0_3 (after hostOps0_2 V)) (Proc.devRef .tc main_v161_0) = Cert.ReferenceIdeal.Step.A_main_v12 (F := Ideal) (joined V) := by
  simp only [Cert.ReferenceIdeal.Step.A_main_v12, Cert.ReferenceIdeal.Step.A_main_v11, Cert.ReferenceIdeal.Step.A_main_v6, Cert.ReferenceIdeal.Step.A_main_v2, Cert.ReferenceIdeal.Step.A_main_v1, same_f32]
  after_reads_simp
  rw [upto_zero]
  rfl

/-- The chunks of keys, of what the joined columns are made of. -/
theorem keys_of : after hostOps0_4 (after hostOps0_3 (after hostOps0_2 V)) (Proc.devRef .tc main_v161_1) = Cert.ReferenceIdeal.Step.A_main_v14 (F := Ideal) (joined V) := by
  simp only [Cert.ReferenceIdeal.Step.A_main_v14, Cert.ReferenceIdeal.Step.A_main_v13, Cert.ReferenceIdeal.Step.A_main_v9, Cert.ReferenceIdeal.Step.A_main_v7, Cert.ReferenceIdeal.Step.A_main_v3, Cert.ReferenceIdeal.Step.A_main_v1, same_f32]
  after_reads_simp
  rw [upto_zero]
  rfl

end

/-- The columns side by side, of the arguments. -/
theorem joined_eq : joined (after hostOps0_1 (after hostOps0 (launchContents m c))) = XL m c := by
  have e : ∀ r, r ∉ hostOps0_1_W → after hostOps0_1 (after hostOps0 (launchContents m c)) (Proc.devRef .tc r) = after hostOps0 (launchContents m c) (Proc.devRef .tc r) :=
    fun r hr => after_of_writes_sub hostOps0_1 _ hostOps0_1_writes hr
  unfold joined
  rw [e main_v57 (by decide +kernel), e main_v92 (by decide +kernel), e main_v20 (by decide +kernel), at_v93 _ _ _ _ (at_v21 _), at_v57, at_v92, at_v20]
  rfl

/-- The chunks of values before the first trip. -/
theorem entry_values : entryContents preI m c (Proc.devRef .tc main_v161_2) = Cert.ReferenceIdeal.Step.A_main_v16 (F := Ideal) (XL m c) := by
  simp only [entryContents, afterL_cons, afterL_nil]
  rw [values_of, joined_eq]

/-- The chunks of queries before the first trip. -/
theorem entry_queries : entryContents preI m c (Proc.devRef .tc main_v161_0) = Cert.ReferenceIdeal.Step.A_main_v12 (F := Ideal) (XL m c) := by
  simp only [entryContents, afterL_cons, afterL_nil]
  rw [queries_of, joined_eq]

/-- The chunks of keys before the first trip. -/
theorem entry_keys : entryContents preI m c (Proc.devRef .tc main_v161_1) = Cert.ReferenceIdeal.Step.A_main_v14 (F := Ideal) (XL m c) := by
  simp only [entryContents, afterL_cons, afterL_nil]
  rw [keys_of, joined_eq]

set_option maxRecDepth 65536 in
set_option maxHeartbeats 2000000 in
/-- The tables before the first trip. -/
theorem entry_tables : entryContents preI m c (Proc.devRef .tc main_v161_3) = Cert.ReferenceIdeal.Step.K_main_v41 (F := Ideal)
    ∧ entryContents preI m c (Proc.devRef .tc main_v161_4) = Cert.ReferenceIdeal.Step.K_main_v50 (F := Ideal)
    ∧ entryContents preI m c (Proc.devRef .tc main_v161_5) = Cert.ReferenceIdeal.Step.K_main_v63 (F := Ideal)
    ∧ entryContents preI m c (Proc.devRef .tc main_v161_6) = Cert.ReferenceIdeal.Step.K_main_v59 (F := Ideal)
    ∧ entryContents preI m c (Proc.devRef .tc main_v161_7) = constantI S_ 32 0#32
    ∧ entryContents preI m c (Proc.devRef .tc main_v161_8) = Cert.ReferenceIdeal.Step.K_main_v64 (F := Ideal) := by
  refine ⟨?_, ?_, ?_, ?_, ?_, ?_⟩
  all_goals (simp only [entryContents, afterL_cons, afterL_nil]; after_reads_simp; rfl)

end Cert.Joined.Ref
end
-- ==== Proof.Layer.RefLoop.lean ====
module

public import proofs.«01_k».proof.Proof.Layer.RefEntry
public import proofs.«01_k».proof.Proof.Ret.RefRun

@[expose] public section

set_option maxRecDepth 16384

noncomputable section

/-! The reference's loop in the whole call is its loop on its own. -/

namespace Cert.Joined.Ref

open Cert.LayerRefIdeal Cert.LayerRefIdeal.Gen Cert.LayerRefIdeal.Value Idealize.ShloMosaic Idealize.ShloMosaic.TcCoe Idealize.ShloMosaic.StableHlo
open Cert.Ret (Proj Before sR yR)

/-- Nothing in particular everywhere. -/
def base : Valuation Cert.ReferenceIdeal.τ Cert.ReferenceIdeal.sig (Elt Ideal) := fun _ _ => default

/-- The loop's contents as those of the loop on its own. -/
def tr (V0 : Valuation τ sig (Elt Ideal)) : Valuation Cert.ReferenceIdeal.τ Cert.ReferenceIdeal.sig (Elt Ideal) :=
  Function.update (Function.update (Function.update (Function.update (Function.update (Function.update (Function.update (Function.update (Function.update (Function.update base
    (Proc.devRef .tc Cert.ReferenceIdeal.main_v66_0) (V0 (Proc.devRef .tc main_v161_0))) (Proc.devRef .tc Cert.ReferenceIdeal.main_v66_1) (V0 (Proc.devRef .tc main_v161_1)))
    (Proc.devRef .tc Cert.ReferenceIdeal.main_v66_2) (V0 (Proc.devRef .tc main_v161_2))) (Proc.devRef .tc Cert.ReferenceIdeal.main_v66_3) (V0 (Proc.devRef .tc main_v161_3)))
    (Proc.devRef .tc Cert.ReferenceIdeal.main_v66_4) (V0 (Proc.devRef .tc main_v161_4))) (Proc.devRef .tc Cert.ReferenceIdeal.main_v66_5) (V0 (Proc.devRef .tc main_v161_5)))
    (Proc.devRef .tc Cert.ReferenceIdeal.main_v66_6) (V0 (Proc.devRef .tc main_v161_6))) (Proc.devRef .tc Cert.ReferenceIdeal.main_v66_7) (V0 (Proc.devRef .tc main_v161_7)))
    (Proc.devRef .tc Cert.ReferenceIdeal.main_v66_8) (V0 (Proc.devRef .tc main_v161_8))) (Proc.devRef .tc Cert.ReferenceIdeal.main_v66_9) (V0 (Proc.devRef .tc main_v161_9))

/-- Two contents agreeing on the loop's ten buffers. -/
structure Same (V0 : Valuation τ sig (Elt Ideal)) (W : Valuation Cert.ReferenceIdeal.τ Cert.ReferenceIdeal.sig (Elt Ideal)) : Prop where
  r0 : W (Proc.devRef .tc Cert.ReferenceIdeal.main_v66_0) = V0 (Proc.devRef .tc main_v161_0)
  r1 : W (Proc.devRef .tc Cert.ReferenceIdeal.main_v66_1) = V0 (Proc.devRef .tc main_v161_1)
  r2 : W (Proc.devRef .tc Cert.ReferenceIdeal.main_v66_2) = V0 (Proc.devRef .tc main_v161_2)
  r3 : W (Proc.devRef .tc Cert.ReferenceIdeal.main_v66_3) = V0 (Proc.devRef .tc main_v161_3)
  r4 : W (Proc.devRef .tc Cert.ReferenceIdeal.main_v66_4) = V0 (Proc.devRef .tc main_v161_4)
  r5 : W (Proc.devRef .tc Cert.ReferenceIdeal.main_v66_5) = V0 (Proc.devRef .tc main_v161_5)
  r6 : W (Proc.devRef .tc Cert.ReferenceIdeal.main_v66_6) = V0 (Proc.devRef .tc main_v161_6)
  r7 : W (Proc.devRef .tc Cert.ReferenceIdeal.main_v66_7) = V0 (Proc.devRef .tc main_v161_7)
  r8 : W (Proc.devRef .tc Cert.ReferenceIdeal.main_v66_8) = V0 (Proc.devRef .tc main_v161_8)
  r9 : W (Proc.devRef .tc Cert.ReferenceIdeal.main_v66_9) = V0 (Proc.devRef .tc main_v161_9)

/-- The copied contents agree. -/
theorem same_tr (V0 : Valuation τ sig (Elt Ideal)) : Same V0 (tr V0) := by
  constructor <;> unfold tr <;>
    repeat first | exact Function.update_self _ _ _ | rw [Function.update_of_ne (devRef_ne_of_ne (by decide))]

/-- A trip of one is a trip of the other. -/
theorem same_step {V0 : Valuation τ sig (Elt Ideal)} {W : Valuation Cert.ReferenceIdeal.τ Cert.ReferenceIdeal.sig (Elt Ideal)} (h : Same V0 W) :
    Same (STEP V0) (Cert.ReferenceIdeal.Value.STEP W) where
  r0 := (Cert.ReferenceIdeal.Value.STEP_main_v66_0 W).trans (h.r0.trans (STEP_main_v161_0 V0).symm)
  r1 := (Cert.ReferenceIdeal.Value.STEP_main_v66_1 W).trans (h.r1.trans (STEP_main_v161_1 V0).symm)
  r2 := (Cert.ReferenceIdeal.Value.STEP_main_v66_2 W).trans (h.r2.trans (STEP_main_v161_2 V0).symm)
  r3 := (Cert.ReferenceIdeal.Value.STEP_main_v66_3 W).trans (h.r3.trans (STEP_main_v161_3 V0).symm)
  r4 := (Cert.ReferenceIdeal.Value.STEP_main_v66_4 W).trans (h.r4.trans (STEP_main_v161_4 V0).symm)
  r5 := (Cert.ReferenceIdeal.Value.STEP_main_v66_5 W).trans (h.r5.trans (STEP_main_v161_5 V0).symm)
  r6 := (Cert.ReferenceIdeal.Value.STEP_main_v66_6 W).trans (h.r6.trans (STEP_main_v161_6 V0).symm)
  r7 := by
    refine (Cert.ReferenceIdeal.Value.STEP_main_v66_7 W).trans (Eq.trans ?_ (STEP_main_v161_7 V0).symm)
    unfold Cert.ReferenceIdeal.Value.step_main_v66_7 step_main_v161_7
    rw [h.r7]
  r8 := by
    refine (Cert.ReferenceIdeal.Value.STEP_main_v66_8 W).trans (Eq.trans ?_ (STEP_main_v161_8 V0).symm)
    unfold Cert.ReferenceIdeal.Value.step_main_v66_8 step_main_v161_8 Cert.ReferenceIdeal.Value.res_main_while0b_v89 Cert.ReferenceIdeal.Value.res_main_while0b_v90
      res_main_while0b_v269 res_main_while0b_v270
    rw [h.r1, h.r2, h.r5, h.r6, h.r7, h.r8]
    rfl
  r9 := by
    refine (Cert.ReferenceIdeal.Value.STEP_main_v66_9 W).trans (Eq.trans ?_ (STEP_main_v161_9 V0).symm)
    unfold Cert.ReferenceIdeal.Value.step_main_v66_9 step_main_v161_9 Cert.ReferenceIdeal.Value.res_main_while0b_v88 Cert.ReferenceIdeal.Value.res_main_while0b_v89
      Cert.ReferenceIdeal.Value.res_main_while0b_v90 res_main_while0b_v268 res_main_while0b_v269 res_main_while0b_v270
    rw [h.r0, h.r1, h.r2, h.r3, h.r4, h.r7, h.r8, h.r9]
    rfl

variable (m : (ℓ : Loc nD τ sig) → Buf (Elt Ideal) ℓ) (c : Dev nD)

/-- Before the first trip. -/
theorem before_first : Before (XL m c) (tr (entryContents preI m c)) 0 := by
  have s := same_tr (entryContents preI m c)
  have e0 := entry_queries m c
  have e1 := entry_keys m c
  have e2 := entry_values m c
  obtain ⟨e3, e4, e5, e6, e7, e8⟩ := entry_tables m c
  constructor
  case q => exact s.r0.trans e0
  case ky => exact s.r1.trans e1
  case v => exact s.r2.trans e2
  case intra => exact s.r3.trans e3
  case cross => exact s.r4.trans e4
  case decay => exact s.r5.trans e5
  case keys => exact s.r6.trans e6
  case count => exact s.r7.trans e7
  case state =>
    intro b h d e
    refine (congrFun (s.r8.trans e8) _).trans ?_
    rw [Nat.mul_zero, sR, Cert.Ret.stR_zero, EReal.coe_zero]
    pointwise [Cert.ReferenceIdeal.Step.K_main_v64, Cert.ReferenceIdeal.Step.K_main_cst_8]
  case outs => exact fun j b h r e hlt => absurd hlt (by omega)

/-- Before any trip up to the last. -/
theorem before_iter (hX : ∀ n col, ∃ r : ℝ, XL m c (ix2 n col) = (r : EReal)) (k : ℕ) (hk : k ≤ 32) :
    ∃ W, Same (STEP^[k] (entryContents preI m c)) W ∧ Before (XL m c) W k := by
  induction k with
  | zero => exact ⟨_, same_tr _, before_first m c⟩
  | succ k ih =>
    obtain ⟨W, hs, hb⟩ := ih (by omega)
    rw [Function.iterate_succ_apply']
    exact ⟨_, same_step hs, Cert.Ret.trip hX (j := ⟨k, hk⟩) hb⟩

/-- What the last trip leaves is the retention. -/
theorem outs_at (hX : ∀ n col, ∃ r : ℝ, XL m c (ix2 n col) = (r : EReal)) (j : Fin 32) (b : Fin 8) (h : Fin 4) (r : Fin 128) (e : Fin 512) :
    (show FVec Ideal S32x8x4x128x512 .f32 from STEP^[32] (entryContents preI m c) (Proc.devRef .tc main_v161_9)) (ix5 j b h r e)
      = ((yR (XL m c) b h (128 * j.val + r.val) e : ℝ) : EReal) := by
  obtain ⟨W, hs, hb⟩ := before_iter m c hX 32 le_rfl
  exact (congrFun hs.r9.symm _).trans (hb.outs j b h r e j.isLt)

end Cert.Joined.Ref
end
-- ==== Proof.Layer.Ref.lean ====
module

public import proofs.«01_k».proof.Proof.Layer.RefLoop
public import proofs.«01_k».proof.Proof.Gen.TailLastRefIdeal.Read
public import proofs.«01_k».proof.Proof.Proj.RetClaim
public import proofs.«01_k».proof.Proof.Tail.LastClaim
public import proofs.«01_k».proof.Proof.Ret.Claim

@[expose] public section

set_option maxRecDepth 16384

noncomputable section

/-! What the reference of the whole call computes after its loop. -/

namespace Cert.Joined.Ref

open Cert.LayerRefIdeal Cert.LayerRefIdeal.Gen Cert.LayerRefIdeal.Value Idealize.ShloMosaic Idealize.ShloMosaic.TcCoe Idealize.ShloMosaic.StableHlo

/-- The gated, normalised heads the reference makes of what its loop leaves. -/
def gated (x0 : Vec Ideal S32768x1024 .f32) (x1 : Vec Ideal S2x1024 .f32) (x2 : Vec Ideal S1024x6144 .bf16) (Z : FVec Ideal S32x8x4x128x512 .f32) : FVec Ideal S8x4096x2048 .f32 :=
  mulf (Cert.ProjRetRefIdeal.Read.val_main_v93 (F := Ideal) x0 x1 x2 : FVec Ideal S8x4096x2048 .f32)
    (shapeCast S8x4096x2048 (mulf (shapeCast S8x4096x4x512 (transpose S8x32x128x4x512 [1, 0, 3, 2, 4] (Z : FVec Ideal S32x8x4x128x512 .f32) transposes_S32x8x4x128x512_S8x32x128x4x512_1_0_3_2_4) shapeCasts_S8x32x128x4x512_S8x4096x4x512)
      (broadcastInDim S8x4096x4x512 ![0, 1, 2, 3] bcast_S8x4096x4x1_S8x4096x4x512_0_1_2_3 (Host.rsqrt (addf (Host.divf (broadcastInDim S8x4096x4x1 ![0, 1, 2] bcast_S8x4096x4_S8x4096x4x1_0_1_2
        (Host.reduceAdd (mulf (shapeCast S8x4096x4x512 (transpose S8x32x128x4x512 [1, 0, 3, 2, 4] (Z : FVec Ideal S32x8x4x128x512 .f32) transposes_S32x8x4x128x512_S8x32x128x4x512_1_0_3_2_4) shapeCasts_S8x32x128x4x512_S8x4096x4x512)
          (shapeCast S8x4096x4x512 (transpose S8x32x128x4x512 [1, 0, 3, 2, 4] (Z : FVec Ideal S32x8x4x128x512 .f32) transposes_S32x8x4x128x512_S8x32x128x4x512_1_0_3_2_4) shapeCasts_S8x32x128x4x512_S8x4096x4x512))
          (constant S_ .f32 0x00000000#32) reducesTo_S8x4096x4x512_S8x4096x4_d3 h_S_)) (broadcastInDim S8x4096x4x1 ![] bcast_S_S8x4096x4x1 (constant S_ .f32 0x44000000#32)))
        (broadcastInDim S8x4096x4x1 ![] bcast_S_S8x4096x4x1 (constant S_ .f32 0x358637BD#32)))))) shapeCasts_S8x4096x4x512_S8x4096x2048)

set_option maxRecDepth 65536 in
set_option maxHeartbeats 4000000 in
/-- The whole result is the tail's of those heads. -/
theorem out_eq (V0 : Valuation τ sig (Elt Ideal)) : out_main_v267 (F := Ideal) V0 = Cert.TailLastRefIdeal.Read.val_main_v68 (F := Ideal) (V0 (Proc.devRef .tc main_arg0))
    (shapeCast S32768x2048 (gated (V0 (Proc.devRef .tc main_arg0)) (V0 (Proc.devRef .tc main_arg2)) (V0 (Proc.devRef .tc main_arg3)) (V0 (Proc.devRef .tc main_v161_9) : FVec Ideal S32x8x4x128x512 .f32)) shapeCasts_S8x4096x2048_S32768x2048)
    (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold out_main_v267
  generalize hM : (shapeCast _ (mulf (mulf (extractStridedSlice S8x4096x2048 ![0, 0, 4096] (shapeCast _ (Host.dotGeneral dot_S32768x1024_S1024x6144_S32768x6144_1_0_0_1_n_n none (mulf (mulf (V0 (Proc.devRef .tc main_arg0)) (broadcastInDim S32768x1024 ![0, 1] bcast_S32768x1_S32768x1024_0_1 (Host.rsqrt (addf (Host.divf (broadcastInDim S32768x1 ![0] bcast_S32768_S32768x1_0 (Host.reduceAdd (mulf (V0 (Proc.devRef .tc main_arg0)) (V0 (Proc.devRef .tc main_arg0))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![1, 0] (V0 (Proc.devRef .tc main_arg2)) slices_S2x1024_S1x1024_1_0) shapeCasts_S1x1024_S1024)))) (extf .f32 (V0 (Proc.devRef .tc main_arg3)) bitsLt_bf16_f32)) shapeCasts_S32768x6144_S8x4096x6144) slices_S8x4096x6144_S8x4096x2048_0_0_4096) (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (extractStridedSlice S8x4096x2048 ![0, 0, 4096] (shapeCast _ (Host.dotGeneral dot_S32768x1024_S1024x6144_S32768x6144_1_0_0_1_n_n none (mulf (mulf (V0 (Proc.devRef .tc main_arg0)) (broadcastInDim S32768x1024 ![0, 1] bcast_S32768x1_S32768x1024_0_1 (Host.rsqrt (addf (Host.divf (broadcastInDim S32768x1 ![0] bcast_S32768_S32768x1_0 (Host.reduceAdd (mulf (V0 (Proc.devRef .tc main_arg0)) (V0 (Proc.devRef .tc main_arg0))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![1, 0] (V0 (Proc.devRef .tc main_arg2)) slices_S2x1024_S1x1024_1_0) shapeCasts_S1x1024_S1024)))) (extf .f32 (V0 (Proc.devRef .tc main_arg3)) bitsLt_bf16_f32)) shapeCasts_S32768x6144_S8x4096x6144) slices_S8x4096x6144_S8x4096x2048_0_0_4096)))))) (shapeCast _ (mulf (shapeCast _ (transpose S8x32x128x4x512 [1, 0, 3, 2, 4] (V0 (Proc.devRef .tc main_v161_9)) transposes_S32x8x4x128x512_S8x32x128x4x512_1_0_3_2_4) shapeCasts_S8x32x128x4x512_S8x4096x4x512) (broadcastInDim S8x4096x4x512 ![0, 1, 2, 3] bcast_S8x4096x4x1_S8x4096x4x512_0_1_2_3 (Host.rsqrt (addf (Host.divf (broadcastInDim S8x4096x4x1 ![0, 1, 2] bcast_S8x4096x4_S8x4096x4x1_0_1_2 (Host.reduceAdd (mulf (shapeCast _ (transpose S8x32x128x4x512 [1, 0, 3, 2, 4] (V0 (Proc.devRef .tc main_v161_9)) transposes_S32x8x4x128x512_S8x32x128x4x512_1_0_3_2_4) shapeCasts_S8x32x128x4x512_S8x4096x4x512) (shapeCast _ (transpose S8x32x128x4x512 [1, 0, 3, 2, 4] (V0 (Proc.devRef .tc main_v161_9)) transposes_S32x8x4x128x512_S8x32x128x4x512_1_0_3_2_4) shapeCasts_S8x32x128x4x512_S8x4096x4x512)) (constant S_ .f32 0x00000000#32) reducesTo_S8x4096x4x512_S8x4096x4_d3 h_S_)) (broadcastInDim S8x4096x4x1 ![] bcast_S_S8x4096x4x1 (constant S_ .f32 0x44000000#32))) (broadcastInDim S8x4096x4x1 ![] bcast_S_S8x4096x4x1 (constant S_ .f32 0x358637BD#32)))))) shapeCasts_S8x4096x4x512_S8x4096x2048)) shapeCasts_S8x4096x2048_S32768x2048 : FVec Ideal S32768x2048 .f32) = M
  have e : (shapeCast S32768x2048 (gated (V0 (Proc.devRef .tc main_arg0)) (V0 (Proc.devRef .tc main_arg2)) (V0 (Proc.devRef .tc main_arg3)) (V0 (Proc.devRef .tc main_v161_9) : FVec Ideal S32x8x4x128x512 .f32)) shapeCasts_S8x4096x2048_S32768x2048 : FVec Ideal S32768x2048 .f32) = M :=
    Eq.trans rfl hM
  rw [e]
  rfl

end Cert.Joined.Ref
end
-- ==== Proof.Layer.RefHeads.lean ====
module

public import proofs.«01_k».proof.Proof.Layer.Ref
public import proofs.«01_k».proof.Proof.Gen.TailLastRefIdeal.Read
public import proofs.«01_k».proof.Proof.Proj.RetClaim
public import proofs.«01_k».proof.Proof.Tail.LastClaim
public import proofs.«01_k».proof.Proof.Ret.Claim

@[expose] public section

set_option maxRecDepth 16384

noncomputable section

/-! The heads the reference of the whole call makes are the retention's. -/

namespace Cert.Joined.Ref

open Cert.LayerRefIdeal Cert.LayerRefIdeal.Gen Cert.LayerRefIdeal.Value Idealize.ShloMosaic Idealize.ShloMosaic.TcCoe Idealize.ShloMosaic.StableHlo

/-- The gate of a row and column. -/
theorem gate_at (x0 : Vec Ideal S32768x1024 .f32) (x1 : Vec Ideal S2x1024 .f32) (x2 : Vec Ideal S1024x6144 .bf16) (b : Fin 8) (n : Fin 4096) (k : Fin 2048) :
    (Cert.ProjRetRefIdeal.Read.val_main_v93 (F := Ideal) x0 x1 x2 : FVec Ideal S8x4096x2048 .f32) (ix3 b n k)
      = Cert.Proj.silu (Cert.Proj.Ret.prod x0 x1 x2 (Cert.Proj.Ret.rowAt b n) ⟨4096 + k.val, by omega⟩) := by
  pointwise [Cert.ProjRetRefIdeal.Read.val_main_v93, Cert.ProjRetRefIdeal.Read.val_main_v21, Cert.ProjRetRefIdeal.Read.val_main_call0_v5, Cert.ProjRetRefIdeal.Read.val_main_call0_v4,
    Cert.ProjRetRefIdeal.Read.val_main_call0_v3, Cert.ProjRetRefIdeal.Read.val_main_call0_v2, Cert.ProjRetRefIdeal.Read.val_main_call0_v1, Cert.ProjRetRefIdeal.Read.val_main_call0_v0,
    Cert.ProjRetRefIdeal.Read.val_main_call0_cst, Cert.ProjRetRefIdeal.Read.val_main_call0_cst_0]
  simp only [Cert.Proj.Ret.ref17_at]
  rfl

/-- A gate column of the projections. -/
theorem column_at (x0 : Vec Ideal S32768x1024 .f32) (x1 : Vec Ideal S2x1024 .f32) (x2 : Vec Ideal S1024x6144 .bf16) (b : Fin 8) (n : Fin 4096) (k : Fin 2048) :
    (Cert.ProjRetRefIdeal.Read.val_main_v95 (F := Ideal) x0 x1 x2 : Cert.Ret.Proj) (ix2 (Cert.Proj.Ret.rowAt b n) (⟨4096 + k.val, by omega⟩ : Fin 6144))
      = Cert.Proj.silu (Cert.Proj.Ret.prod x0 x1 x2 (Cert.Proj.Ret.rowAt b n) ⟨4096 + k.val, by omega⟩) := by
  refine (Cert.Proj.Ret.ref_at x0 x1 x2 (Cert.Proj.Ret.rowAt b n) (⟨4096 + k.val, by omega⟩ : Fin 6144)).trans ?_
  unfold Cert.Proj.rotated
  rw [dif_neg (by show ¬(4096 + k.val < 2048); omega), if_neg (by show ¬(4096 + k.val < 4096); omega)]

/-- An entry of the gated heads, of what the loop leaves. -/
theorem gated_at (x0 : Vec Ideal S32768x1024 .f32) (x1 : Vec Ideal S2x1024 .f32) (x2 : Vec Ideal S1024x6144 .bf16) (Z : FVec Ideal S32x8x4x128x512 .f32)
    (b : Fin 8) (n : Fin 4096) (h : Fin 4) (e : Fin 512) :
    (gated x0 x1 x2 Z : FVec Ideal S8x4096x2048 .f32) (ix3 b n (⟨h.val * 512 + e.val, by omega⟩ : Fin 2048)) =
      (Cert.ProjRetRefIdeal.Read.val_main_v93 (F := Ideal) x0 x1 x2 : FVec Ideal S8x4096x2048 .f32) (ix3 b n (⟨h.val * 512 + e.val, by omega⟩ : Fin 2048)) *
      ((Z : FVec Ideal S32x8x4x128x512 .f32) (ix5 (⟨n.val / 128, by omega⟩ : Fin 32) b h (⟨n.val % 128, Nat.mod_lt _ (by decide)⟩ : Fin 128) e) *
        Ideal.rsqrt
          (Ideal.div
              (∑ x : Fin 512,
                (Z : FVec Ideal S32x8x4x128x512 .f32) (ix5 (⟨n.val / 128, by omega⟩ : Fin 32) b h (⟨n.val % 128, Nat.mod_lt _ (by decide)⟩ : Fin 128) x) *
                  (Z : FVec Ideal S32x8x4x128x512 .f32) (ix5 (⟨n.val / 128, by omega⟩ : Fin 32) b h (⟨n.val % 128, Nat.mod_lt _ (by decide)⟩ : Fin 128) x))
              (Ideal.ofBits FTy.f32 1140850688#32) +
            Ideal.ofBits FTy.f32 897988541#32)) := by
  pointwise [gated]

variable (m : (ℓ : Loc nD τ sig) → Buf (Elt Ideal) ℓ) (c : Dev nD)

/-- The heads the reference leaves are the retention's. -/
theorem gated_eq (hX : ∀ n col, ∃ r : ℝ, XL m c (ix2 n col) = (r : EReal)) :
    (gated (m ((c.tc : Thread nD τ).loc main_arg0)) (m ((c.tc : Thread nD τ).loc main_arg2)) (m ((c.tc : Thread nD τ).loc main_arg3))
      (STEP^[32] (entryContents preI m c) (Proc.devRef .tc main_v161_9)) : Vec Ideal S8x4096x2048 .bf16) = Cert.Ret.outArr (XL m c) := by
  refine Cert.Ret.eq_outArr (XL m c) _ fun b n h e => ?_
  have hn : 128 * (n.val / 128) + n.val % 128 = n.val := Nat.div_add_mod n.val 128
  refine (gated_at _ _ _ _ b n h e).trans ?_
  rw [gate_at, ← column_at]
  have hz : ∀ x : Fin 512, (show FVec Ideal S32x8x4x128x512 .f32 from STEP^[32] (entryContents preI m c) (Proc.devRef .tc main_v161_9))
      (ix5 (⟨n.val / 128, by omega⟩ : Fin 32) b h (⟨n.val % 128, Nat.mod_lt _ (by decide)⟩ : Fin 128) x) = ((Cert.Ret.yR (XL m c) b h n x : ℝ) : EReal) := fun x => by
    rw [outs_at m c hX]
    simp only [hn]
  have hc : (⟨4096 + (h.val * 512 + e.val), by omega⟩ : Fin 6144) = ⟨4096 + h.val * 512 + e.val, by omega⟩ := Fin.ext (by show 4096 + (h.val * 512 + e.val) = 4096 + h.val * 512 + e.val; omega)
  unfold Cert.Ret.outR
  rw [← hc]
  simp only [← hz]

end Cert.Joined.Ref
end
-- ==== Proof.Layer.Entries.lean ====
module

public import proofs.«01_k».proof.Proof.Proj.RetClaim

@[expose] public section

set_option maxRecDepth 16384

noncomputable section

/-! From real arguments the projections of the second layer are real. -/

namespace Cert.Joined.Entries

open Cert.ProjRetRefIdeal Cert.ProjRetRefIdeal.Read Idealize.ShloMosaic
open Cert.Proj Cert.Proj.Ret

/-- The literal 2. -/
theorem lit_2 : Ideal.ofBits .f32 1073741824#32 = (((2 : ℝ)) : EReal) := by simp [Ideal.ofBits, Ideal.ieee, -EReal.coe_mul]; norm_num
/-- The literal 256. -/
theorem lit_256 : Ideal.ofBits .f32 1132462080#32 = (((256 : ℝ)) : EReal) := by simp [Ideal.ofBits, Ideal.ieee, -EReal.coe_mul]; norm_num
/-- The literal 10000. -/
theorem lit_10000 : Ideal.ofBits .f32 1176256512#32 = (((10000 : ℝ)) : EReal) := by simp [Ideal.ofBits, Ideal.ieee, -EReal.coe_mul]; norm_num

/-- The exponent of a frequency is real. -/
theorem exponent_real (k : Fin 128) : ∃ r : ℝ, (val_main_v31 (F := Ideal) : FVec Ideal S128 .f32) (ix1 k) = (r : EReal) := by
  pointwise [val_main_v31, val_main_v30, val_main_v29, val_main_v28, val_main_v27, val_main_v26, val_main_v25, val_main_v24, val_main_cst_2, val_main_cst_3, val_main_cst_4]
  rw [Cert.Ret.nat_val _ (by omega), lit_2, lit_256]
  rw [← EReal.coe_mul, Ideal.div_coe (by norm_num)]
  exact ⟨_, rfl⟩

/-- The angle of a place and a frequency is real. -/
theorem angle_real (s : Fin 4096) (k : Fin 128) : ∃ r : ℝ, (val_main_v39 (F := Ideal) : FVec Ideal S4096x128 .f32) (ix2 s k) = (r : EReal) := by
  obtain ⟨r, hr⟩ := exponent_real k
  pointwise [val_main_v39, val_main_v38, val_main_v37, val_main_v36, val_main_v35, val_main_v34, val_main_v33, val_main_v32, val_main_v22, val_main_cst_5]
  rw [Cert.Ret.nat_val _ (by omega), lit_10000, hr, Ideal.pow_coe_coe, ← EReal.coe_mul]
  exact ⟨_, rfl⟩

/-- A table's cosine is real. -/
theorem cos_real (s : Fin 4096) (k : Fin 128) : ∃ r : ℝ, (val_main_v40 (F := Ideal) : FVec Ideal S4096x128 .f32) (ix2 s k) = (r : EReal) := by
  obtain ⟨r, hr⟩ := angle_real s k
  pointwise [val_main_v40]
  rw [hr, Ideal.cos_coe]
  exact ⟨_, rfl⟩

/-- A table's sine is real. -/
theorem sin_real (s : Fin 4096) (k : Fin 128) : ∃ r : ℝ, (val_main_v42 (F := Ideal) : FVec Ideal S4096x128 .f32) (ix2 s k) = (r : EReal) := by
  obtain ⟨r, hr⟩ := angle_real s k
  pointwise [val_main_v42]
  rw [hr, Ideal.sin_coe]
  exact ⟨_, rfl⟩

/-- A row of reals, rotated by reals and gated, is real. -/
theorem rotated_silu_real (a : Fin 6144 → EReal) (c s : Fin 128 → EReal) (ha : ∀ j, ∃ r : ℝ, a j = (r : EReal)) (hc : ∀ j, ∃ r : ℝ, c j = (r : EReal))
    (hs : ∀ j, ∃ r : ℝ, s j = (r : EReal)) (j : Fin 6144) : ∃ r : ℝ, rotated silu a c s j = (r : EReal) := by
  choose A hA using ha
  choose C hC using hc
  choose S hS using hs
  unfold rotated silu
  simp only [hA, hC, hS]
  split
  · split
    · exact ⟨_, by rw [← EReal.coe_mul, ← EReal.coe_mul, ← EReal.coe_sub]⟩
    · exact ⟨_, by rw [← EReal.coe_mul, ← EReal.coe_mul, ← EReal.coe_add]⟩
  · split
    · exact ⟨_, rfl⟩
    · exact ⟨_, by rw [Ideal.logistic_coe, ← EReal.coe_mul]⟩

/-- The projections are real. -/
theorem proj_real (x0 : Vec Ideal S32768x1024 .f32) (x1 : Vec Ideal S2x1024 .f32) (x2 : Vec Ideal S1024x6144 .bf16)
    (h0 : ∀ n j, ∃ r : ℝ, x0 (ix2 n j) = (r : EReal)) (h1 : ∀ n j, ∃ r : ℝ, x1 (ix2 n j) = (r : EReal)) (h2 : ∀ n j, ∃ r : ℝ, x2 (ix2 n j) = (r : EReal))
    (n : Fin 32768) (j : Fin 6144) : ∃ r : ℝ, outArr silu x0 x1 x2 (ix2 n j) = (r : EReal) := by
  rw [← ref_eq, ref_at]
  exact rotated_silu_real _ _ _ (acc_real _ _ _ (fun j => h0 _ j) (fun j => h1 1 j) h2) (fun k => cos_real _ k) (fun k => sin_real _ k) j

end Cert.Joined.Entries
end
-- ==== Proof.Layer.Claim.lean ====
module

public import proofs.«01_k».proof.Defs
public import proofs.«01_k».proof.Proof.Gen.Pre_finite_l
public import proofs.«01_k».proof.Proof.Layer.Proj
public import proofs.«01_k».proof.Proof.Layer.Ret
public import proofs.«01_k».proof.Proof.Layer.Tail
public import proofs.«01_k».proof.Proof.Layer.Run
public import proofs.«01_k».proof.Proof.Layer.RefHeads
public import proofs.«01_k».proof.Proof.Layer.Entries
public import Idealize.ShloMosaic.Lib.Quiescent

@[expose] public section

set_option maxRecDepth 16384

noncomputable section

/-! The last layer as one call: its projection, its retention and its tail in turn, and its reference, compute the same array. -/

namespace Cert.Joined

open Idealize.ShloMosaic Idealize.ShloMosaic.TcCoe Idealize.SL.Sem

section
variable {nD : ℕ} {τ : Topo} {sig : RefSig}

/-- A memory with one buffer replaced. -/
def put (k : (ℓ : Loc nD τ sig) → Buf (Elt Ideal) ℓ) (c : Dev nD) (b : Ref sig .tc) (x : Buf (Elt Ideal) ((c.tc : Thread nD τ).loc b)) :
    (ℓ : Loc nD τ sig) → Buf (Elt Ideal) ℓ :=
  Function.update k ((c.tc : Thread nD τ).loc b) x

/-- The buffer replaced. -/
theorem put_same (k : (ℓ : Loc nD τ sig) → Buf (Elt Ideal) ℓ) (c : Dev nD) (b : Ref sig .tc) (x : Buf (Elt Ideal) ((c.tc : Thread nD τ).loc b)) :
    put k c b x ((c.tc : Thread nD τ).loc b) = x := by
  unfold put
  exact Function.update_self _ _ _

/-- The other buffers. -/
theorem put_ne (k : (ℓ : Loc nD τ sig) → Buf (Elt Ideal) ℓ) (c : Dev nD) (b : Ref sig .tc) (x : Buf (Elt Ideal) ((c.tc : Thread nD τ).loc b))
    {b' : Ref sig .tc} (h : b' ≠ b) : put k c b x ((c.tc : Thread nD τ).loc b') = k ((c.tc : Thread nD τ).loc b') := by
  unfold put
  exact Function.update_of_ne (fun e => StableHlo.devRef_ne_of_ne h (congrArg Prod.snd e)) _ _

end

section
open Cert.LayerIdeal Cert.LayerIdeal.Gen

variable (m : (ℓ : Loc nD τ sig) → Buf (Elt Ideal) ℓ) (ρ : Dev nD → PrngReg) (c : Dev nD)

/-- The projection alone can be given the call's arguments. -/
theorem exists_proj : ∃ k, ProjArgs m k c :=
  ⟨put (put (put (fun _ _ => default) c Cert.ProjRetIdeal.main_arg0 (m ((c.tc : Thread _ _).loc main_arg0))) c Cert.ProjRetIdeal.main_arg1 (m ((c.tc : Thread _ _).loc main_arg2)))
      c Cert.ProjRetIdeal.main_arg2 (m ((c.tc : Thread _ _).loc main_arg3)),
    (put_ne _ _ _ _ (by decide)).trans ((put_ne _ _ _ _ (by decide)).trans (put_same _ _ _ _)), (put_ne _ _ _ _ (by decide)).trans (put_same _ _ _ _), put_same _ _ _ _⟩

/-- The retention alone can be given what the projection left. -/
theorem exists_ret : ∃ k, RetArgs m ρ k c :=
  ⟨put (fun _ _ => default) c Cert.KernelIdeal.main_arg0 ((dat0 (V3 m ρ) c).arrAt 5 cfg0.N), put_same _ _ _ _⟩

/-- The tail alone can be given the call's arguments and what the retention left. -/
theorem exists_tail : ∃ k, TailArgs m ρ k c := by
  refine ⟨put (put (put (put (put (put (put (put (put (put (put (fun _ _ => default)
    c Cert.TailLastIdeal.main_arg0 (m ((c.tc : Thread _ _).loc main_arg0)))
    c Cert.TailLastIdeal.main_arg1 (shapeCast S32768x2048 ((dat1 (V7 m ρ) c).arrAt 8 cfg1.N : Vec Ideal S8x4096x2048 .bf16) shapeCasts_S8x4096x2048_S32768x2048))
    c Cert.TailLastIdeal.main_arg2 (m ((c.tc : Thread _ _).loc main_arg1)))
    c Cert.TailLastIdeal.main_arg3 (m ((c.tc : Thread _ _).loc main_arg4)))
    c Cert.TailLastIdeal.main_arg4 (m ((c.tc : Thread _ _).loc main_arg5)))
    c Cert.TailLastIdeal.main_arg5 (m ((c.tc : Thread _ _).loc main_arg6)))
    c Cert.TailLastIdeal.main_arg6 (m ((c.tc : Thread _ _).loc main_arg7)))
    c Cert.TailLastIdeal.main_arg7 (m ((c.tc : Thread _ _).loc main_arg8)))
    c Cert.TailLastIdeal.main_arg8 (m ((c.tc : Thread _ _).loc main_arg9)))
    c Cert.TailLastIdeal.main_arg9 (m ((c.tc : Thread _ _).loc main_arg10)))
    c Cert.TailLastIdeal.main_arg10 (m ((c.tc : Thread _ _).loc main_arg11)), ?_, ?_, ?_, ?_, ?_, ?_, ?_, ?_, ?_, ?_, ?_⟩ <;>
  repeat first
    | exact put_same _ _ _ _
    | refine (put_ne _ _ _ _ (by decide)).trans ?_

end

/-- The last layer's array from its twelve arguments: the projection's, through the retention, through the tail. -/
def whole (x0 : Vec Ideal Cert.LayerIdeal.S32768x1024 .f32) (x1 : Vec Ideal Cert.LayerIdeal.S2x32768x256 .f32) (x2 : Vec Ideal Cert.LayerIdeal.S2x1024 .f32)
    (x3 : Vec Ideal Cert.LayerIdeal.S1024x6144 .bf16) (x4 : Vec Ideal Cert.LayerIdeal.S2048x1024 .bf16) (x5 : Vec Ideal Cert.LayerIdeal.S2x1024 .f32)
    (x6 : Vec Ideal Cert.LayerIdeal.S1024x4096 .bf16) (x7 : Vec Ideal Cert.LayerIdeal.S4096x1024 .bf16) (x8 : Vec Ideal Cert.LayerIdeal.S2x1024 .f32)
    (x9 : Vec Ideal Cert.LayerIdeal.S1024x1024 .bf16) (x10 : Vec Ideal Cert.LayerIdeal.S2x256x1024 .f32) (x11 : Vec Ideal Cert.LayerIdeal.S1024 .f32) :
    Vec Ideal Cert.LayerIdeal.S32768x1024 .f32 :=
  Cert.Tail.Last.outArr x0 (shapeCast Cert.LayerIdeal.S32768x2048 (Cert.Ret.outArr (Cert.Proj.Ret.outArr Cert.Proj.silu x0 x2 x3) : Vec Ideal Cert.LayerIdeal.S8x4096x2048 .bf16)
    Cert.LayerIdeal.Gen.shapeCasts_S8x4096x2048_S32768x2048) x1 x4 x5 x6 x7 x8 x9 x10 x11

section
open Cert.LayerIdeal Cert.LayerIdeal.Gen

variable (m : (ℓ : Loc nD τ sig) → Buf (Elt Ideal) ℓ) (ρ : Dev nD → PrngReg) (c : Dev nD)

/-- The kernel's whole array, from real entries. -/
theorem kernel_eq (h0 : ∀ n j, ∃ r : ℝ, (m ((c.tc : Thread nD τ).loc main_arg0) : Vec Ideal S32768x1024 .f32) (ix2 n j) = (r : EReal))
    (h1 : ∀ n j, ∃ r : ℝ, (m ((c.tc : Thread nD τ).loc main_arg2) : Vec Ideal S2x1024 .f32) (ix2 n j) = (r : EReal))
    (h2 : ∀ n j, ∃ r : ℝ, (m ((c.tc : Thread nD τ).loc main_arg3) : Vec Ideal S1024x6144 .bf16) (ix2 n j) = (r : EReal)) :
    (dat2 (V9 m ρ) c).arrAt 11 cfg2.N = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) := by
  obtain ⟨k1, a1⟩ := exists_proj m c
  obtain ⟨k2, a2⟩ := exists_ret m ρ c
  obtain ⟨k3, a3⟩ := exists_tail m ρ c
  have e1 : Cert.Ret.XK k2 c = Cert.Proj.Ret.outArr Cert.Proj.silu (m ((c.tc : Thread nD τ).loc main_arg0)) (m ((c.tc : Thread nD τ).loc main_arg2)) (m ((c.tc : Thread nD τ).loc main_arg3)) :=
    Eq.trans a2 ((proj_out m ρ a1).trans (Cert.Proj.Ret.outArr_real _ _ _ h0 h1 h2))
  have e2 : (dat1 (V7 m ρ) c).arrAt 8 cfg1.N = Cert.Ret.outArr (Cert.Ret.XK k2 c) :=
    ret_out m ρ a2 fun n col => by
      rw [e1]
      exact Entries.proj_real _ _ _ h0 h1 h2 n col
  refine (tail_out m ρ a3).trans (Cert.Tail.Last.outArr_congr a3.a0 (a3.a1.trans ?_) a3.a2 a3.a3 a3.a4 a3.a5 a3.a6 a3.a7 a3.a8 a3.a9 a3.a10)
  rw [e2, e1]

end

namespace Ref
open Cert.LayerRefIdeal Cert.LayerRefIdeal.Gen Cert.LayerRefIdeal.Value Idealize.ShloMosaic.StableHlo

variable (m : (ℓ : Loc nD τ sig) → Buf (Elt Ideal) ℓ) (c : Dev nD)

/-- The reference's whole array, from real entries. -/
theorem whole_eq (h0 : ∀ n j, ∃ r : ℝ, (m ((c.tc : Thread nD τ).loc main_arg0) : Vec Ideal S32768x1024 .f32) (ix2 n j) = (r : EReal))
    (h1 : ∀ n j, ∃ r : ℝ, (m ((c.tc : Thread nD τ).loc main_arg2) : Vec Ideal S2x1024 .f32) (ix2 n j) = (r : EReal))
    (h2 : ∀ n j, ∃ r : ℝ, (m ((c.tc : Thread nD τ).loc main_arg3) : Vec Ideal S1024x6144 .bf16) (ix2 n j) = (r : EReal)) :
    out_main_v267 (F := Ideal) (STEP^[32] (entryContents preI m c)) = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) := by
  have e : XL m c = Cert.Proj.Ret.outArr Cert.Proj.silu (m ((c.tc : Thread nD τ).loc main_arg0)) (m ((c.tc : Thread nD τ).loc main_arg2)) (m ((c.tc : Thread nD τ).loc main_arg3)) :=
    Cert.Proj.Ret.ref_eq _ _ _
  have hX : ∀ n col, ∃ r : ℝ, XL m c (ix2 n col) = (r : EReal) := fun n col => by
    rw [e]
    exact Entries.proj_real _ _ _ h0 h1 h2 n col
  have g := gated_eq m c hX
  rw [e] at g
  refine (out_eq _).trans ((Cert.Tail.Last.ref_eq _ _ _ _ _ _ _ _ _ _ _).trans (Cert.Tail.Last.outArr_congr (iter_main_arg0 m c 32) ?_ (iter_main_arg1 m c 32) (iter_main_arg4 m c 32)
    (iter_main_arg5 m c 32) (iter_main_arg6 m c 32) (iter_main_arg7 m c 32) (iter_main_arg8 m c 32) (iter_main_arg9 m c 32) (iter_main_arg10 m c 32) (iter_main_arg11 m c 32)))
  rw [iter_main_arg0 m c 32, iter_main_arg2 m c 32, iter_main_arg3 m c 32]
  exact congrArg (fun v : Vec Ideal S8x4096x2048 .bf16 => (shapeCast S32768x2048 v shapeCasts_S8x4096x2048_S32768x2048 : Vec Ideal S32768x2048 .bf16)) g

end Ref

/-- Finite arguments are real. -/
theorem real_of_pre (m : (ℓ : Loc Cert.LayerIdeal.nD Cert.LayerIdeal.τ Cert.LayerIdeal.sig) → Buf (Elt Ideal) ℓ) (h : Cert.Pre_LayerIdeal_finite_l m) (c : Dev Cert.LayerIdeal.nD) :
    (∀ n j, ∃ r : ℝ, (m ((c.tc : Thread _ _).loc Cert.LayerIdeal.main_arg0) : Vec Ideal Cert.LayerIdeal.S32768x1024 .f32) (ix2 n j) = (r : EReal))
    ∧ (∀ n j, ∃ r : ℝ, (m ((c.tc : Thread _ _).loc Cert.LayerIdeal.main_arg2) : Vec Ideal Cert.LayerIdeal.S2x1024 .f32) (ix2 n j) = (r : EReal))
    ∧ (∀ n j, ∃ r : ℝ, (m ((c.tc : Thread _ _).loc Cert.LayerIdeal.main_arg3) : Vec Ideal Cert.LayerIdeal.S1024x6144 .bf16) (ix2 n j) = (r : EReal)) := by
  obtain ⟨h0, h1, h2⟩ := h c
  refine ⟨fun n j => Cert.Ret.real_of_abs_lt _ ?_, fun n j => Cert.Ret.real_of_abs_lt _ ?_, fun n j => Cert.Ret.real_of_abs_lt _ ?_⟩
  · exact congrFun h0 (ix2 n j)
  · exact congrFun h1 (ix2 n j)
  · exact congrFun h2 (ix2 n j)

/-- Over the extended reals the last layer and its reference compute the same array from finite arguments. -/
theorem algebraic : Cert.algebraic_LayerIdeal_LayerRefIdeal_pre_finite_l := by
  intro m g m' g' hpre hagree
  refine ⟨fun c => whole (m ((c.tc : Thread _ _).loc Cert.LayerIdeal.main_arg0)) (m ((c.tc : Thread _ _).loc Cert.LayerIdeal.main_arg1)) (m ((c.tc : Thread _ _).loc Cert.LayerIdeal.main_arg2))
    (m ((c.tc : Thread _ _).loc Cert.LayerIdeal.main_arg3)) (m ((c.tc : Thread _ _).loc Cert.LayerIdeal.main_arg4)) (m ((c.tc : Thread _ _).loc Cert.LayerIdeal.main_arg5))
    (m ((c.tc : Thread _ _).loc Cert.LayerIdeal.main_arg6)) (m ((c.tc : Thread _ _).loc Cert.LayerIdeal.main_arg7)) (m ((c.tc : Thread _ _).loc Cert.LayerIdeal.main_arg8))
    (m ((c.tc : Thread _ _).loc Cert.LayerIdeal.main_arg9)) (m ((c.tc : Thread _ _).loc Cert.LayerIdeal.main_arg10)) (m ((c.tc : Thread _ _).loc Cert.LayerIdeal.main_arg11)), ?_, ?_⟩
  · refine (θ_run Cert.LayerIdeal.defs _ _).mono (fun r h c => ?_) (run m g)
    obtain ⟨p0, p1, p2⟩ := real_of_pre m hpre c
    exact ⟨Eq.trans (h c).1 (kernel_eq m g c p0 p1 p2), (h c).2⟩
  · refine (θ_run Cert.LayerRefIdeal.defs _ _).mono (fun r h c => ?_) (Cert.LayerRefIdeal.Value.run m' g')
    obtain ⟨p0, p1, p2⟩ := real_of_pre m hpre c
    obtain ⟨e0, e1, e2, e3, e4, e5, e6, e7, e8, e9, e10, e11⟩ := hagree c
    refine ⟨Eq.trans (h c).1 ((Ref.whole_eq m' c (by rw [e0]; exact p0) (by rw [e2]; exact p1) (by rw [e3]; exact p2)).trans ?_), (h c).2⟩
    rw [e0, e1, e2, e3, e4, e5, e6, e7, e8, e9, e10, e11]

/-- The reference terminates, keeps its arguments and every counter. -/
theorem frame_ref : Cert.quiescent_LayerRefIdeal := fun m g _ =>
  (θ_run Cert.LayerRefIdeal.defs _ _).mono (fun r h => ⟨fun c => (h c).2, Idealize.ShloMosaic.sem_eq_zero_of_no_sems (by decide) r.2⟩)
    (Cert.LayerRefIdeal.Value.run m g)

end Cert.Joined
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.TailLast
public import proofs.«01_k».proof.Proof.Gen.TailLast.Skeleton
public import proofs.«01_k».proof.Proof.Gen.TailLast.Launch
public import proofs.«01_k».proof.Proof.Gen.TailLast.Points
public import proofs.«01_k».proof.Proof.Gen.TailLast.Frame
public import proofs.«01_k».proof.Proof.Gen.TailLastIdeal
public import proofs.«01_k».proof.Proof.Gen.TailLastIdeal.Skeleton
public import proofs.«01_k».proof.Proof.Gen.TailLastIdeal.Launch
public import proofs.«01_k».proof.Proof.Gen.TailLastIdeal.Points
public import proofs.«01_k».proof.Proof.Gen.TailLastIdeal.Frame
public import proofs.«01_k».proof.Proof.Gen.TailLastIdeal.Value
public import proofs.«01_k».proof.Proof.Gen.TailLastRefIdeal
public import proofs.«01_k».proof.Proof.Gen.TailLastRefIdeal.Run
public import proofs.«01_k».proof.Proof.Gen.TailLastRefIdeal.Read
public import proofs.«01_k».proof.Proof.Gen.TailFirst
public import proofs.«01_k».proof.Proof.Gen.TailFirst.Skeleton
public import proofs.«01_k».proof.Proof.Gen.TailFirst.Launch
public import proofs.«01_k».proof.Proof.Gen.TailFirst.Points
public import proofs.«01_k».proof.Proof.Gen.TailFirst.Frame
public import proofs.«01_k».proof.Proof.Gen.TailFirstIdeal
public import proofs.«01_k».proof.Proof.Gen.TailFirstIdeal.Skeleton
public import proofs.«01_k».proof.Proof.Gen.TailFirstIdeal.Launch
public import proofs.«01_k».proof.Proof.Gen.TailFirstIdeal.Points
public import proofs.«01_k».proof.Proof.Gen.TailFirstIdeal.Frame
public import proofs.«01_k».proof.Proof.Gen.TailFirstIdeal.Value
public import proofs.«01_k».proof.Proof.Gen.TailFirstRefIdeal
public import proofs.«01_k».proof.Proof.Gen.TailFirstRefIdeal.Run
public import proofs.«01_k».proof.Proof.Gen.TailFirstRefIdeal.Read
public import proofs.«01_k».proof.Proof.Gen.ProjRet
public import proofs.«01_k».proof.Proof.Gen.ProjRet.Skeleton
public import proofs.«01_k».proof.Proof.Gen.ProjRet.Launch
public import proofs.«01_k».proof.Proof.Gen.ProjRet.Points
public import proofs.«01_k».proof.Proof.Gen.ProjRet.Frame
public import proofs.«01_k».proof.Proof.Gen.ProjRetIdeal
public import proofs.«01_k».proof.Proof.Gen.ProjRetIdeal.Skeleton
public import proofs.«01_k».proof.Proof.Gen.ProjRetIdeal.Launch
public import proofs.«01_k».proof.Proof.Gen.ProjRetIdeal.Points
public import proofs.«01_k».proof.Proof.Gen.ProjRetIdeal.Frame
public import proofs.«01_k».proof.Proof.Gen.ProjRetIdeal.Value
public import proofs.«01_k».proof.Proof.Gen.ProjRetRefIdeal
public import proofs.«01_k».proof.Proof.Gen.ProjRetRefIdeal.Run
public import proofs.«01_k».proof.Proof.Gen.ProjRetRefIdeal.Read
public import proofs.«01_k».proof.Proof.Gen.ProjSb
public import proofs.«01_k».proof.Proof.Gen.ProjSb.Skeleton
public import proofs.«01_k».proof.Proof.Gen.ProjSb.Launch
public import proofs.«01_k».proof.Proof.Gen.ProjSb.Points
public import proofs.«01_k».proof.Proof.Gen.ProjSb.Frame
public import proofs.«01_k».proof.Proof.Gen.ProjSbIdeal
public import proofs.«01_k».proof.Proof.Gen.ProjSbIdeal.Skeleton
public import proofs.«01_k».proof.Proof.Gen.ProjSbIdeal.Launch
public import proofs.«01_k».proof.Proof.Gen.ProjSbIdeal.Points
public import proofs.«01_k».proof.Proof.Gen.ProjSbIdeal.Frame
public import proofs.«01_k».proof.Proof.Gen.ProjSbIdeal.Value
public import proofs.«01_k».proof.Proof.Gen.ProjSbRefIdeal
public import proofs.«01_k».proof.Proof.Gen.ProjSbRefIdeal.Run
public import proofs.«01_k».proof.Proof.Gen.ProjSbRefIdeal.Read
public import proofs.«01_k».proof.Proof.Gen.Pre_finite_h
public import proofs.«01_k».proof.Proof.Ret.Claim
public import proofs.«01_k».proof.Proof.Gen.Layer
public import proofs.«01_k».proof.Proof.Gen.Layer.Skeleton
public import proofs.«01_k».proof.Proof.Gen.Layer.Launch
public import proofs.«01_k».proof.Proof.Gen.Layer.Points
public import proofs.«01_k».proof.Proof.Gen.Layer.Frame
public import proofs.«01_k».proof.Proof.Gen.LayerIdeal
public import proofs.«01_k».proof.Proof.Gen.LayerIdeal.Skeleton
public import proofs.«01_k».proof.Proof.Gen.LayerIdeal.Launch
public import proofs.«01_k».proof.Proof.Gen.LayerIdeal.Points
public import proofs.«01_k».proof.Proof.Gen.LayerIdeal.Frame
public import proofs.«01_k».proof.Proof.Gen.LayerRefIdeal
public import proofs.«01_k».proof.Proof.Gen.LayerRefIdeal.Run
public import proofs.«01_k».proof.Proof.Gen.Pre_finite_l
public import proofs.«01_k».proof.Proof.Tail.LastClaim
public import proofs.«01_k».proof.Proof.Tail.FirstClaim
public import proofs.«01_k».proof.Proof.Proj.SbClaim
public import proofs.«01_k».proof.Proof.Proj.RetClaim
public import proofs.«01_k».proof.Proof.Layer.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The retention reference terminates, keeps its argument and every counter. -/
theorem frame_ret_ref : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run m g)

/-- Every claim of the certificate. -/
theorem claim : Cert.Claim := ⟨Cert.Kernel.Gen.facts, Cert.KernelIdeal.Gen.facts, Cert.ReferenceIdeal.Gen.facts, Cert.TailLast.Gen.facts, Cert.TailLastIdeal.Gen.facts, Cert.TailLastRefIdeal.Gen.facts, Cert.TailFirst.Gen.facts, Cert.TailFirstIdeal.Gen.facts, Cert.TailFirstRefIdeal.Gen.facts,
  Cert.ProjRet.Gen.facts, Cert.ProjRetIdeal.Gen.facts, Cert.ProjRetRefIdeal.Gen.facts, Cert.ProjSb.Gen.facts, Cert.ProjSbIdeal.Gen.facts, Cert.ProjSbRefIdeal.Gen.facts, Cert.Layer.Gen.facts, Cert.LayerIdeal.Gen.facts, Cert.LayerRefIdeal.Gen.facts, Cert.Pre_finite.Gen.facts, Cert.Pre_finite_h.Gen.facts, Cert.Pre_finite_l.Gen.facts,
  fun m g _ => Cert.Kernel.Gen.frame m g, fun m g _ => Cert.KernelIdeal.Gen.frame m g, fun m g _ => Cert.KernelIdeal.Gen.frame m g,
  frame_ret_ref, fun m g _ => frame_ret_ref m g trivial,
  fun m g _ => Cert.TailLast.Gen.frame m g, fun m g _ => Cert.TailLastIdeal.Gen.frame m g, Cert.Tail.Last.frame_ref,
  fun m g _ => Cert.TailFirst.Gen.frame m g, fun m g _ => Cert.TailFirstIdeal.Gen.frame m g, Cert.Tail.First.frame_ref,
  fun m g _ => Cert.ProjRet.Gen.frame m g, fun m g _ => Cert.ProjRetIdeal.Gen.frame m g, fun m g _ => Cert.ProjRetIdeal.Gen.frame m g,
  Cert.Proj.Ret.frame_ref, fun m g _ => Cert.Proj.Ret.frame_ref m g trivial,
  fun m g _ => Cert.ProjSb.Gen.frame m g, fun m g _ => Cert.ProjSbIdeal.Gen.frame m g, Cert.Proj.Sb.frame_ref,
  fun m g _ => Cert.Layer.Gen.frame m g, fun m g _ => Cert.LayerIdeal.Gen.frame m g, fun m g _ => Cert.LayerIdeal.Gen.frame m g,
  Cert.Joined.frame_ref, fun m g _ => Cert.Joined.frame_ref m g trivial,
  trivial, Cert.Ret.algebraic, trivial, Cert.Tail.Last.algebraic, trivial, Cert.Tail.First.algebraic,
  trivial, Cert.Proj.Ret.algebraic, trivial, Cert.Proj.Sb.algebraic,
  trivial, Cert.Joined.algebraic⟩

end Cert.Proof

end
